-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v41) = v0 c
          ∧ r.2.mem ((c.tc : Thread Cert.Reference18Ideal.nD Cert.Reference18Ideal.τ).loc Cert.Reference18Ideal.main_v42) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v41) = v0 c
          ∧ r.2.mem ((c.tc : Thread Cert.Reference20Ideal.nD Cert.Reference20Ideal.τ).loc Cert.Reference20Ideal.main_v42) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v41) = v0 c
          ∧ r.2.mem ((c.tc : Thread Cert.Reference19Ideal.nD Cert.Reference19Ideal.τ).loc Cert.Reference19Ideal.main_v42) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v27) = v0 c
          ∧ r.2.mem ((c.tc : Thread Cert.Reference21Ideal.nD Cert.Reference21Ideal.τ).loc Cert.Reference21Ideal.main_v8) = v1 c
          ∧ r.2.mem ((c.tc : Thread Cert.Reference21Ideal.nD Cert.Reference21Ideal.τ).loc Cert.Reference21Ideal.main_v14) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_v8) = v1 c
          ∧ r.2.mem ((c.tc : Thread Cert.Reference23Ideal.nD Cert.Reference23Ideal.τ).loc Cert.Reference23Ideal.main_v14) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v27) = v0 c
          ∧ r.2.mem ((c.tc : Thread Cert.Reference24Ideal.nD Cert.Reference24Ideal.τ).loc Cert.Reference24Ideal.main_v8) = v1 c
          ∧ r.2.mem ((c.tc : Thread Cert.Reference24Ideal.nD Cert.Reference24Ideal.τ).loc Cert.Reference24Ideal.main_v14) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v27) = v0 c
          ∧ r.2.mem ((c.tc : Thread Cert.Reference25Ideal.nD Cert.Reference25Ideal.τ).loc Cert.Reference25Ideal.main_v8) = v1 c
          ∧ r.2.mem ((c.tc : Thread Cert.Reference25Ideal.nD Cert.Reference25Ideal.τ).loc Cert.Reference25Ideal.main_v14) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v27) = v0 c
          ∧ r.2.mem ((c.tc : Thread Cert.Reference26Ideal.nD Cert.Reference26Ideal.τ).loc Cert.Reference26Ideal.main_v8) = v1 c
          ∧ r.2.mem ((c.tc : Thread Cert.Reference26Ideal.nD Cert.Reference26Ideal.τ).loc Cert.Reference26Ideal.main_v14) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v27) = v0 c
          ∧ r.2.mem ((c.tc : Thread Cert.Reference28Ideal.nD Cert.Reference28Ideal.τ).loc Cert.Reference28Ideal.main_v8) = v1 c
          ∧ r.2.mem ((c.tc : Thread Cert.Reference28Ideal.nD Cert.Reference28Ideal.τ).loc Cert.Reference28Ideal.main_v14) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v27) = v0 c
          ∧ r.2.mem ((c.tc : Thread Cert.Reference30Ideal.nD Cert.Reference30Ideal.τ).loc Cert.Reference30Ideal.main_v8) = v1 c
          ∧ r.2.mem ((c.tc : Thread Cert.Reference30Ideal.nD Cert.Reference30Ideal.τ).loc Cert.Reference30Ideal.main_v14) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v27) = v0 c
          ∧ r.2.mem ((c.tc : Thread Cert.Reference31Ideal.nD Cert.Reference31Ideal.τ).loc Cert.Reference31Ideal.main_v8) = v1 c
          ∧ r.2.mem ((c.tc : Thread Cert.Reference31Ideal.nD Cert.Reference31Ideal.τ).loc Cert.Reference31Ideal.main_v14) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v4_0)) (v1 : (c : Dev Cert.Kernel33Ideal.nD) → Buf (Elt Ideal) ((c.tc : Thread Cert.Kernel33Ideal.nD Cert.Kernel33Ideal.τ).loc Cert.Kernel33Ideal.main_v4_1)) (v2 : (c : Dev Cert.Kernel33Ideal.nD) → Buf (Elt Ideal) ((c.tc : Thread Cert.Kernel33Ideal.nD Cert.Kernel33Ideal.τ).loc Cert.Kernel33Ideal.main_v4_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v4_0) = v0 c
          ∧ r.2.mem ((c.tc : Thread Cert.Kernel33Ideal.nD Cert.Kernel33Ideal.τ).loc Cert.Kernel33Ideal.main_v4_1) = v1 c
          ∧ r.2.mem ((c.tc : Thread Cert.Kernel33Ideal.nD Cert.Kernel33Ideal.τ).loc Cert.Kernel33Ideal.main_v4_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v27) = v0 c
          ∧ r.2.mem ((c.tc : Thread Cert.Reference33Ideal.nD Cert.Reference33Ideal.τ).loc Cert.Reference33Ideal.main_v8) = v1 c
          ∧ r.2.mem ((c.tc : Thread Cert.Reference33Ideal.nD Cert.Reference33Ideal.τ).loc Cert.Reference33Ideal.main_v14) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v4_0)) (v1 : (c : Dev Cert.Kernel34Ideal.nD) → Buf (Elt Ideal) ((c.tc : Thread Cert.Kernel34Ideal.nD Cert.Kernel34Ideal.τ).loc Cert.Kernel34Ideal.main_v4_1)) (v2 : (c : Dev Cert.Kernel34Ideal.nD) → Buf (Elt Ideal) ((c.tc : Thread Cert.Kernel34Ideal.nD Cert.Kernel34Ideal.τ).loc Cert.Kernel34Ideal.main_v4_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4_0) = v0 c
          ∧ r.2.mem ((c.tc : Thread Cert.Kernel34Ideal.nD Cert.Kernel34Ideal.τ).loc Cert.Kernel34Ideal.main_v4_1) = v1 c
          ∧ r.2.mem ((c.tc : Thread Cert.Kernel34Ideal.nD Cert.Kernel34Ideal.τ).loc Cert.Kernel34Ideal.main_v4_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v27) = v0 c
          ∧ r.2.mem ((c.tc : Thread Cert.Reference34Ideal.nD Cert.Reference34Ideal.τ).loc Cert.Reference34Ideal.main_v8) = v1 c
          ∧ r.2.mem ((c.tc : Thread Cert.Reference34Ideal.nD Cert.Reference34Ideal.τ).loc Cert.Reference34Ideal.main_v14) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel20 : Cert.Kernel20.Facts) (hKernel20Ideal : Cert.Kernel20Ideal.Facts) (hReference20Ideal : Cert.Reference20Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel20_Kernel20Ideal
    ∧ algebraic_Kernel20Ideal_Reference20Ideal (hKernel20Ideal := hKernel20Ideal) (hReference20Ideal := hReference20Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Kernel.lean ====
abbrev S16384x2816 : Shape := ⟨2, ![16384, 2816]⟩
abbrev S1024x5632 : Shape := ⟨2, ![1024, 5632]⟩
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S512x2816 : Shape := ⟨2, ![512, 2816]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩

abbrev nBuf : Space → Nat
  | .hbm => 11
  | .vmem => 15
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S1024x2816, .bf16⟩
  | .hbm, ⟨7, _⟩ => ⟨S1024x2816, .bf16⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_13 : BitVec 32 := 0#32
  let c32_i32 : BitVec 32 := 32#32
  let v17 : BitVec 32 := Scalar.addi c0_i32_13 c32_i32
  let c1_i32 : BitVec 32 := 1#32
  ⟨c0_i32_13, v17, c1_i32⟩
def k0_mult1 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c16_i32 : BitVec 32 := 16#32
  let v18 : BitVec 32 := Scalar.muli arg11 c16_i32
  v18
def k0_off1 (k0_t1 : Fin k0_t1_loop.trips) : Fin 2 → Nat :=
  let c0_i32_13 : BitVec 32 := 0#32
  let c1_i32 : BitVec 32 := 1#32
  let arg11 : BitVec 32 := Scf.iv c0_i32_13 c1_i32 k0_t1
  let c16_i32 : BitVec 32 := 16#32
  let v18 : BitVec 32 := Scalar.muli arg11 c16_i32
  let v19 : BitVec 32 := v18
  let v20 : Index := Scalar.indexCast v19
  let c0_15 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x2816 : Shape := ⟨2, ![16384, 2816]⟩
abbrev S1024x5632 : Shape := ⟨2, ![1024, 5632]⟩
abbrev S16384x1024 : Shape := ⟨2, ![16384, 1024]⟩
abbrev S1024 : Shape := ⟨1, ![1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S1024x5632, .f32⟩
  | .hbm, ⟨7, _⟩ => ⟨S16384x5632, .bf16⟩
  | .hbm, ⟨8, _⟩ => ⟨S16384x5632, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x5632, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x1024 : Shape := ⟨2, ![16384, 1024]⟩
abbrev S16384x1536 : Shape := ⟨2, ![16384, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S16384x1536 : Shape := ⟨2, ![16384, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S_, .f32⟩
  | .hbm, ⟨3, _⟩ => ⟨S1024x1536, .f32⟩
  | .hbm, ⟨4, _⟩ => ⟨S16384x1024, .f32⟩
  | .hbm, ⟨5, _⟩ => ⟨S16384x1536, .f32⟩
  | .hbm, ⟨6, _⟩ => ⟨S16384x1536, .f32⟩
  | .hbm, ⟨7, _⟩ => ⟨S1536x1024, .f32⟩
  | .hbm, ⟨8, _⟩ => ⟨S1024x1536, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S16384x1024 : Shape := ⟨2, ![16384, 1024]⟩
abbrev S1024x1536 : Shape := ⟨2, ![1024, 1536]⟩
abbrev S16384x1536 : Shape := ⟨2, ![16384, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .bf16⟩
  | .hbm, ⟨2, _⟩ => ⟨S16384x1536, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .f32⟩
  | .local _ .vmem, ⟨4, _⟩ => ⟨S512x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S16384x1024 : Shape := ⟨2, ![16384, 1024]⟩
abbrev S1024x1536 : Shape := ⟨2, ![1024, 1536]⟩
abbrev S16384x1536 : Shape := ⟨2, ![16384, 1536]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .bf16⟩
  | .hbm, ⟨2, _⟩ => ⟨S16384x1024, .f32⟩
  | .hbm, ⟨3, _⟩ => ⟨S1024x1536, .f32⟩
  | .hbm, ⟨4, _⟩ => ⟨S16384x1536, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S16384x512, .f32⟩
  | .hbm, ⟨5, _⟩ => ⟨S16384x1024, .f32⟩
  | .hbm, ⟨6, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel16.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S16384x512 : Shape := ⟨2, ![16384, 512]⟩
abbrev S512x1024 : Shape := ⟨2, ![512, 1024]⟩
abbrev S16384x1024 : Shape := ⟨2, ![16384, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S16384x1024, .f32⟩
  | .hbm, ⟨3, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S16384x1024, .f32⟩
  | .hbm, ⟨3, _⟩ => ⟨S512x1024, .f32⟩
  | .hbm, ⟨4, _⟩ => ⟨S16384x1024, .f32⟩
  | .hbm, ⟨5, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S16384x1536 : Shape := ⟨2, ![16384, 1536]⟩
abbrev S1024x4608 : Shape := ⟨2, ![1024, 4608]⟩
abbrev S16384x1024 : Shape := ⟨2, ![16384, 1024]⟩
abbrev S1024 : Shape := ⟨1, ![1024]⟩
abbrev S1024x1536 : Shape := ⟨2, ![1024, 1536]⟩
abbrev S1x1024 : Shape := ⟨2, ![1, 1024]⟩
abbrev S512x1536 : Shape := ⟨2, ![512, 1536]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩

abbrev nBuf : Space → Nat
  | .hbm => 13
  | .vmem => 18
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1536, .bf16⟩
  | .hbm, ⟨3, _⟩ => ⟨S1024x4608, .bf16⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S1024x1536, .bf16⟩
  | .hbm, ⟨8, _⟩ => ⟨S1024x1536, .bf16⟩
  | .hbm, ⟨9, _⟩ => ⟨S1024x1536, .bf16⟩
  | .hbm, ⟨10, _⟩ => ⟨S1x1024, .f32⟩
  | .hbm, ⟨11, _⟩ => ⟨S16384x1024, .f32⟩
  | .hbm, ⟨12, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | .local _ .vmem, ⟨5, _⟩ => ⟨S1024x1536, .bf16⟩
  | .local _ .vmem, ⟨6, _⟩ => ⟨S512x1536, .bf16⟩
  | .local _ .vmem, ⟨7, _⟩ => ⟨S512x1536, .bf16⟩
  | .local _ .vmem, ⟨8, _⟩ => ⟨S1024x1536, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_18 : BitVec 32 := 0#32
  let c32_i32 : BitVec 32 := 32#32
  let v22 : BitVec 32 := Scalar.addi c0_i32_18 c32_i32
  let c1_i32 : BitVec 32 := 1#32
  ⟨c0_i32_18, v22, c1_i32⟩
def k0_mult1 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c16_i32 : BitVec 32 := 16#32
  let v23 : BitVec 32 := Scalar.muli arg13 c16_i32
  v23
def k0_off1 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c16_i32 : BitVec 32 := 16#32
  let v23 : BitVec 32 := Scalar.muli arg13 c16_i32
  let v24 : BitVec 32 := v23
  let v25 : Index := Scalar.indexCast v24
  let c0_20 : Index := 0#32
  ![v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference18Ideal.lean ====
abbrev S16384x1536 : Shape := ⟨2, ![16384, 1536]⟩
abbrev S1024x4608 : Shape := ⟨2, ![1024, 4608]⟩
abbrev S16384x1024 : Shape := ⟨2, ![16384, 1024]⟩
abbrev S1024 : Shape := ⟨1, ![1024]⟩
abbrev S16384x4608 : Shape := ⟨2, ![16384, 4608]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1536, .bf16⟩
  | .hbm, ⟨3, _⟩ => ⟨S1024x4608, .bf16⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S1024x4608, .f32⟩
  | .hbm, ⟨8, _⟩ => ⟨S16384x4608, .bf16⟩
  | .hbm, ⟨9, _⟩ => ⟨S16384x4608, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x4608, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1x1024, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel20.lean ====
abbrev S16384x1024 : Shape := ⟨2, ![16384, 1024]⟩
abbrev S1024x4096 : Shape := ⟨2, ![1024, 4096]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩

abbrev nBuf : Space → Nat
  | .hbm => 15
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x4096, .bf16⟩
  | .hbm, ⟨5, _⟩ => ⟨S16384x1024, .f32⟩
  | .hbm, ⟨6, _⟩ => ⟨S1024, .f32⟩
  | .hbm, ⟨7, _⟩ => ⟨S16384x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_23 : BitVec 32 := 0#32
  let c32_i32 : BitVec 32 := 32#32
  let v27 : BitVec 32 := Scalar.addi c0_i32_23 c32_i32
  let c1_i32 : BitVec 32 := 1#32
  ⟨c0_i32_23, v27, c1_i32⟩
def k0_mult1 (k0_t1 : Fin k0_t1_loop.trips) : BitVec 32 :=
  let c0_i32_23 : BitVec 32 := 0#32
  let c1_i32 : BitVec 32 := 1#32
  let arg15 : BitVec 32 := Scf.iv c0_i32_23 c1_i32 k0_t1
  let c16_i32 : BitVec 32 := 16#32
  let v28 : BitVec 32 := Scalar.muli arg15 c16_i32
  v28
def k0_off1 (k0_t1 : Fin k0_t1_loop.trips) : Fin 2 → Nat :=
  let c0_i32_23 : BitVec 32 := 0#32
  let c1_i32 : BitVec 32 := 1#32
  let arg15 : BitVec 32 := Scf.iv c0_i32_23 c1_i32 k0_t1
  let c16_i32 : BitVec 32 := 16#32
  let v28 : BitVec 32 := Scalar.muli arg15 c16_i32
  let v29 : BitVec 32 := v28
  let v30 : Index := Scalar.indexCast v29
  let c0_25 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference20Ideal.lean ====
abbrev S16384x1024 : Shape := ⟨2, ![16384, 1024]⟩
abbrev S1024x4096 : Shape := ⟨2, ![1024, 4096]⟩
abbrev S1024 : Shape := ⟨1, ![1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x4096, .bf16⟩
  | .hbm, ⟨5, _⟩ => ⟨S16384x1024, .f32⟩
  | .hbm, ⟨6, _⟩ => ⟨S1024, .f32⟩
  | .hbm, ⟨7, _⟩ => ⟨S16384x1024, .f32⟩
  | .hbm, ⟨8, _⟩ => ⟨S1024x4096, .f32⟩
  | .hbm, ⟨9, _⟩ => ⟨S16384x4096, .bf16⟩
  | .hbm, ⟨10, _⟩ => ⟨S16384x4096, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x4096, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel19.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_13 : BitVec 32 := 0#32
  let c32_i32 : BitVec 32 := 32#32
  let v17 : BitVec 32 := Scalar.addi c0_i32_13 c32_i32
  let c1_i32 : BitVec 32 := 1#32
  ⟨c0_i32_13, v17, c1_i32⟩
def k0_mult1 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c16_i32 : BitVec 32 := 16#32
  let v18 : BitVec 32 := Scalar.muli arg11 c16_i32
  v18
def k0_off1 (k0_t1 : Fin k0_t1_loop.trips) : Fin 2 → Nat :=
  let c0_i32_13 : BitVec 32 := 0#32
  let c1_i32 : BitVec 32 := 1#32
  let arg11 : BitVec 32 := Scf.iv c0_i32_13 c1_i32 k0_t1
  let c16_i32 : BitVec 32 := 16#32
  let v18 : BitVec 32 := Scalar.muli arg11 c16_i32
  let v19 : BitVec 32 := v18
  let v20 : Index := Scalar.indexCast v19
  let c0_15 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference19Ideal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S1024x2048, .f32⟩
  | .hbm, ⟨7, _⟩ => ⟨S16384x2048, .bf16⟩
  | .hbm, ⟨8, _⟩ => ⟨S16384x2048, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2048, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel21.lean ====
abbrev S4x704x1024 : Shape := ⟨3, ![4, 704, 1024]⟩
abbrev S2816x1024 : Shape := ⟨2, ![2816, 1024]⟩
abbrev S256x1024 : Shape := ⟨2, ![256, 1024]⟩
abbrev S16x1024 : Shape := ⟨2, ![16, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 11], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference21Ideal.lean ====
abbrev S4x704x1024 : Shape := ⟨3, ![4, 704, 1024]⟩
abbrev S2816x1024 : Shape := ⟨2, ![2816, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S_, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S2816x1024, .f32⟩
  | .hbm, ⟨23, _⟩ => ⟨S_, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | .hbm, ⟨37, _⟩ => ⟨S2816x1024, .f32⟩
  | .hbm, ⟨38, _⟩ => ⟨S_, .f32⟩
  | .hbm, ⟨39, _⟩ => ⟨S2816x1024, .f32⟩
  | .hbm, ⟨40, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c4_i32 : BitVec 32 := 4#32
  let v0 : BitVec 32 := Scalar.muli c0_i32 c4_i32
  v0
def k0_off1 : Fin 2 → Nat :=
  let c0_i32 : BitVec 32 := 0#32
  let c4_i32 : BitVec 32 := 4#32
  let v0 : BitVec 32 := Scalar.muli c0_i32 c4_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference22Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x1024x1152 : Shape := ⟨3, ![2, 1024, 1152]⟩
abbrev S2048x1152 : Shape := ⟨2, ![2048, 1152]⟩
abbrev S256x1152 : Shape := ⟨2, ![256, 1152]⟩
abbrev S16x1152 : Shape := ⟨2, ![16, 1152]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .f32⟩
  | .hbm, ⟨9, _⟩ => ⟨S2048x1152, .f32⟩
  | .hbm, ⟨10, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference23Ideal.lean ====
abbrev S2x1024x1152 : Shape := ⟨3, ![2, 1024, 1152]⟩
abbrev S2048x1152 : Shape := ⟨2, ![2048, 1152]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S_, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S2048x1152, .f32⟩
  | .hbm, ⟨23, _⟩ => ⟨S_, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | .hbm, ⟨37, _⟩ => ⟨S2048x1152, .f32⟩
  | .hbm, ⟨38, _⟩ => ⟨S_, .f32⟩
  | .hbm, ⟨39, _⟩ => ⟨S2048x1152, .f32⟩
  | .hbm, ⟨40, _⟩ => ⟨S2048x1152, .f32⟩
  | _, _ => ⟨S2x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel24.lean ====
abbrev S2x3x64 : Shape := ⟨3, ![2, 3, 64]⟩
abbrev S6x64 : Shape := ⟨2, ![6, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x3x64, .f32⟩
  | .hbm, ⟨1, _⟩ => ⟨S2x3x64, .f32⟩
  | .hbm, ⟨2, _⟩ => ⟨S2x3x64, .f32⟩
  | .hbm, ⟨3, _⟩ => ⟨S2x3x64, .f32⟩
  | .hbm, ⟨4, _⟩ => ⟨S6x64, .f32⟩
  | .hbm, ⟨5, _⟩ => ⟨S6x64, .f32⟩
  | .hbm, ⟨6, _⟩ => ⟨S6x64, .f32⟩
  | .hbm, ⟨7, _⟩ => ⟨S6x64, .f32⟩
  | .hbm, ⟨8, _⟩ => ⟨S6x64, .f32⟩
  | .hbm, ⟨9, _⟩ => ⟨S6x64, .f32⟩
  | .hbm, ⟨10, _⟩ => ⟨S6x64, .f32⟩
  | .local _ .vmem, ⟨0, _⟩ => ⟨S6x64, .f32⟩
  | .local _ .vmem, ⟨1, _⟩ => ⟨S6x64, .f32⟩
  | .local _ .vmem, ⟨2, _⟩ => ⟨S6x64, .f32⟩
  | .local _ .vmem, ⟨3, _⟩ => ⟨S6x64, .f32⟩
  | .local _ .vmem, ⟨4, _⟩ => ⟨S6x64, .f32⟩
  | .local _ .vmem, ⟨5, _⟩ => ⟨S6x64, .f32⟩
  | .local _ .vmem, ⟨6, _⟩ => ⟨S6x64, .f32⟩
  | _, _ => ⟨S2x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c6_i32 : BitVec 32 := 6#32
  let v0 : BitVec 32 := Scalar.muli c0_i32 c6_i32
  v0
def k0_off1 : Fin 2 → Nat :=
  let c0_i32 : BitVec 32 := 0#32
  let c6_i32 : BitVec 32 := 6#32
  let v0 : BitVec 32 := Scalar.muli c0_i32 c6_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S6x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference24Ideal.lean ====
abbrev S2x3x64 : Shape := ⟨3, ![2, 3, 64]⟩
abbrev S6x64 : Shape := ⟨2, ![6, 64]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x3x64, .f32⟩
  | .hbm, ⟨1, _⟩ => ⟨S2x3x64, .f32⟩
  | .hbm, ⟨2, _⟩ => ⟨S2x3x64, .f32⟩
  | .hbm, ⟨3, _⟩ => ⟨S2x3x64, .f32⟩
  | .hbm, ⟨4, _⟩ => ⟨S6x64, .f32⟩
  | .hbm, ⟨5, _⟩ => ⟨S6x64, .f32⟩
  | .hbm, ⟨6, _⟩ => ⟨S6x64, .f32⟩
  | .hbm, ⟨7, _⟩ => ⟨S6x64, .f32⟩
  | .hbm, ⟨8, _⟩ => ⟨S_, .f32⟩
  | .hbm, ⟨9, _⟩ => ⟨S6x64, .f32⟩
  | .hbm, ⟨10, _⟩ => ⟨S6x64, .f32⟩
  | .hbm, ⟨11, _⟩ => ⟨S_, .f32⟩
  | .hbm, ⟨12, _⟩ => ⟨S6x64, .f32⟩
  | .hbm, ⟨13, _⟩ => ⟨S6x64, .f32⟩
  | .hbm, ⟨14, _⟩ => ⟨S6x64, .f32⟩
  | .hbm, ⟨15, _⟩ => ⟨S_, .f32⟩
  | .hbm, ⟨16, _⟩ => ⟨S6x64, .f32⟩
  | .hbm, ⟨17, _⟩ => ⟨S6x64, .f32⟩
  | .hbm, ⟨18, _⟩ => ⟨S6x64, .f32⟩
  | .hbm, ⟨19, _⟩ => ⟨S_, .f32⟩
  | .hbm, ⟨20, _⟩ => ⟨S6x64, .f32⟩
  | .hbm, ⟨21, _⟩ => ⟨S6x64, .f32⟩
  | .hbm, ⟨22, _⟩ => ⟨S6x64, .f32⟩
  | .hbm, ⟨23, _⟩ => ⟨S_, .f32⟩
  | .hbm, ⟨24, _⟩ => ⟨S6x64, .f32⟩
  | .hbm, ⟨25, _⟩ => ⟨S6x64, .f32⟩
  | .hbm, ⟨26, _⟩ => ⟨S_, .f32⟩
  | .hbm, ⟨27, _⟩ => ⟨S6x64, .f32⟩
  | .hbm, ⟨28, _⟩ => ⟨S6x64, .f32⟩
  | .hbm, ⟨29, _⟩ => ⟨S6x64, .f32⟩
  | .hbm, ⟨30, _⟩ => ⟨S_, .f32⟩
  | .hbm, ⟨31, _⟩ => ⟨S6x64, .f32⟩
  | .hbm, ⟨32, _⟩ => ⟨S6x64, .f32⟩
  | .hbm, ⟨33, _⟩ => ⟨S6x64, .f32⟩
  | .hbm, ⟨34, _⟩ => ⟨S_, .f32⟩
  | .hbm, ⟨35, _⟩ => ⟨S6x64, .f32⟩
  | .hbm, ⟨36, _⟩ => ⟨S6x64, .f32⟩
  | .hbm, ⟨37, _⟩ => ⟨S6x64, .f32⟩
  | .hbm, ⟨38, _⟩ => ⟨S_, .f32⟩
  | .hbm, ⟨39, _⟩ => ⟨S6x64, .f32⟩
  | .hbm, ⟨40, _⟩ => ⟨S6x64, .f32⟩
  | _, _ => ⟨S2x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel25.lean ====
abbrev S2x512x256 : Shape := ⟨3, ![2, 512, 256]⟩
abbrev S1024x256 : Shape := ⟨2, ![1024, 256]⟩
abbrev S256x256 : Shape := ⟨2, ![256, 256]⟩
abbrev S16x256 : Shape := ⟨2, ![16, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference25Ideal.lean ====
abbrev S2x512x256 : Shape := ⟨3, ![2, 512, 256]⟩
abbrev S1024x256 : Shape := ⟨2, ![1024, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S_, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel26.lean ====
abbrev S1x1024x512 : Shape := ⟨3, ![1, 1024, 512]⟩
abbrev S1024x512 : Shape := ⟨2, ![1024, 512]⟩
abbrev S256x512 : Shape := ⟨2, ![256, 512]⟩
abbrev S16x512 : Shape := ⟨2, ![16, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference26Ideal.lean ====
abbrev S1x1024x512 : Shape := ⟨3, ![1, 1024, 512]⟩
abbrev S1024x512 : Shape := ⟨2, ![1024, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel27.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference27Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1x31x256 : Shape := ⟨3, ![1, 31, 256]⟩
abbrev S31x256 : Shape := ⟨2, ![31, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S31x256, .f32⟩
  | .hbm, ⟨5, _⟩ => ⟨S31x256, .f32⟩
  | .hbm, ⟨6, _⟩ => ⟨S31x256, .f32⟩
  | .hbm, ⟨7, _⟩ => ⟨S31x256, .f32⟩
  | .hbm, ⟨8, _⟩ => ⟨S31x256, .f32⟩
  | .hbm, ⟨9, _⟩ => ⟨S31x256, .f32⟩
  | .hbm, ⟨10, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c31_i32 : BitVec 32 := 31#32
  let v0 : BitVec 32 := Scalar.muli c0_i32 c31_i32
  v0
def k0_off1 : Fin 2 → Nat :=
  let c0_i32 : BitVec 32 := 0#32
  let c31_i32 : BitVec 32 := 31#32
  let v0 : BitVec 32 := Scalar.muli c0_i32 c31_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference28Ideal.lean ====
abbrev S1x31x256 : Shape := ⟨3, ![1, 31, 256]⟩
abbrev S31x256 : Shape := ⟨2, ![31, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S31x256, .f32⟩
  | .hbm, ⟨5, _⟩ => ⟨S31x256, .f32⟩
  | .hbm, ⟨6, _⟩ => ⟨S31x256, .f32⟩
  | .hbm, ⟨7, _⟩ => ⟨S31x256, .f32⟩
  | .hbm, ⟨8, _⟩ => ⟨S_, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S31x256, .f32⟩
  | .hbm, ⟨23, _⟩ => ⟨S_, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | .hbm, ⟨37, _⟩ => ⟨S31x256, .f32⟩
  | .hbm, ⟨38, _⟩ => ⟨S_, .f32⟩
  | .hbm, ⟨39, _⟩ => ⟨S31x256, .f32⟩
  | .hbm, ⟨40, _⟩ => ⟨S31x256, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel29.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference29Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x256x1024 : Shape := ⟨3, ![1, 256, 1024]⟩
abbrev S256x1024 : Shape := ⟨2, ![256, 1024]⟩
abbrev S16x1024 : Shape := ⟨2, ![16, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference30Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel31.lean ====
abbrev S1x1024x1024 : Shape := ⟨3, ![1, 1024, 1024]⟩
abbrev S1024x1024 : Shape := ⟨2, ![1024, 1024]⟩
abbrev S256x1024 : Shape := ⟨2, ![256, 1024]⟩
abbrev S16x1024 : Shape := ⟨2, ![16, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference31Ideal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel32.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference32Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4x1024x1408 : Shape := ⟨3, ![4, 1024, 1408]⟩
abbrev S4096x1408 : Shape := ⟨2, ![4096, 1408]⟩
abbrev S256x1408 : Shape := ⟨2, ![256, 1408]⟩
abbrev S16x1408 : Shape := ⟨2, ![16, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference33Ideal.lean ====
abbrev S4x1024x1408 : Shape := ⟨3, ![4, 1024, 1408]⟩
abbrev S4096x1408 : Shape := ⟨2, ![4096, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S_, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S4096x1408, .f32⟩
  | .hbm, ⟨23, _⟩ => ⟨S_, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | .hbm, ⟨37, _⟩ => ⟨S4096x1408, .f32⟩
  | .hbm, ⟨38, _⟩ => ⟨S_, .f32⟩
  | .hbm, ⟨39, _⟩ => ⟨S4096x1408, .f32⟩
  | .hbm, ⟨40, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel34.lean ====
abbrev S4x3x1408 : Shape := ⟨3, ![4, 3, 1408]⟩
abbrev S12x1408 : Shape := ⟨2, ![12, 1408]⟩

abbrev nBuf : Space → Nat
  | .hbm => 11
  | .vmem => 7
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S12x1408, .f32⟩
  | .hbm, ⟨9, _⟩ => ⟨S12x1408, .f32⟩
  | .hbm, ⟨10, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c12_i32 : BitVec 32 := 12#32
  let v0 : BitVec 32 := Scalar.muli c0_i32 c12_i32
  v0
def k0_off1 : Fin 2 → Nat :=
  let c0_i32 : BitVec 32 := 0#32
  let c12_i32 : BitVec 32 := 12#32
  let v0 : BitVec 32 := Scalar.muli c0_i32 c12_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference34Ideal.lean ====
abbrev S4x3x1408 : Shape := ⟨3, ![4, 3, 1408]⟩
abbrev S12x1408 : Shape := ⟨2, ![12, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S_, .f32⟩
  | .hbm, ⟨9, _⟩ => ⟨S12x1408, .f32⟩
  | .hbm, ⟨10, _⟩ => ⟨S12x1408, .f32⟩
  | .hbm, ⟨11, _⟩ => ⟨S_, .f32⟩
  | .hbm, ⟨12, _⟩ => ⟨S12x1408, .f32⟩
  | .hbm, ⟨13, _⟩ => ⟨S12x1408, .f32⟩
  | .hbm, ⟨14, _⟩ => ⟨S12x1408, .f32⟩
  | .hbm, ⟨15, _⟩ => ⟨S_, .f32⟩
  | .hbm, ⟨16, _⟩ => ⟨S12x1408, .f32⟩
  | .hbm, ⟨17, _⟩ => ⟨S12x1408, .f32⟩
  | .hbm, ⟨18, _⟩ => ⟨S12x1408, .f32⟩
  | .hbm, ⟨19, _⟩ => ⟨S_, .f32⟩
  | .hbm, ⟨20, _⟩ => ⟨S12x1408, .f32⟩
  | .hbm, ⟨21, _⟩ => ⟨S12x1408, .f32⟩
  | .hbm, ⟨22, _⟩ => ⟨S12x1408, .f32⟩
  | .hbm, ⟨23, _⟩ => ⟨S_, .f32⟩
  | .hbm, ⟨24, _⟩ => ⟨S12x1408, .f32⟩
  | .hbm, ⟨25, _⟩ => ⟨S12x1408, .f32⟩
  | .hbm, ⟨26, _⟩ => ⟨S_, .f32⟩
  | .hbm, ⟨27, _⟩ => ⟨S12x1408, .f32⟩
  | .hbm, ⟨28, _⟩ => ⟨S12x1408, .f32⟩
  | .hbm, ⟨29, _⟩ => ⟨S12x1408, .f32⟩
  | .hbm, ⟨30, _⟩ => ⟨S_, .f32⟩
  | .hbm, ⟨31, _⟩ => ⟨S12x1408, .f32⟩
  | .hbm, ⟨32, _⟩ => ⟨S12x1408, .f32⟩
  | .hbm, ⟨33, _⟩ => ⟨S12x1408, .f32⟩
  | .hbm, ⟨34, _⟩ => ⟨S_, .f32⟩
  | .hbm, ⟨35, _⟩ => ⟨S12x1408, .f32⟩
  | .hbm, ⟨36, _⟩ => ⟨S12x1408, .f32⟩
  | .hbm, ⟨37, _⟩ => ⟨S12x1408, .f32⟩
  | .hbm, ⟨38, _⟩ => ⟨S_, .f32⟩
  | .hbm, ⟨39, _⟩ => ⟨S12x1408, .f32⟩
  | .hbm, ⟨40, _⟩ => ⟨S12x1408, .f32⟩
  | _, _ => ⟨S4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel35.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c4_i32 : BitVec 32 := 4#32
  let v0 : BitVec 32 := Scalar.muli c0_i32 c4_i32
  v0
def k0_off1 : Fin 2 → Nat :=
  let c0_i32 : BitVec 32 := 0#32
  let c4_i32 : BitVec 32 := 4#32
  let v0 : BitVec 32 := Scalar.muli c0_i32 c4_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference35Ideal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.NormLoop.lean ====
/-
  The row loop of the norm's backward kernel of the feed-forward block: one trip's stores, and that none of them depends on what the array of
  `dx` held before (the trip loads it and drops the value).
-/
module

public import proofs.«01_k».proof.Proof.Gen.KernelIdeal.Frame.Runs

@[expose] public section

set_option maxRecDepth 16384

noncomputable section

namespace Cert.KernelIdeal.Norm

open Cert.KernelIdeal Cert.KernelIdeal.Gen Idealize.ShloMosaic Idealize.ShloMosaic.TcCoe Idealize.SL.Sem

variable {F : FTy → Type} [FloatOps F]

variable (𝒱 : Variants) (c : Dev nD) (bd : Option 𝒱.V) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole)
  (v15 : Vec F S1x1024 .f32) (X5 : BufTy.Contents (Elt F) a5.view.ty) (X7 : BufTy.Contents (Elt F) a7.view.ty)
  (X10 : BufTy.Contents (Elt F) a10.view.ty)

/-- The rows trip `k` works on. -/
abbrev rows (k : Fin k0_t1_loop.trips) : Rect S512x1024 :=
  Rect.unit (s := S512x1024) (k0_off1 k) S16x1024.size (k0_off1_inb k)

/-- The whole of the one-row array. -/
abbrev row : Rect S1x1024 := Rect.unit (s := S1x1024) ![0, 0] S1x1024.size inb_S1x1024_S1x1024_0_0

/-- What trip `k` stores: the rows of `dx`, and the running sum of `dgain`. -/
theorem trip_eq (k : Fin k0_t1_loop.trips) (f8 : BufTy.Contents (Elt F) a8.view.ty) (f9 : BufTy.Contents (Elt F) a9.view.ty) :
    tripL_k0_t1 (F := F) 𝒱 c bd i a1 w1 a2 w2 a3 w3 a4 w4 a5 w5 a6 w6 a7 w7 a8 w8 a9 w9 a10 w10 v15 X5 X7 X10 k f8 f9
      = ([⟨rows k, k0_pay5 v15 (View.readAt (Elt F) a5.view (rows k).toLoadRect X5)
            (View.readAt (Elt F) a10.view (rows k).toLoadRect X10) (View.readAt (Elt F) a7.view (rows k).toLoadRect X7)⟩],
         [⟨row, k0_pay6 (View.readAt (Elt F) a5.view (rows k).toLoadRect X5)
            (View.readAt (Elt F) a10.view (rows k).toLoadRect X10) (View.readAt (Elt F) a9.view row.toLoadRect f9)⟩]) := by
  unfold tripL_k0_t1 trip_k0_t1
  rfl

/-- The pieces before trip `k` do not depend on what `dx`'s array held at loop entry. -/
theorem pb_indep (G8 G8' : BufTy.Contents (Elt F) a8.view.ty) (G9 : BufTy.Contents (Elt F) a9.view.ty) (k : ℕ) :
    pb_k0_t1 (F := F) 𝒱 c bd i a1 w1 a2 w2 a3 w3 a4 w4 a5 w5 a6 w6 a7 w7 a8 w8 a9 w9 a10 w10 v15 X5 X7 X10 G8 G9 k
      = pb_k0_t1 (F := F) 𝒱 c bd i a1 w1 a2 w2 a3 w3 a4 w4 a5 w5 a6 w6 a7 w7 a8 w8 a9 w9 a10 w10 v15 X5 X7 X10 G8' G9 k := by
  induction k with
  | zero => rfl
  | succ k ih =>
    by_cases h : k < k0_t1_loop.trips
    · have e := pb_k0_t1_succ (F := F) 𝒱 c bd i a1 w1 a2 w2 a3 w3 a4 w4 a5 w5 a6 w6 a7 w7 a8 w8 a9 w9 a10 w10 v15 X5 X7 X10 G8 G9 ⟨k, h⟩
      have e' := pb_k0_t1_succ (F := F) 𝒱 c bd i a1 w1 a2 w2 a3 w3 a4 w4 a5 w5 a6 w6 a7 w7 a8 w8 a9 w9 a10 w10 v15 X5 X7 X10 G8' G9 ⟨k, h⟩
      rw [trip_eq] at e e'
      refine e.trans (Eq.trans ?_ e'.symm)
      dsimp only
      rw [ih]
    · rw [pb_k0_t1.eq_2, pb_k0_t1.eq_2]
      unfold pb_k0_t1Step
      rw [dif_neg h, dif_neg h, ih]

end Cert.KernelIdeal.Norm
-- ==== Proof.NormRunA.lean ====
/-
  The body of the norm's backward kernel of the feed-forward block, run once in case A: the pieces its stores leave in the two results' buffers.
-/
module

public import proofs.«01_k».proof.Proof.NormLoop

@[expose] public section

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at the first point. -/
noncomputable def kernelRun0_A (c : Dev nD) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : cond0_0 i)
    (x0 : Vec F S512x2816 .bf16) (x1 : Vec F S1024x2816 .bf16) (x2 : Vec F S512x2816 .bf16) (x3 : Vec F S1024x2816 .bf16) (x4 : Vec F S512x1024 .f32) (x5 : Vec F S1x1024 .f32) (x6 : Vec F S512x1024 .f32) :
    Σ' (L7 : List (View.Piece (Elt F) S512x1024 .f32)), { L8 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d) ∗ (∃ d, owns (c : Thread nD τ) a10 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ d, owns (c : Thread nD τ) a10 fullShare d)) -∗ K ⟨⟩))
          ⊢ wp frame (wpE (defs₀ (F := F)) Variants.none c none) E (cc0_ffn_dh i a1 w1 a2 w2 a3 w3 a4 w4 a5 w5 a6 w6 a7 w7 a8 w8 a9 w9 a10 w10) K } := by
  refine ⟨?_, ?_, fun E K => ?run⟩
  case run =>
    simp only [cc0_ffn_dh_eq_skeleton]; unfold cc0_ffn_dh_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    rw [pb_indep (G8 := f7) (G8' := a8.view.junk)]
    isplitl [H7]; · iexists _; iexact H7
    isplitl [H8]; · iexists _; iexact H8
    iexists _, _; isplitr; swap; · iexact HS0
    ipureintro; rfl

end Cert.KernelIdeal.Norm
-- ==== Proof.NormRunB.lean ====
/-
  The body of the norm's backward kernel of the feed-forward block, run once in case B: the pieces its stores leave in the two results' buffers.
-/
module

public import proofs.«01_k».proof.Proof.NormRunA

@[expose] public section

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at a point after the first, where the row of the gain is read before it is stored. -/
noncomputable def kernelRun0_B (c : Dev nD) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : ¬cond0_0 i)
    (x0 : Vec F S512x2816 .bf16) (x1 : Vec F S1024x2816 .bf16) (x2 : Vec F S512x2816 .bf16) (x3 : Vec F S1024x2816 .bf16) (x4 : Vec F S512x1024 .f32) (x5 : Vec F S1x1024 .f32) (x6 : Vec F S512x1024 .f32) (xo8 : Vec F S1x1024 .f32) :
    Σ' (L7 : List (View.Piece (Elt F) S512x1024 .f32)), { L8 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ owns (c : Thread nD τ) a9 fullShare xo8 ∗ (∃ d, owns (c : Thread nD τ) a10 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ d, owns (c : Thread nD τ) a10 fullShare d)) -∗ K ⟨⟩))
          ⊢ wp frame (wpE (defs₀ (F := F)) Variants.none c none) E (cc0_ffn_dh i a1 w1 a2 w2 a3 w3 a4 w4 a5 w5 a6 w6 a7 w7 a8 w8 a9 w9 a10 w10) K } := by
  refine ⟨?_, ?_, fun E K => ?run⟩
  case run =>
    simp only [cc0_ffn_dh_eq_skeleton]; unfold cc0_ffn_dh_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w9.eq_unread hf8
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    rw [pb_indep (G8 := f7) (G8' := a8.view.junk)]
    isplitl [H7]; · iexists _; iexact H7
    isplitl [H8]; · iexists _; iexact H8
    iexists _, _; isplitr; swap; · iexact HS0
    ipureintro; rfl

end Cert.KernelIdeal.Norm
-- ==== Proof.NormFrame.lean ====
/-
  The run of the norm's backward kernel of the feed-forward block over its grid: what each point leaves in the two results' buffers, by recursion
  on the point, and the run of @main that ends with them written back.
-/
module

public import proofs.«01_k».proof.Proof.NormRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : cond0_0 i)
  (x0 : Vec F S512x2816 .bf16) (x1 : Vec F S1024x2816 .bf16) (x2 : Vec F S512x2816 .bf16) (x3 : Vec F S1024x2816 .bf16) (x4 : Vec F S512x1024 .f32) (x5 : Vec F S1x1024 .f32) (x6 : Vec F S512x1024 .f32)

/-- Case A: the stores into either result cover it, and what they leave there. -/
theorem cover0_A_7 (y : S512x1024.Idx) : ∃ pc ∈ (kernelRun0_A c i a1 w1 a2 w2 a3 w3 a4 w4 a5 w5 a6 w6 a7 w7 a8 w8 a9 w9 a10 w10 hc0 x0 x1 x2 x3 x4 x5 x6).1, y ∈ pc.1.set :=
  View.cover_of_tiledL (kernelRun0_A c i a1 w1 a2 w2 a3 w3 a4 w4 a5 w5 a6 w6 a7 w7 a8 w8 a9 w9 a10 w10 hc0 x0 x1 x2 x3 x4 x5 x6).1 S16x1024.size (by sl_kernel_rfl) y

def out0_A_7 : Vec F S512x1024 .f32 :=
  VO0_7.read (Elt F) (VO0_7.writes (Elt F) VO0_7.junk (kernelRun0_A c i a1 w1 a2 w2 a3 w3 a4 w4 a5 w5 a6 w6 a7 w7 a8 w8 a9 w9 a10 w10 hc0 x0 x1 x2 x3 x4 x5 x6).1)

theorem cover0_A_8 (y : S1x1024.Idx) : ∃ pc ∈ (kernelRun0_A c i a1 w1 a2 w2 a3 w3 a4 w4 a5 w5 a6 w6 a7 w7 a8 w8 a9 w9 a10 w10 hc0 x0 x1 x2 x3 x4 x5 x6).2.1, y ∈ pc.1.set :=
  View.cover_of_tiledL (kernelRun0_A c i a1 w1 a2 w2 a3 w3 a4 w4 a5 w5 a6 w6 a7 w7 a8 w8 a9 w9 a10 w10 hc0 x0 x1 x2 x3 x4 x5 x6).2.1 S1x1024.size (by sl_kernel_rfl) y

def out0_A_8 : Vec F S1x1024 .f32 :=
  VO0_8.read (Elt F) (VO0_8.writes (Elt F) VO0_8.junk (kernelRun0_A c i a1 w1 a2 w2 a3 w3 a4 w4 a5 w5 a6 w6 a7 w7 a8 w8 a9 w9 a10 w10 hc0 x0 x1 x2 x3 x4 x5 x6).2.1)

end

section
variable (c : Dev nD) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : ¬cond0_0 i)
  (x0 : Vec F S512x2816 .bf16) (x1 : Vec F S1024x2816 .bf16) (x2 : Vec F S512x2816 .bf16) (x3 : Vec F S1024x2816 .bf16) (x4 : Vec F S512x1024 .f32) (x5 : Vec F S1x1024 .f32) (x6 : Vec F S512x1024 .f32) (xo8 : Vec F S1x1024 .f32)

/-- Case B: the stores into either result cover it, and what they leave there. -/
theorem cover0_B_7 (y : S512x1024.Idx) : ∃ pc ∈ (kernelRun0_B c i a1 w1 a2 w2 a3 w3 a4 w4 a5 w5 a6 w6 a7 w7 a8 w8 a9 w9 a10 w10 hc0 x0 x1 x2 x3 x4 x5 x6 xo8).1, y ∈ pc.1.set :=
  View.cover_of_tiledL (kernelRun0_B c i a1 w1 a2 w2 a3 w3 a4 w4 a5 w5 a6 w6 a7 w7 a8 w8 a9 w9 a10 w10 hc0 x0 x1 x2 x3 x4 x5 x6 xo8).1 S16x1024.size (by sl_kernel_rfl) y

def out0_B_7 : Vec F S512x1024 .f32 :=
  VO0_7.read (Elt F) (VO0_7.writes (Elt F) VO0_7.junk (kernelRun0_B c i a1 w1 a2 w2 a3 w3 a4 w4 a5 w5 a6 w6 a7 w7 a8 w8 a9 w9 a10 w10 hc0 x0 x1 x2 x3 x4 x5 x6 xo8).1)

theorem cover0_B_8 (y : S1x1024.Idx) : ∃ pc ∈ (kernelRun0_B c i a1 w1 a2 w2 a3 w3 a4 w4 a5 w5 a6 w6 a7 w7 a8 w8 a9 w9 a10 w10 hc0 x0 x1 x2 x3 x4 x5 x6 xo8).2.1, y ∈ pc.1.set :=
  View.cover_of_tiledL (kernelRun0_B c i a1 w1 a2 w2 a3 w3 a4 w4 a5 w5 a6 w6 a7 w7 a8 w8 a9 w9 a10 w10 hc0 x0 x1 x2 x3 x4 x5 x6 xo8).2.1 S1x1024.size (by sl_kernel_rfl) y

def out0_B_8 : Vec F S1x1024 .f32 :=
  VO0_8.read (Elt F) (VO0_8.writes (Elt F) VO0_8.junk (kernelRun0_B c i a1 w1 a2 w2 a3 w3 a4 w4 a5 w5 a6 w6 a7 w7 a8 w8 a9 w9 a10 w10 hc0 x0 x1 x2 x3 x4 x5 x6 xo8).2.1)

end

/-! ## What the outputs hold after each point -/

/-- What a point leaves in the two results' buffers: the first point, and a later point over what the one before left. -/
abbrev atA (c : Dev nD) (t : Fin cfg0.N) (h0 : t.val % 32 = 0) : Vec F S512x1024 .f32 × Vec F S1x1024 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t),
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t))

abbrev atB (c : Dev nD) (t : Fin cfg0.N) (h0 : ¬t.val % 32 = 0) (p : Vec F S1x1024 .f32) : Vec F S512x1024 .f32 × Vec F S1x1024 .f32 :=
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) p,
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) p)

/-- What the two buffers hold after point `n`, by recursion on the point. -/
def outsAt0 (c : Dev nD) : (n : ℕ) → n < cfg0.N → Vec F S512x1024 .f32 × Vec F S1x1024 .f32
  | 0, hn => atA m c ⟨0, hn⟩ (Nat.zero_mod _)
  | n + 1, hn =>
    if h0 : (n + 1) % 32 = 0 then atA m c ⟨n + 1, hn⟩ h0
    else atB m c ⟨n + 1, hn⟩ h0 (outsAt0 c n (Nat.lt_of_succ_lt hn)).2

theorem outsAt0_A (c : Dev nD) (t : Fin cfg0.N) (h0 : t.val % 32 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · rw [outsAt0_A m c t h0]
    dsimp only [atA, out0_A_7, out0_A_8]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, ⟨%e7, H7⟩, ⟨%e8, H8⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _ _ _ _)
  · rw [outsAt0_B m c t h0]
    simp only [before0_8_B m c t h0]
    dsimp only [atB, out0_B_7, out0_B_8]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, ⟨%e7, H7⟩, ⟨%e8, H8⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged, and every counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Norm
-- ==== Proof.NormMath.lean ====
/-
  The gradient of the root-mean-square norm over the extended reals: the form the kernel computes, the form the
  derivative of the plain formula has, and that they are one function, whatever the entries are.
-/
module

public import Idealize.ShloMosaic.PureOps.Ideal.Laws

@[expose] public section

noncomputable section

namespace Cert.NormMath

open Idealize.ShloMosaic

/-- The length of a row, the constant under the root, and the factor of the root's derivative, as the programs' words. -/
abbrev len : EReal := Ideal.ofBits .f32 0x44800000#32
abbrev eps : EReal := Ideal.ofBits .f32 0x358637BD#32
abbrev mhalf : EReal := Ideal.ofBits .f32 0xBF000000#32

theorem len_eq : len = ((1024 : ℝ) : EReal) := by
  simp [len, Ideal.ofBits, Ideal.ieee]; rw [← EReal.coe_mul]; norm_num

theorem mhalf_eq : mhalf = ((-1 / 2 : ℝ) : EReal) := by
  simp [mhalf, Ideal.ofBits, Ideal.ieee]; rw [← EReal.coe_mul, ← EReal.coe_neg]; norm_num

theorem eps_eq : ∃ e : ℝ, 0 < e ∧ eps = (e : EReal) := by
  refine ⟨_, ?_, by simp [eps, Ideal.ofBits, Ideal.ieee]; rfl⟩
  norm_num

variable {n : ℕ}

/-- The mean square of a row, plus the constant. -/
def ms (x : Fin n → EReal) : EReal := Ideal.div (∑ k, x k * x k) len + eps

/-- The row's factor. -/
def rr (x : Fin n → EReal) : EReal := Ideal.rsqrt (ms x)

/-- The row's gradient as the kernel computes it: `e` the incoming gradient times the gain, `s` the residual's. -/
def kdx (x e : Fin n → EReal) (s : EReal) (l : Fin n) : EReal :=
  s + rr x * (e l - x l * rr x * Ideal.div (∑ k, e k * (x k * rr x)) len)

/-- The factor the derivative of the mean square carries. -/
def rw' (x e : Fin n → EReal) : EReal :=
  Ideal.div ((∑ k, x k * e k) * (mhalf * Ideal.div (rr x) (ms x))) len

/-- The row's gradient as the derivative of the plain formula. -/
def rdx (x e : Fin n → EReal) (s : EReal) (l : Fin n) : EReal :=
  s + e l * rr x + x l * rw' x e + rw' x e * x l

/-- A factor that is a real number at least zero goes through a sum. -/
theorem sum_mul_coe (f : Fin n → EReal) {r : ℝ} (hr : 0 ≤ r) : ∑ k, f k * (r : EReal) = (∑ k, f k) * (r : EReal) := by
  induction (Finset.univ : Finset (Fin n)) using Finset.cons_induction with
  | empty => simp
  | cons a s _ ih =>
    rw [Finset.sum_cons, Finset.sum_cons, ih,
      EReal.right_distrib_of_nonneg_of_ne_top (by exact_mod_cast hr) (EReal.coe_ne_top r)]

/-- The factor of a row is zero (some entry is infinite), or it and the mean square are real numbers with `r² v = 1`. -/
theorem rr_cases (x : Fin n → EReal) :
    (ms x = ⊤ ∧ rr x = 0) ∨ ∃ r v : ℝ, 0 < r ∧ 0 < v ∧ r * r * v = 1 ∧ ms x = (v : EReal) ∧ rr x = (r : EReal) := by
  obtain ⟨e, he, hee⟩ := eps_eq
  by_cases h : ∑ k, x k * x k = ⊤
  · left
    have h1 : ms x = ⊤ := by
      unfold ms
      rw [h, len_eq, Ideal.div_coe (by norm_num), EReal.top_mul_coe_of_pos (by norm_num), hee]
      exact EReal.top_add_coe e
    exact ⟨h1, by unfold rr; rw [h1]; rfl⟩
  · right
    have h0 : 0 ≤ ∑ k, x k * x k := Finset.sum_nonneg fun k _ => by
      rcases le_total 0 (x k) with hk | hk
      · exact mul_nonneg hk hk
      · rw [← neg_mul_neg]
        exact mul_nonneg (EReal.neg_nonneg.mpr hk) (EReal.neg_nonneg.mpr hk)
    have hb : ∑ k, x k * x k ≠ ⊥ := fun hh => by rw [hh] at h0; exact absurd h0 (by simp)
    lift (∑ k, x k * x k) to ℝ using ⟨h, hb⟩ with S hS
    have hS0 : 0 ≤ S := by exact_mod_cast h0
    have hv : 0 < S * (1 / 1024) + e := by positivity
    have h1 : ms x = ((S * (1 / 1024) + e : ℝ) : EReal) := by
      unfold ms
      rw [← hS, len_eq, Ideal.div_coe (by norm_num), hee]
      push_cast; rfl
    refine ⟨(Real.sqrt (S * (1 / 1024) + e))⁻¹, S * (1 / 1024) + e, inv_pos.mpr (Real.sqrt_pos.mpr hv), hv, ?_, h1, ?_⟩
    · rw [← mul_inv, Real.mul_self_sqrt hv.le]
      exact inv_mul_cancel₀ hv.ne'
    · unfold rr
      rw [h1, Ideal.rsqrt_coe, if_neg (not_lt.mpr hv.le), if_neg hv.ne']

/-- Twice half of a product, the factor a negative real. -/
theorem halves (y : EReal) {p : ℝ} (hp : 0 < p) :
    -(y * (p : EReal)) = y * ((-p / 2 : ℝ) : EReal) + y * ((-p / 2 : ℝ) : EReal) := by
  have hn : -p / 2 < 0 := by linarith
  induction y with
  | bot =>
    rw [EReal.bot_mul_coe_of_pos hp, EReal.bot_mul_coe_of_neg hn]; rfl
  | coe a => norm_cast; ring
  | top =>
    rw [EReal.top_mul_coe_of_pos hp, EReal.top_mul_coe_of_neg hn]; rfl

theorem kdx_eq_rdx (x e : Fin n → EReal) (s : EReal) (l : Fin n) : kdx x e s l = rdx x e s l := by
  unfold kdx rdx rw'
  rcases rr_cases x with ⟨h1, h2⟩ | ⟨r, v, hr, hv, hrv, h1, h2⟩
  · have : Ideal.div 0 ⊤ = 0 := by unfold Ideal.div; simp
    rw [h1, h2, this, len_eq, Ideal.div_coe (by norm_num), Ideal.div_coe (by norm_num)]
    simp
  · rw [h1, h2, len_eq, mhalf_eq, Ideal.div_coe (by norm_num), Ideal.div_coe (by norm_num), Ideal.div_coe hv.ne']
    have e1 : ∑ k, e k * (x k * (r : EReal)) = (∑ k, x k * e k) * (r : EReal) := by
      rw [← sum_mul_coe _ hr.le]
      exact Finset.sum_congr rfl fun k _ => by rw [← mul_assoc, mul_comm (e k)]
    rw [e1]
    generalize (∑ k, x k * e k) = T
    have e2 : 1 / v = r * r := by field_simp; linarith
    rw [sub_eq_add_neg, EReal.left_distrib_of_nonneg_of_ne_top (by exact_mod_cast hr.le) (EReal.coe_ne_top r)]
    have e3 : (r : EReal) * -(x l * (r : EReal) * (T * (r : EReal) * ((1 / 1024 : ℝ) : EReal)))
        = -((x l * T) * ((r * r * r * (1 / 1024) : ℝ) : EReal)) := by
      rw [mul_neg]; push_cast; congr 1; simp only [mul_assoc, mul_comm, mul_left_comm]
    have e4 : T * (((-1 / 2 : ℝ) : EReal) * ((r : EReal) * ((1 / v : ℝ) : EReal))) * ((1 / 1024 : ℝ) : EReal)
        = T * ((-(r * r * r * (1 / 1024)) / 2 : ℝ) : EReal) := by
      rw [e2, mul_assoc T]; congr 1; rw [← EReal.coe_mul, ← EReal.coe_mul, ← EReal.coe_mul]; congr 1; ring
    rw [e3, e4, halves _ (by positivity), mul_comm (r : EReal) (e l), mul_comm (T * _) (x l), ← mul_assoc, add_assoc, ← add_assoc, ← add_assoc]

end Cert.NormMath
-- ==== Proof.Sums.lean ====
/-
  Finite sums cut into blocks of consecutive terms.
-/
module

public import Mathlib.Algebra.BigOperators.Group.Finset.Basic
public import Mathlib.Algebra.BigOperators.Fin
public import Mathlib.Algebra.BigOperators.Intervals

@[expose] public section

namespace Cert.Sums

variable {M : Type*} [AddCommMonoid M]

/-- A sum of `a * b` consecutive terms is the sum over `a` blocks of `b` terms each. -/
theorem range_mul (f : ℕ → M) (a b : ℕ) :
    ∑ s ∈ Finset.range a, ∑ k ∈ Finset.range b, f (b * s + k) = ∑ k ∈ Finset.range (a * b), f k := by
  induction a with
  | zero => simp
  | succ a ih =>
    rw [Finset.sum_range_succ, ih, Nat.succ_mul, Finset.sum_range_add]
    simp only [Nat.mul_comm b a]

/-- The same with the inner sum and the whole sum over `Fin`: the blocks' own terms `g s k` are the terms of `f` at
    position `b * s + k`. -/
theorem blocks {a b n : ℕ} (hn : a * b = n) (g : ℕ → Fin b → M) (f : Fin n → M)
    (h : ∀ (s : ℕ) (hs : s < a) (k : Fin b), g s k = f ⟨b * s + k.val, by
      have := k.isLt; subst hn
      calc b * s + k.val < b * s + b := by omega
        _ = b * (s + 1) := by rw [Nat.mul_succ]
        _ ≤ b * a := Nat.mul_le_mul_left _ hs
        _ = a * b := Nat.mul_comm _ _⟩) :
    ∑ s ∈ Finset.range a, ∑ k : Fin b, g s k = ∑ k : Fin n, f k := by
  subst hn
  set F : ℕ → M := fun k => if hk : k < a * b then f ⟨k, hk⟩ else 0 with hF
  have e1 : ∑ k : Fin (a * b), f k = ∑ k ∈ Finset.range (a * b), F k := by
    rw [Finset.sum_range]
    refine Finset.sum_congr rfl fun k _ => ?_
    simp only [hF]; rw [dif_pos k.isLt]
  rw [e1, ← range_mul F a b]
  refine Finset.sum_congr rfl fun s hs => ?_
  rw [Finset.sum_range]
  refine Finset.sum_congr rfl fun k _ => ?_
  rw [h s (Finset.mem_range.mp hs) k]
  simp only [hF]
  rw [dif_pos]

end Cert.Sums
-- ==== Proof.NormVal.lean ====
/-
  One block of the norm's backward kernel of the feed-forward block: what its body computes at an index, and what the row loop leaves in the two
  results' buffers.
-/
module

public import proofs.«01_k».proof.Proof.NormLoop
public import proofs.«01_k».proof.Proof.NormMath
public import proofs.«01_k».proof.Proof.Sums
public import Idealize.ShloMosaic.Lib.Pointwise
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.KernelIdeal.Norm

open Cert.KernelIdeal Cert.KernelIdeal.Gen Idealize.ShloMosaic Idealize.ShloMosaic.TcCoe Idealize.SL.Sem

theorem pay2_apply (A0 : Vec Ideal S512x2816 .bf16) (B0 : Vec Ideal S1024x2816 .bf16) (A1 : Vec Ideal S512x2816 .bf16) (B1 : Vec Ideal S1024x2816 .bf16) (r : Fin 512) (l : Fin 1024) :
    k0_pay2 A0 B0 A1 B1 (ix2 r l) = (∑ k : Fin 2816, (A0 (ix2 r k) : EReal) * B0 (ix2 l k)) + (∑ k : Fin 2816, (A1 (ix2 r k) : EReal) * B1 (ix2 l k)) := by
  pointwise [k0_pay2]

theorem pay1_apply (l : Fin 1024) : (k0_pay1 (F := Ideal) (ix2 0 l) : EReal) = 0 := by
  pointwise [k0_pay1]

/-- The row's factor. -/
theorem pay3_apply (x : Vec Ideal S16x1024 .f32) (r : Fin 16) :
    k0_pay3 x (ix2 r 0) = NormMath.rr (fun k : Fin 1024 => (x (ix2 r k) : EReal)) := by
  pointwise [k0_pay3]
  rfl

theorem pay4_apply (x : Vec Ideal S16x1024 .f32) (r : Fin 16) (l : Fin 1024) :
    k0_pay4 x (ix2 r l) = (x (ix2 r l) : EReal) * NormMath.rr (fun k : Fin 1024 => (x (ix2 r k) : EReal)) := by
  refine (show k0_pay4 x (ix2 r l) = (x (ix2 r l) : EReal) * k0_pay3 x (ix2 r 0) by pointwise [k0_pay4]).trans ?_
  rw [pay3_apply]

theorem pay6_apply (x d : Vec Ideal S16x1024 .f32) (a : Vec Ideal S1x1024 .f32) (l : Fin 1024) :
    k0_pay6 x d a (ix2 0 l) = (a (ix2 0 l) : EReal) + ∑ r : Fin 16, (d (ix2 r l) : EReal) * k0_pay4 x (ix2 r l) := by
  pointwise [k0_pay6]

theorem pay5_pre (g : Vec Ideal S1x1024 .f32) (x d s : Vec Ideal S16x1024 .f32) (r : Fin 16) (l : Fin 1024) :
    k0_pay5 g x d s (ix2 r l) = (s (ix2 r l) : EReal) + k0_pay3 x (ix2 r 0) * ((d (ix2 r l) : EReal) * g (ix2 0 l)
      - k0_pay4 x (ix2 r l) * Ideal.div (∑ k : Fin 1024, (d (ix2 r k) : EReal) * g (ix2 0 k) * k0_pay4 x (ix2 r k)) (Ideal.ofBits FTy.f32 1149239296#32)) := by
  pointwise [k0_pay5]

theorem pay5_apply (g : Vec Ideal S1x1024 .f32) (x d s : Vec Ideal S16x1024 .f32) (r : Fin 16) (l : Fin 1024) :
    k0_pay5 g x d s (ix2 r l) = NormMath.kdx (fun k : Fin 1024 => (x (ix2 r k) : EReal))
      (fun k : Fin 1024 => (d (ix2 r k) : EReal) * g (ix2 0 k)) (s (ix2 r l) : EReal) l := by
  refine (pay5_pre g x d s r l).trans ?_
  simp only [pay3_apply, pay4_apply]
  rfl

variable (𝒱 : Variants) (c : Dev nD) (bd : Option 𝒱.V) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole)
  (v15 : Vec Ideal S1x1024 .f32) (X5 : BufTy.Contents (Elt Ideal) a5.view.ty) (X7 : BufTy.Contents (Elt Ideal) a7.view.ty)
  (X10 : BufTy.Contents (Elt Ideal) a10.view.ty)

/-- Three blocks of 512 rows, read at an index: the rows `x`, the residual's gradient `s`, the product `d`; and the gain. -/
abbrev bx : Vec Ideal S512x1024 .f32 := a5.view.read (Elt Ideal) X5
abbrev bs : Vec Ideal S512x1024 .f32 := a7.view.read (Elt Ideal) X7
abbrev bd' : Vec Ideal S512x1024 .f32 := a10.view.read (Elt Ideal) X10

/-- Rows of a block read by trip `k`. -/
theorem ld_rows (X : Vec Ideal S512x1024 .f32) (k : Fin k0_t1_loop.trips) (r : Fin 16) (l : Fin 1024) (R : Fin 512)
    (hR : R.val = 16 * k.val + r.val) : View.ld X (rows k) (ix2 r l) = X (ix2 R l) :=
  View.ld_unit_apply_of X _ _ _ _ (ix2 R l) fun a => by
    have e := k0_off1_eq k
    match a with
    | ⟨0, _⟩ => show R.val = k0_off1 k 0 + r.val; rw [e]; exact hR
    | ⟨1, _⟩ => show l.val = k0_off1 k 1 + l.val; rw [e]; show l.val = 0 + l.val; omega

/-- What the block of `dx` holds at an index. -/
def dxAt (g : Vec Ideal S1x1024 .f32) (x d s : Vec Ideal S512x1024 .f32) (y : S512x1024.Idx) : EReal :=
  NormMath.kdx (fun k : Fin 1024 => (x (ix2 (y 0) k) : EReal))
      (fun k : Fin 1024 => (d (ix2 (y 0) k) : EReal) * g (ix2 0 k)) (s (ix2 (y 0) (y 1)) : EReal) (y 1)

theorem rows_emb (k : Fin k0_t1_loop.trips) (r : Fin 16) (l : Fin 1024) (R : Fin 512) (hR : R.val = 16 * k.val + r.val) :
    (rows k).emb (ix2 r l) = ix2 R l := by
  funext a
  apply Fin.ext
  match a with
  | ⟨0, _⟩ => show (k0_off1 k) 0 + 1 * r.val = R.val; rw [k0_off1_eq]; show 16 * k.val + 1 * r.val = _; omega
  | ⟨1, _⟩ => show (k0_off1 k) 1 + 1 * l.val = l.val; rw [k0_off1_eq]; show 0 + 1 * l.val = _; omega

theorem pay5_row (g : Vec Ideal S1x1024 .f32) (x d s : Vec Ideal S512x1024 .f32) (k : Fin k0_t1_loop.trips) (r : Fin 16) (l : Fin 1024) :
    (k0_pay5 g (View.ld x (rows k)) (View.ld d (rows k)) (View.ld s (rows k)) (ix2 r l) : EReal) = dxAt g x d s ((rows k).emb (ix2 r l)) := by
  have hk : k.val < 32 := k.isLt
  have hr := r.isLt
  have hl : ∀ (X : Vec Ideal S512x1024 .f32) (l : Fin 1024), View.ld X (rows k) (ix2 r l) = X (ix2 (⟨16 * k.val + r.val, by omega⟩ : Fin 512) l) :=
    fun X l => ld_rows X k r l _ rfl
  refine (pay5_apply g _ _ _ r l).trans ?_
  rw [rows_emb k r l ⟨16 * k.val + r.val, by omega⟩ rfl]
  unfold dxAt
  rw [hl s l, funext (hl x)]
  refine congrArg (fun e => NormMath.kdx _ e _ l) (funext fun q => ?_)
  rw [hl d q]
  rfl

theorem pay5_rows (g : Vec Ideal S1x1024 .f32) (x d s : Vec Ideal S512x1024 .f32) (k : Fin k0_t1_loop.trips) (y : S16x1024.Idx) :
    (k0_pay5 g (View.ld x (rows k)) (View.ld d (rows k)) (View.ld s (rows k)) y : EReal) = dxAt g x d s ((rows k).emb y) := by
  rw [eq_ix2 y]
  exact pay5_row g x d s k (y 0) (y 1)

/-- Each piece the loop stores into `dx`'s block agrees with `dxAt`. -/
theorem pb8_agree (G8 : BufTy.Contents (Elt Ideal) a8.view.ty) (G9 : BufTy.Contents (Elt Ideal) a9.view.ty) (k : ℕ) :
    ∀ p ∈ (pb_k0_t1 (F := Ideal) 𝒱 c bd i a1 w1 a2 w2 a3 w3 a4 w4 a5 w5 a6 w6 a7 w7 a8 w8 a9 w9 a10 w10 v15 X5 X7 X10 G8 G9 k).1, ∀ x : p.1.shape.Idx,
      p.2 x = dxAt v15 (a5.view.read (Elt Ideal) X5) (a10.view.read (Elt Ideal) X10) (a7.view.read (Elt Ideal) X7) (p.1.emb x) := by
  induction k with
  | zero => intro p hp; exact absurd hp List.not_mem_nil
  | succ k ih =>
    by_cases h : k < k0_t1_loop.trips
    · have e := (pb_k0_t1_succ (F := Ideal) 𝒱 c bd i a1 w1 a2 w2 a3 w3 a4 w4 a5 w5 a6 w6 a7 w7 a8 w8 a9 w9 a10 w10 v15 X5 X7 X10 G8 G9 ⟨k, h⟩)
      rw [trip_eq] at e
      intro p hp
      have hp' : p ∈ (pb_k0_t1 (F := Ideal) 𝒱 c bd i a1 w1 a2 w2 a3 w3 a4 w4 a5 w5 a6 w6 a7 w7 a8 w8 a9 w9 a10 w10 v15 X5 X7 X10 G8 G9 ((⟨k, h⟩ : Fin k0_t1_loop.trips).val + 1)).1 := hp
      rw [e] at hp'
      rcases List.mem_append.mp hp' with h1 | h1
      · rw [List.mem_singleton] at h1
        subst h1
        intro x
        exact pay5_rows v15 _ _ _ ⟨k, h⟩ x
      · exact ih p h1
    · rw [pb_k0_t1.eq_2]
      unfold pb_k0_t1Step
      rw [dif_neg h]
      exact ih

/-- The last piece stored into `dgain`'s row by trip `k`. -/
theorem pb9_succ (G8 : BufTy.Contents (Elt Ideal) a8.view.ty) (G9 : BufTy.Contents (Elt Ideal) a9.view.ty) (k : Fin k0_t1_loop.trips) :
    (pb_k0_t1 (F := Ideal) 𝒱 c bd i a1 w1 a2 w2 a3 w3 a4 w4 a5 w5 a6 w6 a7 w7 a8 w8 a9 w9 a10 w10 v15 X5 X7 X10 G8 G9 (k.val + 1)).2
      = (⟨row, k0_pay6 (View.ld (a5.view.read (Elt Ideal) X5) (rows k)) (View.ld (a10.view.read (Elt Ideal) X10) (rows k))
          (View.ld (a9.view.read (Elt Ideal) (a9.view.writes (Elt Ideal) G9 (pb_k0_t1 (F := Ideal) 𝒱 c bd i a1 w1 a2 w2 a3 w3 a4 w4 a5 w5 a6 w6 a7 w7 a8 w8 a9 w9 a10 w10 v15 X5 X7 X10 G8 G9 k.val).2)) row)⟩ :: (pb_k0_t1 (F := Ideal) 𝒱 c bd i a1 w1 a2 w2 a3 w3 a4 w4 a5 w5 a6 w6 a7 w7 a8 w8 a9 w9 a10 w10 v15 X5 X7 X10 G8 G9 k.val).2) := by
  have e := (pb_k0_t1_succ (F := Ideal) 𝒱 c bd i a1 w1 a2 w2 a3 w3 a4 w4 a5 w5 a6 w6 a7 w7 a8 w8 a9 w9 a10 w10 v15 X5 X7 X10 G8 G9 k)
  rw [trip_eq] at e
  rw [e]
  rfl

/-- A row's contribution to `dgain`. -/
def dgAt (x d : Vec Ideal S512x1024 .f32) (l : Fin 1024) (r : Fin 512) : EReal :=
  (d (ix2 r l) : EReal) * ((x (ix2 r l) : EReal) * NormMath.rr (fun k : Fin 1024 => (x (ix2 r k) : EReal)))

/-- What trip `k` leaves at an index of `dgain`'s row. -/
theorem pay6_rows (x d : Vec Ideal S512x1024 .f32) (a : Vec Ideal S1x1024 .f32) (k : Fin k0_t1_loop.trips) (l : Fin 1024) :
    (k0_pay6 (View.ld x (rows k)) (View.ld d (rows k)) a (ix2 0 l) : EReal)
      = (a (ix2 0 l) : EReal) + ∑ r : Fin 16, (fun (s : ℕ) (r : Fin 16) => if h : 16 * s + r.val < 512 then dgAt x d l ⟨16 * s + r.val, h⟩ else 0) k.val r := by
  have hk : k.val < 32 := k.isLt
  refine (pay6_apply _ _ a l).trans (congrArg _ (Finset.sum_congr rfl fun r _ => ?_))
  have hr := r.isLt
  rw [pay4_apply]
  refine Eq.trans ?_ (dif_pos (by omega)).symm
  have hl : ∀ (X : Vec Ideal S512x1024 .f32) (l : Fin 1024), View.ld X (rows k) (ix2 r l) = X (ix2 (⟨16 * k.val + r.val, by omega⟩ : Fin 512) l) :=
    fun X l => ld_rows X k r l _ rfl
  unfold dgAt
  rw [hl d l, hl x l, funext (hl x)]

theorem ld_row (X : Vec Ideal S1x1024 .f32) (l : Fin 1024) : View.ld X row (ix2 0 l) = X (ix2 0 l) :=
  View.ld_unit_apply_of X _ _ _ _ (ix2 0 l) fun a => by
    match a with
    | ⟨0, _⟩ => rfl
    | ⟨1, _⟩ => show l.val = 0 + l.val; omega

/-- The row after `k` trips, read through any view of any buffer that holds the pieces over any contents (`k` at least 1). -/
theorem read_row {sg : RefSig} {κ : Kind} {sp : Space} (v : View sg κ sp S1x1024 .f32) (f : v.ty.Contents (Elt Ideal)) (w : Vec Ideal S1x1024 .f32)
    (L : List (View.Piece (Elt Ideal) S1x1024 .f32)) (l : Fin 1024) :
    v.read (Elt Ideal) (v.writes (Elt Ideal) f (⟨row, w⟩ :: L)) (ix2 0 l) = w (ix2 0 l) :=
  View.read_writes_cons_unit_of_mem v f inb_S1x1024_S1x1024_0_0 w L (ix2 0 l) (ix2 0 l) rfl fun a => by
    match a with
    | ⟨0, _⟩ => rfl
    | ⟨1, _⟩ => show l.val = 0 + l.val; omega

/-- The running sum before trip `k`. -/
theorem pb9_read (G8 : BufTy.Contents (Elt Ideal) a8.view.ty) (G9 : BufTy.Contents (Elt Ideal) a9.view.ty) (l : Fin 1024) (k : ℕ) (hk : k ≤ 32) :
    (a9.view.read (Elt Ideal) (a9.view.writes (Elt Ideal) G9 (pb_k0_t1 (F := Ideal) 𝒱 c bd i a1 w1 a2 w2 a3 w3 a4 w4 a5 w5 a6 w6 a7 w7 a8 w8 a9 w9 a10 w10 v15 X5 X7 X10 G8 G9 k).2) (ix2 0 l) : EReal)
      = (a9.view.read (Elt Ideal) G9 (ix2 0 l) : EReal) + ∑ s ∈ Finset.range k, ∑ r : Fin 16,
          (fun (s : ℕ) (r : Fin 16) => if h : 16 * s + r.val < 512 then dgAt (a5.view.read (Elt Ideal) X5) (a10.view.read (Elt Ideal) X10) l ⟨16 * s + r.val, h⟩ else 0) s r := by
  induction k with
  | zero => rw [Finset.sum_range_zero, add_zero]; rfl
  | succ k ih =>
    have e := pb9_succ 𝒱 c bd i a1 w1 a2 w2 a3 w3 a4 w4 a5 w5 a6 w6 a7 w7 a8 w8 a9 w9 a10 w10 v15 X5 X7 X10 G8 G9 ⟨k, lt_of_lt_of_eq (show k < 32 by omega) rfl⟩
    refine (congrArg (fun L => a9.view.read (Elt Ideal) (a9.view.writes (Elt Ideal) G9 L) (ix2 0 l)) e).trans ?_
    refine (read_row _ _ _ _ l).trans ((pay6_rows _ _ _ ⟨k, lt_of_lt_of_eq (show k < 32 by omega) rfl⟩ l).trans ?_)
    rw [ld_row, ih (by omega), Finset.sum_range_succ, add_assoc]

/-- The row after the loop, through any view. -/
theorem row_final {sg : RefSig} {κ : Kind} {sp : Space} (v : View sg κ sp S1x1024 .f32) (f : v.ty.Contents (Elt Ideal))
    (L : List (View.Piece (Elt Ideal) S1x1024 .f32))
    (G8 : BufTy.Contents (Elt Ideal) a8.view.ty) (G9 : BufTy.Contents (Elt Ideal) a9.view.ty) (l : Fin 1024) :
    (v.read (Elt Ideal) (v.writes (Elt Ideal) f ((pb_k0_t1 (F := Ideal) 𝒱 c bd i a1 w1 a2 w2 a3 w3 a4 w4 a5 w5 a6 w6 a7 w7 a8 w8 a9 w9 a10 w10 v15 X5 X7 X10 G8 G9 32).2 ++ L)) (ix2 0 l) : EReal)
      = (a9.view.read (Elt Ideal) G9 (ix2 0 l) : EReal) + ∑ r : Fin 512, dgAt (a5.view.read (Elt Ideal) X5) (a10.view.read (Elt Ideal) X10) l r := by
  have e := pb9_succ 𝒱 c bd i a1 w1 a2 w2 a3 w3 a4 w4 a5 w5 a6 w6 a7 w7 a8 w8 a9 w9 a10 w10 v15 X5 X7 X10 G8 G9 ⟨31, by decide⟩
  have hr := pb9_read 𝒱 c bd i a1 w1 a2 w2 a3 w3 a4 w4 a5 w5 a6 w6 a7 w7 a8 w8 a9 w9 a10 w10 v15 X5 X7 X10 G8 G9 l 32 le_rfl
  refine Eq.trans ?_ (hr.trans (congrArg _ (Cert.Sums.blocks (by norm_num) _ _ (fun s hs r => by
    have := r.isLt
    exact dif_pos (by omega)))))
  refine (congrArg (fun M => v.read (Elt Ideal) (v.writes (Elt Ideal) f (M ++ L)) (ix2 0 l)) e).trans ?_
  refine Eq.trans ?_ (congrArg (fun M => a9.view.read (Elt Ideal) (a9.view.writes (Elt Ideal) G9 M) (ix2 0 l)) e).symm
  refine Eq.trans (read_row v f _ (_ ++ L) l) (read_row _ _ _ _ l).symm

end Cert.KernelIdeal.Norm
-- ==== Proof.NormOut.lean ====
/-
  One grid point of the norm's backward kernel of the feed-forward block: what its run leaves in the two results' buffers, at an index.
-/
module

public import proofs.«01_k».proof.Proof.NormFrame
public import proofs.«01_k».proof.Proof.NormVal

@[expose] public section

set_option maxRecDepth 16384

noncomputable section

namespace Cert.KernelIdeal.Norm

open Cert.KernelIdeal Cert.KernelIdeal.Gen Idealize.ShloMosaic Idealize.ShloMosaic.TcCoe Idealize.SL.Sem

theorem hz2 : (![0, 0] : Fin 2 → ℕ) = fun _ => 0 := by
  funext a; match a with | ⟨0, _⟩ => rfl | ⟨1, _⟩ => rfl

/-- The scratch block after the products are stored. -/
theorem whole_pay2 (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a10 : Memref sig .tc .vmem S512x1024 .f32)
    (x0 : Vec Ideal S512x2816 .bf16) (x1 : Vec Ideal S1024x2816 .bf16) (x2 : Vec Ideal S512x2816 .bf16) (x3 : Vec Ideal S1024x2816 .bf16) :
    a10.view.read (Elt Ideal) (a10.view.writes (Elt Ideal) a10.view.junk
        [⟨Rect.unit ![0, 0] S512x1024.size inb_S512x1024_S512x1024_0_0,
          k0_pay2 (View.readAt (Elt Ideal) a1.view (Rect.unit ![0, 0] S512x2816.size inb_S512x2816_S512x2816_0_0).toLoadRect (w1.unread x0))
            (View.readAt (Elt Ideal) a2.view (Rect.unit ![0, 0] S1024x2816.size inb_S1024x2816_S1024x2816_0_0).toLoadRect (w2.unread x1))
            (View.readAt (Elt Ideal) a3.view (Rect.unit ![0, 0] S512x2816.size inb_S512x2816_S512x2816_0_0).toLoadRect (w3.unread x2))
            (View.readAt (Elt Ideal) a4.view (Rect.unit ![0, 0] S1024x2816.size inb_S1024x2816_S1024x2816_0_0).toLoadRect (w4.unread x3))⟩])
      = k0_pay2 x0 x1 x2 x3 := by
  simp only [View.readAt_eq_ld, w1.read_unread, w2.read_unread, w3.read_unread, w4.read_unread,
    View.ld_unit_zero (S := S512x2816) hz2, View.ld_unit_zero (S := S1024x2816) hz2]
  funext y
  exact View.read_writes_cons_unit_of_mem _ _ inb_S512x1024_S512x1024_0_0 _ _ y y hz2 fun a => (Nat.zero_add _).symm

/-- The gain as the body loads it. -/
abbrev gainV (a6 : Memref sig .tc .vmem S1x1024 .f32) (w6 : a6.IsWhole) (x5 : Vec Ideal S1x1024 .f32) : Vec Ideal S1x1024 .f32 :=
  View.readAt (Elt Ideal) a6.view row.toLoadRect (w6.unread x5)

theorem gain_read (a6 : Memref sig .tc .vmem S1x1024 .f32) (w6 : a6.IsWhole) (x5 : Vec Ideal S1x1024 .f32) :
    gainV a6 w6 x5 = x5 := by
  unfold gainV
  rw [View.readAt_eq_ld, w6.read_unread]
  exact View.ld_unit_zero (S := S1x1024) hz2 _ _

/-- The row is zero before the first point's loop. -/
theorem start_row (a9 : Memref sig .tc .vmem S1x1024 .f32) (l : Fin 1024) :
    (a9.view.read (Elt Ideal) (a9.view.writes (Elt Ideal) a9.view.junk kernelRun0_A.sl.H8_1) (ix2 0 l) : EReal) = 0 := by
  unfold kernelRun0_A.sl.H8_1
  exact (read_row _ _ _ _ l).trans (pay1_apply l)

section
variable (c : Dev nD) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : cond0_0 i)
  (x0 : Vec Ideal S512x2816 .bf16) (x1 : Vec Ideal S1024x2816 .bf16) (x2 : Vec Ideal S512x2816 .bf16) (x3 : Vec Ideal S1024x2816 .bf16) (x4 : Vec Ideal S512x1024 .f32) (x5 : Vec Ideal S1x1024 .f32) (x6 : Vec Ideal S512x1024 .f32)

theorem hs_A : a10.view.read (Elt Ideal) (a10.view.writes (Elt Ideal) a10.view.junk (kernelRun0_A.sl.HS0_1 c a1 w1 a2 w2 a3 w3 a4 w4 x0 x1 x2 x3)) = k0_pay2 x0 x1 x2 x3 := by
  unfold kernelRun0_A.sl.HS0_1
  exact whole_pay2 a1 w1 a2 w2 a3 w3 a4 w4 a10 x0 x1 x2 x3

/-- What a point of case A leaves in `dx`'s block, and in `dgain`'s row. -/
theorem out_A_7 (y : S512x1024.Idx) :
    (out0_A_7 c i a1 w1 a2 w2 a3 w3 a4 w4 a5 w5 a6 w6 a7 w7 a8 w8 a9 w9 a10 w10 hc0 x0 x1 x2 x3 x4 x5 x6 y : EReal) = dxAt x5 x4 (k0_pay2 x0 x1 x2 x3) x6 y := by
  unfold out0_A_7
  refine View.read_writes_apply_of_pieces VO0_7 _ (dxAt x5 x4 (k0_pay2 x0 x1 x2 x3) x6) _ ?_ y (cover0_A_7 c i a1 w1 a2 w2 a3 w3 a4 w4 a5 w5 a6 w6 a7 w7 a8 w8 a9 w9 a10 w10 hc0 x0 x1 x2 x3 x4 x5 x6 y)
  have h := pb8_agree Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_A.sl.HS0_1 c a1 w1 a2 w2 a3 w3 a4 w4 x0 x1 x2 x3)) a8.view.junk (a9.view.writes (Elt Ideal) a9.view.junk kernelRun0_A.sl.H8_1) 32
  rw [hs_A c a1 w1 a2 w2 a3 w3 a4 w4 a10 x0 x1 x2 x3, w5.read_unread, w7.read_unread] at h
  rw [show dxAt x5 x4 (k0_pay2 x0 x1 x2 x3) x6 = dxAt (gainV a6 w6 x5) x4 (k0_pay2 x0 x1 x2 x3) x6 from by rw [gain_read]]
  unfold kernelRun0_A
  exact h

theorem out_A_8 (l : Fin 1024) :
    (out0_A_8 c i a1 w1 a2 w2 a3 w3 a4 w4 a5 w5 a6 w6 a7 w7 a8 w8 a9 w9 a10 w10 hc0 x0 x1 x2 x3 x4 x5 x6 (ix2 0 l) : EReal) = 0 + ∑ r : Fin 512, dgAt x4 (k0_pay2 x0 x1 x2 x3) l r := by
  unfold out0_A_8
  have h := row_final Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_A.sl.HS0_1 c a1 w1 a2 w2 a3 w3 a4 w4 x0 x1 x2 x3)) VO0_8 VO0_8.junk kernelRun0_A.sl.H8_1 a8.view.junk (a9.view.writes (Elt Ideal) a9.view.junk kernelRun0_A.sl.H8_1) l
  rw [hs_A c a1 w1 a2 w2 a3 w3 a4 w4 a10 x0 x1 x2 x3, w5.read_unread, start_row] at h
  unfold kernelRun0_A
  exact h

end

section
variable (c : Dev nD) (i : grid0.Coords) (a1 : Memref sig .tc .vmem S512x2816 .bf16) (w1 : a1.IsWhole) (a2 : Memref sig .tc .vmem S1024x2816 .bf16) (w2 : a2.IsWhole) (a3 : Memref sig .tc .vmem S512x2816 .bf16) (w3 : a3.IsWhole) (a4 : Memref sig .tc .vmem S1024x2816 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : ¬cond0_0 i)
  (x0 : Vec Ideal S512x2816 .bf16) (x1 : Vec Ideal S1024x2816 .bf16) (x2 : Vec Ideal S512x2816 .bf16) (x3 : Vec Ideal S1024x2816 .bf16) (x4 : Vec Ideal S512x1024 .f32) (x5 : Vec Ideal S1x1024 .f32) (x6 : Vec Ideal S512x1024 .f32) (xo8 : Vec Ideal S1x1024 .f32)

theorem hs_B : a10.view.read (Elt Ideal) (a10.view.writes (Elt Ideal) a10.view.junk (kernelRun0_B.sl.HS0_1 c a1 w1 a2 w2 a3 w3 a4 w4 x0 x1 x2 x3)) = k0_pay2 x0 x1 x2 x3 := by
  unfold kernelRun0_B.sl.HS0_1
  exact whole_pay2 a1 w1 a2 w2 a3 w3 a4 w4 a10 x0 x1 x2 x3

/-- What a point of case B leaves in `dx`'s block, and in `dgain`'s row. -/
theorem out_B_7 (y : S512x1024.Idx) :
    (out0_B_7 c i a1 w1 a2 w2 a3 w3 a4 w4 a5 w5 a6 w6 a7 w7 a8 w8 a9 w9 a10 w10 hc0 x0 x1 x2 x3 x4 x5 x6 xo8 y : EReal) = dxAt x5 x4 (k0_pay2 x0 x1 x2 x3) x6 y := by
  unfold out0_B_7
  refine View.read_writes_apply_of_pieces VO0_7 _ (dxAt x5 x4 (k0_pay2 x0 x1 x2 x3) x6) _ ?_ y (cover0_B_7 c i a1 w1 a2 w2 a3 w3 a4 w4 a5 w5 a6 w6 a7 w7 a8 w8 a9 w9 a10 w10 hc0 x0 x1 x2 x3 x4 x5 x6 xo8 y)
  have h := pb8_agree Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_B.sl.HS0_1 c a1 w1 a2 w2 a3 w3 a4 w4 x0 x1 x2 x3)) a8.view.junk (w9.unread xo8) 32
  rw [hs_B c a1 w1 a2 w2 a3 w3 a4 w4 a10 x0 x1 x2 x3, w5.read_unread, w7.read_unread] at h
  rw [show dxAt x5 x4 (k0_pay2 x0 x1 x2 x3) x6 = dxAt (gainV a6 w6 x5) x4 (k0_pay2 x0 x1 x2 x3) x6 from by rw [gain_read]]
  unfold kernelRun0_B
  exact h

theorem out_B_8 (l : Fin 1024) :
    (out0_B_8 c i a1 w1 a2 w2 a3 w3 a4 w4 a5 w5 a6 w6 a7 w7 a8 w8 a9 w9 a10 w10 hc0 x0 x1 x2 x3 x4 x5 x6 xo8 (ix2 0 l) : EReal) = (xo8 (ix2 0 l) : EReal) + ∑ r : Fin 512, dgAt x4 (k0_pay2 x0 x1 x2 x3) l r := by
  unfold out0_B_8
  have h := row_final Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_B.sl.HS0_1 c a1 w1 a2 w2 a3 w3 a4 w4 x0 x1 x2 x3)) VO0_8 VO0_8.junk [] a8.view.junk (w9.unread xo8) l
  rw [hs_B c a1 w1 a2 w2 a3 w3 a4 w4 a10 x0 x1 x2 x3, w5.read_unread, w9.read_unread, List.append_nil] at h
  unfold kernelRun0_B
  exact h

end

end Cert.KernelIdeal.Norm
-- ==== Proof.NormArr.lean ====
/-
  The norm's backward kernel of the feed-forward block over its whole grid: what the two result arrays hold after the run, at an index.
-/
module

public import proofs.«01_k».proof.Proof.NormOut
public import Idealize.ShloMosaic.Lib.Pipeline.ValueKit
public import Idealize.ShloMosaic.Lib.Pipeline.Value
public import Idealize.ShloMosaic.Lib.StableHlo.Run

@[expose] public section

set_option maxRecDepth 16384

noncomputable section

namespace Cert.KernelIdeal.Norm

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices, over the grid. -/
theorem idx_rows : ∀ t : Fin cfg0.N,
    win0_0.index t (0 : Fin 2) = t.val ∧ win0_0.index t (1 : Fin 2) = 0
    ∧ win0_2.index t (0 : Fin 2) = t.val ∧ win0_2.index t (1 : Fin 2) = 0
    ∧ win0_4.index t (0 : Fin 2) = t.val ∧ win0_4.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem idx_whole : ∀ t : Fin cfg0.N,
    win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_8.index t (0 : Fin 2) = 0 ∧ win0_8.index t (1 : Fin 2) = 0 :=
  (by decide +kernel : ∀ t : Fin grid0.N, _)

/-- The arguments at an index: the parts of the gradient, the projection, the rows, the gain, the residual's gradient. -/
def aD0 (c : Dev nD) (R : Fin 16384) (k : Fin 2816) : EReal := m ((c : Thread nD τ).loc main_arg0) (ix2 R k)
def aD1 (c : Dev nD) (R : Fin 16384) (k : Fin 2816) : EReal := m ((c : Thread nD τ).loc main_arg1) (ix2 R k)
def aW (c : Dev nD) (L : Fin 1024) (k : Fin 5632) : EReal := m ((c : Thread nD τ).loc main_arg2) (ix2 L k)
def aX (c : Dev nD) (R : Fin 16384) (k : Fin 1024) : EReal := m ((c : Thread nD τ).loc main_arg3) (ix2 R k)
def aN (c : Dev nD) (k : Fin 1024) : EReal := m ((c : Thread nD τ).loc main_arg4) (ix1 k)
def aS (c : Dev nD) (R : Fin 16384) (k : Fin 1024) : EReal := m ((c : Thread nD τ).loc main_arg5) (ix2 R k)

/-- The host's arrays before the call: the parts of the projection, and the gain as a row. -/
theorem V_v0 (c : Dev nD) (L : Fin 1024) (k : Fin 2816) :
    (V m c main_v0 (ix2 L k) : EReal) = aW m c L ⟨k.val, by omega⟩ := by
  have e : V m c main_v0 = extractStridedSlice S1024x2816 ![0, 0] (m ((c : Thread nD τ).loc main_arg2)) slices_S1024x5632_S1024x2816_0_0 := by
    show StableHlo.after hostOps0 (fun b => m (c, b)) (Proc.devRef .tc main_v0) = _
    after_results
  rw [e]
  unfold aW
  pointwise []

theorem V_v1 (c : Dev nD) (L : Fin 1024) (k : Fin 2816) :
    (V m c main_v1 (ix2 L k) : EReal) = aW m c L ⟨2816 + k.val, by omega⟩ := by
  have e : V m c main_v1 = extractStridedSlice S1024x2816 ![0, 2816] (m ((c : Thread nD τ).loc main_arg2)) slices_S1024x5632_S1024x2816_0_2816 := by
    show StableHlo.after hostOps0 (fun b => m (c, b)) (Proc.devRef .tc main_v1) = _
    after_results
  rw [e]
  unfold aW
  pointwise []

theorem V_v2 (c : Dev nD) (k : Fin 1024) : (V m c main_v2 (ix2 0 k) : EReal) = aN m c k := by
  have e : V m c main_v2 = shapeCast S1x1024 (m ((c : Thread nD τ).loc main_arg4)) shapeCasts_S1024_S1x1024 := by
    show StableHlo.after hostOps0 (fun b => m (c, b)) (Proc.devRef .tc main_v2) = _
    after_results
    rfl
  rw [e]
  unfold aN
  pointwise []

/-- The blocks at a grid point, at an index. -/
theorem b0 (c : Dev nD) (t : Fin cfg0.N) (r : Fin 512) (k : Fin 2816) (R : Fin 16384) (hR : R.val = 512 * t.val + r.val) :
    (iblk m c 0 t (ix2 r k) : EReal) = aD0 m c R k := by
  obtain ⟨e0, e1, -⟩ := idx_rows t
  unfold iblk aD0
  refine congrArg (m (c.tc.loc main_arg0)) (funext fun a => Fin.ext ?_)
  match a with
  | ⟨0, _⟩ => show win0_0.index t 0 * 512 + 1 * r.val = R.val; rw [e0]; omega
  | ⟨1, _⟩ => show win0_0.index t 1 * 2816 + 1 * k.val = k.val; rw [e1]; omega

theorem b2 (c : Dev nD) (t : Fin cfg0.N) (r : Fin 512) (k : Fin 2816) (R : Fin 16384) (hR : R.val = 512 * t.val + r.val) :
    (iblk m c 2 t (ix2 r k) : EReal) = aD1 m c R k := by
  obtain ⟨-, -, e0, e1, -⟩ := idx_rows t
  unfold iblk aD1
  refine congrArg (m (c.tc.loc main_arg1)) (funext fun a => Fin.ext ?_)
  match a with
  | ⟨0, _⟩ => show win0_2.index t 0 * 512 + 1 * r.val = R.val; rw [e0]; omega
  | ⟨1, _⟩ => show win0_2.index t 1 * 2816 + 1 * k.val = k.val; rw [e1]; omega

theorem b4 (c : Dev nD) (t : Fin cfg0.N) (r : Fin 512) (k : Fin 1024) (R : Fin 16384) (hR : R.val = 512 * t.val + r.val) :
    (iblk m c 4 t (ix2 r k) : EReal) = aX m c R k := by
  obtain ⟨-, -, -, -, e0, e1, -⟩ := idx_rows t
  unfold iblk aX
  refine congrArg (m (c.tc.loc main_arg3)) (funext fun a => Fin.ext ?_)
  match a with
  | ⟨0, _⟩ => show win0_4.index t 0 * 512 + 1 * r.val = R.val; rw [e0]; omega
  | ⟨1, _⟩ => show win0_4.index t 1 * 1024 + 1 * k.val = k.val; rw [e1]; omega

theorem b6 (c : Dev nD) (t : Fin cfg0.N) (r : Fin 512) (k : Fin 1024) (R : Fin 16384) (hR : R.val = 512 * t.val + r.val) :
    (iblk m c 6 t (ix2 r k) : EReal) = aS m c R k := by
  obtain ⟨-, -, -, -, -, -, e0, e1, -⟩ := idx_rows t
  unfold iblk aS
  refine congrArg (m (c.tc.loc main_arg5)) (funext fun a => Fin.ext ?_)
  match a with
  | ⟨0, _⟩ => show win0_6.index t 0 * 512 + 1 * r.val = R.val; rw [e0]; omega
  | ⟨1, _⟩ => show win0_6.index t 1 * 1024 + 1 * k.val = k.val; rw [e1]; omega

theorem b1 (c : Dev nD) (t : Fin cfg0.N) (r : Fin 1024) (k : Fin 2816) :
    (iblk m c 1 t (ix2 r k) : EReal) = aW m c r ⟨k.val, by omega⟩ := by
  obtain ⟨e0, e1, -⟩ := idx_whole t
  refine Eq.trans ?_ (V_v0 m c r k)
  unfold iblk
  refine congrArg (V m c main_v0) (funext fun a => Fin.ext ?_)
  match a with
  | ⟨0, _⟩ => show win0_1.index t 0 * 1024 + 1 * r.val = r.val; rw [e0]; omega
  | ⟨1, _⟩ => show win0_1.index t 1 * 2816 + 1 * k.val = k.val; rw [e1]; omega

theorem b3 (c : Dev nD) (t : Fin cfg0.N) (r : Fin 1024) (k : Fin 2816) :
    (iblk m c 3 t (ix2 r k) : EReal) = aW m c r ⟨2816 + k.val, by omega⟩ := by
  obtain ⟨-, -, e0, e1, -⟩ := idx_whole t
  refine Eq.trans ?_ (V_v1 m c r k)
  unfold iblk
  refine congrArg (V m c main_v1) (funext fun a => Fin.ext ?_)
  match a with
  | ⟨0, _⟩ => show win0_3.index t 0 * 1024 + 1 * r.val = r.val; rw [e0]; omega
  | ⟨1, _⟩ => show win0_3.index t 1 * 2816 + 1 * k.val = k.val; rw [e1]; omega

theorem b5 (c : Dev nD) (t : Fin cfg0.N) (k : Fin 1024) :
    (iblk m c 5 t (ix2 0 k) : EReal) = aN m c k := by
  obtain ⟨-, -, -, -, e0, e1, -⟩ := idx_whole t
  refine Eq.trans ?_ (V_v2 m c k)
  unfold iblk
  refine congrArg (V m c main_v2) (funext fun a => Fin.ext ?_)
  match a with
  | ⟨0, _⟩ => show win0_5.index t 0 * 1 + 1 * 0 = 0; rw [e0]
  | ⟨1, _⟩ => show win0_5.index t 1 * 1024 + 1 * k.val = k.val; rw [e1]; omega

/-- The gradient into the norm's output: the products summed. -/
def dh (c : Dev nD) (R : Fin 16384) (L : Fin 1024) : EReal :=
  (∑ k : Fin 2816, aD0 m c R k * aW m c L ⟨k.val, by omega⟩) + (∑ k : Fin 2816, aD1 m c R k * aW m c L ⟨2816 + k.val, by omega⟩)

/-- What `dx` holds at row `R`, column `L`. -/
def dxOf (c : Dev nD) (R : Fin 16384) (L : Fin 1024) : EReal :=
  NormMath.kdx (fun k => aX m c R k) (fun k => dh m c R k * aN m c k) (aS m c R L) L

/-- Row `R`'s part of `dgain` at column `L`. -/
def dgOf (c : Dev nD) (L : Fin 1024) (R : Fin 16384) : EReal :=
  dh m c R L * (aX m c R L * NormMath.rr (fun k => aX m c R k))

/-- The scratch block at a grid point. -/
abbrev D (c : Dev nD) (t : Fin cfg0.N) : Vec Ideal S512x1024 .f32 :=
  k0_pay2 (iblk m c 0 t) (iblk m c 1 t) (iblk m c 2 t) (iblk m c 3 t)

theorem D_apply (c : Dev nD) (t : Fin cfg0.N) (r : Fin 512) (l : Fin 1024) (R : Fin 16384) (hR : R.val = 512 * t.val + r.val) :
    (D m c t (ix2 r l) : EReal) = dh m c R l := by
  refine (pay2_apply _ _ _ _ r l).trans ?_
  unfold dh
  exact congr (congrArg HAdd.hAdd (Finset.sum_congr rfl fun k _ => congr (congrArg HMul.hMul (b0 m c t r k R hR)) (b1 m c t l k)))
    (Finset.sum_congr rfl fun k _ => congr (congrArg HMul.hMul (b2 m c t r k R hR)) (b3 m c t l k))

theorem dxAt_apply (c : Dev nD) (t : Fin cfg0.N) (r : Fin 512) (l : Fin 1024) (R : Fin 16384) (hR : R.val = 512 * t.val + r.val) :
    dxAt (iblk m c 5 t) (iblk m c 4 t) (D m c t) (iblk m c 6 t) (ix2 r l) = dxOf m c R l := by
  unfold dxAt dxOf
  have e1 : (fun k : Fin 1024 => (iblk m c 4 t (ix2 r k) : EReal)) = fun k => aX m c R k := funext fun k => b4 m c t r k R hR
  have e2 : (fun k : Fin 1024 => (D m c t (ix2 r k) : EReal) * iblk m c 5 t (ix2 0 k)) = fun k => dh m c R k * aN m c k :=
    funext fun k => congr (congrArg HMul.hMul (D_apply m c t r k R hR)) (b5 m c t k)
  exact congr (congr (congr (congrArg NormMath.kdx e1) e2) (b6 m c t r l R hR)) rfl

theorem dgAt_apply (c : Dev nD) (t : Fin cfg0.N) (r : Fin 512) (l : Fin 1024) (R : Fin 16384) (hR : R.val = 512 * t.val + r.val) :
    dgAt (iblk m c 4 t) (D m c t) l r = dgOf m c l R := by
  unfold dgAt dgOf
  have e1 : (fun k : Fin 1024 => (iblk m c 4 t (ix2 r k) : EReal)) = fun k => aX m c R k := funext fun k => b4 m c t r k R hR
  exact congr (congrArg HMul.hMul (D_apply m c t r l R hR)) (congr (congrArg HMul.hMul (b4 m c t r l R hR)) (congrArg NormMath.rr e1))

/-- What the run leaves in `dx`'s block at every point. -/
theorem outs7 (c : Dev nD) (t : Fin cfg0.N) (y : S512x1024.Idx) :
    ((outsAt0 m c t.val t.isLt).1 y : EReal) = dxAt (iblk m c 5 t) (iblk m c 4 t) (D m c t) (iblk m c 6 t) y := by
  by_cases h0 : t.val % 32 = 0
  · rw [outsAt0_A m c t h0]
    exact out_A_7 c _ _ _ _ _ _ _ _ _ _ _ _ _ _ _ _ _ _ _ _ _ _ _ _ _ _ _ _ _ y
  · rw [outsAt0_B m c t h0]
    exact out_B_7 c _ _ _ _ _ _ _ _ _ _ _ _ _ _ _ _ _ _ _ _ _ _ _ _ _ _ _ _ _ _ y

/-- One point's part of `dgain`. -/
def part (c : Dev nD) (l : Fin 1024) (s : ℕ) (r : Fin 512) : EReal :=
  if h : 512 * s + r.val < 16384 then dgOf m c l ⟨512 * s + r.val, h⟩ else 0

theorem part_eq (c : Dev nD) (t : Fin cfg0.N) (l : Fin 1024) :
    ∑ r : Fin 512, dgAt (iblk m c 4 t) (D m c t) l r = ∑ r : Fin 512, part m c l t.val r := by
  have ht : t.val < 32 := lt_of_lt_of_eq t.isLt N_0
  refine Finset.sum_congr rfl fun r _ => ?_
  have hr := r.isLt
  unfold part
  rw [dif_pos (by omega)]
  exact dgAt_apply m c t r l _ rfl

/-- What the run leaves in `dgain`'s row after point `n`: the sum over the rows so far. -/
theorem outs8 (c : Dev nD) (l : Fin 1024) (n : ℕ) (hn : n < cfg0.N) :
    ((outsAt0 m c n hn).2 (ix2 0 l) : EReal) = ∑ s ∈ Finset.range (n + 1), ∑ r : Fin 512, part m c l s r := by
  have hN : n < 32 := lt_of_lt_of_eq hn N_0
  induction n with
  | zero =>
    have e := outsAt0_A m c ⟨0, hn⟩ rfl
    rw [show outsAt0 m c 0 hn = _ from e]
    rw [Finset.sum_range_one, ← part_eq m c ⟨0, hn⟩ l]
    exact (out_A_8 c _ _ _ _ _ _ _ _ _ _ _ _ _ _ _ _ _ _ _ _ _ _ _ _ _ _ _ _ _ l).trans (zero_add _)
  | succ n ih =>
    have h0 : ¬ (⟨n + 1, hn⟩ : Fin cfg0.N).val % 32 = 0 := by show ¬ (n + 1) % 32 = 0; omega
    have e := outsAt0_B m c ⟨n + 1, hn⟩ h0
    rw [show outsAt0 m c (n + 1) hn = _ from e]
    rw [Finset.sum_range_succ, ← ih (by omega) (by omega), ← part_eq m c ⟨n + 1, hn⟩ l]
    exact out_B_8 c _ _ _ _ _ _ _ _ _ _ _ _ _ _ _ _ _ _ _ _ _ _ _ _ _ _ _ _ _ _ l

/-- The result arrays. -/
def G7 (c : Dev nD) : Buf (Elt Ideal) ((c : Thread nD τ).loc main_v3_0) := fun i => dxOf m c (i 0) (i 1)
/-- Column `L` of `dgain`. -/
def dgSum (c : Dev nD) (L : Fin 1024) : EReal := ∑ R : Fin 16384, dgOf m c L R
def G8 (c : Dev nD) : Buf (Elt Ideal) ((c : Thread nD τ).loc main_v3_1) := fun i => dgSum m c (i 1)

/-- The array of `dx` after the run. -/
theorem final7 (c : Dev nD) : (dats m 0 c).arrAt 7 cfg0.N = G7 m c := by
  refine (dats m 0 c).arrAt_eq_of_covers 7 _ (by decide +kernel) fun t _ y => ?_
  obtain ⟨-, -, -, -, -, -, -, -, e0, e1⟩ := idx_rows t
  have ht : t.val < 32 := lt_of_lt_of_eq t.isLt N_0
  have hy0 : (y 0).val < 512 := (y 0).isLt
  blk_simp
  rw [after0_7]
  refine (outs7 m c t _).trans ((congrArg _ (eq_ix2 y)).trans ((dxAt_apply m c t (y 0) (y 1) ⟨512 * t.val + (y 0).val, by omega⟩ rfl).trans
    (congr (congrArg (dxOf m c) (Fin.ext ?_)) (Fin.ext ?_))))
  · show 512 * t.val + (y 0).val = win0_7.index t 0 * 512 + 1 * (y 0).val; rw [e0]; omega
  · show (y 1).val = win0_7.index t 1 * 1024 + 1 * (y 1).val; rw [e1]; omega

theorem part_sum (c : Dev nD) (l : Fin 1024) :
    ∑ s ∈ Finset.range (31 + 1), ∑ r : Fin 512, part m c l s r = dgSum m c l := by
  unfold dgSum
  exact Cert.Sums.blocks (a := 32) (b := 512) (n := 16384) (by norm_num) (part m c l) (dgOf m c l) (fun s hs r => by
    have := r.isLt
    unfold part
    exact dif_pos (by omega))

/-- The array of `dgain` after the run. -/
theorem final8 (c : Dev nD) : (dats m 0 c).arrAt 8 cfg0.N = G8 m c := by
  refine (dats m 0 c).arrAt_eq_of_covers 8 _ (by decide +kernel) fun t hf y => ?_
  obtain ⟨-, -, -, -, -, -, e0, e1⟩ := idx_whole t
  have ht : t.val < 32 := lt_of_lt_of_eq t.isLt N_0
  have h31 : t.val = 31 := by have := (flush0_8 t).mp hf; omega
  have hy : y = ix2 (0 : Fin 1) (y 1) := by
    refine (eq_ix2 y).trans (congrArg (ix2 · (y 1)) (Fin.ext ?_))
    have : (y 0).val < 1 := (y 0).isLt
    show (y 0).val = 0; omega
  blk_simp
  rw [after0_8]
  refine (congrArg _ hy).trans ((outs8 m c (y 1) t.val t.isLt).trans ?_)
  rw [h31]
  refine (part_sum m c (y 1)).trans (congrArg (dgSum m c) (Fin.ext ?_))
  show (y 1).val = win0_8.index t 1 * 1024 + 1 * (y 1).val; rw [e1]; omega

/-! ## The run -/

/-- The run, with the result arrays named and the arguments unchanged. -/
theorem run : θ_run defs (onTc (τ := τ) (main (F := Ideal))) ⟨m, fun _ => 0, ρ⟩ fun r => ∀ c : Dev nD,
      r.2.mem ((c : Thread nD τ).loc main_v3_0) = G7 m c
      ∧ r.2.mem ((c : Thread nD τ).loc main_v3_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 7).trans (final7 m c), ((h c).1 8).trans (final8 m c),
      ((h c).1 0).trans (((dats m 0 c).arrAt_in 0 rfl _).trans ((A_eq m c 0).trans (V_main_arg0 m c))), ((h c).1 2).trans (((dats m 0 c).arrAt_in 2 rfl _).trans ((A_eq m c 2).trans (V_main_arg1 m c))), ((h c).2 main_arg2 (Pipeline.mem_restRefs_of main_arg2 (by decide) (by decide))).trans (V_main_arg2 m c), ((h c).1 4).trans (((dats m 0 c).arrAt_in 4 rfl _).trans ((A_eq m c 4).trans (V_main_arg3 m c))), ((h c).2 main_arg4 (Pipeline.mem_restRefs_of main_arg4 (by decide) (by decide))).trans (V_main_arg4 m c), ((h c).1 6).trans (((dats m 0 c).arrAt_in 6 rfl _).trans ((A_eq m c 6).trans (V_main_arg5 m c)))⟩)
    (run_main m ρ)

end Cert.KernelIdeal.Norm
-- ==== Proof.NormRef.lean ====
/-
  The reference's gradient of the norm and its product, read at an index.
-/
module

public import proofs.«01_k».proof.Proof.NormMath
public import proofs.«01_k».proof.Proof.Gen.ReferenceIdeal.Read
public import Idealize.ShloMosaic.Lib.Pointwise
public import Idealize.ShloMosaic.Lib.Pipeline.Value

@[expose] public section

set_option maxRecDepth 16384

noncomputable section

namespace Cert.ReferenceIdeal.NormRef

open Cert.ReferenceIdeal Cert.ReferenceIdeal.Gen Cert.ReferenceIdeal.Read Idealize.ShloMosaic Idealize.ShloMosaic.TcCoe

variable (x0 x1 : (⟨S16384x2816, .bf16⟩ : BufTy).Contents (Elt Ideal)) (x2 : (⟨S1024x5632, .bf16⟩ : BufTy).Contents (Elt Ideal))
  (x3 : (⟨S16384x1024, .f32⟩ : BufTy).Contents (Elt Ideal)) (x4 : (⟨S1024, .f32⟩ : BufTy).Contents (Elt Ideal))
  (x5 : (⟨S16384x1024, .f32⟩ : BufTy).Contents (Elt Ideal))

/-- The arguments at an index. -/
def aD0 (R : Fin 16384) (k : Fin 2816) : EReal := x0 (ix2 R k)
def aD1 (R : Fin 16384) (k : Fin 2816) : EReal := x1 (ix2 R k)
def aW (L : Fin 1024) (k : Fin 5632) : EReal := x2 (ix2 L k)
def aX (R : Fin 16384) (k : Fin 1024) : EReal := x3 (ix2 R k)
def aN (k : Fin 1024) : EReal := x4 (ix1 k)
def aS (R : Fin 16384) (k : Fin 1024) : EReal := x5 (ix2 R k)

theorem zero_word : (FloatOps.ofBits (F := Ideal) .f32 0x00000000#32 : EReal) = 0 := Ideal.ofBits_zero_f32

/-- The mean square, its root's inverse, and the factor of the derivative. -/
theorem v4_at (R : Fin 16384) : (val_main_v4 (F := Ideal) x3 (ix1 R) : EReal) = ∑ k, aX x3 R k * aX x3 R k := by
  refine (val_main_v4_apply x3 (ix1 R)).trans ?_
  rw [val_main_cst_apply, zero_word, zero_add]
  refine Finset.sum_congr rfl fun k _ => ?_
  have e : idx_main_v4 (ix1 R) k = ix2 R k := by funext a; match a with | ⟨0, _⟩ => rfl | ⟨1, _⟩ => rfl
  rw [e]; rfl

theorem v9_at (R : Fin 16384) : (val_main_v9 (F := Ideal) x3 (ix2 R 0) : EReal) = NormMath.ms (aX x3 R) := by
  have e : idx_main_v5 (ix2 R 0) = ix1 R := by funext a; match a with | ⟨0, _⟩ => rfl
  rw [val_main_v9_apply, val_main_v7_apply, val_main_v5_apply, val_main_v6_apply, val_main_v8_apply, e]
  unfold NormMath.ms
  exact congrArg (fun z : EReal => Ideal.div z NormMath.len + NormMath.eps) (v4_at x3 R)

theorem v10_at (R : Fin 16384) : (val_main_v10 (F := Ideal) x3 (ix2 R 0) : EReal) = NormMath.rr (aX x3 R) := by
  rw [val_main_v10_apply, Ideal.hostUnary_rsqrt_def]
  exact congrArg Ideal.rsqrt (v9_at x3 R)

theorem v13_at (R : Fin 16384) : (val_main_v13 (F := Ideal) x3 (ix2 R 0) : EReal)
    = NormMath.mhalf * Ideal.div (NormMath.rr (aX x3 R)) (NormMath.ms (aX x3 R)) := by
  rw [val_main_v13_apply, val_main_v12_apply, val_main_v11_apply]
  exact congrArg (NormMath.mhalf * ·) (congr (congrArg Ideal.div (v10_at x3 R)) (v9_at x3 R))

/-- The joined operand at a column of each of its parts. -/
theorem v1_0 (R : Fin 16384) (k : Fin 2816) (K : Fin 5632) (hK : K.val = 0 + k.val) :
    (val_main_v1 (F := Ideal) x0 x1 (ix2 R K) : EReal) = aD0 x0 R k := by
  unfold val_main_v1 aD0
  refine concatenate_apply_piece (t := S16384x5632) (1 : Fin 2) [⟨S16384x2816, x0⟩, ⟨S16384x2816, x1⟩] _ (ix2 R K) 0 (show 0 < 2 by decide) S16384x2816 x0 rfl rfl 0 (by rfl) (ix2 R k)
    (fun a ha => ?_) hK.symm
  match a with
  | ⟨0, _⟩ => rfl
  | ⟨1, _⟩ => exact absurd rfl ha

theorem v1_1 (R : Fin 16384) (k : Fin 2816) (K : Fin 5632) (hK : K.val = 2816 + k.val) :
    (val_main_v1 (F := Ideal) x0 x1 (ix2 R K) : EReal) = aD1 x1 R k := by
  unfold val_main_v1 aD1
  refine concatenate_apply_piece (t := S16384x5632) (1 : Fin 2) [⟨S16384x2816, x0⟩, ⟨S16384x2816, x1⟩] _ (ix2 R K) 1 (show 1 < 2 by decide) S16384x2816 x1 rfl rfl 2816 (by rfl) (ix2 R k)
    (fun a ha => ?_) hK.symm
  match a with
  | ⟨0, _⟩ => rfl
  | ⟨1, _⟩ => exact absurd rfl ha

/-- The gradient into the norm's output: the products summed. -/
def dh (R : Fin 16384) (L : Fin 1024) : EReal :=
  (∑ k : Fin 2816, aD0 x0 R k * aW x2 L ⟨k.val, by omega⟩) + (∑ k : Fin 2816, aD1 x1 R k * aW x2 L ⟨2816 + k.val, by omega⟩)

theorem v20_at (R : Fin 16384) (L : Fin 1024) : (val_main_v20 (F := Ideal) x0 x1 x2 (ix2 R L) : EReal) = dh x0 x1 x2 R L := by
  have e : ∀ K, lidx_main_v20 (ix2 R L) K = ix2 R K := fun K => by funext a; match a with | ⟨0, _⟩ => rfl | ⟨1, _⟩ => rfl
  have e' : ∀ K, ridx_main_v20 (ix2 R L) K = ix2 L K := fun K => by funext a; match a with | ⟨0, _⟩ => rfl | ⟨1, _⟩ => rfl
  refine (val_main_v20_apply x0 x1 x2 (ix2 R L)).trans ?_
  unfold dh
  refine (Fin.sum_univ_add (a := 2816) (b := 2816) (M := EReal) _).trans (congr (congrArg HAdd.hAdd ?_) (Finset.sum_congr rfl fun k _ => ?_))
  swap
  · rw [e, e']
    exact congr (congrArg HMul.hMul (v1_1 x0 x1 R k _ rfl)) rfl
  refine Finset.sum_congr rfl fun k _ => ?_
  rw [e, e']
  exact congr (congrArg HMul.hMul (v1_0 x0 x1 R k _ (Nat.zero_add _).symm)) rfl

/-- The incoming gradient times the gain. -/
theorem v25_at (R : Fin 16384) (L : Fin 1024) :
    (val_main_v25 (F := Ideal) x0 x1 x2 x4 (ix2 R L) : EReal) = dh x0 x1 x2 R L * aN x4 L := by
  have e : idx_main_v16 (idx_main_v24 (ix2 R L)) = ix1 L := by funext a; match a with | ⟨0, _⟩ => rfl
  rw [val_main_v25_apply, val_main_v24_apply, val_main_v16_apply, e]
  exact congrArg (fun z : EReal => z * aN x4 L) (v20_at x0 x1 x2 R L)

theorem v28_at (R : Fin 16384) :
    (val_main_v28 (F := Ideal) x0 x1 x2 x3 x4 (ix1 R) : EReal) = ∑ k, aX x3 R k * (dh x0 x1 x2 R k * aN x4 k) := by
  refine (val_main_v28_apply x0 x1 x2 x3 x4 (ix1 R)).trans ?_
  rw [val_main_cst_5_apply, zero_word, zero_add]
  refine Finset.sum_congr rfl fun k _ => ?_
  have e : idx_main_v28 (ix1 R) k = ix2 R k := by funext a; match a with | ⟨0, _⟩ => rfl | ⟨1, _⟩ => rfl
  rw [e, val_main_v27_apply]
  exact congrArg (fun z : EReal => aX x3 R k * z) (v25_at x0 x1 x2 x4 R k)

theorem v37_at (R : Fin 16384) (L : Fin 1024) : (val_main_v37 (F := Ideal) x0 x1 x2 x3 x4 (ix2 R L) : EReal)
    = NormMath.rw' (aX x3 R) (fun k => dh x0 x1 x2 R k * aN x4 k) := by
  have e : idx_main_v37 (ix2 R L) = ix1 R := by funext a; match a with | ⟨0, _⟩ => rfl
  rw [val_main_v37_apply, e]
  refine (val_main_v36_apply x0 x1 x2 x3 x4 (ix1 R)).trans ?_
  rw [val_main_cst_7_apply, zero_word, zero_add, Fin.sum_univ_one]
  have e2 : idx_main_v36 (ix1 R) 0 = ix2 R 0 := by funext a; match a with | ⟨0, _⟩ => rfl | ⟨1, _⟩ => rfl
  have e3 : idx_main_v29 (ix2 R 0) = ix1 R := by
    funext a; match a with | ⟨0, _⟩ => exact Fin.ext (show R.val * 1 + 0 = R.val by omega)
  rw [e2, val_main_v35_apply, val_main_v34_apply, val_main_v33_apply, val_main_v29_apply, e3]
  have ev := v28_at x0 x1 x2 x3 x4 R
  have ew := v13_at x3 R
  unfold NormMath.rw'
  generalize (val_main_v28 (F := Ideal) x0 x1 x2 x3 x4 (ix1 R)) = p at *
  generalize (val_main_v13 (F := Ideal) x3 (ix2 R 0)) = q at *
  rw [← ev, ← ew]
  rfl

/-- The first result at an index. -/
theorem v41_at (R : Fin 16384) (L : Fin 1024) : (val_main_v41 (F := Ideal) x0 x1 x2 x3 x4 x5 (ix2 R L) : EReal)
    = NormMath.rdx (aX x3 R) (fun k => dh x0 x1 x2 R k * aN x4 k) (aS x5 R L) L := by
  have e : idx_main_v30 (ix2 R L) = ix2 R 0 := by funext a; match a with | ⟨0, _⟩ => rfl | ⟨1, _⟩ => rfl
  rw [val_main_v41_apply, val_main_v39_apply, val_main_v40_apply, val_main_v38_apply, val_main_v32_apply, val_main_v31_apply,
    val_main_v30_apply, e]
  unfold NormMath.rdx
  exact congr (congrArg HAdd.hAdd (congr (congrArg HAdd.hAdd (congrArg (fun z : EReal => aS x5 R L + z)
      (congr (congrArg HMul.hMul (v25_at x0 x1 x2 x4 R L)) (v10_at x3 R))))
      (congrArg (fun z : EReal => aX x3 R L * z) (v37_at x0 x1 x2 x3 x4 R L))))
    (congrArg (fun z : EReal => z * aX x3 R L) (v37_at x0 x1 x2 x3 x4 R L))

/-- A row's part of the gain's gradient. -/
theorem v21_at (R : Fin 16384) (L : Fin 1024) : (val_main_v21 (F := Ideal) x0 x1 x2 x3 (ix2 R L) : EReal)
    = dh x0 x1 x2 R L * (aX x3 R L * NormMath.rr (aX x3 R)) := by
  have e : idx_main_v14 (ix2 R L) = ix2 R 0 := by funext a; match a with | ⟨0, _⟩ => rfl | ⟨1, _⟩ => rfl
  rw [val_main_v21_apply, val_main_v15_apply, val_main_v14_apply, e]
  refine Eq.trans ?_ (mul_comm _ _)
  exact congr (congrArg HMul.hMul (congrArg (fun z : EReal => aX x3 R L * z) (v10_at x3 R))) (v20_at x0 x1 x2 R L)

/-- The second result at an index. -/
theorem v42_at (L : Fin 1024) : (val_main_v42 (F := Ideal) x0 x1 x2 x3 (ix2 0 L) : EReal)
    = ∑ R, dh x0 x1 x2 R L * (aX x3 R L * NormMath.rr (aX x3 R)) := by
  have e : idx_main_v42 (ix2 0 L) = ix1 L := by
    funext a; match a with | ⟨0, _⟩ => exact Fin.ext (show 0 * 1024 + L.val = L.val by omega)
  rw [val_main_v42_apply, e]
  refine (val_main_v26_apply x0 x1 x2 x3 (ix1 L)).trans ?_
  rw [val_main_cst_4_apply, zero_word, zero_add, Fin.sum_univ_one]
  have e3 : idx_main_v23 (idx_main_v26 (ix1 L) 0) = ix1 L := by
    funext a; match a with | ⟨0, _⟩ => exact Fin.ext (show 0 * 1024 + L.val = L.val by omega)
  rw [val_main_v23_apply, e3]
  refine (val_main_v22_apply x0 x1 x2 x3 (ix1 L)).trans ?_
  rw [val_main_cst_3_apply, zero_word, zero_add]
  refine Finset.sum_congr rfl fun R _ => ?_
  have e4 : idx_main_v22 (ix1 L) R = ix2 R L := by funext a; match a with | ⟨0, _⟩ => rfl | ⟨1, _⟩ => rfl
  rw [e4]
  exact v21_at x0 x1 x2 x3 R L

end Cert.ReferenceIdeal.NormRef
-- ==== Proof.NormEq.lean ====
/-
  The gradient of the norm and its product: the kernel's results are the reference's, and the frames of both copies.
-/
module

public import proofs.«01_k».proof.Proof.NormArr
public import proofs.«01_k».proof.Proof.NormRef
public import proofs.«01_k».proof.Proof.Gen.Kernel
public import proofs.«01_k».proof.Defs

@[expose] public section

set_option maxRecDepth 16384

noncomputable section

namespace Cert.KernelIdeal.Norm

open Cert.KernelIdeal Cert.KernelIdeal.Gen Idealize.ShloMosaic Idealize.ShloMosaic.TcCoe Idealize.SL.Sem

variable (m : (ℓ : Loc nD τ sig) → Buf (Elt Ideal) ℓ)

theorem eq7 (c : Dev nD) :
    Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = G7 m c := by
  funext i
  have hi : i = ix2 (i 0) (i 1) := eq_ix2 i
  rw [hi]
  refine (Cert.ReferenceIdeal.NormRef.v41_at _ _ _ _ _ _ (i 0) (i 1)).trans ?_
  exact (NormMath.kdx_eq_rdx _ _ _ _).symm

theorem eq8 (c : Dev nD) :
    Cert.ReferenceIdeal.Read.val_main_v42 (F := Ideal) (m ((c : Thread nD τ).loc main_arg0)) (m ((c : Thread nD τ).loc main_arg1)) (m ((c : Thread nD τ).loc main_arg2)) (m ((c : Thread nD τ).loc main_arg3)) = G8 m c := by
  funext i
  have hi : i = ix2 0 (i 1) := by
    refine (eq_ix2 i).trans (congrArg (fun z => ix2 z (i 1)) (Fin.ext ?_))
    have h := (i 0).isLt
    exact Nat.lt_one_iff.mp h
  rw [hi]
  exact Cert.ReferenceIdeal.NormRef.v42_at _ _ _ _ (i 1)

/-- Both programs' results are the kernel's own arrays. -/
theorem algebraic : Cert.algebraic_KernelIdeal_ReferenceIdeal :=
  fun m ρ m' ρ' _ hag => ⟨fun c => G7 m c, fun c => G8 m c, run m ρ,
    (θ_run _ _ _).mono (fun _ h c => ⟨(h c).1.trans (by
        rw [Cert.ReferenceIdeal.Read.val_main_v41_eq, (hag c).1, (hag c).2.1, (hag c).2.2.1, (hag c).2.2.2.1, (hag c).2.2.2.2.1, (hag c).2.2.2.2.2]
        exact eq7 m c), (h c).2.1.trans (by
        rw [(hag c).1, (hag c).2.1, (hag c).2.2.1, (hag c).2.2.2.1]
        exact (Cert.ReferenceIdeal.Read.val_main_v42_eq _ _ _ _).trans (eq8 m c)), (h c).2.2⟩)
      (Cert.ReferenceIdeal.Value.run m' ρ')⟩

/-- The frames: one run serves both copies of the program. -/
theorem frame_ideal : Cert.quiescent_KernelIdeal := fun m ρ _ => frame (F := Ideal) m ρ

/-- The two copies run the same kernel and the same tables. -/
theorem kernel_eq {F : FTy → Type} [FloatOps F] :
    @Cert.Kernel.cc0_ffn_dh F _ Cert.Kernel.Gen.facts = @Cert.KernelIdeal.cc0_ffn_dh F _ Cert.KernelIdeal.Gen.facts := rfl

theorem table_eq {F : FTy → Type} [FloatOps F] : Cert.Kernel.defs₀ (F := F) = Cert.KernelIdeal.defs₀ (F := F) := by
  unfold Cert.Kernel.defs₀ Cert.KernelIdeal.defs₀
  congr 1
  funext l p
  match l, p with
  | 0, (t, s) => exact congrFun (congrFun (congrFun (congrFun (congrFun (congrFun (congrFun (congrFun (congrFun (congrFun (congrFun (congrFun (congrFun (congrFun (congrFun (congrFun (congrFun (congrFun (congrFun (congrFun (congrFun kernel_eq _) _) _) _) _) _) _) _) _) _) _) _) _) _) _) _) _) _) _) _) _

theorem defs_eq {F : FTy → Type} [FloatOps F] : Cert.Kernel.defs (F := F) = Cert.KernelIdeal.defs (F := F) :=
  congrArg (Pipeline.defs (Cert.KernelIdeal.pcfgs (F := F))) table_eq

theorem main_eq_main {F : FTy → Type} [FloatOps F] : Cert.Kernel.main (F := F) = Cert.KernelIdeal.main (F := F) := rfl

theorem frame_bits : Cert.quiescent_Kernel := fun m ρ _ => by
  rw [defs_eq, main_eq_main]
  exact frame (F := Bits) m ρ

end Cert.KernelIdeal.Norm
-- ==== Proof.WGrad3.lean ====
/-
  The weight gradient `aᵀ · dy` of the down projection: what the kernel's result array holds after the run, at an
  index, is the one sum over all rows.
-/
module

public import proofs.«01_k».proof.Proof.Sums
public import proofs.«01_k».proof.Proof.Gen.Kernel3Ideal.Value
public import Idealize.ShloMosaic.Lib.Pointwise

@[expose] public section

set_option maxRecDepth 16384

noncomputable section

namespace Cert.Kernel3Ideal.WGrad

open Cert.Kernel3Ideal Cert.Kernel3Ideal.Gen Cert.Kernel3Ideal.Value Idealize.ShloMosaic Idealize.ShloMosaic.TcCoe Idealize.SL.Sem
open Idealize.ShloMosaic.Pipeline (Dat)

variable (m : (ℓ : Loc nD τ sig) → Buf (Elt Ideal) ℓ)

/-- One grid point's block product, added to what the block held. -/
theorem pay2_apply (acc : Vec Ideal S1408x1024 .f32) (A : Vec Ideal S1024x1408 .bf16) (B : Vec Ideal S1024x1024 .f32)
    (r : Fin 1408) (l : Fin 1024) :
    k0_pay2 acc A B (ix2 r l) = acc (ix2 r l) + ∑ k : Fin 1024, (A (ix2 k r) : EReal) * B (ix2 k l) := by
  pointwise [k0_pay2]

/-- The same at an index of the block. -/
theorem pay2_at (acc : Vec Ideal S1408x1024 .f32) (A : Vec Ideal S1024x1408 .bf16) (B : Vec Ideal S1024x1024 .f32)
    (i : S1408x1024.Idx) :
    k0_pay2 acc A B i = acc i + ∑ k : Fin 1024, (A (ix2 k (i 0)) : EReal) * B (ix2 k (i 1)) := by
  idx_vars i
  exact pay2_apply acc A B _ _

theorem pay1_apply (i : S1408x1024.Idx) : (k0_pay1 (F := Ideal) i : EReal) = 0 := by
  pointwise [k0_pay1]

/-- The block indices of the two operands, over the grid. -/
theorem in_facts : ∀ t : Fin cfg0.N,
    win0_0.index t (0 : Fin 2) = t.val % 16 ∧ win0_0.index t (1 : Fin 2) = t.val / 16 / 1
    ∧ win0_1.index t (0 : Fin 2) = t.val % 16 ∧ win0_1.index t (1 : Fin 2) = t.val / 16 % 1 :=
  (by decide +kernel : ∀ t : Fin grid0.N, _)

/-- The two arguments, read at a row and a column. -/
def argA (c : Dev nD) (k : Fin 16384) (r : Fin 2816) : EReal := m ((c : Thread nD τ).loc main_arg0) (ix2 k r)
def argB (c : Dev nD) (k : Fin 16384) (l : Fin 1024) : EReal := m ((c : Thread nD τ).loc main_arg1) (ix2 k l)

/-- The two operands' blocks at a grid point. -/
def blkA (c : Dev nD) (t : Fin cfg0.N) (k : Fin 1024) (r : Fin 1408) : EReal := iblk m c 0 t (ix2 k r)
def blkB (c : Dev nD) (t : Fin cfg0.N) (k : Fin 1024) (l : Fin 1024) : EReal := iblk m c 1 t (ix2 k l)

theorem iblk0_apply (c : Dev nD) (t : Fin cfg0.N) (k : Fin 1024) (r : Fin 1408) (K : Fin 16384) (R : Fin 2816)
    (hK : K.val = 1024 * (t.val % 16) + k.val) (hR : R.val = 1408 * (t.val / 16 / 1) + r.val) :
    blkA m c t k r = argA m c K R := by
  obtain ⟨e0, e1, -, -⟩ := in_facts t
  unfold blkA iblk argA
  refine congrArg (m (c.tc.loc main_arg0)) (funext fun a => Fin.ext ?_)
  match a with
  | ⟨0, _⟩ => show win0_0.index t 0 * 1024 + 1 * k.val = K.val; rw [e0]; omega
  | ⟨1, _⟩ => show win0_0.index t 1 * 1408 + 1 * r.val = R.val; rw [e1]; omega

theorem iblk1_apply (c : Dev nD) (t : Fin cfg0.N) (k : Fin 1024) (l : Fin 1024) (K : Fin 16384) (L : Fin 1024)
    (hK : K.val = 1024 * (t.val % 16) + k.val) (hL : L.val = 1024 * (t.val / 16 % 1) + l.val) :
    blkB m c t k l = argB m c K L := by
  obtain ⟨-, -, e0, e1⟩ := in_facts t
  unfold blkB iblk argB
  refine congrArg (m (c.tc.loc main_arg1)) (funext fun a => Fin.ext ?_)
  match a with
  | ⟨0, _⟩ => show win0_1.index t 0 * 1024 + 1 * k.val = K.val; rw [e0]; omega
  | ⟨1, _⟩ => show win0_1.index t 1 * 1024 + 1 * l.val = L.val; rw [e1]; omega

/-- What the array holds at row `R`, column `L`: the product of the two arguments over all 16384 rows. -/
theorem G2_apply (c : Dev nD) (R : Fin 2816) (L : Fin 1024) :
    (G2 m c (ix2 R L) : EReal) = ∑ k : Fin 16384, argA m c k R * argB m c k L := by
  have hR := R.isLt
  have hL := L.isLt
  have hrun : run2Of (ix2 R L) = R.val / 1408 * 1 + L.val / 1024 := by
    show 1 * (R.val / 1408 - 0) + 1 * (L.val / 1024 - 0) = _; omega
  have hN : cfg0.N = 32 := N_0
  unfold G2
  rw [dif_pos (by rw [hrun, hN]; omega)]
  have hacc := Pipeline.accAt_add_apply (N := cfg0.N) (ι := S1408x1024.Idx) (β := EReal) (reset2 m c) (step2 m c) (fun _ => 0)
    (fun n j => if h : n < cfg0.N then ∑ k : Fin 1024, blkA m c ⟨n, h⟩ k (j 0) * blkB m c ⟨n, h⟩ k (j 1) else 0)
    (16 * run2Of (ix2 R L)) 15
    (fun h i => by
      unfold reset2; rw [dif_pos h]; refine (pay2_at _ _ _ i).trans ?_; rw [pay1_apply]; rfl)
    (fun n h acc i _ _ => by
      unfold step2; rw [dif_pos h]; exact pay2_at _ _ _ i)
    15 le_rfl (by rw [hrun, hN]; omega) (loc2Of (ix2 R L))
  rw [hacc, zero_add]
  refine (Finset.sum_congr rfl fun s hs => ?_ : _ = ∑ s ∈ Finset.range 16, ∑ k : Fin 1024,
      (fun (s : ℕ) (k : Fin 1024) => if h : 1024 * s + k.val < 16384 then
        argA m c ⟨1024 * s + k.val, h⟩ R * argB m c ⟨1024 * s + k.val, h⟩ L else 0) s k).trans ?_
  · have hs' : s < 16 := Finset.mem_range.mp hs
    have hlt : 16 * run2Of (ix2 R L) + s < cfg0.N := by rw [hrun, hN]; omega
    rw [dif_pos hlt]
    refine Finset.sum_congr rfl fun k _ => ?_
    have hk := k.isLt
    dsimp only
    rw [dif_pos (by omega)]
    have e0 : (16 * run2Of (ix2 R L) + s) % 16 = s := by omega
    have e1 : (16 * run2Of (ix2 R L) + s) / 16 = run2Of (ix2 R L) := by omega
    exact congr (congrArg HMul.hMul (iblk0_apply m c ⟨_, hlt⟩ k ⟨R.val % 1408, by omega⟩ ⟨1024 * s + k.val, by omega⟩ R
        (by show 1024 * s + k.val = 1024 * ((16 * run2Of (ix2 R L) + s) % 16) + k.val; rw [e0])
        (by show R.val = 1408 * ((16 * run2Of (ix2 R L) + s) / 16 / 1) + R.val % 1408; rw [e1, hrun]; omega)))
      (iblk1_apply m c ⟨_, hlt⟩ k ⟨L.val % 1024, by omega⟩ ⟨1024 * s + k.val, by omega⟩ L
        (by show 1024 * s + k.val = 1024 * ((16 * run2Of (ix2 R L) + s) % 16) + k.val; rw [e0])
        (by show L.val = 1024 * ((16 * run2Of (ix2 R L) + s) / 16 % 1) + L.val % 1024; rw [e1, hrun]; omega))
  · exact Cert.Sums.blocks (by norm_num) _ (fun k => argA m c k R * argB m c k L) (fun s hs k => by
      have hk := k.isLt
      exact dif_pos (by omega))

end Cert.Kernel3Ideal.WGrad
-- ==== Proof.WEq3.lean ====
/-
  The weight gradient of the down projection: the kernel's result is the reference's.
-/
module

public import proofs.«01_k».proof.Proof.WGrad3
public import proofs.«01_k».proof.Proof.Gen.Kernel3Ideal.Frame
public import proofs.«01_k».proof.Proof.Gen.Reference3Ideal.Run
public import proofs.«01_k».proof.Proof.Gen.Reference3Ideal.Read
public import proofs.«01_k».proof.Defs

@[expose] public section

set_option maxRecDepth 16384

noncomputable section

namespace Cert.Kernel3Ideal.WGrad

open Cert.Kernel3Ideal Cert.Kernel3Ideal.Gen Idealize.ShloMosaic Idealize.ShloMosaic.TcCoe Idealize.SL.Sem

variable (m : (ℓ : Loc nD τ sig) → Buf (Elt Ideal) ℓ)

/-- The reference's array at an index: the same sum, its factors in the other order. -/
theorem ref_apply (c : Dev nD) (R : Fin 2816) (L : Fin 1024) :
    (Cert.Reference3Ideal.Read.val_main_v4 (F := Ideal) (m ((c : Thread nD τ).loc main_arg0)) (m ((c : Thread nD τ).loc main_arg1)) (ix2 R L) : EReal)
      = ∑ k : Fin 16384, argA m c k R * argB m c k L := by
  rw [Cert.Reference3Ideal.Read.val_main_v4_apply, Cert.Reference3Ideal.Read.val_main_v3_apply]
  refine Finset.sum_congr rfl fun k _ => ?_
  rw [Cert.Reference3Ideal.Read.val_main_v1_apply, Ideal.extf_def, mul_comm]
  unfold argA argB
  congr 2
  · funext a; match a with | ⟨0, _⟩ => rfl | ⟨1, _⟩ => rfl
  · funext a; match a with | ⟨0, _⟩ => rfl | ⟨1, _⟩ => rfl

theorem eq (c : Dev nD) :
    Cert.Reference3Ideal.Read.val_main_v4 (F := Ideal) (m ((c : Thread nD τ).loc main_arg0)) (m ((c : Thread nD τ).loc main_arg1))
      = Value.G2 m c := by
  funext i
  have hi : i = ix2 (i 0) (i 1) := eq_ix2 i
  rw [hi]
  exact (ref_apply m c (i 0) (i 1)).trans (G2_apply m c (i 0) (i 1)).symm

/-- Both programs' results are the kernel's own array. -/
theorem algebraic : Cert.algebraic_Kernel3Ideal_Reference3Ideal :=
  fun m ρ m' ρ' _ hag => ⟨fun c => Value.G2 m c, Value.run m ρ,
    (θ_run _ _ _).mono (fun _ h c => ⟨(h c).1.trans (by
        rw [(hag c).1, (hag c).2]
        exact (Cert.Reference3Ideal.Read.val_main_v4_eq _ _).trans (eq m c)), (h c).2⟩)
      (Cert.Reference3Ideal.Value.run m' ρ')⟩

end Cert.Kernel3Ideal.WGrad
-- ==== Proof.WGrad4.lean ====
/-
  The weight gradient `hᵀ · dg` of the up projection: what the kernel's result array holds after the run, at an index, is the one sum over all
  rows.
-/
module

public import proofs.«01_k».proof.Proof.Sums
public import proofs.«01_k».proof.Proof.Gen.Kernel4Ideal.Value
public import Idealize.ShloMosaic.Lib.Pointwise

@[expose] public section

set_option maxRecDepth 16384

noncomputable section

namespace Cert.Kernel4Ideal.WGrad

open Cert.Kernel4Ideal Cert.Kernel4Ideal.Gen Cert.Kernel4Ideal.Value Idealize.ShloMosaic Idealize.ShloMosaic.TcCoe Idealize.SL.Sem
open Idealize.ShloMosaic.Pipeline (Dat)

variable (m : (ℓ : Loc nD τ sig) → Buf (Elt Ideal) ℓ)

/-- One grid point's block product, added to what the block held. -/
theorem pay2_apply (acc : Vec Ideal S1024x1408 .f32) (A : Vec Ideal S1024x1024 .bf16) (B : Vec Ideal S1024x1408 .bf16)
    (r : Fin 1024) (l : Fin 1408) :
    k0_pay2 acc A B (ix2 r l) = acc (ix2 r l) + ∑ k : Fin 1024, (A (ix2 k r) : EReal) * B (ix2 k l) := by
  pointwise [k0_pay2]

/-- The same at an index of the block. -/
theorem pay2_at (acc : Vec Ideal S1024x1408 .f32) (A : Vec Ideal S1024x1024 .bf16) (B : Vec Ideal S1024x1408 .bf16)
    (i : S1024x1408.Idx) :
    k0_pay2 acc A B i = acc i + ∑ k : Fin 1024, (A (ix2 k (i 0)) : EReal) * B (ix2 k (i 1)) := by
  idx_vars i
  exact pay2_apply acc A B _ _

theorem pay1_apply (i : S1024x1408.Idx) : (k0_pay1 (F := Ideal) i : EReal) = 0 := by
  pointwise [k0_pay1]

/-- The block indices of the two operands, over the grid. -/
theorem in_facts : ∀ t : Fin cfg0.N,
    win0_0.index t (0 : Fin 2) = t.val % 16 ∧ win0_0.index t (1 : Fin 2) = t.val / 16 / 2
    ∧ win0_1.index t (0 : Fin 2) = t.val % 16 ∧ win0_1.index t (1 : Fin 2) = t.val / 16 % 2 :=
  (by decide +kernel : ∀ t : Fin grid0.N, _)

/-- The two arguments, read at a row and a column. -/
def argA (c : Dev nD) (k : Fin 16384) (r : Fin 1024) : EReal := m ((c : Thread nD τ).loc main_arg0) (ix2 k r)
def argB (c : Dev nD) (k : Fin 16384) (l : Fin 2816) : EReal := m ((c : Thread nD τ).loc main_arg1) (ix2 k l)

/-- The two operands' blocks at a grid point. -/
def blkA (c : Dev nD) (t : Fin cfg0.N) (k : Fin 1024) (r : Fin 1024) : EReal := iblk m c 0 t (ix2 k r)
def blkB (c : Dev nD) (t : Fin cfg0.N) (k : Fin 1024) (l : Fin 1408) : EReal := iblk m c 1 t (ix2 k l)

theorem iblk0_apply (c : Dev nD) (t : Fin cfg0.N) (k : Fin 1024) (r : Fin 1024) (K : Fin 16384) (R : Fin 1024)
    (hK : K.val = 1024 * (t.val % 16) + k.val) (hR : R.val = 1024 * (t.val / 16 / 2) + r.val) :
    blkA m c t k r = argA m c K R := by
  obtain ⟨e0, e1, -, -⟩ := in_facts t
  unfold blkA iblk argA
  refine congrArg (m (c.tc.loc main_arg0)) (funext fun a => Fin.ext ?_)
  match a with
  | ⟨0, _⟩ => show win0_0.index t 0 * 1024 + 1 * k.val = K.val; rw [e0]; omega
  | ⟨1, _⟩ => show win0_0.index t 1 * 1024 + 1 * r.val = R.val; rw [e1]; omega

theorem iblk1_apply (c : Dev nD) (t : Fin cfg0.N) (k : Fin 1024) (l : Fin 1408) (K : Fin 16384) (L : Fin 2816)
    (hK : K.val = 1024 * (t.val % 16) + k.val) (hL : L.val = 1408 * (t.val / 16 % 2) + l.val) :
    blkB m c t k l = argB m c K L := by
  obtain ⟨-, -, e0, e1⟩ := in_facts t
  unfold blkB iblk argB
  refine congrArg (m (c.tc.loc main_arg1)) (funext fun a => Fin.ext ?_)
  match a with
  | ⟨0, _⟩ => show win0_1.index t 0 * 1024 + 1 * k.val = K.val; rw [e0]; omega
  | ⟨1, _⟩ => show win0_1.index t 1 * 1408 + 1 * l.val = L.val; rw [e1]; omega

/-- What the array holds at row `R`, column `L`: the product of the two arguments over all 16384 rows. -/
theorem G2_apply (c : Dev nD) (R : Fin 1024) (L : Fin 2816) :
    (G2 m c (ix2 R L) : EReal) = ∑ k : Fin 16384, argA m c k R * argB m c k L := by
  have hR := R.isLt
  have hL := L.isLt
  have hrun : run2Of (ix2 R L) = R.val / 1024 * 2 + L.val / 1408 := by
    show 2 * (R.val / 1024 - 0) + 1 * (L.val / 1408 - 0) = _; omega
  have hN : cfg0.N = 32 := N_0
  unfold G2
  rw [dif_pos (by rw [hrun, hN]; omega)]
  have hacc := Pipeline.accAt_add_apply (N := cfg0.N) (ι := S1024x1408.Idx) (β := EReal) (reset2 m c) (step2 m c) (fun _ => 0)
    (fun n j => if h : n < cfg0.N then ∑ k : Fin 1024, blkA m c ⟨n, h⟩ k (j 0) * blkB m c ⟨n, h⟩ k (j 1) else 0)
    (16 * run2Of (ix2 R L)) 15
    (fun h i => by
      unfold reset2; rw [dif_pos h]; refine (pay2_at _ _ _ i).trans ?_; rw [pay1_apply]; rfl)
    (fun n h acc i _ _ => by
      unfold step2; rw [dif_pos h]; exact pay2_at _ _ _ i)
    15 le_rfl (by rw [hrun, hN]; omega) (loc2Of (ix2 R L))
  rw [hacc, zero_add]
  refine (Finset.sum_congr rfl fun s hs => ?_ : _ = ∑ s ∈ Finset.range 16, ∑ k : Fin 1024,
      (fun (s : ℕ) (k : Fin 1024) => if h : 1024 * s + k.val < 16384 then
        argA m c ⟨1024 * s + k.val, h⟩ R * argB m c ⟨1024 * s + k.val, h⟩ L else 0) s k).trans ?_
  · have hs' : s < 16 := Finset.mem_range.mp hs
    have hlt : 16 * run2Of (ix2 R L) + s < cfg0.N := by rw [hrun, hN]; omega
    rw [dif_pos hlt]
    refine Finset.sum_congr rfl fun k _ => ?_
    have hk := k.isLt
    dsimp only
    rw [dif_pos (by omega)]
    have e0 : (16 * run2Of (ix2 R L) + s) % 16 = s := by omega
    have e1 : (16 * run2Of (ix2 R L) + s) / 16 = run2Of (ix2 R L) := by omega
    exact congr (congrArg HMul.hMul (iblk0_apply m c ⟨_, hlt⟩ k ⟨R.val % 1024, by omega⟩ ⟨1024 * s + k.val, by omega⟩ R
        (by show 1024 * s + k.val = 1024 * ((16 * run2Of (ix2 R L) + s) % 16) + k.val; rw [e0])
        (by show R.val = 1024 * ((16 * run2Of (ix2 R L) + s) / 16 / 2) + R.val % 1024; rw [e1, hrun]; omega)))
      (iblk1_apply m c ⟨_, hlt⟩ k ⟨L.val % 1408, by omega⟩ ⟨1024 * s + k.val, by omega⟩ L
        (by show 1024 * s + k.val = 1024 * ((16 * run2Of (ix2 R L) + s) % 16) + k.val; rw [e0])
        (by show L.val = 1408 * ((16 * run2Of (ix2 R L) + s) / 16 % 2) + L.val % 1408; rw [e1, hrun]; omega))
  · exact Cert.Sums.blocks (by norm_num) _ (fun k => argA m c k R * argB m c k L) (fun s hs k => by
      have hk := k.isLt
      exact dif_pos (by omega))

end Cert.Kernel4Ideal.WGrad
-- ==== Proof.WEq4.lean ====
/-
  The weight gradient `hᵀ · dg` of the up projection: the kernel's result is the reference's.
-/
module

public import proofs.«01_k».proof.Proof.WGrad4
public import proofs.«01_k».proof.Proof.Gen.Kernel4Ideal.Frame
public import proofs.«01_k».proof.Proof.Gen.Reference4Ideal.Run
public import proofs.«01_k».proof.Proof.Gen.Reference4Ideal.Read
public import proofs.«01_k».proof.Defs

@[expose] public section

set_option maxRecDepth 16384

noncomputable section

namespace Cert.Kernel4Ideal.WGrad

open Cert.Kernel4Ideal Cert.Kernel4Ideal.Gen Idealize.ShloMosaic Idealize.ShloMosaic.TcCoe Idealize.SL.Sem

variable (m : (ℓ : Loc nD τ sig) → Buf (Elt Ideal) ℓ)

/-- The reference's array at an index: the same sum, its factors in the other order. -/
theorem ref_apply (c : Dev nD) (R : Fin 1024) (L : Fin 2816) :
    (Cert.Reference4Ideal.Read.val_main_v5 (F := Ideal) (m ((c : Thread nD τ).loc main_arg0)) (m ((c : Thread nD τ).loc main_arg1)) (ix2 R L) : EReal)
      = ∑ k : Fin 16384, argA m c k R * argB m c k L := by
  rw [Cert.Reference4Ideal.Read.val_main_v5_apply, Cert.Reference4Ideal.Read.val_main_v4_apply]
  refine Finset.sum_congr rfl fun k _ => ?_
  rw [Cert.Reference4Ideal.Read.val_main_v1_apply, Cert.Reference4Ideal.Read.val_main_v3_apply, Ideal.extf_def, Ideal.extf_def, mul_comm]
  unfold argA argB
  congr 2
  · funext a; match a with | ⟨0, _⟩ => rfl | ⟨1, _⟩ => rfl
  · funext a; match a with | ⟨0, _⟩ => rfl | ⟨1, _⟩ => rfl

theorem eq (c : Dev nD) :
    Cert.Reference4Ideal.Read.val_main_v5 (F := Ideal) (m ((c : Thread nD τ).loc main_arg0)) (m ((c : Thread nD τ).loc main_arg1))
      = Value.G2 m c := by
  funext i
  have hi : i = ix2 (i 0) (i 1) := eq_ix2 i
  rw [hi]
  exact (ref_apply m c (i 0) (i 1)).trans (G2_apply m c (i 0) (i 1)).symm

/-- Both programs' results are the kernel's own array. -/
theorem algebraic : Cert.algebraic_Kernel4Ideal_Reference4Ideal :=
  fun m ρ m' ρ' _ hag => ⟨fun c => Value.G2 m c, Value.run m ρ,
    (θ_run _ _ _).mono (fun _ h c => ⟨(h c).1.trans (by
        rw [(hag c).1, (hag c).2]
        exact (Cert.Reference4Ideal.Read.val_main_v5_eq _ _).trans (eq m c)), (h c).2⟩)
      (Cert.Reference4Ideal.Value.run m' ρ')⟩

end Cert.Kernel4Ideal.WGrad
-- ==== Proof.WGrad5.lean ====
/-
  The weight gradient `hᵀ · dp` of the attention input projection: what the kernel's result array holds after the run, at an index, is the one sum over all
  rows.
-/
module

public import proofs.«01_k».proof.Proof.Sums
public import proofs.«01_k».proof.Proof.Gen.Kernel5Ideal.Value
public import Idealize.ShloMosaic.Lib.Pointwise

@[expose] public section

set_option maxRecDepth 16384

noncomputable section

namespace Cert.Kernel5Ideal.WGrad

open Cert.Kernel5Ideal Cert.Kernel5Ideal.Gen Cert.Kernel5Ideal.Value Idealize.ShloMosaic Idealize.ShloMosaic.TcCoe Idealize.SL.Sem
open Idealize.ShloMosaic.Pipeline (Dat)

variable (m : (ℓ : Loc nD τ sig) → Buf (Elt Ideal) ℓ)

/-- One grid point's block product, added to what the block held. -/
theorem pay2_apply (acc : Vec Ideal S1024x768 .f32) (A : Vec Ideal S1024x1024 .bf16) (B : Vec Ideal S1024x768 .bf16)
    (r : Fin 1024) (l : Fin 768) :
    k0_pay2 acc A B (ix2 r l) = acc (ix2 r l) + ∑ k : Fin 1024, (A (ix2 k r) : EReal) * B (ix2 k l) := by
  pointwise [k0_pay2]

/-- The same at an index of the block. -/
theorem pay2_at (acc : Vec Ideal S1024x768 .f32) (A : Vec Ideal S1024x1024 .bf16) (B : Vec Ideal S1024x768 .bf16)
    (i : S1024x768.Idx) :
    k0_pay2 acc A B i = acc i + ∑ k : Fin 1024, (A (ix2 k (i 0)) : EReal) * B (ix2 k (i 1)) := by
  idx_vars i
  exact pay2_apply acc A B _ _

theorem pay1_apply (i : S1024x768.Idx) : (k0_pay1 (F := Ideal) i : EReal) = 0 := by
  pointwise [k0_pay1]

/-- The block indices of the two operands, over the grid. -/
theorem in_facts : ∀ t : Fin cfg0.N,
    win0_0.index t (0 : Fin 2) = t.val % 16 ∧ win0_0.index t (1 : Fin 2) = t.val / 16 / 2
    ∧ win0_1.index t (0 : Fin 2) = t.val % 16 ∧ win0_1.index t (1 : Fin 2) = t.val / 16 % 2 :=
  (by decide +kernel : ∀ t : Fin grid0.N, _)

/-- The two arguments, read at a row and a column. -/
def argA (c : Dev nD) (k : Fin 16384) (r : Fin 1024) : EReal := m ((c : Thread nD τ).loc main_arg0) (ix2 k r)
def argB (c : Dev nD) (k : Fin 16384) (l : Fin 1536) : EReal := m ((c : Thread nD τ).loc main_arg1) (ix2 k l)

/-- The two operands' blocks at a grid point. -/
def blkA (c : Dev nD) (t : Fin cfg0.N) (k : Fin 1024) (r : Fin 1024) : EReal := iblk m c 0 t (ix2 k r)
def blkB (c : Dev nD) (t : Fin cfg0.N) (k : Fin 1024) (l : Fin 768) : EReal := iblk m c 1 t (ix2 k l)

theorem iblk0_apply (c : Dev nD) (t : Fin cfg0.N) (k : Fin 1024) (r : Fin 1024) (K : Fin 16384) (R : Fin 1024)
    (hK : K.val = 1024 * (t.val % 16) + k.val) (hR : R.val = 1024 * (t.val / 16 / 2) + r.val) :
    blkA m c t k r = argA m c K R := by
  obtain ⟨e0, e1, -, -⟩ := in_facts t
  unfold blkA iblk argA
  refine congrArg (m (c.tc.loc main_arg0)) (funext fun a => Fin.ext ?_)
  match a with
  | ⟨0, _⟩ => show win0_0.index t 0 * 1024 + 1 * k.val = K.val; rw [e0]; omega
  | ⟨1, _⟩ => show win0_0.index t 1 * 1024 + 1 * r.val = R.val; rw [e1]; omega

theorem iblk1_apply (c : Dev nD) (t : Fin cfg0.N) (k : Fin 1024) (l : Fin 768) (K : Fin 16384) (L : Fin 1536)
    (hK : K.val = 1024 * (t.val % 16) + k.val) (hL : L.val = 768 * (t.val / 16 % 2) + l.val) :
    blkB m c t k l = argB m c K L := by
  obtain ⟨-, -, e0, e1⟩ := in_facts t
  unfold blkB iblk argB
  refine congrArg (m (c.tc.loc main_arg1)) (funext fun a => Fin.ext ?_)
  match a with
  | ⟨0, _⟩ => show win0_1.index t 0 * 1024 + 1 * k.val = K.val; rw [e0]; omega
  | ⟨1, _⟩ => show win0_1.index t 1 * 768 + 1 * l.val = L.val; rw [e1]; omega

/-- What the array holds at row `R`, column `L`: the product of the two arguments over all 16384 rows. -/
theorem G2_apply (c : Dev nD) (R : Fin 1024) (L : Fin 1536) :
    (G2 m c (ix2 R L) : EReal) = ∑ k : Fin 16384, argA m c k R * argB m c k L := by
  have hR := R.isLt
  have hL := L.isLt
  have hrun : run2Of (ix2 R L) = R.val / 1024 * 2 + L.val / 768 := by
    show 2 * (R.val / 1024 - 0) + 1 * (L.val / 768 - 0) = _; omega
  have hN : cfg0.N = 32 := N_0
  unfold G2
  rw [dif_pos (by rw [hrun, hN]; omega)]
  have hacc := Pipeline.accAt_add_apply (N := cfg0.N) (ι := S1024x768.Idx) (β := EReal) (reset2 m c) (step2 m c) (fun _ => 0)
    (fun n j => if h : n < cfg0.N then ∑ k : Fin 1024, blkA m c ⟨n, h⟩ k (j 0) * blkB m c ⟨n, h⟩ k (j 1) else 0)
    (16 * run2Of (ix2 R L)) 15
    (fun h i => by
      unfold reset2; rw [dif_pos h]; refine (pay2_at _ _ _ i).trans ?_; rw [pay1_apply]; rfl)
    (fun n h acc i _ _ => by
      unfold step2; rw [dif_pos h]; exact pay2_at _ _ _ i)
    15 le_rfl (by rw [hrun, hN]; omega) (loc2Of (ix2 R L))
  rw [hacc, zero_add]
  refine (Finset.sum_congr rfl fun s hs => ?_ : _ = ∑ s ∈ Finset.range 16, ∑ k : Fin 1024,
      (fun (s : ℕ) (k : Fin 1024) => if h : 1024 * s + k.val < 16384 then
        argA m c ⟨1024 * s + k.val, h⟩ R * argB m c ⟨1024 * s + k.val, h⟩ L else 0) s k).trans ?_
  · have hs' : s < 16 := Finset.mem_range.mp hs
    have hlt : 16 * run2Of (ix2 R L) + s < cfg0.N := by rw [hrun, hN]; omega
    rw [dif_pos hlt]
    refine Finset.sum_congr rfl fun k _ => ?_
    have hk := k.isLt
    dsimp only
    rw [dif_pos (by omega)]
    have e0 : (16 * run2Of (ix2 R L) + s) % 16 = s := by omega
    have e1 : (16 * run2Of (ix2 R L) + s) / 16 = run2Of (ix2 R L) := by omega
    exact congr (congrArg HMul.hMul (iblk0_apply m c ⟨_, hlt⟩ k ⟨R.val % 1024, by omega⟩ ⟨1024 * s + k.val, by omega⟩ R
        (by show 1024 * s + k.val = 1024 * ((16 * run2Of (ix2 R L) + s) % 16) + k.val; rw [e0])
        (by show R.val = 1024 * ((16 * run2Of (ix2 R L) + s) / 16 / 2) + R.val % 1024; rw [e1, hrun]; omega)))
      (iblk1_apply m c ⟨_, hlt⟩ k ⟨L.val % 768, by omega⟩ ⟨1024 * s + k.val, by omega⟩ L
        (by show 1024 * s + k.val = 1024 * ((16 * run2Of (ix2 R L) + s) % 16) + k.val; rw [e0])
        (by show L.val = 768 * ((16 * run2Of (ix2 R L) + s) / 16 % 2) + L.val % 768; rw [e1, hrun]; omega))
  · exact Cert.Sums.blocks (by norm_num) _ (fun k => argA m c k R * argB m c k L) (fun s hs k => by
      have hk := k.isLt
      exact dif_pos (by omega))

end Cert.Kernel5Ideal.WGrad
-- ==== Proof.WEq5.lean ====
/-
  The weight gradient `hᵀ · dp` of the attention input projection: the kernel's result is the reference's.
-/
module

public import proofs.«01_k».proof.Proof.WGrad5
public import proofs.«01_k».proof.Proof.Gen.Kernel5Ideal.Frame
public import proofs.«01_k».proof.Proof.Gen.Reference5Ideal.Run
public import proofs.«01_k».proof.Proof.Gen.Reference5Ideal.Read
public import proofs.«01_k».proof.Defs

@[expose] public section

set_option maxRecDepth 16384

noncomputable section

namespace Cert.Kernel5Ideal.WGrad

open Cert.Kernel5Ideal Cert.Kernel5Ideal.Gen Idealize.ShloMosaic Idealize.ShloMosaic.TcCoe Idealize.SL.Sem

variable (m : (ℓ : Loc nD τ sig) → Buf (Elt Ideal) ℓ)

/-- The reference's array at an index: the same sum, its factors in the other order. -/
theorem ref_apply (c : Dev nD) (R : Fin 1024) (L : Fin 1536) :
    (Cert.Reference5Ideal.Read.val_main_v5 (F := Ideal) (m ((c : Thread nD τ).loc main_arg0)) (m ((c : Thread nD τ).loc main_arg1)) (ix2 R L) : EReal)
      = ∑ k : Fin 16384, argA m c k R * argB m c k L := by
  rw [Cert.Reference5Ideal.Read.val_main_v5_apply, Cert.Reference5Ideal.Read.val_main_v4_apply]
  refine Finset.sum_congr rfl fun k _ => ?_
  rw [Cert.Reference5Ideal.Read.val_main_v1_apply, Cert.Reference5Ideal.Read.val_main_v3_apply, Ideal.extf_def, Ideal.extf_def, mul_comm]
  unfold argA argB
  congr 2
  · funext a; match a with | ⟨0, _⟩ => rfl | ⟨1, _⟩ => rfl
  · funext a; match a with | ⟨0, _⟩ => rfl | ⟨1, _⟩ => rfl

theorem eq (c : Dev nD) :
    Cert.Reference5Ideal.Read.val_main_v5 (F := Ideal) (m ((c : Thread nD τ).loc main_arg0)) (m ((c : Thread nD τ).loc main_arg1))
      = Value.G2 m c := by
  funext i
  have hi : i = ix2 (i 0) (i 1) := eq_ix2 i
  rw [hi]
  exact (ref_apply m c (i 0) (i 1)).trans (G2_apply m c (i 0) (i 1)).symm

/-- Both programs' results are the kernel's own array. -/
theorem algebraic : Cert.algebraic_Kernel5Ideal_Reference5Ideal :=
  fun m ρ m' ρ' _ hag => ⟨fun c => Value.G2 m c, Value.run m ρ,
    (θ_run _ _ _).mono (fun _ h c => ⟨(h c).1.trans (by
        rw [(hag c).1, (hag c).2]
        exact (Cert.Reference5Ideal.Read.val_main_v5_eq _ _).trans (eq m c)), (h c).2⟩)
      (Cert.Reference5Ideal.Value.run m' ρ')⟩

end Cert.Kernel5Ideal.WGrad
-- ==== Proof.WGrad6.lean ====
/-
  The weight gradient `hᵀ · dp` of the recurrence input projection: what the kernel's result array holds after the run, at an index, is the one sum over all
  rows.
-/
module

public import proofs.«01_k».proof.Proof.Sums
public import proofs.«01_k».proof.Proof.Gen.Kernel6Ideal.Value
public import Idealize.ShloMosaic.Lib.Pointwise

@[expose] public section

set_option maxRecDepth 16384

noncomputable section

namespace Cert.Kernel6Ideal.WGrad

open Cert.Kernel6Ideal Cert.Kernel6Ideal.Gen Cert.Kernel6Ideal.Value Idealize.ShloMosaic Idealize.ShloMosaic.TcCoe Idealize.SL.Sem
open Idealize.ShloMosaic.Pipeline (Dat)

variable (m : (ℓ : Loc nD τ sig) → Buf (Elt Ideal) ℓ)

/-- One grid point's block product, added to what the block held. -/
theorem pay2_apply (acc : Vec Ideal S1024x1024 .f32) (A : Vec Ideal S1024x1024 .bf16) (B : Vec Ideal S1024x1024 .bf16)
    (r : Fin 1024) (l : Fin 1024) :
    k0_pay2 acc A B (ix2 r l) = acc (ix2 r l) + ∑ k : Fin 1024, (A (ix2 k r) : EReal) * B (ix2 k l) := by
  pointwise [k0_pay2]

/-- The same at an index of the block. -/
theorem pay2_at (acc : Vec Ideal S1024x1024 .f32) (A : Vec Ideal S1024x1024 .bf16) (B : Vec Ideal S1024x1024 .bf16)
    (i : S1024x1024.Idx) :
    k0_pay2 acc A B i = acc i + ∑ k : Fin 1024, (A (ix2 k (i 0)) : EReal) * B (ix2 k (i 1)) := by
  idx_vars i
  exact pay2_apply acc A B _ _

theorem pay1_apply (i : S1024x1024.Idx) : (k0_pay1 (F := Ideal) i : EReal) = 0 := by
  pointwise [k0_pay1]

/-- The block indices of the two operands, over the grid. -/
theorem in_facts : ∀ t : Fin cfg0.N,
    win0_0.index t (0 : Fin 2) = t.val % 16 ∧ win0_0.index t (1 : Fin 2) = t.val / 16 / 1
    ∧ win0_1.index t (0 : Fin 2) = t.val % 16 ∧ win0_1.index t (1 : Fin 2) = t.val / 16 % 1 :=
  (by decide +kernel : ∀ t : Fin grid0.N, _)

/-- The two arguments, read at a row and a column. -/
def argA (c : Dev nD) (k : Fin 16384) (r : Fin 1024) : EReal := m ((c : Thread nD τ).loc main_arg0) (ix2 k r)
def argB (c : Dev nD) (k : Fin 16384) (l : Fin 1024) : EReal := m ((c : Thread nD τ).loc main_arg1) (ix2 k l)

/-- The two operands' blocks at a grid point. -/
def blkA (c : Dev nD) (t : Fin cfg0.N) (k : Fin 1024) (r : Fin 1024) : EReal := iblk m c 0 t (ix2 k r)
def blkB (c : Dev nD) (t : Fin cfg0.N) (k : Fin 1024) (l : Fin 1024) : EReal := iblk m c 1 t (ix2 k l)

theorem iblk0_apply (c : Dev nD) (t : Fin cfg0.N) (k : Fin 1024) (r : Fin 1024) (K : Fin 16384) (R : Fin 1024)
    (hK : K.val = 1024 * (t.val % 16) + k.val) (hR : R.val = 1024 * (t.val / 16 / 1) + r.val) :
    blkA m c t k r = argA m c K R := by
  obtain ⟨e0, e1, -, -⟩ := in_facts t
  unfold blkA iblk argA
  refine congrArg (m (c.tc.loc main_arg0)) (funext fun a => Fin.ext ?_)
  match a with
  | ⟨0, _⟩ => show win0_0.index t 0 * 1024 + 1 * k.val = K.val; rw [e0]; omega
  | ⟨1, _⟩ => show win0_0.index t 1 * 1024 + 1 * r.val = R.val; rw [e1]; omega

theorem iblk1_apply (c : Dev nD) (t : Fin cfg0.N) (k : Fin 1024) (l : Fin 1024) (K : Fin 16384) (L : Fin 1024)
    (hK : K.val = 1024 * (t.val % 16) + k.val) (hL : L.val = 1024 * (t.val / 16 % 1) + l.val) :
    blkB m c t k l = argB m c K L := by
  obtain ⟨-, -, e0, e1⟩ := in_facts t
  unfold blkB iblk argB
  refine congrArg (m (c.tc.loc main_arg1)) (funext fun a => Fin.ext ?_)
  match a with
  | ⟨0, _⟩ => show win0_1.index t 0 * 1024 + 1 * k.val = K.val; rw [e0]; omega
  | ⟨1, _⟩ => show win0_1.index t 1 * 1024 + 1 * l.val = L.val; rw [e1]; omega

/-- What the array holds at row `R`, column `L`: the product of the two arguments over all 16384 rows. -/
theorem G2_apply (c : Dev nD) (R : Fin 1024) (L : Fin 1024) :
    (G2 m c (ix2 R L) : EReal) = ∑ k : Fin 16384, argA m c k R * argB m c k L := by
  have hR := R.isLt
  have hL := L.isLt
  have hrun : run2Of (ix2 R L) = R.val / 1024 * 1 + L.val / 1024 := by
    show 1 * (R.val / 1024 - 0) + 1 * (L.val / 1024 - 0) = _; omega
  have hN : cfg0.N = 16 := N_0
  unfold G2
  rw [dif_pos (by rw [hrun, hN]; omega)]
  have hacc := Pipeline.accAt_add_apply (N := cfg0.N) (ι := S1024x1024.Idx) (β := EReal) (reset2 m c) (step2 m c) (fun _ => 0)
    (fun n j => if h : n < cfg0.N then ∑ k : Fin 1024, blkA m c ⟨n, h⟩ k (j 0) * blkB m c ⟨n, h⟩ k (j 1) else 0)
    (16 * run2Of (ix2 R L)) 15
    (fun h i => by
      unfold reset2; rw [dif_pos h]; refine (pay2_at _ _ _ i).trans ?_; rw [pay1_apply]; rfl)
    (fun n h acc i _ _ => by
      unfold step2; rw [dif_pos h]; exact pay2_at _ _ _ i)
    15 le_rfl (by rw [hrun, hN]; omega) (loc2Of (ix2 R L))
  rw [hacc, zero_add]
  refine (Finset.sum_congr rfl fun s hs => ?_ : _ = ∑ s ∈ Finset.range 16, ∑ k : Fin 1024,
      (fun (s : ℕ) (k : Fin 1024) => if h : 1024 * s + k.val < 16384 then
        argA m c ⟨1024 * s + k.val, h⟩ R * argB m c ⟨1024 * s + k.val, h⟩ L else 0) s k).trans ?_
  · have hs' : s < 16 := Finset.mem_range.mp hs
    have hlt : 16 * run2Of (ix2 R L) + s < cfg0.N := by rw [hrun, hN]; omega
    rw [dif_pos hlt]
    refine Finset.sum_congr rfl fun k _ => ?_
    have hk := k.isLt
    dsimp only
    rw [dif_pos (by omega)]
    have e0 : (16 * run2Of (ix2 R L) + s) % 16 = s := by omega
    have e1 : (16 * run2Of (ix2 R L) + s) / 16 = run2Of (ix2 R L) := by omega
    exact congr (congrArg HMul.hMul (iblk0_apply m c ⟨_, hlt⟩ k ⟨R.val % 1024, by omega⟩ ⟨1024 * s + k.val, by omega⟩ R
        (by show 1024 * s + k.val = 1024 * ((16 * run2Of (ix2 R L) + s) % 16) + k.val; rw [e0])
        (by show R.val = 1024 * ((16 * run2Of (ix2 R L) + s) / 16 / 1) + R.val % 1024; rw [e1, hrun]; omega)))
      (iblk1_apply m c ⟨_, hlt⟩ k ⟨L.val % 1024, by omega⟩ ⟨1024 * s + k.val, by omega⟩ L
        (by show 1024 * s + k.val = 1024 * ((16 * run2Of (ix2 R L) + s) % 16) + k.val; rw [e0])
        (by show L.val = 1024 * ((16 * run2Of (ix2 R L) + s) / 16 % 1) + L.val % 1024; rw [e1, hrun]; omega))
  · exact Cert.Sums.blocks (by norm_num) _ (fun k => argA m c k R * argB m c k L) (fun s hs k => by
      have hk := k.isLt
      exact dif_pos (by omega))

end Cert.Kernel6Ideal.WGrad
-- ==== Proof.WEq6.lean ====
/-
  The weight gradient `hᵀ · dp` of the recurrence input projection: the kernel's result is the reference's.
-/
module

public import proofs.«01_k».proof.Proof.WGrad6
public import proofs.«01_k».proof.Proof.Gen.Kernel6Ideal.Frame
public import proofs.«01_k».proof.Proof.Gen.Reference6Ideal.Run
public import proofs.«01_k».proof.Proof.Gen.Reference6Ideal.Read
public import proofs.«01_k».proof.Defs

@[expose] public section

set_option maxRecDepth 16384

noncomputable section

namespace Cert.Kernel6Ideal.WGrad

open Cert.Kernel6Ideal Cert.Kernel6Ideal.Gen Idealize.ShloMosaic Idealize.ShloMosaic.TcCoe Idealize.SL.Sem

variable (m : (ℓ : Loc nD τ sig) → Buf (Elt Ideal) ℓ)

/-- The reference's array at an index: the same sum, its factors in the other order. -/
theorem ref_apply (c : Dev nD) (R : Fin 1024) (L : Fin 1024) :
    (Cert.Reference6Ideal.Read.val_main_v5 (F := Ideal) (m ((c : Thread nD τ).loc main_arg0)) (m ((c : Thread nD τ).loc main_arg1)) (ix2 R L) : EReal)
      = ∑ k : Fin 16384, argA m c k R * argB m c k L := by
  rw [Cert.Reference6Ideal.Read.val_main_v5_apply, Cert.Reference6Ideal.Read.val_main_v4_apply]
  refine Finset.sum_congr rfl fun k _ => ?_
  rw [Cert.Reference6Ideal.Read.val_main_v1_apply, Cert.Reference6Ideal.Read.val_main_v3_apply, Ideal.extf_def, Ideal.extf_def, mul_comm]
  unfold argA argB
  congr 2
  · funext a; match a with | ⟨0, _⟩ => rfl | ⟨1, _⟩ => rfl
  · funext a; match a with | ⟨0, _⟩ => rfl | ⟨1, _⟩ => rfl

theorem eq (c : Dev nD) :
    Cert.Reference6Ideal.Read.val_main_v5 (F := Ideal) (m ((c : Thread nD τ).loc main_arg0)) (m ((c : Thread nD τ).loc main_arg1))
      = Value.G2 m c := by
  funext i
  have hi : i = ix2 (i 0) (i 1) := eq_ix2 i
  rw [hi]
  exact (ref_apply m c (i 0) (i 1)).trans (G2_apply m c (i 0) (i 1)).symm

/-- Both programs' results are the kernel's own array. -/
theorem algebraic : Cert.algebraic_Kernel6Ideal_Reference6Ideal :=
  fun m ρ m' ρ' _ hag => ⟨fun c => Value.G2 m c, Value.run m ρ,
    (θ_run _ _ _).mono (fun _ h c => ⟨(h c).1.trans (by
        rw [(hag c).1, (hag c).2]
        exact (Cert.Reference6Ideal.Read.val_main_v5_eq _ _).trans (eq m c)), (h c).2⟩)
      (Cert.Reference6Ideal.Value.run m' ρ')⟩

end Cert.Kernel6Ideal.WGrad
-- ==== Proof.WGrad7.lean ====
/-
  The weight gradient `aᵀ · dx1` of the recurrence output projection: what the kernel's result array holds after the run, at an index, is the one sum over all
  rows.
-/
module

public import proofs.«01_k».proof.Proof.Sums
public import proofs.«01_k».proof.Proof.Gen.Kernel7Ideal.Value
public import Idealize.ShloMosaic.Lib.Pointwise

@[expose] public section

set_option maxRecDepth 16384

noncomputable section

namespace Cert.Kernel7Ideal.WGrad

open Cert.Kernel7Ideal Cert.Kernel7Ideal.Gen Cert.Kernel7Ideal.Value Idealize.ShloMosaic Idealize.ShloMosaic.TcCoe Idealize.SL.Sem
open Idealize.ShloMosaic.Pipeline (Dat)

variable (m : (ℓ : Loc nD τ sig) → Buf (Elt Ideal) ℓ)

/-- One grid point's block product, added to what the block held. -/
theorem pay2_apply (acc : Vec Ideal S1024x1024 .f32) (A : Vec Ideal S1024x1024 .bf16) (B : Vec Ideal S1024x1024 .f32)
    (r : Fin 1024) (l : Fin 1024) :
    k0_pay2 acc A B (ix2 r l) = acc (ix2 r l) + ∑ k : Fin 1024, (A (ix2 k r) : EReal) * B (ix2 k l) := by
  pointwise [k0_pay2]

/-- The same at an index of the block. -/
theorem pay2_at (acc : Vec Ideal S1024x1024 .f32) (A : Vec Ideal S1024x1024 .bf16) (B : Vec Ideal S1024x1024 .f32)
    (i : S1024x1024.Idx) :
    k0_pay2 acc A B i = acc i + ∑ k : Fin 1024, (A (ix2 k (i 0)) : EReal) * B (ix2 k (i 1)) := by
  idx_vars i
  exact pay2_apply acc A B _ _

theorem pay1_apply (i : S1024x1024.Idx) : (k0_pay1 (F := Ideal) i : EReal) = 0 := by
  pointwise [k0_pay1]

/-- The block indices of the two operands, over the grid. -/
theorem in_facts : ∀ t : Fin cfg0.N,
    win0_0.index t (0 : Fin 2) = t.val % 16 ∧ win0_0.index t (1 : Fin 2) = t.val / 16 / 1
    ∧ win0_1.index t (0 : Fin 2) = t.val % 16 ∧ win0_1.index t (1 : Fin 2) = t.val / 16 % 1 :=
  (by decide +kernel : ∀ t : Fin grid0.N, _)

/-- The two arguments, read at a row and a column. -/
def argA (c : Dev nD) (k : Fin 16384) (r : Fin 1024) : EReal := m ((c : Thread nD τ).loc main_arg0) (ix2 k r)
def argB (c : Dev nD) (k : Fin 16384) (l : Fin 1024) : EReal := m ((c : Thread nD τ).loc main_arg1) (ix2 k l)

/-- The two operands' blocks at a grid point. -/
def blkA (c : Dev nD) (t : Fin cfg0.N) (k : Fin 1024) (r : Fin 1024) : EReal := iblk m c 0 t (ix2 k r)
def blkB (c : Dev nD) (t : Fin cfg0.N) (k : Fin 1024) (l : Fin 1024) : EReal := iblk m c 1 t (ix2 k l)

theorem iblk0_apply (c : Dev nD) (t : Fin cfg0.N) (k : Fin 1024) (r : Fin 1024) (K : Fin 16384) (R : Fin 1024)
    (hK : K.val = 1024 * (t.val % 16) + k.val) (hR : R.val = 1024 * (t.val / 16 / 1) + r.val) :
    blkA m c t k r = argA m c K R := by
  obtain ⟨e0, e1, -, -⟩ := in_facts t
  unfold blkA iblk argA
  refine congrArg (m (c.tc.loc main_arg0)) (funext fun a => Fin.ext ?_)
  match a with
  | ⟨0, _⟩ => show win0_0.index t 0 * 1024 + 1 * k.val = K.val; rw [e0]; omega
  | ⟨1, _⟩ => show win0_0.index t 1 * 1024 + 1 * r.val = R.val; rw [e1]; omega

theorem iblk1_apply (c : Dev nD) (t : Fin cfg0.N) (k : Fin 1024) (l : Fin 1024) (K : Fin 16384) (L : Fin 1024)
    (hK : K.val = 1024 * (t.val % 16) + k.val) (hL : L.val = 1024 * (t.val / 16 % 1) + l.val) :
    blkB m c t k l = argB m c K L := by
  obtain ⟨-, -, e0, e1⟩ := in_facts t
  unfold blkB iblk argB
  refine congrArg (m (c.tc.loc main_arg1)) (funext fun a => Fin.ext ?_)
  match a with
  | ⟨0, _⟩ => show win0_1.index t 0 * 1024 + 1 * k.val = K.val; rw [e0]; omega
  | ⟨1, _⟩ => show win0_1.index t 1 * 1024 + 1 * l.val = L.val; rw [e1]; omega

/-- What the array holds at row `R`, column `L`: the product of the two arguments over all 16384 rows. -/
theorem G2_apply (c : Dev nD) (R : Fin 1024) (L : Fin 1024) :
    (G2 m c (ix2 R L) : EReal) = ∑ k : Fin 16384, argA m c k R * argB m c k L := by
  have hR := R.isLt
  have hL := L.isLt
  have hrun : run2Of (ix2 R L) = R.val / 1024 * 1 + L.val / 1024 := by
    show 1 * (R.val / 1024 - 0) + 1 * (L.val / 1024 - 0) = _; omega
  have hN : cfg0.N = 16 := N_0
  unfold G2
  rw [dif_pos (by rw [hrun, hN]; omega)]
  have hacc := Pipeline.accAt_add_apply (N := cfg0.N) (ι := S1024x1024.Idx) (β := EReal) (reset2 m c) (step2 m c) (fun _ => 0)
    (fun n j => if h : n < cfg0.N then ∑ k : Fin 1024, blkA m c ⟨n, h⟩ k (j 0) * blkB m c ⟨n, h⟩ k (j 1) else 0)
    (16 * run2Of (ix2 R L)) 15
    (fun h i => by
      unfold reset2; rw [dif_pos h]; refine (pay2_at _ _ _ i).trans ?_; rw [pay1_apply]; rfl)
    (fun n h acc i _ _ => by
      unfold step2; rw [dif_pos h]; exact pay2_at _ _ _ i)
    15 le_rfl (by rw [hrun, hN]; omega) (loc2Of (ix2 R L))
  rw [hacc, zero_add]
  refine (Finset.sum_congr rfl fun s hs => ?_ : _ = ∑ s ∈ Finset.range 16, ∑ k : Fin 1024,
      (fun (s : ℕ) (k : Fin 1024) => if h : 1024 * s + k.val < 16384 then
        argA m c ⟨1024 * s + k.val, h⟩ R * argB m c ⟨1024 * s + k.val, h⟩ L else 0) s k).trans ?_
  · have hs' : s < 16 := Finset.mem_range.mp hs
    have hlt : 16 * run2Of (ix2 R L) + s < cfg0.N := by rw [hrun, hN]; omega
    rw [dif_pos hlt]
    refine Finset.sum_congr rfl fun k _ => ?_
    have hk := k.isLt
    dsimp only
    rw [dif_pos (by omega)]
    have e0 : (16 * run2Of (ix2 R L) + s) % 16 = s := by omega
    have e1 : (16 * run2Of (ix2 R L) + s) / 16 = run2Of (ix2 R L) := by omega
    exact congr (congrArg HMul.hMul (iblk0_apply m c ⟨_, hlt⟩ k ⟨R.val % 1024, by omega⟩ ⟨1024 * s + k.val, by omega⟩ R
        (by show 1024 * s + k.val = 1024 * ((16 * run2Of (ix2 R L) + s) % 16) + k.val; rw [e0])
        (by show R.val = 1024 * ((16 * run2Of (ix2 R L) + s) / 16 / 1) + R.val % 1024; rw [e1, hrun]; omega)))
      (iblk1_apply m c ⟨_, hlt⟩ k ⟨L.val % 1024, by omega⟩ ⟨1024 * s + k.val, by omega⟩ L
        (by show 1024 * s + k.val = 1024 * ((16 * run2Of (ix2 R L) + s) % 16) + k.val; rw [e0])
        (by show L.val = 1024 * ((16 * run2Of (ix2 R L) + s) / 16 % 1) + L.val % 1024; rw [e1, hrun]; omega))
  · exact Cert.Sums.blocks (by norm_num) _ (fun k => argA m c k R * argB m c k L) (fun s hs k => by
      have hk := k.isLt
      exact dif_pos (by omega))

end Cert.Kernel7Ideal.WGrad
-- ==== Proof.WEq7.lean ====
/-
  The weight gradient `aᵀ · dx1` of the recurrence output projection: the kernel's result is the reference's.
-/
module

public import proofs.«01_k».proof.Proof.WGrad7
public import proofs.«01_k».proof.Proof.Gen.Kernel7Ideal.Frame
public import proofs.«01_k».proof.Proof.Gen.Reference7Ideal.Run
public import proofs.«01_k».proof.Proof.Gen.Reference7Ideal.Read
public import proofs.«01_k».proof.Defs

@[expose] public section

set_option maxRecDepth 16384

noncomputable section

namespace Cert.Kernel7Ideal.WGrad

open Cert.Kernel7Ideal Cert.Kernel7Ideal.Gen Idealize.ShloMosaic Idealize.ShloMosaic.TcCoe Idealize.SL.Sem

variable (m : (ℓ : Loc nD τ sig) → Buf (Elt Ideal) ℓ)

/-- The reference's array at an index: the same sum, its factors in the other order. -/
theorem ref_apply (c : Dev nD) (R : Fin 1024) (L : Fin 1024) :
    (Cert.Reference7Ideal.Read.val_main_v4 (F := Ideal) (m ((c : Thread nD τ).loc main_arg0)) (m ((c : Thread nD τ).loc main_arg1)) (ix2 R L) : EReal)
      = ∑ k : Fin 16384, argA m c k R * argB m c k L := by
  rw [Cert.Reference7Ideal.Read.val_main_v4_apply, Cert.Reference7Ideal.Read.val_main_v3_apply]
  refine Finset.sum_congr rfl fun k _ => ?_
  rw [Cert.Reference7Ideal.Read.val_main_v1_apply, Ideal.extf_def, mul_comm]
  unfold argA argB
  congr 2
  · funext a; match a with | ⟨0, _⟩ => rfl | ⟨1, _⟩ => rfl
  · funext a; match a with | ⟨0, _⟩ => rfl | ⟨1, _⟩ => rfl

theorem eq (c : Dev nD) :
    Cert.Reference7Ideal.Read.val_main_v4 (F := Ideal) (m ((c : Thread nD τ).loc main_arg0)) (m ((c : Thread nD τ).loc main_arg1))
      = Value.G2 m c := by
  funext i
  have hi : i = ix2 (i 0) (i 1) := eq_ix2 i
  rw [hi]
  exact (ref_apply m c (i 0) (i 1)).trans (G2_apply m c (i 0) (i 1)).symm

/-- Both programs' results are the kernel's own array. -/
theorem algebraic : Cert.algebraic_Kernel7Ideal_Reference7Ideal :=
  fun m ρ m' ρ' _ hag => ⟨fun c => Value.G2 m c, Value.run m ρ,
    (θ_run _ _ _).mono (fun _ h c => ⟨(h c).1.trans (by
        rw [(hag c).1, (hag c).2]
        exact (Cert.Reference7Ideal.Read.val_main_v4_eq _ _).trans (eq m c)), (h c).2⟩)
      (Cert.Reference7Ideal.Value.run m' ρ')⟩

end Cert.Kernel7Ideal.WGrad
-- ==== Proof.WGrad8.lean ====
/-
  The weight gradient `oᵀ · dx1` of the attention output projection: what the kernel's result array holds after the run, at an index, is the one sum over all
  rows.
-/
module

public import proofs.«01_k».proof.Proof.Sums
public import proofs.«01_k».proof.Proof.Gen.Kernel8Ideal.Value
public import Idealize.ShloMosaic.Lib.Pointwise

@[expose] public section

set_option maxRecDepth 16384

noncomputable section

namespace Cert.Kernel8Ideal.WGrad

open Cert.Kernel8Ideal Cert.Kernel8Ideal.Gen Cert.Kernel8Ideal.Value Idealize.ShloMosaic Idealize.ShloMosaic.TcCoe Idealize.SL.Sem
open Idealize.ShloMosaic.Pipeline (Dat)

variable (m : (ℓ : Loc nD τ sig) → Buf (Elt Ideal) ℓ)

/-- One grid point's block product, added to what the block held. -/
theorem pay2_apply (acc : Vec Ideal S512x1024 .f32) (A : Vec Ideal S1024x512 .f32) (B : Vec Ideal S1024x1024 .f32)
    (r : Fin 512) (l : Fin 1024) :
    k0_pay2 acc A B (ix2 r l) = acc (ix2 r l) + ∑ k : Fin 1024, (A (ix2 k r) : EReal) * B (ix2 k l) := by
  pointwise [k0_pay2]

/-- The same at an index of the block. -/
theorem pay2_at (acc : Vec Ideal S512x1024 .f32) (A : Vec Ideal S1024x512 .f32) (B : Vec Ideal S1024x1024 .f32)
    (i : S512x1024.Idx) :
    k0_pay2 acc A B i = acc i + ∑ k : Fin 1024, (A (ix2 k (i 0)) : EReal) * B (ix2 k (i 1)) := by
  idx_vars i
  exact pay2_apply acc A B _ _

theorem pay1_apply (i : S512x1024.Idx) : (k0_pay1 (F := Ideal) i : EReal) = 0 := by
  pointwise [k0_pay1]

/-- The block indices of the two operands, over the grid. -/
theorem in_facts : ∀ t : Fin cfg0.N,
    win0_0.index t (0 : Fin 2) = t.val % 16 ∧ win0_0.index t (1 : Fin 2) = t.val / 16 / 1
    ∧ win0_1.index t (0 : Fin 2) = t.val % 16 ∧ win0_1.index t (1 : Fin 2) = t.val / 16 % 1 :=
  (by decide +kernel : ∀ t : Fin grid0.N, _)

/-- The two arguments, read at a row and a column. -/
def argA (c : Dev nD) (k : Fin 16384) (r : Fin 512) : EReal := m ((c : Thread nD τ).loc main_arg0) (ix2 k r)
def argB (c : Dev nD) (k : Fin 16384) (l : Fin 1024) : EReal := m ((c : Thread nD τ).loc main_arg1) (ix2 k l)

/-- The two operands' blocks at a grid point. -/
def blkA (c : Dev nD) (t : Fin cfg0.N) (k : Fin 1024) (r : Fin 512) : EReal := iblk m c 0 t (ix2 k r)
def blkB (c : Dev nD) (t : Fin cfg0.N) (k : Fin 1024) (l : Fin 1024) : EReal := iblk m c 1 t (ix2 k l)

theorem iblk0_apply (c : Dev nD) (t : Fin cfg0.N) (k : Fin 1024) (r : Fin 512) (K : Fin 16384) (R : Fin 512)
    (hK : K.val = 1024 * (t.val % 16) + k.val) (hR : R.val = 512 * (t.val / 16 / 1) + r.val) :
    blkA m c t k r = argA m c K R := by
  obtain ⟨e0, e1, -, -⟩ := in_facts t
  unfold blkA iblk argA
  refine congrArg (m (c.tc.loc main_arg0)) (funext fun a => Fin.ext ?_)
  match a with
  | ⟨0, _⟩ => show win0_0.index t 0 * 1024 + 1 * k.val = K.val; rw [e0]; omega
  | ⟨1, _⟩ => show win0_0.index t 1 * 512 + 1 * r.val = R.val; rw [e1]; omega

theorem iblk1_apply (c : Dev nD) (t : Fin cfg0.N) (k : Fin 1024) (l : Fin 1024) (K : Fin 16384) (L : Fin 1024)
    (hK : K.val = 1024 * (t.val % 16) + k.val) (hL : L.val = 1024 * (t.val / 16 % 1) + l.val) :
    blkB m c t k l = argB m c K L := by
  obtain ⟨-, -, e0, e1⟩ := in_facts t
  unfold blkB iblk argB
  refine congrArg (m (c.tc.loc main_arg1)) (funext fun a => Fin.ext ?_)
  match a with
  | ⟨0, _⟩ => show win0_1.index t 0 * 1024 + 1 * k.val = K.val; rw [e0]; omega
  | ⟨1, _⟩ => show win0_1.index t 1 * 1024 + 1 * l.val = L.val; rw [e1]; omega

/-- What the array holds at row `R`, column `L`: the product of the two arguments over all 16384 rows. -/
theorem G2_apply (c : Dev nD) (R : Fin 512) (L : Fin 1024) :
    (G2 m c (ix2 R L) : EReal) = ∑ k : Fin 16384, argA m c k R * argB m c k L := by
  have hR := R.isLt
  have hL := L.isLt
  have hrun : run2Of (ix2 R L) = R.val / 512 * 1 + L.val / 1024 := by
    show 1 * (R.val / 512 - 0) + 1 * (L.val / 1024 - 0) = _; omega
  have hN : cfg0.N = 16 := N_0
  unfold G2
  rw [dif_pos (by rw [hrun, hN]; omega)]
  have hacc := Pipeline.accAt_add_apply (N := cfg0.N) (ι := S512x1024.Idx) (β := EReal) (reset2 m c) (step2 m c) (fun _ => 0)
    (fun n j => if h : n < cfg0.N then ∑ k : Fin 1024, blkA m c ⟨n, h⟩ k (j 0) * blkB m c ⟨n, h⟩ k (j 1) else 0)
    (16 * run2Of (ix2 R L)) 15
    (fun h i => by
      unfold reset2; rw [dif_pos h]; refine (pay2_at _ _ _ i).trans ?_; rw [pay1_apply]; rfl)
    (fun n h acc i _ _ => by
      unfold step2; rw [dif_pos h]; exact pay2_at _ _ _ i)
    15 le_rfl (by rw [hrun, hN]; omega) (loc2Of (ix2 R L))
  rw [hacc, zero_add]
  refine (Finset.sum_congr rfl fun s hs => ?_ : _ = ∑ s ∈ Finset.range 16, ∑ k : Fin 1024,
      (fun (s : ℕ) (k : Fin 1024) => if h : 1024 * s + k.val < 16384 then
        argA m c ⟨1024 * s + k.val, h⟩ R * argB m c ⟨1024 * s + k.val, h⟩ L else 0) s k).trans ?_
  · have hs' : s < 16 := Finset.mem_range.mp hs
    have hlt : 16 * run2Of (ix2 R L) + s < cfg0.N := by rw [hrun, hN]; omega
    rw [dif_pos hlt]
    refine Finset.sum_congr rfl fun k _ => ?_
    have hk := k.isLt
    dsimp only
    rw [dif_pos (by omega)]
    have e0 : (16 * run2Of (ix2 R L) + s) % 16 = s := by omega
    have e1 : (16 * run2Of (ix2 R L) + s) / 16 = run2Of (ix2 R L) := by omega
    exact congr (congrArg HMul.hMul (iblk0_apply m c ⟨_, hlt⟩ k ⟨R.val % 512, by omega⟩ ⟨1024 * s + k.val, by omega⟩ R
        (by show 1024 * s + k.val = 1024 * ((16 * run2Of (ix2 R L) + s) % 16) + k.val; rw [e0])
        (by show R.val = 512 * ((16 * run2Of (ix2 R L) + s) / 16 / 1) + R.val % 512; rw [e1, hrun]; omega)))
      (iblk1_apply m c ⟨_, hlt⟩ k ⟨L.val % 1024, by omega⟩ ⟨1024 * s + k.val, by omega⟩ L
        (by show 1024 * s + k.val = 1024 * ((16 * run2Of (ix2 R L) + s) % 16) + k.val; rw [e0])
        (by show L.val = 1024 * ((16 * run2Of (ix2 R L) + s) / 16 % 1) + L.val % 1024; rw [e1, hrun]; omega))
  · exact Cert.Sums.blocks (by norm_num) _ (fun k => argA m c k R * argB m c k L) (fun s hs k => by
      have hk := k.isLt
      exact dif_pos (by omega))

end Cert.Kernel8Ideal.WGrad
-- ==== Proof.WEq8.lean ====
/-
  The weight gradient `oᵀ · dx1` of the attention output projection: the kernel's result is the reference's.
-/
module

public import proofs.«01_k».proof.Proof.WGrad8
public import proofs.«01_k».proof.Proof.Gen.Kernel8Ideal.Frame
public import proofs.«01_k».proof.Proof.Gen.Reference8Ideal.Run
public import proofs.«01_k».proof.Proof.Gen.Reference8Ideal.Read
public import proofs.«01_k».proof.Defs

@[expose] public section

set_option maxRecDepth 16384

noncomputable section

namespace Cert.Kernel8Ideal.WGrad

open Cert.Kernel8Ideal Cert.Kernel8Ideal.Gen Idealize.ShloMosaic Idealize.ShloMosaic.TcCoe Idealize.SL.Sem

variable (m : (ℓ : Loc nD τ sig) → Buf (Elt Ideal) ℓ)

/-- The reference's array at an index: the same sum, its factors in the other order. -/
theorem ref_apply (c : Dev nD) (R : Fin 512) (L : Fin 1024) :
    (Cert.Reference8Ideal.Read.val_main_v3 (F := Ideal) (m ((c : Thread nD τ).loc main_arg0)) (m ((c : Thread nD τ).loc main_arg1)) (ix2 R L) : EReal)
      = ∑ k : Fin 16384, argA m c k R * argB m c k L := by
  rw [Cert.Reference8Ideal.Read.val_main_v3_apply, Cert.Reference8Ideal.Read.val_main_v2_apply]
  refine Finset.sum_congr rfl fun k _ => ?_
  rw [mul_comm]
  unfold argA argB
  congr 2
  · funext a; match a with | ⟨0, _⟩ => rfl | ⟨1, _⟩ => rfl
  · funext a; match a with | ⟨0, _⟩ => rfl | ⟨1, _⟩ => rfl

theorem eq (c : Dev nD) :
    Cert.Reference8Ideal.Read.val_main_v3 (F := Ideal) (m ((c : Thread nD τ).loc main_arg0)) (m ((c : Thread nD τ).loc main_arg1))
      = Value.G2 m c := by
  funext i
  have hi : i = ix2 (i 0) (i 1) := eq_ix2 i
  rw [hi]
  exact (ref_apply m c (i 0) (i 1)).trans (G2_apply m c (i 0) (i 1)).symm

/-- Both programs' results are the kernel's own array. -/
theorem algebraic : Cert.algebraic_Kernel8Ideal_Reference8Ideal :=
  fun m ρ m' ρ' _ hag => ⟨fun c => Value.G2 m c, Value.run m ρ,
    (θ_run _ _ _).mono (fun _ h c => ⟨(h c).1.trans (by
        rw [(hag c).1, (hag c).2]
        exact (Cert.Reference8Ideal.Read.val_main_v3_eq _ _).trans (eq m c)), (h c).2⟩)
      (Cert.Reference8Ideal.Value.run m' ρ')⟩

end Cert.Kernel8Ideal.WGrad
-- ==== Proof.MMul9.lean ====
/-
  The feed-forward down projection with the residual added: what the kernel's result array holds after the run, at an index.
-/
module

public import proofs.«01_k».proof.Proof.Gen.Kernel9Ideal.Value
public import Idealize.ShloMosaic.Lib.Pointwise
public import Idealize.ShloMosaic.Lib.Pipeline.ValueKit

@[expose] public section

set_option maxRecDepth 16384

noncomputable section

namespace Cert.Kernel9Ideal.MMul

open Cert.Kernel9Ideal Cert.Kernel9Ideal.Gen Cert.Kernel9Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x2816 .bf16) (B : Vec Ideal S2816x1024 .bf16) (R : Vec Ideal S512x1024 .f32) (r : Fin 512) (l : Fin 1024) :
    (k0_pay1 A B R (ix2 r l) : EReal) = (∑ k : Fin 2816, (A (ix2 r k) : EReal) * B (ix2 k l)) + R (ix2 r l) := by
  pointwise [k0_pay1]

/-- The one store covers the block, and the loads read whole blocks. -/
theorem out_eq (A : Vec Ideal S512x2816 .bf16) (B : Vec Ideal S2816x1024 .bf16) (R : Vec Ideal S512x1024 .f32) :
    out0_3 A B R = k0_pay1 A B R := by
  have hz : (![0, 0] : Fin 2 → Nat) = fun _ => 0 := by funext a; match a with | ⟨0, _⟩ => rfl | ⟨1, _⟩ => rfl
  unfold out0_3
  refine (View.canon_unit_zero (S := S512x1024) hz _ _).trans ?_
  simp only [View.ld_unit_zero (S := S512x2816) hz, View.ld_unit_zero (S := S2816x1024) hz, View.ld_unit_zero (S := S512x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The arguments at an index. -/
def argA (c : Dev nD) (R : Fin 16384) (k : Fin 2816) : EReal := m ((c : Thread nD τ).loc main_arg0) (ix2 R k)
def argB (c : Dev nD) (k : Fin 2816) (l : Fin 1024) : EReal := m ((c : Thread nD τ).loc main_arg1) (ix2 k l)
def argR (c : Dev nD) (R : Fin 16384) (l : Fin 1024) : EReal := m ((c : Thread nD τ).loc main_arg2) (ix2 R l)

/-- The blocks at a grid point, at an index. -/
theorem bA (c : Dev nD) (t : Fin cfg0.N) (r : Fin 512) (k : Fin 2816) (R : Fin 16384) (hR : R.val = 512 * t.val + r.val) :
    (iblk m c 0 t (ix2 r k) : EReal) = argA m c R k := by
  obtain ⟨eA0, eA1, eB0, eB1, eR0, eR1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 2816 + 1 * k.val = k.val; rw [eA1]; omega

theorem bB (c : Dev nD) (t : Fin cfg0.N) (k : Fin 2816) (l : Fin 1024) :
    (iblk m c 1 t (ix2 k l) : EReal) = argB m c k l := by
  obtain ⟨eA0, eA1, eB0, eB1, eR0, eR1, eO0, eO1⟩ := idx_facts t
  unfold iblk argB
  refine congrArg (m (c.tc.loc main_arg1)) (funext fun a => Fin.ext ?_)
  match a with
  | ⟨0, _⟩ => show win0_1.index t 0 * 2816 + 1 * k.val = k.val; rw [eB0]; omega
  | ⟨1, _⟩ => show win0_1.index t 1 * 1024 + 1 * l.val = l.val; rw [eB1]; omega

theorem bR (c : Dev nD) (t : Fin cfg0.N) (r : Fin 512) (l : Fin 1024) (R : Fin 16384) (hR : R.val = 512 * t.val + r.val) :
    (iblk m c 2 t (ix2 r l) : EReal) = argR m c R l := by
  obtain ⟨eA0, eA1, eB0, eB1, eR0, eR1, eO0, eO1⟩ := idx_facts t
  unfold iblk argR
  refine congrArg (m (c.tc.loc main_arg2)) (funext fun a => Fin.ext ?_)
  match a with
  | ⟨0, _⟩ => show win0_2.index t 0 * 512 + 1 * r.val = R.val; rw [eR0]; omega
  | ⟨1, _⟩ => show win0_2.index t 1 * 1024 + 1 * l.val = l.val; rw [eR1]; omega

/-- The result array: row `R`, column `l`. -/
def valOf (c : Dev nD) (R : Fin 16384) (l : Fin 1024) : EReal :=
  (∑ k : Fin 2816, argA m c R k * argB m c k l) + argR m c R l

def G (c : Dev nD) : Buf (Elt Ideal) ((c : Thread nD τ).loc main_v0) := fun i => valOf m c (i 0) (i 1)

theorem block_eq (c : Dev nD) (t : Fin cfg0.N) (r : Fin 512) (l : Fin 1024) (R : Fin 16384) (hR : R.val = 512 * t.val + r.val) :
    (out0_3 (iblk m c 0 t) (iblk m c 1 t) (iblk m c 2 t) (ix2 r l) : EReal) = valOf m c R l := by
  rw [out_eq]
  refine (pay_apply (iblk m c 0 t) (iblk m c 1 t) (iblk m c 2 t) r l).trans ?_
  unfold valOf
  exact (congr (congrArg HAdd.hAdd (Finset.sum_congr rfl fun k _ => congr (congrArg HMul.hMul (bA m c t r k R hR)) (bB m c t k l))) (bR m c t r l R hR))

/-- The result array after the run. -/
theorem final (c : Dev nD) : (dats m 0 c).arrAt 3 cfg0.N = G m c := by
  refine (dats m 0 c).arrAt_eq_of_covers 3 _ (by decide +kernel) fun t _ y => ?_
  obtain ⟨eA0, eA1, eB0, eB1, eR0, eR1, eO0, eO1⟩ := idx_facts t
  have ht : t.val < 32 := lt_of_lt_of_eq t.isLt N_0
  have hy0 : (y 0).val < 512 := (y 0).isLt
  blk_simp
  rw [after0_3]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_3.index t 0 * 512 + 1 * (y 0).val; rw [eO0]; omega
  · show (y 1).val = win0_3.index t 1 * 1024 + 1 * (y 1).val; rw [eO1]; omega

end Cert.Kernel9Ideal.MMul
-- ==== Proof.MEq9.lean ====
/-
  The feed-forward down projection with the residual added: the kernel's result is the reference's.
-/
module

public import proofs.«01_k».proof.Proof.MMul9
public import proofs.«01_k».proof.Proof.Gen.Reference9Ideal.Run
public import proofs.«01_k».proof.Proof.Gen.Reference9Ideal.Read
public import proofs.«01_k».proof.Defs

@[expose] public section

set_option maxRecDepth 16384

noncomputable section

namespace Cert.Kernel9Ideal.MMul

open Cert.Kernel9Ideal Cert.Kernel9Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1024) :
    (Cert.Reference9Ideal.Read.val_main_v2 (F := Ideal) (m ((c : Thread nD τ).loc main_arg0)) (m ((c : Thread nD τ).loc main_arg1)) (ix2 R l) : EReal)
      = ∑ k : Fin 2816, argA m c R k * argB m c k l := by
  rw [Cert.Reference9Ideal.Read.val_main_v2_apply]
  refine Finset.sum_congr rfl fun k _ => ?_
  rw [Cert.Reference9Ideal.Read.val_main_v0_apply, Cert.Reference9Ideal.Read.val_main_v1_apply, Ideal.extf_def, Ideal.extf_def]
  unfold argA argB
  congr 2
  · funext a; match a with | ⟨0, _⟩ => rfl | ⟨1, _⟩ => rfl
  · funext a; match a with | ⟨0, _⟩ => rfl | ⟨1, _⟩ => rfl

/-- The reference's array at an index. -/
theorem ref_apply (c : Dev nD) (R : Fin 16384) (l : Fin 1024) :
    (Cert.Reference9Ideal.Read.val_main_v3 (F := Ideal) (m ((c : Thread nD τ).loc main_arg0)) (m ((c : Thread nD τ).loc main_arg1)) (m ((c : Thread nD τ).loc main_arg2)) (ix2 R l) : EReal) = valOf m c R l := by
  unfold valOf
  rw [Cert.Reference9Ideal.Read.val_main_v3_apply, Ideal.addf_def, add_comm]
  exact congr (congrArg HAdd.hAdd (ref_dot m c R l)) rfl

theorem eq (c : Dev nD) :
    Cert.Reference9Ideal.Read.val_main_v3 (F := Ideal) (m ((c : Thread nD τ).loc main_arg0)) (m ((c : Thread nD τ).loc main_arg1)) (m ((c : Thread nD τ).loc main_arg2)) = G m c := by
  funext i
  have hi : i = ix2 (i 0) (i 1) := eq_ix2 i
  rw [hi]
  exact ref_apply m c (i 0) (i 1)

/-- Both programs' results are the kernel's own array. -/
theorem algebraic : Cert.algebraic_Kernel9Ideal_Reference9Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2.1, (hag c).2.2]
        exact (Cert.Reference9Ideal.Read.val_main_v3_eq _ _ _).trans (eq m c)), (h c).2⟩)
      (Cert.Reference9Ideal.Value.run m' ρ')⟩

end Cert.Kernel9Ideal.MMul
-- ==== Proof.MMul10.lean ====
/-
  A third of the attention input projection: what the kernel's result array holds after the run, at an index.
-/
module

public import proofs.«01_k».proof.Proof.Gen.Kernel10Ideal.Value
public import Idealize.ShloMosaic.Lib.Pointwise
public import Idealize.ShloMosaic.Lib.Pipeline.ValueKit

@[expose] public section

set_option maxRecDepth 16384

noncomputable section

namespace Cert.Kernel10Ideal.MMul

open Cert.Kernel10Ideal Cert.Kernel10Ideal.Gen Cert.Kernel10Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x1024 .bf16) (B : Vec Ideal S1024x1536 .bf16) (r : Fin 512) (l : Fin 1536) :
    (k0_pay1 A B (ix2 r l) : EReal) = (∑ k : Fin 1024, (A (ix2 r k) : EReal) * B (ix2 k l)) := by
  pointwise [k0_pay1]

/-- The one store covers the block, and the loads read whole blocks. -/
theorem out_eq (A : Vec Ideal S512x1024 .bf16) (B : Vec Ideal S1024x1536 .bf16) :
    out0_2 A B = k0_pay1 A B := by
  have hz : (![0, 0] : Fin 2 → Nat) = fun _ => 0 := by funext a; match a with | ⟨0, _⟩ => rfl | ⟨1, _⟩ => rfl
  unfold out0_2
  refine (View.canon_unit_zero (S := S512x1536) hz _ _).trans ?_
  simp only [View.ld_unit_zero (S := S512x1024) hz, View.ld_unit_zero (S := S1024x1536) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arguments at an index. -/
def argA (c : Dev nD) (R : Fin 16384) (k : Fin 1024) : EReal := m ((c : Thread nD τ).loc main_arg0) (ix2 R k)
def argB (c : Dev nD) (k : Fin 1024) (l : Fin 1536) : EReal := m ((c : Thread nD τ).loc main_arg1) (ix2 k l)

/-- The blocks at a grid point, at an index. -/
theorem bA (c : Dev nD) (t : Fin cfg0.N) (r : Fin 512) (k : Fin 1024) (R : Fin 16384) (hR : R.val = 512 * t.val + r.val) :
    (iblk m c 0 t (ix2 r k) : EReal) = argA m c R k := by
  obtain ⟨eA0, eA1, eB0, eB1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 1024 + 1 * k.val = k.val; rw [eA1]; omega

theorem bB (c : Dev nD) (t : Fin cfg0.N) (k : Fin 1024) (l : Fin 1536) :
    (iblk m c 1 t (ix2 k l) : EReal) = argB m c k l := by
  obtain ⟨eA0, eA1, eB0, eB1, eO0, eO1⟩ := idx_facts t
  unfold iblk argB
  refine congrArg (m (c.tc.loc main_arg1)) (funext fun a => Fin.ext ?_)
  match a with
  | ⟨0, _⟩ => show win0_1.index t 0 * 1024 + 1 * k.val = k.val; rw [eB0]; omega
  | ⟨1, _⟩ => show win0_1.index t 1 * 1536 + 1 * l.val = l.val; rw [eB1]; omega

/-- The result array: row `R`, column `l`. -/
def valOf (c : Dev nD) (R : Fin 16384) (l : Fin 1536) : EReal :=
  (∑ k : Fin 1024, argA m c R k * argB m c k l)

def G (c : Dev nD) : Buf (Elt Ideal) ((c : Thread nD τ).loc main_v0) := fun i => valOf m c (i 0) (i 1)

theorem block_eq (c : Dev nD) (t : Fin cfg0.N) (r : Fin 512) (l : Fin 1536) (R : Fin 16384) (hR : R.val = 512 * t.val + r.val) :
    (out0_2 (iblk m c 0 t) (iblk m c 1 t) (ix2 r l) : EReal) = valOf m c R l := by
  rw [out_eq]
  refine (pay_apply (iblk m c 0 t) (iblk m c 1 t) r l).trans ?_
  unfold valOf
  exact (Finset.sum_congr rfl fun k _ => congr (congrArg HMul.hMul (bA m c t r k R hR)) (bB m c t k l))

/-- The result array after the run. -/
theorem final (c : Dev nD) : (dats m 0 c).arrAt 2 cfg0.N = G m c := by
  refine (dats m 0 c).arrAt_eq_of_covers 2 _ (by decide +kernel) fun t _ y => ?_
  obtain ⟨eA0, eA1, eB0, eB1, eO0, eO1⟩ := idx_facts t
  have ht : t.val < 32 := lt_of_lt_of_eq t.isLt N_0
  have hy0 : (y 0).val < 512 := (y 0).isLt
  blk_simp
  rw [after0_2]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_2.index t 0 * 512 + 1 * (y 0).val; rw [eO0]; omega
  · show (y 1).val = win0_2.index t 1 * 1536 + 1 * (y 1).val; rw [eO1]; omega

end Cert.Kernel10Ideal.MMul
-- ==== Proof.MEq10.lean ====
/-
  A third of the attention input projection: the kernel's result is the reference's.
-/
module

public import proofs.«01_k».proof.Proof.MMul10
public import proofs.«01_k».proof.Proof.Gen.Reference10Ideal.Run
public import proofs.«01_k».proof.Proof.Gen.Reference10Ideal.Read
public import proofs.«01_k».proof.Defs

@[expose] public section

set_option maxRecDepth 16384

noncomputable section

namespace Cert.Kernel10Ideal.MMul

open Cert.Kernel10Ideal Cert.Kernel10Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1536) :
    (Cert.Reference10Ideal.Read.val_main_v2 (F := Ideal) (m ((c : Thread nD τ).loc main_arg0)) (m ((c : Thread nD τ).loc main_arg1)) (ix2 R l) : EReal)
      = ∑ k : Fin 1024, argA m c R k * argB m c k l := by
  rw [Cert.Reference10Ideal.Read.val_main_v2_apply]
  refine Finset.sum_congr rfl fun k _ => ?_
  rw [Cert.Reference10Ideal.Read.val_main_v0_apply, Cert.Reference10Ideal.Read.val_main_v1_apply, Ideal.extf_def, Ideal.extf_def]
  unfold argA argB
  congr 2
  · funext a; match a with | ⟨0, _⟩ => rfl | ⟨1, _⟩ => rfl
  · funext a; match a with | ⟨0, _⟩ => rfl | ⟨1, _⟩ => rfl

/-- The reference's array at an index. -/
theorem ref_apply (c : Dev nD) (R : Fin 16384) (l : Fin 1536) :
    (Cert.Reference10Ideal.Read.val_main_v2 (F := Ideal) (m ((c : Thread nD τ).loc main_arg0)) (m ((c : Thread nD τ).loc main_arg1)) (ix2 R l) : EReal) = valOf m c R l := by
  unfold valOf
  exact ref_dot m c R l

theorem eq (c : Dev nD) :
    Cert.Reference10Ideal.Read.val_main_v2 (F := Ideal) (m ((c : Thread nD τ).loc main_arg0)) (m ((c : Thread nD τ).loc main_arg1)) = G m c := by
  funext i
  have hi : i = ix2 (i 0) (i 1) := eq_ix2 i
  rw [hi]
  exact ref_apply m c (i 0) (i 1)

/-- Both programs' results are the kernel's own array. -/
theorem algebraic : Cert.algebraic_Kernel10Ideal_Reference10Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2]
        exact (Cert.Reference10Ideal.Read.val_main_v2_eq _ _).trans (eq m c)), (h c).2⟩)
      (Cert.Reference10Ideal.Value.run m' ρ')⟩

end Cert.Kernel10Ideal.MMul
-- ==== Proof.MMul11.lean ====
/-
  A quarter of the recurrence input projection: what the kernel's result array holds after the run, at an index.
-/
module

public import proofs.«01_k».proof.Proof.Gen.Kernel11Ideal.Value
public import Idealize.ShloMosaic.Lib.Pointwise
public import Idealize.ShloMosaic.Lib.Pipeline.ValueKit

@[expose] public section

set_option maxRecDepth 16384

noncomputable section

namespace Cert.Kernel11Ideal.MMul

open Cert.Kernel11Ideal Cert.Kernel11Ideal.Gen Cert.Kernel11Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x1024 .bf16) (B : Vec Ideal S1024x1024 .bf16) (r : Fin 512) (l : Fin 1024) :
    (k0_pay1 A B (ix2 r l) : EReal) = (∑ k : Fin 1024, (A (ix2 r k) : EReal) * B (ix2 k l)) := by
  pointwise [k0_pay1]

/-- The one store covers the block, and the loads read whole blocks. -/
theorem out_eq (A : Vec Ideal S512x1024 .bf16) (B : Vec Ideal S1024x1024 .bf16) :
    out0_2 A B = k0_pay1 A B := by
  have hz : (![0, 0] : Fin 2 → Nat) = fun _ => 0 := by funext a; match a with | ⟨0, _⟩ => rfl | ⟨1, _⟩ => rfl
  unfold out0_2
  refine (View.canon_unit_zero (S := S512x1024) hz _ _).trans ?_
  simp only [View.ld_unit_zero (S := S512x1024) hz, View.ld_unit_zero (S := S1024x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arguments at an index. -/
def argA (c : Dev nD) (R : Fin 16384) (k : Fin 1024) : EReal := m ((c : Thread nD τ).loc main_arg0) (ix2 R k)
def argB (c : Dev nD) (k : Fin 1024) (l : Fin 1024) : EReal := m ((c : Thread nD τ).loc main_arg1) (ix2 k l)

/-- The blocks at a grid point, at an index. -/
theorem bA (c : Dev nD) (t : Fin cfg0.N) (r : Fin 512) (k : Fin 1024) (R : Fin 16384) (hR : R.val = 512 * t.val + r.val) :
    (iblk m c 0 t (ix2 r k) : EReal) = argA m c R k := by
  obtain ⟨eA0, eA1, eB0, eB1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 1024 + 1 * k.val = k.val; rw [eA1]; omega

theorem bB (c : Dev nD) (t : Fin cfg0.N) (k : Fin 1024) (l : Fin 1024) :
    (iblk m c 1 t (ix2 k l) : EReal) = argB m c k l := by
  obtain ⟨eA0, eA1, eB0, eB1, eO0, eO1⟩ := idx_facts t
  unfold iblk argB
  refine congrArg (m (c.tc.loc main_arg1)) (funext fun a => Fin.ext ?_)
  match a with
  | ⟨0, _⟩ => show win0_1.index t 0 * 1024 + 1 * k.val = k.val; rw [eB0]; omega
  | ⟨1, _⟩ => show win0_1.index t 1 * 1024 + 1 * l.val = l.val; rw [eB1]; omega

/-- The result array: row `R`, column `l`. -/
def valOf (c : Dev nD) (R : Fin 16384) (l : Fin 1024) : EReal :=
  (∑ k : Fin 1024, argA m c R k * argB m c k l)

def G (c : Dev nD) : Buf (Elt Ideal) ((c : Thread nD τ).loc main_v0) := fun i => valOf m c (i 0) (i 1)

theorem block_eq (c : Dev nD) (t : Fin cfg0.N) (r : Fin 512) (l : Fin 1024) (R : Fin 16384) (hR : R.val = 512 * t.val + r.val) :
    (out0_2 (iblk m c 0 t) (iblk m c 1 t) (ix2 r l) : EReal) = valOf m c R l := by
  rw [out_eq]
  refine (pay_apply (iblk m c 0 t) (iblk m c 1 t) r l).trans ?_
  unfold valOf
  exact (Finset.sum_congr rfl fun k _ => congr (congrArg HMul.hMul (bA m c t r k R hR)) (bB m c t k l))

/-- The result array after the run. -/
theorem final (c : Dev nD) : (dats m 0 c).arrAt 2 cfg0.N = G m c := by
  refine (dats m 0 c).arrAt_eq_of_covers 2 _ (by decide +kernel) fun t _ y => ?_
  obtain ⟨eA0, eA1, eB0, eB1, eO0, eO1⟩ := idx_facts t
  have ht : t.val < 32 := lt_of_lt_of_eq t.isLt N_0
  have hy0 : (y 0).val < 512 := (y 0).isLt
  blk_simp
  rw [after0_2]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_2.index t 0 * 512 + 1 * (y 0).val; rw [eO0]; omega
  · show (y 1).val = win0_2.index t 1 * 1024 + 1 * (y 1).val; rw [eO1]; omega

end Cert.Kernel11Ideal.MMul
-- ==== Proof.MEq11.lean ====
/-
  A quarter of the recurrence input projection: the kernel's result is the reference's.
-/
module

public import proofs.«01_k».proof.Proof.MMul11
public import proofs.«01_k».proof.Proof.Gen.Reference11Ideal.Run
public import proofs.«01_k».proof.Proof.Gen.Reference11Ideal.Read
public import proofs.«01_k».proof.Defs

@[expose] public section

set_option maxRecDepth 16384

noncomputable section

namespace Cert.Kernel11Ideal.MMul

open Cert.Kernel11Ideal Cert.Kernel11Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1024) :
    (Cert.Reference11Ideal.Read.val_main_v2 (F := Ideal) (m ((c : Thread nD τ).loc main_arg0)) (m ((c : Thread nD τ).loc main_arg1)) (ix2 R l) : EReal)
      = ∑ k : Fin 1024, argA m c R k * argB m c k l := by
  rw [Cert.Reference11Ideal.Read.val_main_v2_apply]
  refine Finset.sum_congr rfl fun k _ => ?_
  rw [Cert.Reference11Ideal.Read.val_main_v0_apply, Cert.Reference11Ideal.Read.val_main_v1_apply, Ideal.extf_def, Ideal.extf_def]
  unfold argA argB
  congr 2
  · funext a; match a with | ⟨0, _⟩ => rfl | ⟨1, _⟩ => rfl
  · funext a; match a with | ⟨0, _⟩ => rfl | ⟨1, _⟩ => rfl

/-- The reference's array at an index. -/
theorem ref_apply (c : Dev nD) (R : Fin 16384) (l : Fin 1024) :
    (Cert.Reference11Ideal.Read.val_main_v2 (F := Ideal) (m ((c : Thread nD τ).loc main_arg0)) (m ((c : Thread nD τ).loc main_arg1)) (ix2 R l) : EReal) = valOf m c R l := by
  unfold valOf
  exact ref_dot m c R l

theorem eq (c : Dev nD) :
    Cert.Reference11Ideal.Read.val_main_v2 (F := Ideal) (m ((c : Thread nD τ).loc main_arg0)) (m ((c : Thread nD τ).loc main_arg1)) = G m c := by
  funext i
  have hi : i = ix2 (i 0) (i 1) := eq_ix2 i
  rw [hi]
  exact ref_apply m c (i 0) (i 1)

/-- Both programs' results are the kernel's own array. -/
theorem algebraic : Cert.algebraic_Kernel11Ideal_Reference11Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2]
        exact (Cert.Reference11Ideal.Read.val_main_v2_eq _ _).trans (eq m c)), (h c).2⟩)
      (Cert.Reference11Ideal.Value.run m' ρ')⟩

end Cert.Kernel11Ideal.MMul
-- ==== Proof.MMul12.lean ====
/-
  The gradient `dx1 · wᵀ` into the recurrence output projection: what the kernel's result array holds after the run, at an index.
-/
module

public import proofs.«01_k».proof.Proof.Gen.Kernel12Ideal.Value
public import Idealize.ShloMosaic.Lib.Pointwise
public import Idealize.ShloMosaic.Lib.Pipeline.ValueKit

@[expose] public section

set_option maxRecDepth 16384

noncomputable section

namespace Cert.Kernel12Ideal.MMul

open Cert.Kernel12Ideal Cert.Kernel12Ideal.Gen Cert.Kernel12Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x1024 .f32) (B : Vec Ideal S1024x1024 .bf16) (r : Fin 512) (l : Fin 1024) :
    (k0_pay1 A B (ix2 r l) : EReal) = (∑ k : Fin 1024, (A (ix2 r k) : EReal) * B (ix2 l k)) := by
  pointwise [k0_pay1]

/-- The one store covers the block, and the loads read whole blocks. -/
theorem out_eq (A : Vec Ideal S512x1024 .f32) (B : Vec Ideal S1024x1024 .bf16) :
    out0_2 A B = k0_pay1 A B := by
  have hz : (![0, 0] : Fin 2 → Nat) = fun _ => 0 := by funext a; match a with | ⟨0, _⟩ => rfl | ⟨1, _⟩ => rfl
  unfold out0_2
  refine (View.canon_unit_zero (S := S512x1024) hz _ _).trans ?_
  simp only [View.ld_unit_zero (S := S512x1024) hz, View.ld_unit_zero (S := S1024x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arguments at an index. -/
def argA (c : Dev nD) (R : Fin 16384) (k : Fin 1024) : EReal := m ((c : Thread nD τ).loc main_arg0) (ix2 R k)
def argB (c : Dev nD) (l : Fin 1024) (k : Fin 1024) : EReal := m ((c : Thread nD τ).loc main_arg1) (ix2 l k)

/-- The blocks at a grid point, at an index. -/
theorem bA (c : Dev nD) (t : Fin cfg0.N) (r : Fin 512) (k : Fin 1024) (R : Fin 16384) (hR : R.val = 512 * t.val + r.val) :
    (iblk m c 0 t (ix2 r k) : EReal) = argA m c R k := by
  obtain ⟨eA0, eA1, eB0, eB1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 1024 + 1 * k.val = k.val; rw [eA1]; omega

theorem bB (c : Dev nD) (t : Fin cfg0.N) (l : Fin 1024) (k : Fin 1024) :
    (iblk m c 1 t (ix2 l k) : EReal) = argB m c l k := by
  obtain ⟨eA0, eA1, eB0, eB1, eO0, eO1⟩ := idx_facts t
  unfold iblk argB
  refine congrArg (m (c.tc.loc main_arg1)) (funext fun a => Fin.ext ?_)
  match a with
  | ⟨0, _⟩ => show win0_1.index t 0 * 1024 + 1 * l.val = l.val; rw [eB0]; omega
  | ⟨1, _⟩ => show win0_1.index t 1 * 1024 + 1 * k.val = k.val; rw [eB1]; omega

/-- The result array: row `R`, column `l`. -/
def valOf (c : Dev nD) (R : Fin 16384) (l : Fin 1024) : EReal :=
  (∑ k : Fin 1024, argA m c R k * argB m c l k)

def G (c : Dev nD) : Buf (Elt Ideal) ((c : Thread nD τ).loc main_v0) := fun i => valOf m c (i 0) (i 1)

theorem block_eq (c : Dev nD) (t : Fin cfg0.N) (r : Fin 512) (l : Fin 1024) (R : Fin 16384) (hR : R.val = 512 * t.val + r.val) :
    (out0_2 (iblk m c 0 t) (iblk m c 1 t) (ix2 r l) : EReal) = valOf m c R l := by
  rw [out_eq]
  refine (pay_apply (iblk m c 0 t) (iblk m c 1 t) r l).trans ?_
  unfold valOf
  exact (Finset.sum_congr rfl fun k _ => congr (congrArg HMul.hMul (bA m c t r k R hR)) (bB m c t l k))

/-- The result array after the run. -/
theorem final (c : Dev nD) : (dats m 0 c).arrAt 2 cfg0.N = G m c := by
  refine (dats m 0 c).arrAt_eq_of_covers 2 _ (by decide +kernel) fun t _ y => ?_
  obtain ⟨eA0, eA1, eB0, eB1, eO0, eO1⟩ := idx_facts t
  have ht : t.val < 32 := lt_of_lt_of_eq t.isLt N_0
  have hy0 : (y 0).val < 512 := (y 0).isLt
  blk_simp
  rw [after0_2]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_2.index t 0 * 512 + 1 * (y 0).val; rw [eO0]; omega
  · show (y 1).val = win0_2.index t 1 * 1024 + 1 * (y 1).val; rw [eO1]; omega

end Cert.Kernel12Ideal.MMul
-- ==== Proof.MEq12.lean ====
/-
  The gradient `dx1 · wᵀ` into the recurrence output projection: the kernel's result is the reference's.
-/
module

public import proofs.«01_k».proof.Proof.MMul12
public import proofs.«01_k».proof.Proof.Gen.Reference12Ideal.Run
public import proofs.«01_k».proof.Proof.Gen.Reference12Ideal.Read
public import proofs.«01_k».proof.Defs

@[expose] public section

set_option maxRecDepth 16384

noncomputable section

namespace Cert.Kernel12Ideal.MMul

open Cert.Kernel12Ideal Cert.Kernel12Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1024) :
    (Cert.Reference12Ideal.Read.val_main_v3 (F := Ideal) (m ((c : Thread nD τ).loc main_arg0)) (m ((c : Thread nD τ).loc main_arg1)) (ix2 R l) : EReal)
      = ∑ k : Fin 1024, argA m c R k * argB m c l k := by
  rw [Cert.Reference12Ideal.Read.val_main_v3_apply]
  refine Finset.sum_congr rfl fun k _ => ?_
  rw [Cert.Reference12Ideal.Read.val_main_v0_apply, Ideal.extf_def]
  unfold argA argB
  congr 2
  · funext a; match a with | ⟨0, _⟩ => rfl | ⟨1, _⟩ => rfl
  · funext a; match a with | ⟨0, _⟩ => rfl | ⟨1, _⟩ => rfl

/-- The reference's array at an index. -/
theorem ref_apply (c : Dev nD) (R : Fin 16384) (l : Fin 1024) :
    (Cert.Reference12Ideal.Read.val_main_v3 (F := Ideal) (m ((c : Thread nD τ).loc main_arg0)) (m ((c : Thread nD τ).loc main_arg1)) (ix2 R l) : EReal) = valOf m c R l := by
  unfold valOf
  exact ref_dot m c R l

theorem eq (c : Dev nD) :
    Cert.Reference12Ideal.Read.val_main_v3 (F := Ideal) (m ((c : Thread nD τ).loc main_arg0)) (m ((c : Thread nD τ).loc main_arg1)) = G m c := by
  funext i
  have hi : i = ix2 (i 0) (i 1) := eq_ix2 i
  rw [hi]
  exact ref_apply m c (i 0) (i 1)

/-- Both programs' results are the kernel's own array. -/
theorem algebraic : Cert.algebraic_Kernel12Ideal_Reference12Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2]
        exact (Cert.Reference12Ideal.Read.val_main_v3_eq _ _).trans (eq m c)), (h c).2⟩)
      (Cert.Reference12Ideal.Value.run m' ρ')⟩

end Cert.Kernel12Ideal.MMul
-- ==== Proof.MMul13.lean ====
/-
  The gradient `dx1 · wᵀ` into the attention output projection: what the kernel's result array holds after the run, at an index.
-/
module

public import proofs.«01_k».proof.Proof.Gen.Kernel13Ideal.Value
public import Idealize.ShloMosaic.Lib.Pointwise
public import Idealize.ShloMosaic.Lib.Pipeline.ValueKit

@[expose] public section

set_option maxRecDepth 16384

noncomputable section

namespace Cert.Kernel13Ideal.MMul

open Cert.Kernel13Ideal Cert.Kernel13Ideal.Gen Cert.Kernel13Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x1024 .f32) (B : Vec Ideal S512x1024 .bf16) (r : Fin 512) (l : Fin 512) :
    (k0_pay1 A B (ix2 r l) : EReal) = (∑ k : Fin 1024, (A (ix2 r k) : EReal) * B (ix2 l k)) := by
  pointwise [k0_pay1]

/-- The one store covers the block, and the loads read whole blocks. -/
theorem out_eq (A : Vec Ideal S512x1024 .f32) (B : Vec Ideal S512x1024 .bf16) :
    out0_2 A B = k0_pay1 A B := by
  have hz : (![0, 0] : Fin 2 → Nat) = fun _ => 0 := by funext a; match a with | ⟨0, _⟩ => rfl | ⟨1, _⟩ => rfl
  unfold out0_2
  refine (View.canon_unit_zero (S := S512x512) hz _ _).trans ?_
  simp only [View.ld_unit_zero (S := S512x1024) hz, View.ld_unit_zero (S := S512x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arguments at an index. -/
def argA (c : Dev nD) (R : Fin 16384) (k : Fin 1024) : EReal := m ((c : Thread nD τ).loc main_arg0) (ix2 R k)
def argB (c : Dev nD) (l : Fin 512) (k : Fin 1024) : EReal := m ((c : Thread nD τ).loc main_arg1) (ix2 l k)

/-- The blocks at a grid point, at an index. -/
theorem bA (c : Dev nD) (t : Fin cfg0.N) (r : Fin 512) (k : Fin 1024) (R : Fin 16384) (hR : R.val = 512 * t.val + r.val) :
    (iblk m c 0 t (ix2 r k) : EReal) = argA m c R k := by
  obtain ⟨eA0, eA1, eB0, eB1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 1024 + 1 * k.val = k.val; rw [eA1]; omega

theorem bB (c : Dev nD) (t : Fin cfg0.N) (l : Fin 512) (k : Fin 1024) :
    (iblk m c 1 t (ix2 l k) : EReal) = argB m c l k := by
  obtain ⟨eA0, eA1, eB0, eB1, eO0, eO1⟩ := idx_facts t
  unfold iblk argB
  refine congrArg (m (c.tc.loc main_arg1)) (funext fun a => Fin.ext ?_)
  match a with
  | ⟨0, _⟩ => show win0_1.index t 0 * 512 + 1 * l.val = l.val; rw [eB0]; omega
  | ⟨1, _⟩ => show win0_1.index t 1 * 1024 + 1 * k.val = k.val; rw [eB1]; omega

/-- The result array: row `R`, column `l`. -/
def valOf (c : Dev nD) (R : Fin 16384) (l : Fin 512) : EReal :=
  (∑ k : Fin 1024, argA m c R k * argB m c l k)

def G (c : Dev nD) : Buf (Elt Ideal) ((c : Thread nD τ).loc main_v0) := fun i => valOf m c (i 0) (i 1)

theorem block_eq (c : Dev nD) (t : Fin cfg0.N) (r : Fin 512) (l : Fin 512) (R : Fin 16384) (hR : R.val = 512 * t.val + r.val) :
    (out0_2 (iblk m c 0 t) (iblk m c 1 t) (ix2 r l) : EReal) = valOf m c R l := by
  rw [out_eq]
  refine (pay_apply (iblk m c 0 t) (iblk m c 1 t) r l).trans ?_
  unfold valOf
  exact (Finset.sum_congr rfl fun k _ => congr (congrArg HMul.hMul (bA m c t r k R hR)) (bB m c t l k))

/-- The result array after the run. -/
theorem final (c : Dev nD) : (dats m 0 c).arrAt 2 cfg0.N = G m c := by
  refine (dats m 0 c).arrAt_eq_of_covers 2 _ (by decide +kernel) fun t _ y => ?_
  obtain ⟨eA0, eA1, eB0, eB1, eO0, eO1⟩ := idx_facts t
  have ht : t.val < 32 := lt_of_lt_of_eq t.isLt N_0
  have hy0 : (y 0).val < 512 := (y 0).isLt
  blk_simp
  rw [after0_2]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_2.index t 0 * 512 + 1 * (y 0).val; rw [eO0]; omega
  · show (y 1).val = win0_2.index t 1 * 512 + 1 * (y 1).val; rw [eO1]; omega

end Cert.Kernel13Ideal.MMul
-- ==== Proof.MEq13.lean ====
/-
  The gradient `dx1 · wᵀ` into the attention output projection: the kernel's result is the reference's.
-/
module

public import proofs.«01_k».proof.Proof.MMul13
public import proofs.«01_k».proof.Proof.Gen.Reference13Ideal.Run
public import proofs.«01_k».proof.Proof.Gen.Reference13Ideal.Read
public import proofs.«01_k».proof.Defs

@[expose] public section

set_option maxRecDepth 16384

noncomputable section

namespace Cert.Kernel13Ideal.MMul

open Cert.Kernel13Ideal Cert.Kernel13Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 512) :
    (Cert.Reference13Ideal.Read.val_main_v3 (F := Ideal) (m ((c : Thread nD τ).loc main_arg0)) (m ((c : Thread nD τ).loc main_arg1)) (ix2 R l) : EReal)
      = ∑ k : Fin 1024, argA m c R k * argB m c l k := by
  rw [Cert.Reference13Ideal.Read.val_main_v3_apply]
  refine Finset.sum_congr rfl fun k _ => ?_
  rw [Cert.Reference13Ideal.Read.val_main_v0_apply, Ideal.extf_def]
  unfold argA argB
  congr 2
  · funext a; match a with | ⟨0, _⟩ => rfl | ⟨1, _⟩ => rfl
  · funext a; match a with | ⟨0, _⟩ => rfl | ⟨1, _⟩ => rfl

/-- The reference's array at an index. -/
theorem ref_apply (c : Dev nD) (R : Fin 16384) (l : Fin 512) :
    (Cert.Reference13Ideal.Read.val_main_v3 (F := Ideal) (m ((c : Thread nD τ).loc main_arg0)) (m ((c : Thread nD τ).loc main_arg1)) (ix2 R l) : EReal) = valOf m c R l := by
  unfold valOf
  exact ref_dot m c R l

theorem eq (c : Dev nD) :
    Cert.Reference13Ideal.Read.val_main_v3 (F := Ideal) (m ((c : Thread nD τ).loc main_arg0)) (m ((c : Thread nD τ).loc main_arg1)) = G m c := by
  funext i
  have hi : i = ix2 (i 0) (i 1) := eq_ix2 i
  rw [hi]
  exact ref_apply m c (i 0) (i 1)

/-- Both programs' results are the kernel's own array. -/
theorem algebraic : Cert.algebraic_Kernel13Ideal_Reference13Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2]
        exact (Cert.Reference13Ideal.Read.val_main_v3_eq _ _).trans (eq m c)), (h c).2⟩)
      (Cert.Reference13Ideal.Value.run m' ρ')⟩

end Cert.Kernel13Ideal.MMul
-- ==== Proof.MMul14.lean ====
/-
  Half of the convolution input projection with its bias: what the kernel's result array holds after the run, at an index.
-/
module

public import proofs.«01_k».proof.Proof.Gen.Kernel14Ideal.Value
public import Idealize.ShloMosaic.Lib.Pointwise
public import Idealize.ShloMosaic.Lib.Pipeline.ValueKit

@[expose] public section

set_option maxRecDepth 16384

noncomputable section

namespace Cert.Kernel14Ideal.MMul

open Cert.Kernel14Ideal Cert.Kernel14Ideal.Gen Cert.Kernel14Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x1024 .bf16) (B : Vec Ideal S1024x1024 .bf16) (Z : Vec Ideal S1x1024 .f32) (r : Fin 512) (l : Fin 1024) :
    (k0_pay1 A B Z (ix2 r l) : EReal) = (∑ k : Fin 1024, (A (ix2 r k) : EReal) * B (ix2 k l)) + Z (ix2 0 l) := by
  pointwise [k0_pay1]

/-- The one store covers the block, and the loads read whole blocks. -/
theorem out_eq (A : Vec Ideal S512x1024 .bf16) (B : Vec Ideal S1024x1024 .bf16) (Z : Vec Ideal S1x1024 .f32) :
    out0_3 A B Z = k0_pay1 A B Z := by
  have hz : (![0, 0] : Fin 2 → Nat) = fun _ => 0 := by funext a; match a with | ⟨0, _⟩ => rfl | ⟨1, _⟩ => rfl
  unfold out0_3
  refine (View.canon_unit_zero (S := S512x1024) hz _ _).trans ?_
  simp only [View.ld_unit_zero (S := S512x1024) hz, View.ld_unit_zero (S := S1024x1024) hz, View.ld_unit_zero (S := S1x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arguments at an index. -/
def argA (c : Dev nD) (R : Fin 16384) (k : Fin 1024) : EReal := m ((c : Thread nD τ).loc main_arg0) (ix2 R k)
def argB (c : Dev nD) (k : Fin 1024) (l : Fin 1024) : EReal := m ((c : Thread nD τ).loc main_arg1) (ix2 k l)
def argZ (c : Dev nD) (l : Fin 1024) : EReal := m ((c : Thread nD τ).loc main_arg2) (ix1 l)

/-- The bias as the row the host lays out before the call. -/
theorem V_row (c : Dev nD) (l : Fin 1024) : (V m c main_v0 (ix2 0 l) : EReal) = argZ m c l := by
  have e : V m c main_v0 = shapeCast S1x1024 (m ((c : Thread nD τ).loc main_arg2)) shapeCasts_S1024_S1x1024 := by
    show StableHlo.after hostOps0 (fun b => m (c, b)) (Proc.devRef .tc main_v0) = _
    after_results
    rfl
  rw [e]
  unfold argZ
  pointwise []

/-- The blocks at a grid point, at an index. -/
theorem bA (c : Dev nD) (t : Fin cfg0.N) (r : Fin 512) (k : Fin 1024) (R : Fin 16384) (hR : R.val = 512 * t.val + r.val) :
    (iblk m c 0 t (ix2 r k) : EReal) = argA m c R k := by
  obtain ⟨eA0, eA1, eB0, eB1, eZ0, eZ1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 1024 + 1 * k.val = k.val; rw [eA1]; omega

theorem bB (c : Dev nD) (t : Fin cfg0.N) (k : Fin 1024) (l : Fin 1024) :
    (iblk m c 1 t (ix2 k l) : EReal) = argB m c k l := by
  obtain ⟨eA0, eA1, eB0, eB1, eZ0, eZ1, eO0, eO1⟩ := idx_facts t
  unfold iblk argB
  refine congrArg (m (c.tc.loc main_arg1)) (funext fun a => Fin.ext ?_)
  match a with
  | ⟨0, _⟩ => show win0_1.index t 0 * 1024 + 1 * k.val = k.val; rw [eB0]; omega
  | ⟨1, _⟩ => show win0_1.index t 1 * 1024 + 1 * l.val = l.val; rw [eB1]; omega

theorem bZ (c : Dev nD) (t : Fin cfg0.N) (l : Fin 1024) :
    (iblk m c 2 t (ix2 (0 : Fin 1) l) : EReal) = argZ m c l := by
  obtain ⟨eA0, eA1, eB0, eB1, eZ0, eZ1, eO0, eO1⟩ := idx_facts t
  rw [← V_row]
  unfold iblk
  refine congrArg (V m c main_v0) (funext fun a => Fin.ext ?_)
  match a with
  | ⟨0, _⟩ => show win0_2.index t 0 * 1 + 1 * 0 = 0; rw [eZ0]
  | ⟨1, _⟩ => show win0_2.index t 1 * 1024 + 1 * l.val = l.val; rw [eZ1]; omega

/-- The result array: row `R`, column `l`. -/
def valOf (c : Dev nD) (R : Fin 16384) (l : Fin 1024) : EReal :=
  (∑ k : Fin 1024, argA m c R k * argB m c k l) + argZ m c l

def G (c : Dev nD) : Buf (Elt Ideal) ((c : Thread nD τ).loc main_v1) := fun i => valOf m c (i 0) (i 1)

theorem block_eq (c : Dev nD) (t : Fin cfg0.N) (r : Fin 512) (l : Fin 1024) (R : Fin 16384) (hR : R.val = 512 * t.val + r.val) :
    (out0_3 (iblk m c 0 t) (iblk m c 1 t) (iblk m c 2 t) (ix2 r l) : EReal) = valOf m c R l := by
  rw [out_eq]
  refine (pay_apply (iblk m c 0 t) (iblk m c 1 t) (iblk m c 2 t) r l).trans ?_
  unfold valOf
  exact (congr (congrArg HAdd.hAdd (Finset.sum_congr rfl fun k _ => congr (congrArg HMul.hMul (bA m c t r k R hR)) (bB m c t k l))) (bZ m c t l))

/-- The result array after the run. -/
theorem final (c : Dev nD) : (dats m 0 c).arrAt 3 cfg0.N = G m c := by
  refine (dats m 0 c).arrAt_eq_of_covers 3 _ (by decide +kernel) fun t _ y => ?_
  obtain ⟨eA0, eA1, eB0, eB1, eZ0, eZ1, eO0, eO1⟩ := idx_facts t
  have ht : t.val < 32 := lt_of_lt_of_eq t.isLt N_0
  have hy0 : (y 0).val < 512 := (y 0).isLt
  blk_simp
  rw [after0_3]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_3.index t 0 * 512 + 1 * (y 0).val; rw [eO0]; omega
  · show (y 1).val = win0_3.index t 1 * 1024 + 1 * (y 1).val; rw [eO1]; omega

end Cert.Kernel14Ideal.MMul
-- ==== Proof.MEq14.lean ====
/-
  Half of the convolution input projection with its bias: the kernel's result is the reference's.
-/
module

public import proofs.«01_k».proof.Proof.MMul14
public import proofs.«01_k».proof.Proof.Gen.Reference14Ideal.Run
public import proofs.«01_k».proof.Proof.Gen.Reference14Ideal.Read
public import proofs.«01_k».proof.Defs

@[expose] public section

set_option maxRecDepth 16384

noncomputable section

namespace Cert.Kernel14Ideal.MMul

open Cert.Kernel14Ideal Cert.Kernel14Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1024) :
    (Cert.Reference14Ideal.Read.val_main_v2 (F := Ideal) (m ((c : Thread nD τ).loc main_arg0)) (m ((c : Thread nD τ).loc main_arg1)) (ix2 R l) : EReal)
      = ∑ k : Fin 1024, argA m c R k * argB m c k l := by
  rw [Cert.Reference14Ideal.Read.val_main_v2_apply]
  refine Finset.sum_congr rfl fun k _ => ?_
  rw [Cert.Reference14Ideal.Read.val_main_v0_apply, Cert.Reference14Ideal.Read.val_main_v1_apply, Ideal.extf_def, Ideal.extf_def]
  unfold argA argB
  congr 2
  · funext a; match a with | ⟨0, _⟩ => rfl | ⟨1, _⟩ => rfl
  · funext a; match a with | ⟨0, _⟩ => rfl | ⟨1, _⟩ => rfl

/-- The bias, spread over the rows. -/
theorem ref_bias (c : Dev nD) (R : Fin 16384) (l : Fin 1024) :
    (Cert.Reference14Ideal.Read.val_main_v4 (F := Ideal) (m ((c : Thread nD τ).loc main_arg2)) (ix2 R l) : EReal) = argZ m c l := by
  rw [Cert.Reference14Ideal.Read.val_main_v4_apply, Cert.Reference14Ideal.Read.val_main_v3_apply]
  unfold argZ
  congr 1
  funext a; match a with | ⟨0, _⟩ => rfl

/-- The reference's array at an index. -/
theorem ref_apply (c : Dev nD) (R : Fin 16384) (l : Fin 1024) :
    (Cert.Reference14Ideal.Read.val_main_v5 (F := Ideal) (m ((c : Thread nD τ).loc main_arg0)) (m ((c : Thread nD τ).loc main_arg1)) (m ((c : Thread nD τ).loc main_arg2)) (ix2 R l) : EReal) = valOf m c R l := by
  unfold valOf
  rw [Cert.Reference14Ideal.Read.val_main_v5_apply, Ideal.addf_def]
  exact congr (congrArg HAdd.hAdd (ref_dot m c R l)) (ref_bias m c R l)

theorem eq (c : Dev nD) :
    Cert.Reference14Ideal.Read.val_main_v5 (F := Ideal) (m ((c : Thread nD τ).loc main_arg0)) (m ((c : Thread nD τ).loc main_arg1)) (m ((c : Thread nD τ).loc main_arg2)) = G m c := by
  funext i
  have hi : i = ix2 (i 0) (i 1) := eq_ix2 i
  rw [hi]
  exact ref_apply m c (i 0) (i 1)

/-- Both programs' results are the kernel's own array. -/
theorem algebraic : Cert.algebraic_Kernel14Ideal_Reference14Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2.1, (hag c).2.2]
        exact (Cert.Reference14Ideal.Read.val_main_v5_eq _ _ _).trans (eq m c)), (h c).2⟩)
      (Cert.Reference14Ideal.Value.run m' ρ')⟩

end Cert.Kernel14Ideal.MMul
-- ==== Proof.MMul15.lean ====
/-
  The convolution output projection with its bias and the residual added: what the kernel's result array holds after the run, at an index.
-/
module

public import proofs.«01_k».proof.Proof.Gen.Kernel15Ideal.Value
public import Idealize.ShloMosaic.Lib.Pointwise
public import Idealize.ShloMosaic.Lib.Pipeline.ValueKit

@[expose] public section

set_option maxRecDepth 16384

noncomputable section

namespace Cert.Kernel15Ideal.MMul

open Cert.Kernel15Ideal Cert.Kernel15Ideal.Gen Cert.Kernel15Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x1024 .bf16) (B : Vec Ideal S1024x1024 .bf16) (Z : Vec Ideal S1x1024 .f32) (R : Vec Ideal S512x1024 .f32) (r : Fin 512) (l : Fin 1024) :
    (k0_pay1 A B Z R (ix2 r l) : EReal) = (∑ k : Fin 1024, (A (ix2 r k) : EReal) * B (ix2 k l)) + Z (ix2 0 l) + R (ix2 r l) := by
  pointwise [k0_pay1]

/-- The one store covers the block, and the loads read whole blocks. -/
theorem out_eq (A : Vec Ideal S512x1024 .bf16) (B : Vec Ideal S1024x1024 .bf16) (Z : Vec Ideal S1x1024 .f32) (R : Vec Ideal S512x1024 .f32) :
    out0_4 A B Z R = k0_pay1 A B Z R := by
  have hz : (![0, 0] : Fin 2 → Nat) = fun _ => 0 := by funext a; match a with | ⟨0, _⟩ => rfl | ⟨1, _⟩ => rfl
  unfold out0_4
  refine (View.canon_unit_zero (S := S512x1024) hz _ _).trans ?_
  simp only [View.ld_unit_zero (S := S512x1024) hz, View.ld_unit_zero (S := S1024x1024) hz, View.ld_unit_zero (S := S1x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The arguments at an index. -/
def argA (c : Dev nD) (R : Fin 16384) (k : Fin 1024) : EReal := m ((c : Thread nD τ).loc main_arg0) (ix2 R k)
def argB (c : Dev nD) (k : Fin 1024) (l : Fin 1024) : EReal := m ((c : Thread nD τ).loc main_arg1) (ix2 k l)
def argZ (c : Dev nD) (l : Fin 1024) : EReal := m ((c : Thread nD τ).loc main_arg2) (ix1 l)
def argR (c : Dev nD) (R : Fin 16384) (l : Fin 1024) : EReal := m ((c : Thread nD τ).loc main_arg3) (ix2 R l)

/-- The bias as the row the host lays out before the call. -/
theorem V_row (c : Dev nD) (l : Fin 1024) : (V m c main_v0 (ix2 0 l) : EReal) = argZ m c l := by
  have e : V m c main_v0 = shapeCast S1x1024 (m ((c : Thread nD τ).loc main_arg2)) shapeCasts_S1024_S1x1024 := by
    show StableHlo.after hostOps0 (fun b => m (c, b)) (Proc.devRef .tc main_v0) = _
    after_results
    rfl
  rw [e]
  unfold argZ
  pointwise []

/-- The blocks at a grid point, at an index. -/
theorem bA (c : Dev nD) (t : Fin cfg0.N) (r : Fin 512) (k : Fin 1024) (R : Fin 16384) (hR : R.val = 512 * t.val + r.val) :
    (iblk m c 0 t (ix2 r k) : EReal) = argA m c R k := by
  obtain ⟨eA0, eA1, eB0, eB1, eZ0, eZ1, eR0, eR1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 1024 + 1 * k.val = k.val; rw [eA1]; omega

theorem bB (c : Dev nD) (t : Fin cfg0.N) (k : Fin 1024) (l : Fin 1024) :
    (iblk m c 1 t (ix2 k l) : EReal) = argB m c k l := by
  obtain ⟨eA0, eA1, eB0, eB1, eZ0, eZ1, eR0, eR1, eO0, eO1⟩ := idx_facts t
  unfold iblk argB
  refine congrArg (m (c.tc.loc main_arg1)) (funext fun a => Fin.ext ?_)
  match a with
  | ⟨0, _⟩ => show win0_1.index t 0 * 1024 + 1 * k.val = k.val; rw [eB0]; omega
  | ⟨1, _⟩ => show win0_1.index t 1 * 1024 + 1 * l.val = l.val; rw [eB1]; omega

theorem bZ (c : Dev nD) (t : Fin cfg0.N) (l : Fin 1024) :
    (iblk m c 2 t (ix2 (0 : Fin 1) l) : EReal) = argZ m c l := by
  obtain ⟨eA0, eA1, eB0, eB1, eZ0, eZ1, eR0, eR1, eO0, eO1⟩ := idx_facts t
  rw [← V_row]
  unfold iblk
  refine congrArg (V m c main_v0) (funext fun a => Fin.ext ?_)
  match a with
  | ⟨0, _⟩ => show win0_2.index t 0 * 1 + 1 * 0 = 0; rw [eZ0]
  | ⟨1, _⟩ => show win0_2.index t 1 * 1024 + 1 * l.val = l.val; rw [eZ1]; omega

theorem bR (c : Dev nD) (t : Fin cfg0.N) (r : Fin 512) (l : Fin 1024) (R : Fin 16384) (hR : R.val = 512 * t.val + r.val) :
    (iblk m c 3 t (ix2 r l) : EReal) = argR m c R l := by
  obtain ⟨eA0, eA1, eB0, eB1, eZ0, eZ1, eR0, eR1, eO0, eO1⟩ := idx_facts t
  unfold iblk argR
  refine congrArg (m (c.tc.loc main_arg3)) (funext fun a => Fin.ext ?_)
  match a with
  | ⟨0, _⟩ => show win0_3.index t 0 * 512 + 1 * r.val = R.val; rw [eR0]; omega
  | ⟨1, _⟩ => show win0_3.index t 1 * 1024 + 1 * l.val = l.val; rw [eR1]; omega

/-- The result array: row `R`, column `l`. -/
def valOf (c : Dev nD) (R : Fin 16384) (l : Fin 1024) : EReal :=
  (∑ k : Fin 1024, argA m c R k * argB m c k l) + argZ m c l + argR m c R l

def G (c : Dev nD) : Buf (Elt Ideal) ((c : Thread nD τ).loc main_v1) := fun i => valOf m c (i 0) (i 1)

theorem block_eq (c : Dev nD) (t : Fin cfg0.N) (r : Fin 512) (l : Fin 1024) (R : Fin 16384) (hR : R.val = 512 * t.val + r.val) :
    (out0_4 (iblk m c 0 t) (iblk m c 1 t) (iblk m c 2 t) (iblk m c 3 t) (ix2 r l) : EReal) = valOf m c R l := by
  rw [out_eq]
  refine (pay_apply (iblk m c 0 t) (iblk m c 1 t) (iblk m c 2 t) (iblk m c 3 t) r l).trans ?_
  unfold valOf
  exact (congr (congrArg HAdd.hAdd (congr (congrArg HAdd.hAdd (Finset.sum_congr rfl fun k _ => congr (congrArg HMul.hMul (bA m c t r k R hR)) (bB m c t k l))) (bZ m c t l))) (bR m c t r l R hR))

/-- The result array after the run. -/
theorem final (c : Dev nD) : (dats m 0 c).arrAt 4 cfg0.N = G m c := by
  refine (dats m 0 c).arrAt_eq_of_covers 4 _ (by decide +kernel) fun t _ y => ?_
  obtain ⟨eA0, eA1, eB0, eB1, eZ0, eZ1, eR0, eR1, eO0, eO1⟩ := idx_facts t
  have ht : t.val < 32 := lt_of_lt_of_eq t.isLt N_0
  have hy0 : (y 0).val < 512 := (y 0).isLt
  blk_simp
  rw [after0_4]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_4.index t 0 * 512 + 1 * (y 0).val; rw [eO0]; omega
  · show (y 1).val = win0_4.index t 1 * 1024 + 1 * (y 1).val; rw [eO1]; omega

end Cert.Kernel15Ideal.MMul
-- ==== Proof.MEq15.lean ====
/-
  The convolution output projection with its bias and the residual added: the kernel's result is the reference's.
-/
module

public import proofs.«01_k».proof.Proof.MMul15
public import proofs.«01_k».proof.Proof.Gen.Reference15Ideal.Run
public import proofs.«01_k».proof.Proof.Gen.Reference15Ideal.Read
public import proofs.«01_k».proof.Defs

@[expose] public section

set_option maxRecDepth 16384

noncomputable section

namespace Cert.Kernel15Ideal.MMul

open Cert.Kernel15Ideal Cert.Kernel15Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1024) :
    (Cert.Reference15Ideal.Read.val_main_v2 (F := Ideal) (m ((c : Thread nD τ).loc main_arg0)) (m ((c : Thread nD τ).loc main_arg1)) (ix2 R l) : EReal)
      = ∑ k : Fin 1024, argA m c R k * argB m c k l := by
  rw [Cert.Reference15Ideal.Read.val_main_v2_apply]
  refine Finset.sum_congr rfl fun k _ => ?_
  rw [Cert.Reference15Ideal.Read.val_main_v0_apply, Cert.Reference15Ideal.Read.val_main_v1_apply, Ideal.extf_def, Ideal.extf_def]
  unfold argA argB
  congr 2
  · funext a; match a with | ⟨0, _⟩ => rfl | ⟨1, _⟩ => rfl
  · funext a; match a with | ⟨0, _⟩ => rfl | ⟨1, _⟩ => rfl

/-- The bias, spread over the rows. -/
theorem ref_bias (c : Dev nD) (R : Fin 16384) (l : Fin 1024) :
    (Cert.Reference15Ideal.Read.val_main_v4 (F := Ideal) (m ((c : Thread nD τ).loc main_arg2)) (ix2 R l) : EReal) = argZ m c l := by
  rw [Cert.Reference15Ideal.Read.val_main_v4_apply, Cert.Reference15Ideal.Read.val_main_v3_apply]
  unfold argZ
  congr 1
  funext a; match a with | ⟨0, _⟩ => rfl

/-- The reference's array at an index. -/
theorem ref_apply (c : Dev nD) (R : Fin 16384) (l : Fin 1024) :
    (Cert.Reference15Ideal.Read.val_main_v6 (F := Ideal) (m ((c : Thread nD τ).loc main_arg0)) (m ((c : Thread nD τ).loc main_arg1)) (m ((c : Thread nD τ).loc main_arg2)) (m ((c : Thread nD τ).loc main_arg3)) (ix2 R l) : EReal) = valOf m c R l := by
  unfold valOf
  rw [Cert.Reference15Ideal.Read.val_main_v6_apply, Ideal.addf_def, add_comm]
  rw [Cert.Reference15Ideal.Read.val_main_v5_apply, Ideal.addf_def]
  exact congr (congrArg HAdd.hAdd (congr (congrArg HAdd.hAdd (ref_dot m c R l)) (ref_bias m c R l))) rfl

theorem eq (c : Dev nD) :
    Cert.Reference15Ideal.Read.val_main_v6 (F := Ideal) (m ((c : Thread nD τ).loc main_arg0)) (m ((c : Thread nD τ).loc main_arg1)) (m ((c : Thread nD τ).loc main_arg2)) (m ((c : Thread nD τ).loc main_arg3)) = G m c := by
  funext i
  have hi : i = ix2 (i 0) (i 1) := eq_ix2 i
  rw [hi]
  exact ref_apply m c (i 0) (i 1)

/-- Both programs' results are the kernel's own array. -/
theorem algebraic : Cert.algebraic_Kernel15Ideal_Reference15Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2.1, (hag c).2.2.1, (hag c).2.2.2]
        exact (Cert.Reference15Ideal.Read.val_main_v6_eq _ _ _ _).trans (eq m c)), (h c).2⟩)
      (Cert.Reference15Ideal.Value.run m' ρ')⟩

end Cert.Kernel15Ideal.MMul
-- ==== Proof.MMul16.lean ====
/-
  The recurrence output projection with the residual added: what the kernel's result array holds after the run, at an index.
-/
module

public import proofs.«01_k».proof.Proof.Gen.Kernel16Ideal.Value
public import Idealize.ShloMosaic.Lib.Pointwise
public import Idealize.ShloMosaic.Lib.Pipeline.ValueKit

@[expose] public section

set_option maxRecDepth 16384

noncomputable section

namespace Cert.Kernel16Ideal.MMul

open Cert.Kernel16Ideal Cert.Kernel16Ideal.Gen Cert.Kernel16Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x1024 .bf16) (B : Vec Ideal S1024x1024 .bf16) (R : Vec Ideal S512x1024 .f32) (r : Fin 512) (l : Fin 1024) :
    (k0_pay1 A B R (ix2 r l) : EReal) = (∑ k : Fin 1024, (A (ix2 r k) : EReal) * B (ix2 k l)) + R (ix2 r l) := by
  pointwise [k0_pay1]

/-- The one store covers the block, and the loads read whole blocks. -/
theorem out_eq (A : Vec Ideal S512x1024 .bf16) (B : Vec Ideal S1024x1024 .bf16) (R : Vec Ideal S512x1024 .f32) :
    out0_3 A B R = k0_pay1 A B R := by
  have hz : (![0, 0] : Fin 2 → Nat) = fun _ => 0 := by funext a; match a with | ⟨0, _⟩ => rfl | ⟨1, _⟩ => rfl
  unfold out0_3
  refine (View.canon_unit_zero (S := S512x1024) hz _ _).trans ?_
  simp only [View.ld_unit_zero (S := S512x1024) hz, View.ld_unit_zero (S := S1024x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The arguments at an index. -/
def argA (c : Dev nD) (R : Fin 16384) (k : Fin 1024) : EReal := m ((c : Thread nD τ).loc main_arg0) (ix2 R k)
def argB (c : Dev nD) (k : Fin 1024) (l : Fin 1024) : EReal := m ((c : Thread nD τ).loc main_arg1) (ix2 k l)
def argR (c : Dev nD) (R : Fin 16384) (l : Fin 1024) : EReal := m ((c : Thread nD τ).loc main_arg2) (ix2 R l)

/-- The blocks at a grid point, at an index. -/
theorem bA (c : Dev nD) (t : Fin cfg0.N) (r : Fin 512) (k : Fin 1024) (R : Fin 16384) (hR : R.val = 512 * t.val + r.val) :
    (iblk m c 0 t (ix2 r k) : EReal) = argA m c R k := by
  obtain ⟨eA0, eA1, eB0, eB1, eR0, eR1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 1024 + 1 * k.val = k.val; rw [eA1]; omega

theorem bB (c : Dev nD) (t : Fin cfg0.N) (k : Fin 1024) (l : Fin 1024) :
    (iblk m c 1 t (ix2 k l) : EReal) = argB m c k l := by
  obtain ⟨eA0, eA1, eB0, eB1, eR0, eR1, eO0, eO1⟩ := idx_facts t
  unfold iblk argB
  refine congrArg (m (c.tc.loc main_arg1)) (funext fun a => Fin.ext ?_)
  match a with
  | ⟨0, _⟩ => show win0_1.index t 0 * 1024 + 1 * k.val = k.val; rw [eB0]; omega
  | ⟨1, _⟩ => show win0_1.index t 1 * 1024 + 1 * l.val = l.val; rw [eB1]; omega

theorem bR (c : Dev nD) (t : Fin cfg0.N) (r : Fin 512) (l : Fin 1024) (R : Fin 16384) (hR : R.val = 512 * t.val + r.val) :
    (iblk m c 2 t (ix2 r l) : EReal) = argR m c R l := by
  obtain ⟨eA0, eA1, eB0, eB1, eR0, eR1, eO0, eO1⟩ := idx_facts t
  unfold iblk argR
  refine congrArg (m (c.tc.loc main_arg2)) (funext fun a => Fin.ext ?_)
  match a with
  | ⟨0, _⟩ => show win0_2.index t 0 * 512 + 1 * r.val = R.val; rw [eR0]; omega
  | ⟨1, _⟩ => show win0_2.index t 1 * 1024 + 1 * l.val = l.val; rw [eR1]; omega

/-- The result array: row `R`, column `l`. -/
def valOf (c : Dev nD) (R : Fin 16384) (l : Fin 1024) : EReal :=
  (∑ k : Fin 1024, argA m c R k * argB m c k l) + argR m c R l

def G (c : Dev nD) : Buf (Elt Ideal) ((c : Thread nD τ).loc main_v0) := fun i => valOf m c (i 0) (i 1)

theorem block_eq (c : Dev nD) (t : Fin cfg0.N) (r : Fin 512) (l : Fin 1024) (R : Fin 16384) (hR : R.val = 512 * t.val + r.val) :
    (out0_3 (iblk m c 0 t) (iblk m c 1 t) (iblk m c 2 t) (ix2 r l) : EReal) = valOf m c R l := by
  rw [out_eq]
  refine (pay_apply (iblk m c 0 t) (iblk m c 1 t) (iblk m c 2 t) r l).trans ?_
  unfold valOf
  exact (congr (congrArg HAdd.hAdd (Finset.sum_congr rfl fun k _ => congr (congrArg HMul.hMul (bA m c t r k R hR)) (bB m c t k l))) (bR m c t r l R hR))

/-- The result array after the run. -/
theorem final (c : Dev nD) : (dats m 0 c).arrAt 3 cfg0.N = G m c := by
  refine (dats m 0 c).arrAt_eq_of_covers 3 _ (by decide +kernel) fun t _ y => ?_
  obtain ⟨eA0, eA1, eB0, eB1, eR0, eR1, eO0, eO1⟩ := idx_facts t
  have ht : t.val < 32 := lt_of_lt_of_eq t.isLt N_0
  have hy0 : (y 0).val < 512 := (y 0).isLt
  blk_simp
  rw [after0_3]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_3.index t 0 * 512 + 1 * (y 0).val; rw [eO0]; omega
  · show (y 1).val = win0_3.index t 1 * 1024 + 1 * (y 1).val; rw [eO1]; omega

end Cert.Kernel16Ideal.MMul
-- ==== Proof.MEq16.lean ====
/-
  The recurrence output projection with the residual added: the kernel's result is the reference's.
-/
module

public import proofs.«01_k».proof.Proof.MMul16
public import proofs.«01_k».proof.Proof.Gen.Reference16Ideal.Run
public import proofs.«01_k».proof.Proof.Gen.Reference16Ideal.Read
public import proofs.«01_k».proof.Defs

@[expose] public section

set_option maxRecDepth 16384

noncomputable section

namespace Cert.Kernel16Ideal.MMul

open Cert.Kernel16Ideal Cert.Kernel16Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1024) :
    (Cert.Reference16Ideal.Read.val_main_v2 (F := Ideal) (m ((c : Thread nD τ).loc main_arg0)) (m ((c : Thread nD τ).loc main_arg1)) (ix2 R l) : EReal)
      = ∑ k : Fin 1024, argA m c R k * argB m c k l := by
  rw [Cert.Reference16Ideal.Read.val_main_v2_apply]
  refine Finset.sum_congr rfl fun k _ => ?_
  rw [Cert.Reference16Ideal.Read.val_main_v0_apply, Cert.Reference16Ideal.Read.val_main_v1_apply, Ideal.extf_def, Ideal.extf_def]
  unfold argA argB
  congr 2
  · funext a; match a with | ⟨0, _⟩ => rfl | ⟨1, _⟩ => rfl
  · funext a; match a with | ⟨0, _⟩ => rfl | ⟨1, _⟩ => rfl

/-- The reference's array at an index. -/
theorem ref_apply (c : Dev nD) (R : Fin 16384) (l : Fin 1024) :
    (Cert.Reference16Ideal.Read.val_main_v3 (F := Ideal) (m ((c : Thread nD τ).loc main_arg0)) (m ((c : Thread nD τ).loc main_arg1)) (m ((c : Thread nD τ).loc main_arg2)) (ix2 R l) : EReal) = valOf m c R l := by
  unfold valOf
  rw [Cert.Reference16Ideal.Read.val_main_v3_apply, Ideal.addf_def, add_comm]
  exact congr (congrArg HAdd.hAdd (ref_dot m c R l)) rfl

theorem eq (c : Dev nD) :
    Cert.Reference16Ideal.Read.val_main_v3 (F := Ideal) (m ((c : Thread nD τ).loc main_arg0)) (m ((c : Thread nD τ).loc main_arg1)) (m ((c : Thread nD τ).loc main_arg2)) = G m c := by
  funext i
  have hi : i = ix2 (i 0) (i 1) := eq_ix2 i
  rw [hi]
  exact ref_apply m c (i 0) (i 1)

/-- Both programs' results are the kernel's own array. -/
theorem algebraic : Cert.algebraic_Kernel16Ideal_Reference16Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2.1, (hag c).2.2]
        exact (Cert.Reference16Ideal.Read.val_main_v3_eq _ _ _).trans (eq m c)), (h c).2⟩)
      (Cert.Reference16Ideal.Value.run m' ρ')⟩

end Cert.Kernel16Ideal.MMul
-- ==== Proof.MMul17.lean ====
/-
  The attention output projection with the residual added: what the kernel's result array holds after the run, at an index.
-/
module

public import proofs.«01_k».proof.Proof.Gen.Kernel17Ideal.Value
public import Idealize.ShloMosaic.Lib.Pointwise
public import Idealize.ShloMosaic.Lib.Pipeline.ValueKit

@[expose] public section

set_option maxRecDepth 16384

noncomputable section

namespace Cert.Kernel17Ideal.MMul

open Cert.Kernel17Ideal Cert.Kernel17Ideal.Gen Cert.Kernel17Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's block, at an index. -/
theorem pay_apply (A : Vec Ideal S512x512 .f32) (B : Vec Ideal S512x1024 .bf16) (R : Vec Ideal S512x1024 .f32) (r : Fin 512) (l : Fin 1024) :
    (k0_pay1 A B R (ix2 r l) : EReal) = (∑ k : Fin 512, (A (ix2 r k) : EReal) * B (ix2 k l)) + R (ix2 r l) := by
  pointwise [k0_pay1]

/-- The one store covers the block, and the loads read whole blocks. -/
theorem out_eq (A : Vec Ideal S512x512 .f32) (B : Vec Ideal S512x1024 .bf16) (R : Vec Ideal S512x1024 .f32) :
    out0_3 A B R = k0_pay1 A B R := by
  have hz : (![0, 0] : Fin 2 → Nat) = fun _ => 0 := by funext a; match a with | ⟨0, _⟩ => rfl | ⟨1, _⟩ => rfl
  unfold out0_3
  refine (View.canon_unit_zero (S := S512x1024) hz _ _).trans ?_
  simp only [View.ld_unit_zero (S := S512x512) hz, View.ld_unit_zero (S := S512x1024) hz, View.ld_unit_zero (S := S512x1024) hz]

/-- The block indices, over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The arguments at an index. -/
def argA (c : Dev nD) (R : Fin 16384) (k : Fin 512) : EReal := m ((c : Thread nD τ).loc main_arg0) (ix2 R k)
def argB (c : Dev nD) (k : Fin 512) (l : Fin 1024) : EReal := m ((c : Thread nD τ).loc main_arg1) (ix2 k l)
def argR (c : Dev nD) (R : Fin 16384) (l : Fin 1024) : EReal := m ((c : Thread nD τ).loc main_arg2) (ix2 R l)

/-- The blocks at a grid point, at an index. -/
theorem bA (c : Dev nD) (t : Fin cfg0.N) (r : Fin 512) (k : Fin 512) (R : Fin 16384) (hR : R.val = 512 * t.val + r.val) :
    (iblk m c 0 t (ix2 r k) : EReal) = argA m c R k := by
  obtain ⟨eA0, eA1, eB0, eB1, eR0, eR1, eO0, eO1⟩ := idx_facts t
  unfold iblk argA
  refine congrArg (m (c.tc.loc main_arg0)) (funext fun a => Fin.ext ?_)
  match a with
  | ⟨0, _⟩ => show win0_0.index t 0 * 512 + 1 * r.val = R.val; rw [eA0]; omega
  | ⟨1, _⟩ => show win0_0.index t 1 * 512 + 1 * k.val = k.val; rw [eA1]; omega

theorem bB (c : Dev nD) (t : Fin cfg0.N) (k : Fin 512) (l : Fin 1024) :
    (iblk m c 1 t (ix2 k l) : EReal) = argB m c k l := by
  obtain ⟨eA0, eA1, eB0, eB1, eR0, eR1, eO0, eO1⟩ := idx_facts t
  unfold iblk argB
  refine congrArg (m (c.tc.loc main_arg1)) (funext fun a => Fin.ext ?_)
  match a with
  | ⟨0, _⟩ => show win0_1.index t 0 * 512 + 1 * k.val = k.val; rw [eB0]; omega
  | ⟨1, _⟩ => show win0_1.index t 1 * 1024 + 1 * l.val = l.val; rw [eB1]; omega

theorem bR (c : Dev nD) (t : Fin cfg0.N) (r : Fin 512) (l : Fin 1024) (R : Fin 16384) (hR : R.val = 512 * t.val + r.val) :
    (iblk m c 2 t (ix2 r l) : EReal) = argR m c R l := by
  obtain ⟨eA0, eA1, eB0, eB1, eR0, eR1, eO0, eO1⟩ := idx_facts t
  unfold iblk argR
  refine congrArg (m (c.tc.loc main_arg2)) (funext fun a => Fin.ext ?_)
  match a with
  | ⟨0, _⟩ => show win0_2.index t 0 * 512 + 1 * r.val = R.val; rw [eR0]; omega
  | ⟨1, _⟩ => show win0_2.index t 1 * 1024 + 1 * l.val = l.val; rw [eR1]; omega

/-- The result array: row `R`, column `l`. -/
def valOf (c : Dev nD) (R : Fin 16384) (l : Fin 1024) : EReal :=
  (∑ k : Fin 512, argA m c R k * argB m c k l) + argR m c R l

def G (c : Dev nD) : Buf (Elt Ideal) ((c : Thread nD τ).loc main_v0) := fun i => valOf m c (i 0) (i 1)

theorem block_eq (c : Dev nD) (t : Fin cfg0.N) (r : Fin 512) (l : Fin 1024) (R : Fin 16384) (hR : R.val = 512 * t.val + r.val) :
    (out0_3 (iblk m c 0 t) (iblk m c 1 t) (iblk m c 2 t) (ix2 r l) : EReal) = valOf m c R l := by
  rw [out_eq]
  refine (pay_apply (iblk m c 0 t) (iblk m c 1 t) (iblk m c 2 t) r l).trans ?_
  unfold valOf
  exact (congr (congrArg HAdd.hAdd (Finset.sum_congr rfl fun k _ => congr (congrArg HMul.hMul (bA m c t r k R hR)) (bB m c t k l))) (bR m c t r l R hR))

/-- The result array after the run. -/
theorem final (c : Dev nD) : (dats m 0 c).arrAt 3 cfg0.N = G m c := by
  refine (dats m 0 c).arrAt_eq_of_covers 3 _ (by decide +kernel) fun t _ y => ?_
  obtain ⟨eA0, eA1, eB0, eB1, eR0, eR1, eO0, eO1⟩ := idx_facts t
  have ht : t.val < 32 := lt_of_lt_of_eq t.isLt N_0
  have hy0 : (y 0).val < 512 := (y 0).isLt
  blk_simp
  rw [after0_3]
  refine (congrArg _ (eq_ix2 y)).trans ((block_eq m c t (y 0) (y 1) ⟨512 * t.val + (y 0).val, by omega⟩ rfl).trans
    (congr (congrArg (valOf m c) (Fin.ext ?_)) (Fin.ext ?_)))
  · show 512 * t.val + (y 0).val = win0_3.index t 0 * 512 + 1 * (y 0).val; rw [eO0]; omega
  · show (y 1).val = win0_3.index t 1 * 1024 + 1 * (y 1).val; rw [eO1]; omega

end Cert.Kernel17Ideal.MMul
-- ==== Proof.MEq17.lean ====
/-
  The attention output projection with the residual added: the kernel's result is the reference's.
-/
module

public import proofs.«01_k».proof.Proof.MMul17
public import proofs.«01_k».proof.Proof.Gen.Reference17Ideal.Run
public import proofs.«01_k».proof.Proof.Gen.Reference17Ideal.Read
public import proofs.«01_k».proof.Defs

@[expose] public section

set_option maxRecDepth 16384

noncomputable section

namespace Cert.Kernel17Ideal.MMul

open Cert.Kernel17Ideal Cert.Kernel17Ideal.Gen Idealize.ShloMosaic Idealize.ShloMosaic.TcCoe Idealize.SL.Sem

variable (m : (ℓ : Loc nD τ sig) → Buf (Elt Ideal) ℓ)

/-- The reference's product at an index. -/
theorem ref_dot (c : Dev nD) (R : Fin 16384) (l : Fin 1024) :
    (Cert.Reference17Ideal.Read.val_main_v1 (F := Ideal) (m ((c : Thread nD τ).loc main_arg0)) (m ((c : Thread nD τ).loc main_arg1)) (ix2 R l) : EReal)
      = ∑ k : Fin 512, argA m c R k * argB m c k l := by
  rw [Cert.Reference17Ideal.Read.val_main_v1_apply]
  refine Finset.sum_congr rfl fun k _ => ?_
  rw [Cert.Reference17Ideal.Read.val_main_v0_apply, Ideal.extf_def]
  unfold argA argB
  congr 2
  · funext a; match a with | ⟨0, _⟩ => rfl | ⟨1, _⟩ => rfl
  · funext a; match a with | ⟨0, _⟩ => rfl | ⟨1, _⟩ => rfl

/-- The reference's array at an index. -/
theorem ref_apply (c : Dev nD) (R : Fin 16384) (l : Fin 1024) :
    (Cert.Reference17Ideal.Read.val_main_v2 (F := Ideal) (m ((c : Thread nD τ).loc main_arg0)) (m ((c : Thread nD τ).loc main_arg1)) (m ((c : Thread nD τ).loc main_arg2)) (ix2 R l) : EReal) = valOf m c R l := by
  unfold valOf
  rw [Cert.Reference17Ideal.Read.val_main_v2_apply, Ideal.addf_def, add_comm]
  exact congr (congrArg HAdd.hAdd (ref_dot m c R l)) rfl

theorem eq (c : Dev nD) :
    Cert.Reference17Ideal.Read.val_main_v2 (F := Ideal) (m ((c : Thread nD τ).loc main_arg0)) (m ((c : Thread nD τ).loc main_arg1)) (m ((c : Thread nD τ).loc main_arg2)) = G m c := by
  funext i
  have hi : i = ix2 (i 0) (i 1) := eq_ix2 i
  rw [hi]
  exact ref_apply m c (i 0) (i 1)

/-- Both programs' results are the kernel's own array. -/
theorem algebraic : Cert.algebraic_Kernel17Ideal_Reference17Ideal :=
  fun m ρ m' ρ' _ hag => ⟨fun c => G m c, (θ_run _ _ _).mono (fun _ h c => ⟨(h c).1.trans (final m c), (h c).2⟩) (Value.run_blocks m ρ),
    (θ_run _ _ _).mono (fun _ h c => ⟨(h c).1.trans (by
        rw [(hag c).1, (hag c).2.1, (hag c).2.2]
        exact (Cert.Reference17Ideal.Read.val_main_v2_eq _ _ _).trans (eq m c)), (h c).2⟩)
      (Cert.Reference17Ideal.Value.run m' ρ')⟩

end Cert.Kernel17Ideal.MMul
-- ==== Proof.Norm18Loop.lean ====
/-
  The row loop of the norm's backward kernel of the attention layer: one trip's stores, and that none of them depends on what the array of
  `dx` held before (the trip loads it and drops the value).
-/
module

public import proofs.«01_k».proof.Proof.Gen.Kernel18Ideal.Frame.Runs

@[expose] public section

set_option maxRecDepth 16384

noncomputable section

namespace Cert.Kernel18Ideal.Norm

open Cert.Kernel18Ideal Cert.Kernel18Ideal.Gen Idealize.ShloMosaic Idealize.ShloMosaic.TcCoe Idealize.SL.Sem

variable {F : FTy → Type} [FloatOps F]

variable (𝒱 : Variants) (c : Dev nD) (bd : Option 𝒱.V) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole)
  (v15 : Vec F S1x1024 .f32) (X7 : BufTy.Contents (Elt F) a7.view.ty) (X9 : BufTy.Contents (Elt F) a9.view.ty)
  (X12 : BufTy.Contents (Elt F) a12.view.ty)

/-- The rows trip `k` works on. -/
abbrev rows (k : Fin k0_t1_loop.trips) : Rect S512x1024 :=
  Rect.unit (s := S512x1024) (k0_off1 k) S16x1024.size (k0_off1_inb k)

/-- The whole of the one-row array. -/
abbrev row : Rect S1x1024 := Rect.unit (s := S1x1024) ![0, 0] S1x1024.size inb_S1x1024_S1x1024_0_0

/-- What trip `k` stores: the rows of `dx`, and the running sum of `dgain`. -/
theorem trip_eq (k : Fin k0_t1_loop.trips) (f10 : BufTy.Contents (Elt F) a10.view.ty) (f11 : BufTy.Contents (Elt F) a11.view.ty) :
    tripL_k0_t1 (F := F) 𝒱 c bd i a1 w1 a2 w2 a3 w3 a4 w4 a5 w5 a6 w6 a7 w7 a8 w8 a9 w9 a10 w10 a11 w11 a12 w12 v15 X7 X9 X12 k f10 f11
      = ([⟨rows k, k0_pay5 v15 (View.readAt (Elt F) a7.view (rows k).toLoadRect X7)
            (View.readAt (Elt F) a12.view (rows k).toLoadRect X12) (View.readAt (Elt F) a9.view (rows k).toLoadRect X9)⟩],
         [⟨row, k0_pay6 (View.readAt (Elt F) a7.view (rows k).toLoadRect X7)
            (View.readAt (Elt F) a12.view (rows k).toLoadRect X12) (View.readAt (Elt F) a11.view row.toLoadRect f11)⟩]) := by
  unfold tripL_k0_t1 trip_k0_t1
  rfl

/-- The pieces before trip `k` do not depend on what `dx`'s array held at loop entry. -/
theorem pb_indep (G10 G10' : BufTy.Contents (Elt F) a10.view.ty) (G11 : BufTy.Contents (Elt F) a11.view.ty) (k : ℕ) :
    pb_k0_t1 (F := F) 𝒱 c bd i a1 w1 a2 w2 a3 w3 a4 w4 a5 w5 a6 w6 a7 w7 a8 w8 a9 w9 a10 w10 a11 w11 a12 w12 v15 X7 X9 X12 G10 G11 k
      = pb_k0_t1 (F := F) 𝒱 c bd i a1 w1 a2 w2 a3 w3 a4 w4 a5 w5 a6 w6 a7 w7 a8 w8 a9 w9 a10 w10 a11 w11 a12 w12 v15 X7 X9 X12 G10' G11 k := by
  induction k with
  | zero => rfl
  | succ k ih =>
    by_cases h : k < k0_t1_loop.trips
    · have e := pb_k0_t1_succ (F := F) 𝒱 c bd i a1 w1 a2 w2 a3 w3 a4 w4 a5 w5 a6 w6 a7 w7 a8 w8 a9 w9 a10 w10 a11 w11 a12 w12 v15 X7 X9 X12 G10 G11 ⟨k, h⟩
      have e' := pb_k0_t1_succ (F := F) 𝒱 c bd i a1 w1 a2 w2 a3 w3 a4 w4 a5 w5 a6 w6 a7 w7 a8 w8 a9 w9 a10 w10 a11 w11 a12 w12 v15 X7 X9 X12 G10' G11 ⟨k, h⟩
      rw [trip_eq] at e e'
      refine e.trans (Eq.trans ?_ e'.symm)
      dsimp only
      rw [ih]
    · rw [pb_k0_t1.eq_2, pb_k0_t1.eq_2]
      unfold pb_k0_t1Step
      rw [dif_neg h, dif_neg h, ih]

end Cert.Kernel18Ideal.Norm
-- ==== Proof.Norm18RunA.lean ====
/-
  The body of the norm's backward kernel of the attention layer, run once in case A: the pieces its stores leave in the two results' buffers.
-/
module

public import proofs.«01_k».proof.Proof.Norm18Loop

@[expose] public section

set_option maxRecDepth 16384

noncomputable section

namespace Cert.Kernel18Ideal.Norm

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at the first point. -/
noncomputable def kernelRun0_A (c : Dev nD) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole) (hc0 : cond0_0 i)
    (x0 : Vec F S512x1536 .bf16) (x1 : Vec F S1024x1536 .bf16) (x2 : Vec F S512x1536 .bf16) (x3 : Vec F S1024x1536 .bf16) (x4 : Vec F S512x1536 .bf16) (x5 : Vec F S1024x1536 .bf16) (x6 : Vec F S512x1024 .f32) (x7 : Vec F S1x1024 .f32) (x8 : Vec F S512x1024 .f32) :
    Σ' (L9 : List (View.Piece (Elt F) S512x1024 .f32)), { L10 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ (∃ d, owns (c : Thread nD τ) a11 fullShare d) ∗ (∃ d, owns (c : Thread nD τ) a12 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ d, owns (c : Thread nD τ) a12 fullShare d)) -∗ K ⟨⟩))
          ⊢ wp frame (wpE (defs₀ (F := F)) Variants.none c none) E (cc0_attn_dh i a1 w1 a2 w2 a3 w3 a4 w4 a5 w5 a6 w6 a7 w7 a8 w8 a9 w9 a10 w10 a11 w11 a12 w12) K } := by
  refine ⟨?_, ?_, fun E K => ?run⟩
  case run =>
    simp only [cc0_attn_dh_eq_skeleton]; unfold cc0_attn_dh_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    rw [pb_indep (G10 := f9) (G10' := a10.view.junk)]
    isplitl [H9]; · iexists _; iexact H9
    isplitl [H10]; · iexists _; iexact H10
    iexists _, _; isplitr; swap; · iexact HS0
    ipureintro; rfl

end Cert.Kernel18Ideal.Norm
-- ==== Proof.Norm18RunB.lean ====
/-
  The body of the norm's backward kernel of the attention layer, run once in case B: the pieces its stores leave in the two results' buffers.
-/
module

public import proofs.«01_k».proof.Proof.Norm18RunA

@[expose] public section

set_option maxRecDepth 16384

noncomputable section

namespace Cert.Kernel18Ideal.Norm

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at a point after the first, where the row of the gain is read before it is stored. -/
noncomputable def kernelRun0_B (c : Dev nD) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole) (hc0 : ¬cond0_0 i)
    (x0 : Vec F S512x1536 .bf16) (x1 : Vec F S1024x1536 .bf16) (x2 : Vec F S512x1536 .bf16) (x3 : Vec F S1024x1536 .bf16) (x4 : Vec F S512x1536 .bf16) (x5 : Vec F S1024x1536 .bf16) (x6 : Vec F S512x1024 .f32) (x7 : Vec F S1x1024 .f32) (x8 : Vec F S512x1024 .f32) (xo10 : Vec F S1x1024 .f32) :
    Σ' (L9 : List (View.Piece (Elt F) S512x1024 .f32)), { L10 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ owns (c : Thread nD τ) a11 fullShare xo10 ∗ (∃ d, owns (c : Thread nD τ) a12 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ d, owns (c : Thread nD τ) a12 fullShare d)) -∗ K ⟨⟩))
          ⊢ wp frame (wpE (defs₀ (F := F)) Variants.none c none) E (cc0_attn_dh i a1 w1 a2 w2 a3 w3 a4 w4 a5 w5 a6 w6 a7 w7 a8 w8 a9 w9 a10 w10 a11 w11 a12 w12) K } := by
  refine ⟨?_, ?_, fun E K => ?run⟩
  case run =>
    simp only [cc0_attn_dh_eq_skeleton]; unfold cc0_attn_dh_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w11.eq_unread hf10
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    rw [pb_indep (G10 := f9) (G10' := a10.view.junk)]
    isplitl [H9]; · iexists _; iexact H9
    isplitl [H10]; · iexists _; iexact H10
    iexists _, _; isplitr; swap; · iexact HS0
    ipureintro; rfl

end Cert.Kernel18Ideal.Norm
-- ==== Proof.Norm18Frame.lean ====
/-
  The run of the norm's backward kernel of the attention layer over its grid: what each point leaves in the two results' buffers, by recursion
  on the point, and the run of @main that ends with them written back.
-/
module

public import proofs.«01_k».proof.Proof.Norm18RunB
public import Idealize.ShloMosaic.Lib.Claim

@[expose] public section

-- membership in a rectangle of production extents (`View.cover_of_tiled`): the elaborator's structural look
-- recurses once per coordinate of the long axes
set_option maxRecDepth 16384

noncomputable section

namespace Cert.Kernel18Ideal.Norm

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole) (hc0 : cond0_0 i)
  (x0 : Vec F S512x1536 .bf16) (x1 : Vec F S1024x1536 .bf16) (x2 : Vec F S512x1536 .bf16) (x3 : Vec F S1024x1536 .bf16) (x4 : Vec F S512x1536 .bf16) (x5 : Vec F S1024x1536 .bf16) (x6 : Vec F S512x1024 .f32) (x7 : Vec F S1x1024 .f32) (x8 : Vec F S512x1024 .f32)

/-- Case A: the stores into either result cover it, and what they leave there. -/
theorem cover0_A_9 (y : S512x1024.Idx) : ∃ pc ∈ (kernelRun0_A c i a1 w1 a2 w2 a3 w3 a4 w4 a5 w5 a6 w6 a7 w7 a8 w8 a9 w9 a10 w10 a11 w11 a12 w12 hc0 x0 x1 x2 x3 x4 x5 x6 x7 x8).1, y ∈ pc.1.set :=
  View.cover_of_tiledL (kernelRun0_A c i a1 w1 a2 w2 a3 w3 a4 w4 a5 w5 a6 w6 a7 w7 a8 w8 a9 w9 a10 w10 a11 w11 a12 w12 hc0 x0 x1 x2 x3 x4 x5 x6 x7 x8).1 S16x1024.size (by sl_kernel_rfl) y

def out0_A_9 : Vec F S512x1024 .f32 :=
  VO0_9.read (Elt F) (VO0_9.writes (Elt F) VO0_9.junk (kernelRun0_A c i a1 w1 a2 w2 a3 w3 a4 w4 a5 w5 a6 w6 a7 w7 a8 w8 a9 w9 a10 w10 a11 w11 a12 w12 hc0 x0 x1 x2 x3 x4 x5 x6 x7 x8).1)

theorem cover0_A_10 (y : S1x1024.Idx) : ∃ pc ∈ (kernelRun0_A c i a1 w1 a2 w2 a3 w3 a4 w4 a5 w5 a6 w6 a7 w7 a8 w8 a9 w9 a10 w10 a11 w11 a12 w12 hc0 x0 x1 x2 x3 x4 x5 x6 x7 x8).2.1, y ∈ pc.1.set :=
  View.cover_of_tiledL (kernelRun0_A c i a1 w1 a2 w2 a3 w3 a4 w4 a5 w5 a6 w6 a7 w7 a8 w8 a9 w9 a10 w10 a11 w11 a12 w12 hc0 x0 x1 x2 x3 x4 x5 x6 x7 x8).2.1 S1x1024.size (by sl_kernel_rfl) y

def out0_A_10 : Vec F S1x1024 .f32 :=
  VO0_10.read (Elt F) (VO0_10.writes (Elt F) VO0_10.junk (kernelRun0_A c i a1 w1 a2 w2 a3 w3 a4 w4 a5 w5 a6 w6 a7 w7 a8 w8 a9 w9 a10 w10 a11 w11 a12 w12 hc0 x0 x1 x2 x3 x4 x5 x6 x7 x8).2.1)

end

section
variable (c : Dev nD) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole) (hc0 : ¬cond0_0 i)
  (x0 : Vec F S512x1536 .bf16) (x1 : Vec F S1024x1536 .bf16) (x2 : Vec F S512x1536 .bf16) (x3 : Vec F S1024x1536 .bf16) (x4 : Vec F S512x1536 .bf16) (x5 : Vec F S1024x1536 .bf16) (x6 : Vec F S512x1024 .f32) (x7 : Vec F S1x1024 .f32) (x8 : Vec F S512x1024 .f32) (xo10 : Vec F S1x1024 .f32)

/-- Case B: the stores into either result cover it, and what they leave there. -/
theorem cover0_B_9 (y : S512x1024.Idx) : ∃ pc ∈ (kernelRun0_B c i a1 w1 a2 w2 a3 w3 a4 w4 a5 w5 a6 w6 a7 w7 a8 w8 a9 w9 a10 w10 a11 w11 a12 w12 hc0 x0 x1 x2 x3 x4 x5 x6 x7 x8 xo10).1, y ∈ pc.1.set :=
  View.cover_of_tiledL (kernelRun0_B c i a1 w1 a2 w2 a3 w3 a4 w4 a5 w5 a6 w6 a7 w7 a8 w8 a9 w9 a10 w10 a11 w11 a12 w12 hc0 x0 x1 x2 x3 x4 x5 x6 x7 x8 xo10).1 S16x1024.size (by sl_kernel_rfl) y

def out0_B_9 : Vec F S512x1024 .f32 :=
  VO0_9.read (Elt F) (VO0_9.writes (Elt F) VO0_9.junk (kernelRun0_B c i a1 w1 a2 w2 a3 w3 a4 w4 a5 w5 a6 w6 a7 w7 a8 w8 a9 w9 a10 w10 a11 w11 a12 w12 hc0 x0 x1 x2 x3 x4 x5 x6 x7 x8 xo10).1)

theorem cover0_B_10 (y : S1x1024.Idx) : ∃ pc ∈ (kernelRun0_B c i a1 w1 a2 w2 a3 w3 a4 w4 a5 w5 a6 w6 a7 w7 a8 w8 a9 w9 a10 w10 a11 w11 a12 w12 hc0 x0 x1 x2 x3 x4 x5 x6 x7 x8 xo10).2.1, y ∈ pc.1.set :=
  View.cover_of_tiledL (kernelRun0_B c i a1 w1 a2 w2 a3 w3 a4 w4 a5 w5 a6 w6 a7 w7 a8 w8 a9 w9 a10 w10 a11 w11 a12 w12 hc0 x0 x1 x2 x3 x4 x5 x6 x7 x8 xo10).2.1 S1x1024.size (by sl_kernel_rfl) y

def out0_B_10 : Vec F S1x1024 .f32 :=
  VO0_10.read (Elt F) (VO0_10.writes (Elt F) VO0_10.junk (kernelRun0_B c i a1 w1 a2 w2 a3 w3 a4 w4 a5 w5 a6 w6 a7 w7 a8 w8 a9 w9 a10 w10 a11 w11 a12 w12 hc0 x0 x1 x2 x3 x4 x5 x6 x7 x8 xo10).2.1)

end

/-! ## What the outputs hold after each point -/

/-- What a point leaves in the two results' buffers: the first point, and a later point over what the one before left. -/
abbrev atA (c : Dev nD) (t : Fin cfg0.N) (h0 : t.val % 32 = 0) : Vec F S512x1024 .f32 × Vec F S1x1024 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t))

abbrev atB (c : Dev nD) (t : Fin cfg0.N) (h0 : ¬t.val % 32 = 0) (p : Vec F S1x1024 .f32) : Vec F S512x1024 .f32 × Vec F S1x1024 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) p,
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) p)

/-- What the two buffers hold after point `n`, by recursion on the point. -/
def outsAt0 (c : Dev nD) : (n : ℕ) → n < cfg0.N → Vec F S512x1024 .f32 × Vec F S1x1024 .f32
  | 0, hn => atA m c ⟨0, hn⟩ (Nat.zero_mod _)
  | n + 1, hn =>
    if h0 : (n + 1) % 32 = 0 then atA m c ⟨n + 1, hn⟩ h0
    else atB m c ⟨n + 1, hn⟩ h0 (outsAt0 c n (Nat.lt_of_succ_lt hn)).2

theorem outsAt0_A (c : Dev nD) (t : Fin cfg0.N) (h0 : t.val % 32 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point of case B output 8's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 32 = 0) (d) :
    (dats m 0 c).before 10 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · rw [outsAt0_A m c t h0]
    dsimp only [atA, out0_A_9, out0_A_10]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    iintro ⟨H0, H1, H2, H3, H4, H5, H6, H7, H8, ⟨%e9, H9⟩, ⟨%e10, H10⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _)
  · rw [outsAt0_B m c t h0]
    simp only [before0_10_B m c t h0]
    dsimp only [atB, out0_B_9, out0_B_10]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS0]; · iexact HS0
    iintro ⟨H0, H1, H2, H3, H4, H5, H6, H7, H8, ⟨%e9, H9⟩, ⟨%e10, H10⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged, and every counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel18Ideal.Norm
-- ==== Proof.Norm18Val.lean ====
/-
  One block of the norm's backward kernel of the attention layer: what its body computes at an index, and what the row loop leaves in the two
  results' buffers.
-/
module

public import proofs.«01_k».proof.Proof.Norm18Loop
public import proofs.«01_k».proof.Proof.NormMath
public import proofs.«01_k».proof.Proof.Sums
public import Idealize.ShloMosaic.Lib.Pointwise
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.Kernel18Ideal.Norm

open Cert.Kernel18Ideal Cert.Kernel18Ideal.Gen Idealize.ShloMosaic Idealize.ShloMosaic.TcCoe Idealize.SL.Sem

theorem pay2_apply (A0 : Vec Ideal S512x1536 .bf16) (B0 : Vec Ideal S1024x1536 .bf16) (A1 : Vec Ideal S512x1536 .bf16) (B1 : Vec Ideal S1024x1536 .bf16) (A2 : Vec Ideal S512x1536 .bf16) (B2 : Vec Ideal S1024x1536 .bf16) (r : Fin 512) (l : Fin 1024) :
    k0_pay2 A0 B0 A1 B1 A2 B2 (ix2 r l) = (∑ k : Fin 1536, (A0 (ix2 r k) : EReal) * B0 (ix2 l k)) + (∑ k : Fin 1536, (A1 (ix2 r k) : EReal) * B1 (ix2 l k)) + (∑ k : Fin 1536, (A2 (ix2 r k) : EReal) * B2 (ix2 l k)) := by
  pointwise [k0_pay2]

theorem pay1_apply (l : Fin 1024) : (k0_pay1 (F := Ideal) (ix2 0 l) : EReal) = 0 := by
  pointwise [k0_pay1]

/-- The row's factor. -/
theorem pay3_apply (x : Vec Ideal S16x1024 .f32) (r : Fin 16) :
    k0_pay3 x (ix2 r 0) = NormMath.rr (fun k : Fin 1024 => (x (ix2 r k) : EReal)) := by
  pointwise [k0_pay3]
  rfl

theorem pay4_apply (x : Vec Ideal S16x1024 .f32) (r : Fin 16) (l : Fin 1024) :
    k0_pay4 x (ix2 r l) = (x (ix2 r l) : EReal) * NormMath.rr (fun k : Fin 1024 => (x (ix2 r k) : EReal)) := by
  refine (show k0_pay4 x (ix2 r l) = (x (ix2 r l) : EReal) * k0_pay3 x (ix2 r 0) by pointwise [k0_pay4]).trans ?_
  rw [pay3_apply]

theorem pay6_apply (x d : Vec Ideal S16x1024 .f32) (a : Vec Ideal S1x1024 .f32) (l : Fin 1024) :
    k0_pay6 x d a (ix2 0 l) = (a (ix2 0 l) : EReal) + ∑ r : Fin 16, (d (ix2 r l) : EReal) * k0_pay4 x (ix2 r l) := by
  pointwise [k0_pay6]

theorem pay5_pre (g : Vec Ideal S1x1024 .f32) (x d s : Vec Ideal S16x1024 .f32) (r : Fin 16) (l : Fin 1024) :
    k0_pay5 g x d s (ix2 r l) = (s (ix2 r l) : EReal) + k0_pay3 x (ix2 r 0) * ((d (ix2 r l) : EReal) * g (ix2 0 l)
      - k0_pay4 x (ix2 r l) * Ideal.div (∑ k : Fin 1024, (d (ix2 r k) : EReal) * g (ix2 0 k) * k0_pay4 x (ix2 r k)) (Ideal.ofBits FTy.f32 1149239296#32)) := by
  pointwise [k0_pay5]

theorem pay5_apply (g : Vec Ideal S1x1024 .f32) (x d s : Vec Ideal S16x1024 .f32) (r : Fin 16) (l : Fin 1024) :
    k0_pay5 g x d s (ix2 r l) = NormMath.kdx (fun k : Fin 1024 => (x (ix2 r k) : EReal))
      (fun k : Fin 1024 => (d (ix2 r k) : EReal) * g (ix2 0 k)) (s (ix2 r l) : EReal) l := by
  refine (pay5_pre g x d s r l).trans ?_
  simp only [pay3_apply, pay4_apply]
  rfl

variable (𝒱 : Variants) (c : Dev nD) (bd : Option 𝒱.V) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole)
  (v15 : Vec Ideal S1x1024 .f32) (X7 : BufTy.Contents (Elt Ideal) a7.view.ty) (X9 : BufTy.Contents (Elt Ideal) a9.view.ty)
  (X12 : BufTy.Contents (Elt Ideal) a12.view.ty)

/-- Three blocks of 512 rows, read at an index: the rows `x`, the residual's gradient `s`, the product `d`; and the gain. -/
abbrev bx : Vec Ideal S512x1024 .f32 := a7.view.read (Elt Ideal) X7
abbrev bs : Vec Ideal S512x1024 .f32 := a9.view.read (Elt Ideal) X9
abbrev bd' : Vec Ideal S512x1024 .f32 := a12.view.read (Elt Ideal) X12

/-- Rows of a block read by trip `k`. -/
theorem ld_rows (X : Vec Ideal S512x1024 .f32) (k : Fin k0_t1_loop.trips) (r : Fin 16) (l : Fin 1024) (R : Fin 512)
    (hR : R.val = 16 * k.val + r.val) : View.ld X (rows k) (ix2 r l) = X (ix2 R l) :=
  View.ld_unit_apply_of X _ _ _ _ (ix2 R l) fun a => by
    have e := k0_off1_eq k
    match a with
    | ⟨0, _⟩ => show R.val = k0_off1 k 0 + r.val; rw [e]; exact hR
    | ⟨1, _⟩ => show l.val = k0_off1 k 1 + l.val; rw [e]; show l.val = 0 + l.val; omega

/-- What the block of `dx` holds at an index. -/
def dxAt (g : Vec Ideal S1x1024 .f32) (x d s : Vec Ideal S512x1024 .f32) (y : S512x1024.Idx) : EReal :=
  NormMath.kdx (fun k : Fin 1024 => (x (ix2 (y 0) k) : EReal))
      (fun k : Fin 1024 => (d (ix2 (y 0) k) : EReal) * g (ix2 0 k)) (s (ix2 (y 0) (y 1)) : EReal) (y 1)

theorem rows_emb (k : Fin k0_t1_loop.trips) (r : Fin 16) (l : Fin 1024) (R : Fin 512) (hR : R.val = 16 * k.val + r.val) :
    (rows k).emb (ix2 r l) = ix2 R l := by
  funext a
  apply Fin.ext
  match a with
  | ⟨0, _⟩ => show (k0_off1 k) 0 + 1 * r.val = R.val; rw [k0_off1_eq]; show 16 * k.val + 1 * r.val = _; omega
  | ⟨1, _⟩ => show (k0_off1 k) 1 + 1 * l.val = l.val; rw [k0_off1_eq]; show 0 + 1 * l.val = _; omega

theorem pay5_row (g : Vec Ideal S1x1024 .f32) (x d s : Vec Ideal S512x1024 .f32) (k : Fin k0_t1_loop.trips) (r : Fin 16) (l : Fin 1024) :
    (k0_pay5 g (View.ld x (rows k)) (View.ld d (rows k)) (View.ld s (rows k)) (ix2 r l) : EReal) = dxAt g x d s ((rows k).emb (ix2 r l)) := by
  have hk : k.val < 32 := k.isLt
  have hr := r.isLt
  have hl : ∀ (X : Vec Ideal S512x1024 .f32) (l : Fin 1024), View.ld X (rows k) (ix2 r l) = X (ix2 (⟨16 * k.val + r.val, by omega⟩ : Fin 512) l) :=
    fun X l => ld_rows X k r l _ rfl
  refine (pay5_apply g _ _ _ r l).trans ?_
  rw [rows_emb k r l ⟨16 * k.val + r.val, by omega⟩ rfl]
  unfold dxAt
  rw [hl s l, funext (hl x)]
  refine congrArg (fun e => NormMath.kdx _ e _ l) (funext fun q => ?_)
  rw [hl d q]
  rfl

theorem pay5_rows (g : Vec Ideal S1x1024 .f32) (x d s : Vec Ideal S512x1024 .f32) (k : Fin k0_t1_loop.trips) (y : S16x1024.Idx) :
    (k0_pay5 g (View.ld x (rows k)) (View.ld d (rows k)) (View.ld s (rows k)) y : EReal) = dxAt g x d s ((rows k).emb y) := by
  rw [eq_ix2 y]
  exact pay5_row g x d s k (y 0) (y 1)

/-- Each piece the loop stores into `dx`'s block agrees with `dxAt`. -/
theorem pb10_agree (G10 : BufTy.Contents (Elt Ideal) a10.view.ty) (G11 : BufTy.Contents (Elt Ideal) a11.view.ty) (k : ℕ) :
    ∀ p ∈ (pb_k0_t1 (F := Ideal) 𝒱 c bd i a1 w1 a2 w2 a3 w3 a4 w4 a5 w5 a6 w6 a7 w7 a8 w8 a9 w9 a10 w10 a11 w11 a12 w12 v15 X7 X9 X12 G10 G11 k).1, ∀ x : p.1.shape.Idx,
      p.2 x = dxAt v15 (a7.view.read (Elt Ideal) X7) (a12.view.read (Elt Ideal) X12) (a9.view.read (Elt Ideal) X9) (p.1.emb x) := by
  induction k with
  | zero => intro p hp; exact absurd hp List.not_mem_nil
  | succ k ih =>
    by_cases h : k < k0_t1_loop.trips
    · have e := (pb_k0_t1_succ (F := Ideal) 𝒱 c bd i a1 w1 a2 w2 a3 w3 a4 w4 a5 w5 a6 w6 a7 w7 a8 w8 a9 w9 a10 w10 a11 w11 a12 w12 v15 X7 X9 X12 G10 G11 ⟨k, h⟩)
      rw [trip_eq] at e
      intro p hp
      have hp' : p ∈ (pb_k0_t1 (F := Ideal) 𝒱 c bd i a1 w1 a2 w2 a3 w3 a4 w4 a5 w5 a6 w6 a7 w7 a8 w8 a9 w9 a10 w10 a11 w11 a12 w12 v15 X7 X9 X12 G10 G11 ((⟨k, h⟩ : Fin k0_t1_loop.trips).val + 1)).1 := hp
      rw [e] at hp'
      rcases List.mem_append.mp hp' with h1 | h1
      · rw [List.mem_singleton] at h1
        subst h1
        intro x
        exact pay5_rows v15 _ _ _ ⟨k, h⟩ x
      · exact ih p h1
    · rw [pb_k0_t1.eq_2]
      unfold pb_k0_t1Step
      rw [dif_neg h]
      exact ih

/-- The last piece stored into `dgain`'s row by trip `k`. -/
theorem pb11_succ (G10 : BufTy.Contents (Elt Ideal) a10.view.ty) (G11 : BufTy.Contents (Elt Ideal) a11.view.ty) (k : Fin k0_t1_loop.trips) :
    (pb_k0_t1 (F := Ideal) 𝒱 c bd i a1 w1 a2 w2 a3 w3 a4 w4 a5 w5 a6 w6 a7 w7 a8 w8 a9 w9 a10 w10 a11 w11 a12 w12 v15 X7 X9 X12 G10 G11 (k.val + 1)).2
      = (⟨row, k0_pay6 (View.ld (a7.view.read (Elt Ideal) X7) (rows k)) (View.ld (a12.view.read (Elt Ideal) X12) (rows k))
          (View.ld (a11.view.read (Elt Ideal) (a11.view.writes (Elt Ideal) G11 (pb_k0_t1 (F := Ideal) 𝒱 c bd i a1 w1 a2 w2 a3 w3 a4 w4 a5 w5 a6 w6 a7 w7 a8 w8 a9 w9 a10 w10 a11 w11 a12 w12 v15 X7 X9 X12 G10 G11 k.val).2)) row)⟩ :: (pb_k0_t1 (F := Ideal) 𝒱 c bd i a1 w1 a2 w2 a3 w3 a4 w4 a5 w5 a6 w6 a7 w7 a8 w8 a9 w9 a10 w10 a11 w11 a12 w12 v15 X7 X9 X12 G10 G11 k.val).2) := by
  have e := (pb_k0_t1_succ (F := Ideal) 𝒱 c bd i a1 w1 a2 w2 a3 w3 a4 w4 a5 w5 a6 w6 a7 w7 a8 w8 a9 w9 a10 w10 a11 w11 a12 w12 v15 X7 X9 X12 G10 G11 k)
  rw [trip_eq] at e
  rw [e]
  rfl

/-- A row's contribution to `dgain`. -/
def dgAt (x d : Vec Ideal S512x1024 .f32) (l : Fin 1024) (r : Fin 512) : EReal :=
  (d (ix2 r l) : EReal) * ((x (ix2 r l) : EReal) * NormMath.rr (fun k : Fin 1024 => (x (ix2 r k) : EReal)))

/-- What trip `k` leaves at an index of `dgain`'s row. -/
theorem pay6_rows (x d : Vec Ideal S512x1024 .f32) (a : Vec Ideal S1x1024 .f32) (k : Fin k0_t1_loop.trips) (l : Fin 1024) :
    (k0_pay6 (View.ld x (rows k)) (View.ld d (rows k)) a (ix2 0 l) : EReal)
      = (a (ix2 0 l) : EReal) + ∑ r : Fin 16, (fun (s : ℕ) (r : Fin 16) => if h : 16 * s + r.val < 512 then dgAt x d l ⟨16 * s + r.val, h⟩ else 0) k.val r := by
  have hk : k.val < 32 := k.isLt
  refine (pay6_apply _ _ a l).trans (congrArg _ (Finset.sum_congr rfl fun r _ => ?_))
  have hr := r.isLt
  rw [pay4_apply]
  refine Eq.trans ?_ (dif_pos (by omega)).symm
  have hl : ∀ (X : Vec Ideal S512x1024 .f32) (l : Fin 1024), View.ld X (rows k) (ix2 r l) = X (ix2 (⟨16 * k.val + r.val, by omega⟩ : Fin 512) l) :=
    fun X l => ld_rows X k r l _ rfl
  unfold dgAt
  rw [hl d l, hl x l, funext (hl x)]

theorem ld_row (X : Vec Ideal S1x1024 .f32) (l : Fin 1024) : View.ld X row (ix2 0 l) = X (ix2 0 l) :=
  View.ld_unit_apply_of X _ _ _ _ (ix2 0 l) fun a => by
    match a with
    | ⟨0, _⟩ => rfl
    | ⟨1, _⟩ => show l.val = 0 + l.val; omega

/-- The row after `k` trips, read through any view of any buffer that holds the pieces over any contents (`k` at least 1). -/
theorem read_row {sg : RefSig} {κ : Kind} {sp : Space} (v : View sg κ sp S1x1024 .f32) (f : v.ty.Contents (Elt Ideal)) (w : Vec Ideal S1x1024 .f32)
    (L : List (View.Piece (Elt Ideal) S1x1024 .f32)) (l : Fin 1024) :
    v.read (Elt Ideal) (v.writes (Elt Ideal) f (⟨row, w⟩ :: L)) (ix2 0 l) = w (ix2 0 l) :=
  View.read_writes_cons_unit_of_mem v f inb_S1x1024_S1x1024_0_0 w L (ix2 0 l) (ix2 0 l) rfl fun a => by
    match a with
    | ⟨0, _⟩ => rfl
    | ⟨1, _⟩ => show l.val = 0 + l.val; omega

/-- The running sum before trip `k`. -/
theorem pb11_read (G10 : BufTy.Contents (Elt Ideal) a10.view.ty) (G11 : BufTy.Contents (Elt Ideal) a11.view.ty) (l : Fin 1024) (k : ℕ) (hk : k ≤ 32) :
    (a11.view.read (Elt Ideal) (a11.view.writes (Elt Ideal) G11 (pb_k0_t1 (F := Ideal) 𝒱 c bd i a1 w1 a2 w2 a3 w3 a4 w4 a5 w5 a6 w6 a7 w7 a8 w8 a9 w9 a10 w10 a11 w11 a12 w12 v15 X7 X9 X12 G10 G11 k).2) (ix2 0 l) : EReal)
      = (a11.view.read (Elt Ideal) G11 (ix2 0 l) : EReal) + ∑ s ∈ Finset.range k, ∑ r : Fin 16,
          (fun (s : ℕ) (r : Fin 16) => if h : 16 * s + r.val < 512 then dgAt (a7.view.read (Elt Ideal) X7) (a12.view.read (Elt Ideal) X12) l ⟨16 * s + r.val, h⟩ else 0) s r := by
  induction k with
  | zero => rw [Finset.sum_range_zero, add_zero]; rfl
  | succ k ih =>
    have e := pb11_succ 𝒱 c bd i a1 w1 a2 w2 a3 w3 a4 w4 a5 w5 a6 w6 a7 w7 a8 w8 a9 w9 a10 w10 a11 w11 a12 w12 v15 X7 X9 X12 G10 G11 ⟨k, lt_of_lt_of_eq (show k < 32 by omega) rfl⟩
    refine (congrArg (fun L => a11.view.read (Elt Ideal) (a11.view.writes (Elt Ideal) G11 L) (ix2 0 l)) e).trans ?_
    refine (read_row _ _ _ _ l).trans ((pay6_rows _ _ _ ⟨k, lt_of_lt_of_eq (show k < 32 by omega) rfl⟩ l).trans ?_)
    rw [ld_row, ih (by omega), Finset.sum_range_succ, add_assoc]

/-- The row after the loop, through any view. -/
theorem row_final {sg : RefSig} {κ : Kind} {sp : Space} (v : View sg κ sp S1x1024 .f32) (f : v.ty.Contents (Elt Ideal))
    (L : List (View.Piece (Elt Ideal) S1x1024 .f32))
    (G10 : BufTy.Contents (Elt Ideal) a10.view.ty) (G11 : BufTy.Contents (Elt Ideal) a11.view.ty) (l : Fin 1024) :
    (v.read (Elt Ideal) (v.writes (Elt Ideal) f ((pb_k0_t1 (F := Ideal) 𝒱 c bd i a1 w1 a2 w2 a3 w3 a4 w4 a5 w5 a6 w6 a7 w7 a8 w8 a9 w9 a10 w10 a11 w11 a12 w12 v15 X7 X9 X12 G10 G11 32).2 ++ L)) (ix2 0 l) : EReal)
      = (a11.view.read (Elt Ideal) G11 (ix2 0 l) : EReal) + ∑ r : Fin 512, dgAt (a7.view.read (Elt Ideal) X7) (a12.view.read (Elt Ideal) X12) l r := by
  have e := pb11_succ 𝒱 c bd i a1 w1 a2 w2 a3 w3 a4 w4 a5 w5 a6 w6 a7 w7 a8 w8 a9 w9 a10 w10 a11 w11 a12 w12 v15 X7 X9 X12 G10 G11 ⟨31, by decide⟩
  have hr := pb11_read 𝒱 c bd i a1 w1 a2 w2 a3 w3 a4 w4 a5 w5 a6 w6 a7 w7 a8 w8 a9 w9 a10 w10 a11 w11 a12 w12 v15 X7 X9 X12 G10 G11 l 32 le_rfl
  refine Eq.trans ?_ (hr.trans (congrArg _ (Cert.Sums.blocks (by norm_num) _ _ (fun s hs r => by
    have := r.isLt
    exact dif_pos (by omega)))))
  refine (congrArg (fun M => v.read (Elt Ideal) (v.writes (Elt Ideal) f (M ++ L)) (ix2 0 l)) e).trans ?_
  refine Eq.trans ?_ (congrArg (fun M => a11.view.read (Elt Ideal) (a11.view.writes (Elt Ideal) G11 M) (ix2 0 l)) e).symm
  refine Eq.trans (read_row v f _ (_ ++ L) l) (read_row _ _ _ _ l).symm

end Cert.Kernel18Ideal.Norm
-- ==== Proof.Norm18Out.lean ====
/-
  One grid point of the norm's backward kernel of the attention layer: what its run leaves in the two results' buffers, at an index.
-/
module

public import proofs.«01_k».proof.Proof.Norm18Frame
public import proofs.«01_k».proof.Proof.Norm18Val

@[expose] public section

set_option maxRecDepth 16384

noncomputable section

namespace Cert.Kernel18Ideal.Norm

open Cert.Kernel18Ideal Cert.Kernel18Ideal.Gen Idealize.ShloMosaic Idealize.ShloMosaic.TcCoe Idealize.SL.Sem

theorem hz2 : (![0, 0] : Fin 2 → ℕ) = fun _ => 0 := by
  funext a; match a with | ⟨0, _⟩ => rfl | ⟨1, _⟩ => rfl

/-- The scratch block after the products are stored. -/
theorem whole_pay2 (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a12 : Memref sig .tc .vmem S512x1024 .f32)
    (x0 : Vec Ideal S512x1536 .bf16) (x1 : Vec Ideal S1024x1536 .bf16) (x2 : Vec Ideal S512x1536 .bf16) (x3 : Vec Ideal S1024x1536 .bf16) (x4 : Vec Ideal S512x1536 .bf16) (x5 : Vec Ideal S1024x1536 .bf16) :
    a12.view.read (Elt Ideal) (a12.view.writes (Elt Ideal) a12.view.junk
        [⟨Rect.unit ![0, 0] S512x1024.size inb_S512x1024_S512x1024_0_0,
          k0_pay2 (View.readAt (Elt Ideal) a1.view (Rect.unit ![0, 0] S512x1536.size inb_S512x1536_S512x1536_0_0).toLoadRect (w1.unread x0))
            (View.readAt (Elt Ideal) a2.view (Rect.unit ![0, 0] S1024x1536.size inb_S1024x1536_S1024x1536_0_0).toLoadRect (w2.unread x1))
            (View.readAt (Elt Ideal) a3.view (Rect.unit ![0, 0] S512x1536.size inb_S512x1536_S512x1536_0_0).toLoadRect (w3.unread x2))
            (View.readAt (Elt Ideal) a4.view (Rect.unit ![0, 0] S1024x1536.size inb_S1024x1536_S1024x1536_0_0).toLoadRect (w4.unread x3))
            (View.readAt (Elt Ideal) a5.view (Rect.unit ![0, 0] S512x1536.size inb_S512x1536_S512x1536_0_0).toLoadRect (w5.unread x4))
            (View.readAt (Elt Ideal) a6.view (Rect.unit ![0, 0] S1024x1536.size inb_S1024x1536_S1024x1536_0_0).toLoadRect (w6.unread x5))⟩])
      = k0_pay2 x0 x1 x2 x3 x4 x5 := by
  simp only [View.readAt_eq_ld, w1.read_unread, w2.read_unread, w3.read_unread, w4.read_unread, w5.read_unread, w6.read_unread,
    View.ld_unit_zero (S := S512x1536) hz2, View.ld_unit_zero (S := S1024x1536) hz2]
  funext y
  exact View.read_writes_cons_unit_of_mem _ _ inb_S512x1024_S512x1024_0_0 _ _ y y hz2 fun a => (Nat.zero_add _).symm

/-- The gain as the body loads it. -/
abbrev gainV (a8 : Memref sig .tc .vmem S1x1024 .f32) (w8 : a8.IsWhole) (x7 : Vec Ideal S1x1024 .f32) : Vec Ideal S1x1024 .f32 :=
  View.readAt (Elt Ideal) a8.view row.toLoadRect (w8.unread x7)

theorem gain_read (a8 : Memref sig .tc .vmem S1x1024 .f32) (w8 : a8.IsWhole) (x7 : Vec Ideal S1x1024 .f32) :
    gainV a8 w8 x7 = x7 := by
  unfold gainV
  rw [View.readAt_eq_ld, w8.read_unread]
  exact View.ld_unit_zero (S := S1x1024) hz2 _ _

/-- The row is zero before the first point's loop. -/
theorem start_row (a11 : Memref sig .tc .vmem S1x1024 .f32) (l : Fin 1024) :
    (a11.view.read (Elt Ideal) (a11.view.writes (Elt Ideal) a11.view.junk kernelRun0_A.sl.H10_1) (ix2 0 l) : EReal) = 0 := by
  unfold kernelRun0_A.sl.H10_1
  exact (read_row _ _ _ _ l).trans (pay1_apply l)

section
variable (c : Dev nD) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole) (hc0 : cond0_0 i)
  (x0 : Vec Ideal S512x1536 .bf16) (x1 : Vec Ideal S1024x1536 .bf16) (x2 : Vec Ideal S512x1536 .bf16) (x3 : Vec Ideal S1024x1536 .bf16) (x4 : Vec Ideal S512x1536 .bf16) (x5 : Vec Ideal S1024x1536 .bf16) (x6 : Vec Ideal S512x1024 .f32) (x7 : Vec Ideal S1x1024 .f32) (x8 : Vec Ideal S512x1024 .f32)

theorem hs_A : a12.view.read (Elt Ideal) (a12.view.writes (Elt Ideal) a12.view.junk (kernelRun0_A.sl.HS0_1 c a1 w1 a2 w2 a3 w3 a4 w4 a5 w5 a6 w6 x0 x1 x2 x3 x4 x5)) = k0_pay2 x0 x1 x2 x3 x4 x5 := by
  unfold kernelRun0_A.sl.HS0_1
  exact whole_pay2 a1 w1 a2 w2 a3 w3 a4 w4 a5 w5 a6 w6 a12 x0 x1 x2 x3 x4 x5

/-- What a point of case A leaves in `dx`'s block, and in `dgain`'s row. -/
theorem out_A_9 (y : S512x1024.Idx) :
    (out0_A_9 c i a1 w1 a2 w2 a3 w3 a4 w4 a5 w5 a6 w6 a7 w7 a8 w8 a9 w9 a10 w10 a11 w11 a12 w12 hc0 x0 x1 x2 x3 x4 x5 x6 x7 x8 y : EReal) = dxAt x7 x6 (k0_pay2 x0 x1 x2 x3 x4 x5) x8 y := by
  unfold out0_A_9
  refine View.read_writes_apply_of_pieces VO0_9 _ (dxAt x7 x6 (k0_pay2 x0 x1 x2 x3 x4 x5) x8) _ ?_ y (cover0_A_9 c i a1 w1 a2 w2 a3 w3 a4 w4 a5 w5 a6 w6 a7 w7 a8 w8 a9 w9 a10 w10 a11 w11 a12 w12 hc0 x0 x1 x2 x3 x4 x5 x6 x7 x8 y)
  have h := pb10_agree Variants.none c none i a1 w1 a2 w2 a3 w3 a4 w4 a5 w5 a6 w6 a7 w7 a8 w8 a9 w9 a10 w10 a11 w11 a12 w12 (gainV a8 w8 x7) (w7.unread x6) (w9.unread x8) (a12.view.writes (Elt Ideal) a12.view.junk (kernelRun0_A.sl.HS0_1 c a1 w1 a2 w2 a3 w3 a4 w4 a5 w5 a6 w6 x0 x1 x2 x3 x4 x5)) a10.view.junk (a11.view.writes (Elt Ideal) a11.view.junk kernelRun0_A.sl.H10_1) 32
  rw [hs_A c a1 w1 a2 w2 a3 w3 a4 w4 a5 w5 a6 w6 a12 x0 x1 x2 x3 x4 x5, w7.read_unread, w9.read_unread] at h
  rw [show dxAt x7 x6 (k0_pay2 x0 x1 x2 x3 x4 x5) x8 = dxAt (gainV a8 w8 x7) x6 (k0_pay2 x0 x1 x2 x3 x4 x5) x8 from by rw [gain_read]]
  unfold kernelRun0_A
  exact h

theorem out_A_10 (l : Fin 1024) :
    (out0_A_10 c i a1 w1 a2 w2 a3 w3 a4 w4 a5 w5 a6 w6 a7 w7 a8 w8 a9 w9 a10 w10 a11 w11 a12 w12 hc0 x0 x1 x2 x3 x4 x5 x6 x7 x8 (ix2 0 l) : EReal) = 0 + ∑ r : Fin 512, dgAt x6 (k0_pay2 x0 x1 x2 x3 x4 x5) l r := by
  unfold out0_A_10
  have h := row_final Variants.none c none i a1 w1 a2 w2 a3 w3 a4 w4 a5 w5 a6 w6 a7 w7 a8 w8 a9 w9 a10 w10 a11 w11 a12 w12 (gainV a8 w8 x7) (w7.unread x6) (w9.unread x8) (a12.view.writes (Elt Ideal) a12.view.junk (kernelRun0_A.sl.HS0_1 c a1 w1 a2 w2 a3 w3 a4 w4 a5 w5 a6 w6 x0 x1 x2 x3 x4 x5)) VO0_10 VO0_10.junk kernelRun0_A.sl.H10_1 a10.view.junk (a11.view.writes (Elt Ideal) a11.view.junk kernelRun0_A.sl.H10_1) l
  rw [hs_A c a1 w1 a2 w2 a3 w3 a4 w4 a5 w5 a6 w6 a12 x0 x1 x2 x3 x4 x5, w7.read_unread, start_row] at h
  unfold kernelRun0_A
  exact h

end

section
variable (c : Dev nD) (i : grid0.Coords) (a1 : Memref sig .tc .vmem S512x1536 .bf16) (w1 : a1.IsWhole) (a2 : Memref sig .tc .vmem S1024x1536 .bf16) (w2 : a2.IsWhole) (a3 : Memref sig .tc .vmem S512x1536 .bf16) (w3 : a3.IsWhole) (a4 : Memref sig .tc .vmem S1024x1536 .bf16) (w4 : a4.IsWhole) (a5 : Memref sig .tc .vmem S512x1536 .bf16) (w5 : a5.IsWhole) (a6 : Memref sig .tc .vmem S1024x1536 .bf16) (w6 : a6.IsWhole) (a7 : Memref sig .tc .vmem S512x1024 .f32) (w7 : a7.IsWhole) (a8 : Memref sig .tc .vmem S1x1024 .f32) (w8 : a8.IsWhole) (a9 : Memref sig .tc .vmem S512x1024 .f32) (w9 : a9.IsWhole) (a10 : Memref sig .tc .vmem S512x1024 .f32) (w10 : a10.IsWhole) (a11 : Memref sig .tc .vmem S1x1024 .f32) (w11 : a11.IsWhole) (a12 : Memref sig .tc .vmem S512x1024 .f32) (w12 : a12.IsWhole) (hc0 : ¬cond0_0 i)
  (x0 : Vec Ideal S512x1536 .bf16) (x1 : Vec Ideal S1024x1536 .bf16) (x2 : Vec Ideal S512x1536 .bf16) (x3 : Vec Ideal S1024x1536 .bf16) (x4 : Vec Ideal S512x1536 .bf16) (x5 : Vec Ideal S1024x1536 .bf16) (x6 : Vec Ideal S512x1024 .f32) (x7 : Vec Ideal S1x1024 .f32) (x8 : Vec Ideal S512x1024 .f32) (xo10 : Vec Ideal S1x1024 .f32)

theorem hs_B : a12.view.read (Elt Ideal) (a12.view.writes (Elt Ideal) a12.view.junk (kernelRun0_B.sl.HS0_1 c a1 w1 a2 w2 a3 w3 a4 w4 a5 w5 a6 w6 x0 x1 x2 x3 x4 x5)) = k0_pay2 x0 x1 x2 x3 x4 x5 := by
  unfold kernelRun0_B.sl.HS0_1
  exact whole_pay2 a1 w1 a2 w2 a3 w3 a4 w4 a5 w5 a6 w6 a12 x0 x1 x2 x3 x4 x5

/-- What a point of case B leaves in `dx`'s block, and in `dgain`'s row. -/
theorem out_B_9 (y : S512x1024.Idx) :
    (out0_B_9 c i a1 w1 a2 w2 a3 w3 a4 w4 a5 w5 a6 w6 a7 w7 a8 w8 a9 w9 a10 w10 a11 w11 a12 w12 hc0 x0 x1 x2 x3 x4 x5 x6 x7 x8 xo10 y : EReal) = dxAt x7 x6 (k0_pay2 x0 x1 x2 x3 x4 x5) x8 y := by
  unfold out0_B_9
  refine View.read_writes_apply_of_pieces VO0_9 _ (dxAt x7 x6 (k0_pay2 x0 x1 x2 x3 x4 x5) x8) _ ?_ y (cover0_B_9 c i a1 w1 a2 w2 a3 w3 a4 w4 a5 w5 a6 w6 a7 w7 a8 w8 a9 w9 a10 w10 a11 w11 a12 w12 hc0 x0 x1 x2 x3 x4 x5 x6 x7 x8 xo10 y)
  have h := pb10_agree Variants.none c none i a1 w1 a2 w2 a3 w3 a4 w4 a5 w5 a6 w6 a7 w7 a8 w8 a9 w9 a10 w10 a11 w11 a12 w12 (gainV a8 w8 x7) (w7.unread x6) (w9.unread x8) (a12.view.writes (Elt Ideal) a12.view.junk (kernelRun0_B.sl.HS0_1 c a1 w1 a2 w2 a3 w3 a4 w4 a5 w5 a6 w6 x0 x1 x2 x3 x4 x5)) a10.view.junk (w11.unread xo10) 32
  rw [hs_B c a1 w1 a2 w2 a3 w3 a4 w4 a5 w5 a6 w6 a12 x0 x1 x2 x3 x4 x5, w7.read_unread, w9.read_unread] at h
  rw [show dxAt x7 x6 (k0_pay2 x0 x1 x2 x3 x4 x5) x8 = dxAt (gainV a8 w8 x7) x6 (k0_pay2 x0 x1 x2 x3 x4 x5) x8 from by rw [gain_read]]
  unfold kernelRun0_B
  exact h

theorem out_B_10 (l : Fin 1024) :
    (out0_B_10 c i a1 w1 a2 w2 a3 w3 a4 w4 a5 w5 a6 w6 a7 w7 a8 w8 a9 w9 a10 w10 a11 w11 a12 w12 hc0 x0 x1 x2 x3 x4 x5 x6 x7 x8 xo10 (ix2 0 l) : EReal) = (xo10 (ix2 0 l) : EReal) + ∑ r : Fin 512, dgAt x6 (k0_pay2 x0 x1 x2 x3 x4 x5) l r := by
  unfold out0_B_10
  have h := row_final Variants.none c none i a1 w1 a2 w2 a3 w3 a4 w4 a5 w5 a6 w6 a7 w7 a8 w8 a9 w9 a10 w10 a11 w11 a12 w12 (gainV a8 w8 x7) (w7.unread x6) (w9.unread x8) (a12.view.writes (Elt Ideal) a12.view.junk (kernelRun0_B.sl.HS0_1 c a1 w1 a2 w2 a3 w3 a4 w4 a5 w5 a6 w6 x0 x1 x2 x3 x4 x5)) VO0_10 VO0_10.junk [] a10.view.junk (w11.unread xo10) l
  rw [hs_B c a1 w1 a2 w2 a3 w3 a4 w4 a5 w5 a6 w6 a12 x0 x1 x2 x3 x4 x5, w7.read_unread, w11.read_unread, List.append_nil] at h
  unfold kernelRun0_B
  exact h

end

end Cert.Kernel18Ideal.Norm
-- ==== Proof.Norm18Arr.lean ====
/-
  The norm's backward kernel of the attention layer over its whole grid: what the two result arrays hold after the run, at an index.
-/
module

public import proofs.«01_k».proof.Proof.Norm18Out
public import Idealize.ShloMosaic.Lib.Pipeline.ValueKit
public import Idealize.ShloMosaic.Lib.Pipeline.Value
public import Idealize.ShloMosaic.Lib.StableHlo.Run

@[expose] public section

set_option maxRecDepth 16384

noncomputable section

namespace Cert.Kernel18Ideal.Norm

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices, over the grid. -/
theorem idx_rows : ∀ t : Fin cfg0.N,
    win0_0.index t (0 : Fin 2) = t.val ∧ win0_0.index t (1 : Fin 2) = 0
    ∧ win0_2.index t (0 : Fin 2) = t.val ∧ win0_2.index t (1 : Fin 2) = 0
    ∧ win0_4.index t (0 : Fin 2) = t.val ∧ win0_4.index t (1 : Fin 2) = 0
    ∧ win0_6.index t (0 : Fin 2) = t.val ∧ win0_6.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem idx_whole : ∀ t : Fin cfg0.N,
    win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_10.index t (0 : Fin 2) = 0 ∧ win0_10.index t (1 : Fin 2) = 0 :=
  (by decide +kernel : ∀ t : Fin grid0.N, _)

/-- The arguments at an index: the parts of the gradient, the projection, the rows, the gain, the residual's gradient. -/
def aD0 (c : Dev nD) (R : Fin 16384) (k : Fin 1536) : EReal := m ((c : Thread nD τ).loc main_arg0) (ix2 R k)
def aD1 (c : Dev nD) (R : Fin 16384) (k : Fin 1536) : EReal := m ((c : Thread nD τ).loc main_arg1) (ix2 R k)
def aD2 (c : Dev nD) (R : Fin 16384) (k : Fin 1536) : EReal := m ((c : Thread nD τ).loc main_arg2) (ix2 R k)
def aW (c : Dev nD) (L : Fin 1024) (k : Fin 4608) : EReal := m ((c : Thread nD τ).loc main_arg3) (ix2 L k)
def aX (c : Dev nD) (R : Fin 16384) (k : Fin 1024) : EReal := m ((c : Thread nD τ).loc main_arg4) (ix2 R k)
def aN (c : Dev nD) (k : Fin 1024) : EReal := m ((c : Thread nD τ).loc main_arg5) (ix1 k)
def aS (c : Dev nD) (R : Fin 16384) (k : Fin 1024) : EReal := m ((c : Thread nD τ).loc main_arg6) (ix2 R k)

/-- The host's arrays before the call: the parts of the projection, and the gain as a row. -/
theorem V_v0 (c : Dev nD) (L : Fin 1024) (k : Fin 1536) :
    (V m c main_v0 (ix2 L k) : EReal) = aW m c L ⟨k.val, by omega⟩ := by
  have e : V m c main_v0 = extractStridedSlice S1024x1536 ![0, 0] (m ((c : Thread nD τ).loc main_arg3)) slices_S1024x4608_S1024x1536_0_0 := by
    show StableHlo.after hostOps0 (fun b => m (c, b)) (Proc.devRef .tc main_v0) = _
    after_results
  rw [e]
  unfold aW
  pointwise []

theorem V_v1 (c : Dev nD) (L : Fin 1024) (k : Fin 1536) :
    (V m c main_v1 (ix2 L k) : EReal) = aW m c L ⟨1536 + k.val, by omega⟩ := by
  have e : V m c main_v1 = extractStridedSlice S1024x1536 ![0, 1536] (m ((c : Thread nD τ).loc main_arg3)) slices_S1024x4608_S1024x1536_0_1536 := by
    show StableHlo.after hostOps0 (fun b => m (c, b)) (Proc.devRef .tc main_v1) = _
    after_results
  rw [e]
  unfold aW
  pointwise []

theorem V_v2 (c : Dev nD) (L : Fin 1024) (k : Fin 1536) :
    (V m c main_v2 (ix2 L k) : EReal) = aW m c L ⟨3072 + k.val, by omega⟩ := by
  have e : V m c main_v2 = extractStridedSlice S1024x1536 ![0, 3072] (m ((c : Thread nD τ).loc main_arg3)) slices_S1024x4608_S1024x1536_0_3072 := by
    show StableHlo.after hostOps0 (fun b => m (c, b)) (Proc.devRef .tc main_v2) = _
    after_results
  rw [e]
  unfold aW
  pointwise []

theorem V_v3 (c : Dev nD) (k : Fin 1024) : (V m c main_v3 (ix2 0 k) : EReal) = aN m c k := by
  have e : V m c main_v3 = shapeCast S1x1024 (m ((c : Thread nD τ).loc main_arg5)) shapeCasts_S1024_S1x1024 := by
    show StableHlo.after hostOps0 (fun b => m (c, b)) (Proc.devRef .tc main_v3) = _
    after_results
    rfl
  rw [e]
  unfold aN
  pointwise []

/-- The blocks at a grid point, at an index. -/
theorem b0 (c : Dev nD) (t : Fin cfg0.N) (r : Fin 512) (k : Fin 1536) (R : Fin 16384) (hR : R.val = 512 * t.val + r.val) :
    (iblk m c 0 t (ix2 r k) : EReal) = aD0 m c R k := by
  obtain ⟨e0, e1, -⟩ := idx_rows t
  unfold iblk aD0
  refine congrArg (m (c.tc.loc main_arg0)) (funext fun a => Fin.ext ?_)
  match a with
  | ⟨0, _⟩ => show win0_0.index t 0 * 512 + 1 * r.val = R.val; rw [e0]; omega
  | ⟨1, _⟩ => show win0_0.index t 1 * 1536 + 1 * k.val = k.val; rw [e1]; omega

theorem b2 (c : Dev nD) (t : Fin cfg0.N) (r : Fin 512) (k : Fin 1536) (R : Fin 16384) (hR : R.val = 512 * t.val + r.val) :
    (iblk m c 2 t (ix2 r k) : EReal) = aD1 m c R k := by
  obtain ⟨-, -, e0, e1, -⟩ := idx_rows t
  unfold iblk aD1
  refine congrArg (m (c.tc.loc main_arg1)) (funext fun a => Fin.ext ?_)
  match a with
  | ⟨0, _⟩ => show win0_2.index t 0 * 512 + 1 * r.val = R.val; rw [e0]; omega
  | ⟨1, _⟩ => show win0_2.index t 1 * 1536 + 1 * k.val = k.val; rw [e1]; omega

theorem b4 (c : Dev nD) (t : Fin cfg0.N) (r : Fin 512) (k : Fin 1536) (R : Fin 16384) (hR : R.val = 512 * t.val + r.val) :
    (iblk m c 4 t (ix2 r k) : EReal) = aD2 m c R k := by
  obtain ⟨-, -, -, -, e0, e1, -⟩ := idx_rows t
  unfold iblk aD2
  refine congrArg (m (c.tc.loc main_arg2)) (funext fun a => Fin.ext ?_)
  match a with
  | ⟨0, _⟩ => show win0_4.index t 0 * 512 + 1 * r.val = R.val; rw [e0]; omega
  | ⟨1, _⟩ => show win0_4.index t 1 * 1536 + 1 * k.val = k.val; rw [e1]; omega

theorem b6 (c : Dev nD) (t : Fin cfg0.N) (r : Fin 512) (k : Fin 1024) (R : Fin 16384) (hR : R.val = 512 * t.val + r.val) :
    (iblk m c 6 t (ix2 r k) : EReal) = aX m c R k := by
  obtain ⟨-, -, -, -, -, -, e0, e1, -⟩ := idx_rows t
  unfold iblk aX
  refine congrArg (m (c.tc.loc main_arg4)) (funext fun a => Fin.ext ?_)
  match a with
  | ⟨0, _⟩ => show win0_6.index t 0 * 512 + 1 * r.val = R.val; rw [e0]; omega
  | ⟨1, _⟩ => show win0_6.index t 1 * 1024 + 1 * k.val = k.val; rw [e1]; omega

theorem b8 (c : Dev nD) (t : Fin cfg0.N) (r : Fin 512) (k : Fin 1024) (R : Fin 16384) (hR : R.val = 512 * t.val + r.val) :
    (iblk m c 8 t (ix2 r k) : EReal) = aS m c R k := by
  obtain ⟨-, -, -, -, -, -, -, -, e0, e1, -⟩ := idx_rows t
  unfold iblk aS
  refine congrArg (m (c.tc.loc main_arg6)) (funext fun a => Fin.ext ?_)
  match a with
  | ⟨0, _⟩ => show win0_8.index t 0 * 512 + 1 * r.val = R.val; rw [e0]; omega
  | ⟨1, _⟩ => show win0_8.index t 1 * 1024 + 1 * k.val = k.val; rw [e1]; omega

theorem b1 (c : Dev nD) (t : Fin cfg0.N) (r : Fin 1024) (k : Fin 1536) :
    (iblk m c 1 t (ix2 r k) : EReal) = aW m c r ⟨k.val, by omega⟩ := by
  obtain ⟨e0, e1, -⟩ := idx_whole t
  refine Eq.trans ?_ (V_v0 m c r k)
  unfold iblk
  refine congrArg (V m c main_v0) (funext fun a => Fin.ext ?_)
  match a with
  | ⟨0, _⟩ => show win0_1.index t 0 * 1024 + 1 * r.val = r.val; rw [e0]; omega
  | ⟨1, _⟩ => show win0_1.index t 1 * 1536 + 1 * k.val = k.val; rw [e1]; omega

theorem b3 (c : Dev nD) (t : Fin cfg0.N) (r : Fin 1024) (k : Fin 1536) :
    (iblk m c 3 t (ix2 r k) : EReal) = aW m c r ⟨1536 + k.val, by omega⟩ := by
  obtain ⟨-, -, e0, e1, -⟩ := idx_whole t
  refine Eq.trans ?_ (V_v1 m c r k)
  unfold iblk
  refine congrArg (V m c main_v1) (funext fun a => Fin.ext ?_)
  match a with
  | ⟨0, _⟩ => show win0_3.index t 0 * 1024 + 1 * r.val = r.val; rw [e0]; omega
  | ⟨1, _⟩ => show win0_3.index t 1 * 1536 + 1 * k.val = k.val; rw [e1]; omega

theorem b5 (c : Dev nD) (t : Fin cfg0.N) (r : Fin 1024) (k : Fin 1536) :
    (iblk m c 5 t (ix2 r k) : EReal) = aW m c r ⟨3072 + k.val, by omega⟩ := by
  obtain ⟨-, -, -, -, e0, e1, -⟩ := idx_whole t
  refine Eq.trans ?_ (V_v2 m c r k)
  unfold iblk
  refine congrArg (V m c main_v2) (funext fun a => Fin.ext ?_)
  match a with
  | ⟨0, _⟩ => show win0_5.index t 0 * 1024 + 1 * r.val = r.val; rw [e0]; omega
  | ⟨1, _⟩ => show win0_5.index t 1 * 1536 + 1 * k.val = k.val; rw [e1]; omega

theorem b7 (c : Dev nD) (t : Fin cfg0.N) (k : Fin 1024) :
    (iblk m c 7 t (ix2 0 k) : EReal) = aN m c k := by
  obtain ⟨-, -, -, -, -, -, e0, e1, -⟩ := idx_whole t
  refine Eq.trans ?_ (V_v3 m c k)
  unfold iblk
  refine congrArg (V m c main_v3) (funext fun a => Fin.ext ?_)
  match a with
  | ⟨0, _⟩ => show win0_7.index t 0 * 1 + 1 * 0 = 0; rw [e0]
  | ⟨1, _⟩ => show win0_7.index t 1 * 1024 + 1 * k.val = k.val; rw [e1]; omega

/-- The gradient into the norm's output: the products summed. -/
def dh (c : Dev nD) (R : Fin 16384) (L : Fin 1024) : EReal :=
  (∑ k : Fin 1536, aD0 m c R k * aW m c L ⟨k.val, by omega⟩) + (∑ k : Fin 1536, aD1 m c R k * aW m c L ⟨1536 + k.val, by omega⟩) + (∑ k : Fin 1536, aD2 m c R k * aW m c L ⟨3072 + k.val, by omega⟩)

/-- What `dx` holds at row `R`, column `L`. -/
def dxOf (c : Dev nD) (R : Fin 16384) (L : Fin 1024) : EReal :=
  NormMath.kdx (fun k => aX m c R k) (fun k => dh m c R k * aN m c k) (aS m c R L) L

/-- Row `R`'s part of `dgain` at column `L`. -/
def dgOf (c : Dev nD) (L : Fin 1024) (R : Fin 16384) : EReal :=
  dh m c R L * (aX m c R L * NormMath.rr (fun k => aX m c R k))

/-- The scratch block at a grid point. -/
abbrev D (c : Dev nD) (t : Fin cfg0.N) : Vec Ideal S512x1024 .f32 :=
  k0_pay2 (iblk m c 0 t) (iblk m c 1 t) (iblk m c 2 t) (iblk m c 3 t) (iblk m c 4 t) (iblk m c 5 t)

theorem D_apply (c : Dev nD) (t : Fin cfg0.N) (r : Fin 512) (l : Fin 1024) (R : Fin 16384) (hR : R.val = 512 * t.val + r.val) :
    (D m c t (ix2 r l) : EReal) = dh m c R l := by
  refine (pay2_apply _ _ _ _ _ _ r l).trans ?_
  unfold dh
  exact congr (congrArg HAdd.hAdd (congr (congrArg HAdd.hAdd (Finset.sum_congr rfl fun k _ => congr (congrArg HMul.hMul (b0 m c t r k R hR)) (b1 m c t l k)))
    (Finset.sum_congr rfl fun k _ => congr (congrArg HMul.hMul (b2 m c t r k R hR)) (b3 m c t l k))))
    (Finset.sum_congr rfl fun k _ => congr (congrArg HMul.hMul (b4 m c t r k R hR)) (b5 m c t l k))

theorem dxAt_apply (c : Dev nD) (t : Fin cfg0.N) (r : Fin 512) (l : Fin 1024) (R : Fin 16384) (hR : R.val = 512 * t.val + r.val) :
    dxAt (iblk m c 7 t) (iblk m c 6 t) (D m c t) (iblk m c 8 t) (ix2 r l) = dxOf m c R l := by
  unfold dxAt dxOf
  have e1 : (fun k : Fin 1024 => (iblk m c 6 t (ix2 r k) : EReal)) = fun k => aX m c R k := funext fun k => b6 m c t r k R hR
  have e2 : (fun k : Fin 1024 => (D m c t (ix2 r k) : EReal) * iblk m c 7 t (ix2 0 k)) = fun k => dh m c R k * aN m c k :=
    funext fun k => congr (congrArg HMul.hMul (D_apply m c t r k R hR)) (b7 m c t k)
  exact congr (congr (congr (congrArg NormMath.kdx e1) e2) (b8 m c t r l R hR)) rfl

theorem dgAt_apply (c : Dev nD) (t : Fin cfg0.N) (r : Fin 512) (l : Fin 1024) (R : Fin 16384) (hR : R.val = 512 * t.val + r.val) :
    dgAt (iblk m c 6 t) (D m c t) l r = dgOf m c l R := by
  unfold dgAt dgOf
  have e1 : (fun k : Fin 1024 => (iblk m c 6 t (ix2 r k) : EReal)) = fun k => aX m c R k := funext fun k => b6 m c t r k R hR
  exact congr (congrArg HMul.hMul (D_apply m c t r l R hR)) (congr (congrArg HMul.hMul (b6 m c t r l R hR)) (congrArg NormMath.rr e1))

/-- What the run leaves in `dx`'s block at every point. -/
theorem outs9 (c : Dev nD) (t : Fin cfg0.N) (y : S512x1024.Idx) :
    ((outsAt0 m c t.val t.isLt).1 y : EReal) = dxAt (iblk m c 7 t) (iblk m c 6 t) (D m c t) (iblk m c 8 t) y := by
  by_cases h0 : t.val % 32 = 0
  · rw [outsAt0_A m c t h0]
    exact out_A_9 c _ _ _ _ _ _ _ _ _ _ _ _ _ _ _ _ _ _ _ _ _ _ _ _ _ _ _ _ _ _ _ _ _ _ _ y
  · rw [outsAt0_B m c t h0]
    exact out_B_9 c _ _ _ _ _ _ _ _ _ _ _ _ _ _ _ _ _ _ _ _ _ _ _ _ _ _ _ _ _ _ _ _ _ _ _ _ y

/-- One point's part of `dgain`. -/
def part (c : Dev nD) (l : Fin 1024) (s : ℕ) (r : Fin 512) : EReal :=
  if h : 512 * s + r.val < 16384 then dgOf m c l ⟨512 * s + r.val, h⟩ else 0

theorem part_eq (c : Dev nD) (t : Fin cfg0.N) (l : Fin 1024) :
    ∑ r : Fin 512, dgAt (iblk m c 6 t) (D m c t) l r = ∑ r : Fin 512, part m c l t.val r := by
  have ht : t.val < 32 := lt_of_lt_of_eq t.isLt N_0
  refine Finset.sum_congr rfl fun r _ => ?_
  have hr := r.isLt
  unfold part
  rw [dif_pos (by omega)]
  exact dgAt_apply m c t r l _ rfl

/-- What the run leaves in `dgain`'s row after point `n`: the sum over the rows so far. -/
theorem outs10 (c : Dev nD) (l : Fin 1024) (n : ℕ) (hn : n < cfg0.N) :
    ((outsAt0 m c n hn).2 (ix2 0 l) : EReal) = ∑ s ∈ Finset.range (n + 1), ∑ r : Fin 512, part m c l s r := by
  have hN : n < 32 := lt_of_lt_of_eq hn N_0
  induction n with
  | zero =>
    have e := outsAt0_A m c ⟨0, hn⟩ rfl
    rw [show outsAt0 m c 0 hn = _ from e]
    rw [Finset.sum_range_one, ← part_eq m c ⟨0, hn⟩ l]
    exact (out_A_10 c _ _ _ _ _ _ _ _ _ _ _ _ _ _ _ _ _ _ _ _ _ _ _ _ _ _ _ _ _ _ _ _ _ _ _ l).trans (zero_add _)
  | succ n ih =>
    have h0 : ¬ (⟨n + 1, hn⟩ : Fin cfg0.N).val % 32 = 0 := by show ¬ (n + 1) % 32 = 0; omega
    have e := outsAt0_B m c ⟨n + 1, hn⟩ h0
    rw [show outsAt0 m c (n + 1) hn = _ from e]
    rw [Finset.sum_range_succ, ← ih (by omega) (by omega), ← part_eq m c ⟨n + 1, hn⟩ l]
    exact out_B_10 c _ _ _ _ _ _ _ _ _ _ _ _ _ _ _ _ _ _ _ _ _ _ _ _ _ _ _ _ _ _ _ _ _ _ _ _ l

/-- The result arrays. -/
def G9 (c : Dev nD) : Buf (Elt Ideal) ((c : Thread nD τ).loc main_v4_0) := fun i => dxOf m c (i 0) (i 1)
/-- Column `L` of `dgain`. -/
def dgSum (c : Dev nD) (L : Fin 1024) : EReal := ∑ R : Fin 16384, dgOf m c L R
def G10 (c : Dev nD) : Buf (Elt Ideal) ((c : Thread nD τ).loc main_v4_1) := fun i => dgSum m c (i 1)

/-- The array of `dx` after the run. -/
theorem final9 (c : Dev nD) : (dats m 0 c).arrAt 9 cfg0.N = G9 m c := by
  refine (dats m 0 c).arrAt_eq_of_covers 9 _ (by decide +kernel) fun t _ y => ?_
  obtain ⟨-, -, -, -, -, -, -, -, -, -, e0, e1⟩ := idx_rows t
  have ht : t.val < 32 := lt_of_lt_of_eq t.isLt N_0
  have hy0 : (y 0).val < 512 := (y 0).isLt
  blk_simp
  rw [after0_9]
  refine (outs9 m c t _).trans ((congrArg _ (eq_ix2 y)).trans ((dxAt_apply m c t (y 0) (y 1) ⟨512 * t.val + (y 0).val, by omega⟩ rfl).trans
    (congr (congrArg (dxOf m c) (Fin.ext ?_)) (Fin.ext ?_))))
  · show 512 * t.val + (y 0).val = win0_9.index t 0 * 512 + 1 * (y 0).val; rw [e0]; omega
  · show (y 1).val = win0_9.index t 1 * 1024 + 1 * (y 1).val; rw [e1]; omega

theorem part_sum (c : Dev nD) (l : Fin 1024) :
    ∑ s ∈ Finset.range (31 + 1), ∑ r : Fin 512, part m c l s r = dgSum m c l := by
  unfold dgSum
  exact Cert.Sums.blocks (a := 32) (b := 512) (n := 16384) (by norm_num) (part m c l) (dgOf m c l) (fun s hs r => by
    have := r.isLt
    unfold part
    exact dif_pos (by omega))

/-- The array of `dgain` after the run. -/
theorem final10 (c : Dev nD) : (dats m 0 c).arrAt 10 cfg0.N = G10 m c := by
  refine (dats m 0 c).arrAt_eq_of_covers 10 _ (by decide +kernel) fun t hf y => ?_
  obtain ⟨-, -, -, -, -, -, -, -, e0, e1⟩ := idx_whole t
  have ht : t.val < 32 := lt_of_lt_of_eq t.isLt N_0
  have h31 : t.val = 31 := by have := (flush0_10 t).mp hf; omega
  have hy : y = ix2 (0 : Fin 1) (y 1) := by
    refine (eq_ix2 y).trans (congrArg (ix2 · (y 1)) (Fin.ext ?_))
    have : (y 0).val < 1 := (y 0).isLt
    show (y 0).val = 0; omega
  blk_simp
  rw [after0_10]
  refine (congrArg _ hy).trans ((outs10 m c (y 1) t.val t.isLt).trans ?_)
  rw [h31]
  refine (part_sum m c (y 1)).trans (congrArg (dgSum m c) (Fin.ext ?_))
  show (y 1).val = win0_10.index t 1 * 1024 + 1 * (y 1).val; rw [e1]; omega

/-! ## The run -/

/-- The run, with the result arrays named and the arguments unchanged. -/
theorem run : θ_run defs (onTc (τ := τ) (main (F := Ideal))) ⟨m, fun _ => 0, ρ⟩ fun r => ∀ c : Dev nD,
      r.2.mem ((c : Thread nD τ).loc main_v4_0) = G9 m c
      ∧ r.2.mem ((c : Thread nD τ).loc main_v4_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans (final9 m c), ((h c).1 10).trans (final10 m c),
      ((h c).1 0).trans (((dats m 0 c).arrAt_in 0 rfl _).trans ((A_eq m c 0).trans (V_main_arg0 m c))), ((h c).1 2).trans (((dats m 0 c).arrAt_in 2 rfl _).trans ((A_eq m c 2).trans (V_main_arg1 m c))), ((h c).1 4).trans (((dats m 0 c).arrAt_in 4 rfl _).trans ((A_eq m c 4).trans (V_main_arg2 m c))), ((h c).2 main_arg3 (Pipeline.mem_restRefs_of main_arg3 (by decide) (by decide))).trans (V_main_arg3 m c), ((h c).1 6).trans (((dats m 0 c).arrAt_in 6 rfl _).trans ((A_eq m c 6).trans (V_main_arg4 m c))), ((h c).2 main_arg5 (Pipeline.mem_restRefs_of main_arg5 (by decide) (by decide))).trans (V_main_arg5 m c), ((h c).1 8).trans (((dats m 0 c).arrAt_in 8 rfl _).trans ((A_eq m c 8).trans (V_main_arg6 m c)))⟩)
    (run_main m ρ)

end Cert.Kernel18Ideal.Norm
-- ==== Proof.Norm18Ref.lean ====
/-
  The reference's gradient of the norm and its product, read at an index.
-/
module

public import proofs.«01_k».proof.Proof.NormMath
public import proofs.«01_k».proof.Proof.Gen.Reference18Ideal.Read
public import Idealize.ShloMosaic.Lib.Pointwise
public import Idealize.ShloMosaic.Lib.Pipeline.Value

@[expose] public section

set_option maxRecDepth 16384

noncomputable section

namespace Cert.Reference18Ideal.NormRef

open Cert.Reference18Ideal Cert.Reference18Ideal.Gen Cert.Reference18Ideal.Read Idealize.ShloMosaic Idealize.ShloMosaic.TcCoe

variable (x0 x1 x2 : (⟨S16384x1536, .bf16⟩ : BufTy).Contents (Elt Ideal)) (x3 : (⟨S1024x4608, .bf16⟩ : BufTy).Contents (Elt Ideal))
  (x4 : (⟨S16384x1024, .f32⟩ : BufTy).Contents (Elt Ideal)) (x5 : (⟨S1024, .f32⟩ : BufTy).Contents (Elt Ideal))
  (x6 : (⟨S16384x1024, .f32⟩ : BufTy).Contents (Elt Ideal))

/-- The arguments at an index. -/
def aD0 (R : Fin 16384) (k : Fin 1536) : EReal := x0 (ix2 R k)
def aD1 (R : Fin 16384) (k : Fin 1536) : EReal := x1 (ix2 R k)
def aD2 (R : Fin 16384) (k : Fin 1536) : EReal := x2 (ix2 R k)
def aW (L : Fin 1024) (k : Fin 4608) : EReal := x3 (ix2 L k)
def aX (R : Fin 16384) (k : Fin 1024) : EReal := x4 (ix2 R k)
def aN (k : Fin 1024) : EReal := x5 (ix1 k)
def aS (R : Fin 16384) (k : Fin 1024) : EReal := x6 (ix2 R k)

theorem zero_word : (FloatOps.ofBits (F := Ideal) .f32 0x00000000#32 : EReal) = 0 := Ideal.ofBits_zero_f32

/-- The mean square, its root's inverse, and the factor of the derivative. -/
theorem v4_at (R : Fin 16384) : (val_main_v4 (F := Ideal) x4 (ix1 R) : EReal) = ∑ k, aX x4 R k * aX x4 R k := by
  refine (val_main_v4_apply x4 (ix1 R)).trans ?_
  rw [val_main_cst_apply, zero_word, zero_add]
  refine Finset.sum_congr rfl fun k _ => ?_
  have e : idx_main_v4 (ix1 R) k = ix2 R k := by funext a; match a with | ⟨0, _⟩ => rfl | ⟨1, _⟩ => rfl
  rw [e]; rfl

theorem v9_at (R : Fin 16384) : (val_main_v9 (F := Ideal) x4 (ix2 R 0) : EReal) = NormMath.ms (aX x4 R) := by
  have e : idx_main_v5 (ix2 R 0) = ix1 R := by funext a; match a with | ⟨0, _⟩ => rfl
  rw [val_main_v9_apply, val_main_v7_apply, val_main_v5_apply, val_main_v6_apply, val_main_v8_apply, e]
  unfold NormMath.ms
  exact congrArg (fun z : EReal => Ideal.div z NormMath.len + NormMath.eps) (v4_at x4 R)

theorem v10_at (R : Fin 16384) : (val_main_v10 (F := Ideal) x4 (ix2 R 0) : EReal) = NormMath.rr (aX x4 R) := by
  rw [val_main_v10_apply, Ideal.hostUnary_rsqrt_def]
  exact congrArg Ideal.rsqrt (v9_at x4 R)

theorem v13_at (R : Fin 16384) : (val_main_v13 (F := Ideal) x4 (ix2 R 0) : EReal)
    = NormMath.mhalf * Ideal.div (NormMath.rr (aX x4 R)) (NormMath.ms (aX x4 R)) := by
  rw [val_main_v13_apply, val_main_v12_apply, val_main_v11_apply]
  exact congrArg (NormMath.mhalf * ·) (congr (congrArg Ideal.div (v10_at x4 R)) (v9_at x4 R))

/-- The joined operand at a column of each of its parts. -/
theorem v1_0 (R : Fin 16384) (k : Fin 1536) (K : Fin 4608) (hK : K.val = 0 + k.val) :
    (val_main_v1 (F := Ideal) x0 x1 x2 (ix2 R K) : EReal) = aD0 x0 R k := by
  unfold val_main_v1 aD0
  refine concatenate_apply_piece (t := S16384x4608) (1 : Fin 2) [⟨S16384x1536, x0⟩, ⟨S16384x1536, x1⟩, ⟨S16384x1536, x2⟩] _ (ix2 R K) 0 (show 0 < 3 by decide) S16384x1536 x0 rfl rfl 0 (by rfl) (ix2 R k)
    (fun a ha => ?_) hK.symm
  match a with
  | ⟨0, _⟩ => rfl
  | ⟨1, _⟩ => exact absurd rfl ha

theorem v1_1 (R : Fin 16384) (k : Fin 1536) (K : Fin 4608) (hK : K.val = 1536 + k.val) :
    (val_main_v1 (F := Ideal) x0 x1 x2 (ix2 R K) : EReal) = aD1 x1 R k := by
  unfold val_main_v1 aD1
  refine concatenate_apply_piece (t := S16384x4608) (1 : Fin 2) [⟨S16384x1536, x0⟩, ⟨S16384x1536, x1⟩, ⟨S16384x1536, x2⟩] _ (ix2 R K) 1 (show 1 < 3 by decide) S16384x1536 x1 rfl rfl 1536 (by rfl) (ix2 R k)
    (fun a ha => ?_) hK.symm
  match a with
  | ⟨0, _⟩ => rfl
  | ⟨1, _⟩ => exact absurd rfl ha

theorem v1_2 (R : Fin 16384) (k : Fin 1536) (K : Fin 4608) (hK : K.val = 3072 + k.val) :
    (val_main_v1 (F := Ideal) x0 x1 x2 (ix2 R K) : EReal) = aD2 x2 R k := by
  unfold val_main_v1 aD2
  refine concatenate_apply_piece (t := S16384x4608) (1 : Fin 2) [⟨S16384x1536, x0⟩, ⟨S16384x1536, x1⟩, ⟨S16384x1536, x2⟩] _ (ix2 R K) 2 (show 2 < 3 by decide) S16384x1536 x2 rfl rfl 3072 (by rfl) (ix2 R k)
    (fun a ha => ?_) hK.symm
  match a with
  | ⟨0, _⟩ => rfl
  | ⟨1, _⟩ => exact absurd rfl ha

/-- The gradient into the norm's output: the products summed. -/
def dh (R : Fin 16384) (L : Fin 1024) : EReal :=
  (∑ k : Fin 1536, aD0 x0 R k * aW x3 L ⟨k.val, by omega⟩) + (∑ k : Fin 1536, aD1 x1 R k * aW x3 L ⟨1536 + k.val, by omega⟩) + (∑ k : Fin 1536, aD2 x2 R k * aW x3 L ⟨3072 + k.val, by omega⟩)

theorem v20_at (R : Fin 16384) (L : Fin 1024) : (val_main_v20 (F := Ideal) x0 x1 x2 x3 (ix2 R L) : EReal) = dh x0 x1 x2 x3 R L := by
  have e : ∀ K, lidx_main_v20 (ix2 R L) K = ix2 R K := fun K => by funext a; match a with | ⟨0, _⟩ => rfl | ⟨1, _⟩ => rfl
  have e' : ∀ K, ridx_main_v20 (ix2 R L) K = ix2 L K := fun K => by funext a; match a with | ⟨0, _⟩ => rfl | ⟨1, _⟩ => rfl
  refine (val_main_v20_apply x0 x1 x2 x3 (ix2 R L)).trans ?_
  unfold dh
  refine (Fin.sum_univ_add (a := 3072) (b := 1536) (M := EReal) _).trans (congr (congrArg HAdd.hAdd ?_) (Finset.sum_congr rfl fun k _ => ?_))
  swap
  · rw [e, e']
    exact congr (congrArg HMul.hMul (v1_2 x0 x1 x2 R k _ rfl)) rfl
  refine (Fin.sum_univ_add (a := 1536) (b := 1536) (M := EReal) _).trans (congr (congrArg HAdd.hAdd ?_) (Finset.sum_congr rfl fun k _ => ?_))
  swap
  · rw [e, e']
    exact congr (congrArg HMul.hMul (v1_1 x0 x1 x2 R k _ rfl)) rfl
  refine Finset.sum_congr rfl fun k _ => ?_
  rw [e, e']
  exact congr (congrArg HMul.hMul (v1_0 x0 x1 x2 R k _ (Nat.zero_add _).symm)) rfl

/-- The incoming gradient times the gain. -/
theorem v25_at (R : Fin 16384) (L : Fin 1024) :
    (val_main_v25 (F := Ideal) x0 x1 x2 x3 x5 (ix2 R L) : EReal) = dh x0 x1 x2 x3 R L * aN x5 L := by
  have e : idx_main_v16 (idx_main_v24 (ix2 R L)) = ix1 L := by funext a; match a with | ⟨0, _⟩ => rfl
  rw [val_main_v25_apply, val_main_v24_apply, val_main_v16_apply, e]
  exact congrArg (fun z : EReal => z * aN x5 L) (v20_at x0 x1 x2 x3 R L)

theorem v28_at (R : Fin 16384) :
    (val_main_v28 (F := Ideal) x0 x1 x2 x3 x4 x5 (ix1 R) : EReal) = ∑ k, aX x4 R k * (dh x0 x1 x2 x3 R k * aN x5 k) := by
  refine (val_main_v28_apply x0 x1 x2 x3 x4 x5 (ix1 R)).trans ?_
  rw [val_main_cst_5_apply, zero_word, zero_add]
  refine Finset.sum_congr rfl fun k _ => ?_
  have e : idx_main_v28 (ix1 R) k = ix2 R k := by funext a; match a with | ⟨0, _⟩ => rfl | ⟨1, _⟩ => rfl
  rw [e, val_main_v27_apply]
  exact congrArg (fun z : EReal => aX x4 R k * z) (v25_at x0 x1 x2 x3 x5 R k)

theorem v37_at (R : Fin 16384) (L : Fin 1024) : (val_main_v37 (F := Ideal) x0 x1 x2 x3 x4 x5 (ix2 R L) : EReal)
    = NormMath.rw' (aX x4 R) (fun k => dh x0 x1 x2 x3 R k * aN x5 k) := by
  have e : idx_main_v37 (ix2 R L) = ix1 R := by funext a; match a with | ⟨0, _⟩ => rfl
  rw [val_main_v37_apply, e]
  refine (val_main_v36_apply x0 x1 x2 x3 x4 x5 (ix1 R)).trans ?_
  rw [val_main_cst_7_apply, zero_word, zero_add, Fin.sum_univ_one]
  have e2 : idx_main_v36 (ix1 R) 0 = ix2 R 0 := by funext a; match a with | ⟨0, _⟩ => rfl | ⟨1, _⟩ => rfl
  have e3 : idx_main_v29 (ix2 R 0) = ix1 R := by
    funext a; match a with | ⟨0, _⟩ => exact Fin.ext (show R.val * 1 + 0 = R.val by omega)
  rw [e2, val_main_v35_apply, val_main_v34_apply, val_main_v33_apply, val_main_v29_apply, e3]
  have ev := v28_at x0 x1 x2 x3 x4 x5 R
  have ew := v13_at x4 R
  unfold NormMath.rw'
  generalize (val_main_v28 (F := Ideal) x0 x1 x2 x3 x4 x5 (ix1 R)) = p at *
  generalize (val_main_v13 (F := Ideal) x4 (ix2 R 0)) = q at *
  rw [← ev, ← ew]
  rfl

/-- The first result at an index. -/
theorem v41_at (R : Fin 16384) (L : Fin 1024) : (val_main_v41 (F := Ideal) x0 x1 x2 x3 x4 x5 x6 (ix2 R L) : EReal)
    = NormMath.rdx (aX x4 R) (fun k => dh x0 x1 x2 x3 R k * aN x5 k) (aS x6 R L) L := by
  have e : idx_main_v30 (ix2 R L) = ix2 R 0 := by funext a; match a with | ⟨0, _⟩ => rfl | ⟨1, _⟩ => rfl
  rw [val_main_v41_apply, val_main_v39_apply, val_main_v40_apply, val_main_v38_apply, val_main_v32_apply, val_main_v31_apply,
    val_main_v30_apply, e]
  unfold NormMath.rdx
  exact congr (congrArg HAdd.hAdd (congr (congrArg HAdd.hAdd (congrArg (fun z : EReal => aS x6 R L + z)
      (congr (congrArg HMul.hMul (v25_at x0 x1 x2 x3 x5 R L)) (v10_at x4 R))))
      (congrArg (fun z : EReal => aX x4 R L * z) (v37_at x0 x1 x2 x3 x4 x5 R L))))
    (congrArg (fun z : EReal => z * aX x4 R L) (v37_at x0 x1 x2 x3 x4 x5 R L))

/-- A row's part of the gain's gradient. -/
theorem v21_at (R : Fin 16384) (L : Fin 1024) : (val_main_v21 (F := Ideal) x0 x1 x2 x3 x4 (ix2 R L) : EReal)
    = dh x0 x1 x2 x3 R L * (aX x4 R L * NormMath.rr (aX x4 R)) := by
  have e : idx_main_v14 (ix2 R L) = ix2 R 0 := by funext a; match a with | ⟨0, _⟩ => rfl | ⟨1, _⟩ => rfl
  rw [val_main_v21_apply, val_main_v15_apply, val_main_v14_apply, e]
  refine Eq.trans ?_ (mul_comm _ _)
  exact congr (congrArg HMul.hMul (congrArg (fun z : EReal => aX x4 R L * z) (v10_at x4 R))) (v20_at x0 x1 x2 x3 R L)

/-- The second result at an index. -/
theorem v42_at (L : Fin 1024) : (val_main_v42 (F := Ideal) x0 x1 x2 x3 x4 (ix2 0 L) : EReal)
    = ∑ R, dh x0 x1 x2 x3 R L * (aX x4 R L * NormMath.rr (aX x4 R)) := by
  have e : idx_main_v42 (ix2 0 L) = ix1 L := by
    funext a; match a with | ⟨0, _⟩ => exact Fin.ext (show 0 * 1024 + L.val = L.val by omega)
  rw [val_main_v42_apply, e]
  refine (val_main_v26_apply x0 x1 x2 x3 x4 (ix1 L)).trans ?_
  rw [val_main_cst_4_apply, zero_word, zero_add, Fin.sum_univ_one]
  have e3 : idx_main_v23 (idx_main_v26 (ix1 L) 0) = ix1 L := by
    funext a; match a with | ⟨0, _⟩ => exact Fin.ext (show 0 * 1024 + L.val = L.val by omega)
  rw [val_main_v23_apply, e3]
  refine (val_main_v22_apply x0 x1 x2 x3 x4 (ix1 L)).trans ?_
  rw [val_main_cst_3_apply, zero_word, zero_add]
  refine Finset.sum_congr rfl fun R _ => ?_
  have e4 : idx_main_v22 (ix1 L) R = ix2 R L := by funext a; match a with | ⟨0, _⟩ => rfl | ⟨1, _⟩ => rfl
  rw [e4]
  exact v21_at x0 x1 x2 x3 x4 R L

end Cert.Reference18Ideal.NormRef
-- ==== Proof.Norm18Eq.lean ====
/-
  The gradient of the norm and its product: the kernel's results are the reference's, and the frames of both copies.
-/
module

public import proofs.«01_k».proof.Proof.Norm18Arr
public import proofs.«01_k».proof.Proof.Norm18Ref
public import proofs.«01_k».proof.Proof.Gen.Kernel18
public import proofs.«01_k».proof.Defs

@[expose] public section

set_option maxRecDepth 16384

noncomputable section

namespace Cert.Kernel18Ideal.Norm

open Cert.Kernel18Ideal Cert.Kernel18Ideal.Gen Idealize.ShloMosaic Idealize.ShloMosaic.TcCoe Idealize.SL.Sem

variable (m : (ℓ : Loc nD τ sig) → Buf (Elt Ideal) ℓ)

theorem eq9 (c : Dev nD) :
    Cert.Reference18Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G9 m c := by
  funext i
  have hi : i = ix2 (i 0) (i 1) := eq_ix2 i
  rw [hi]
  refine (Cert.Reference18Ideal.NormRef.v41_at _ _ _ _ _ _ _ (i 0) (i 1)).trans ?_
  exact (NormMath.kdx_eq_rdx _ _ _ _).symm

theorem eq10 (c : Dev nD) :
    Cert.Reference18Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = G10 m c := by
  funext i
  have hi : i = ix2 0 (i 1) := by
    refine (eq_ix2 i).trans (congrArg (fun z => ix2 z (i 1)) (Fin.ext ?_))
    have h := (i 0).isLt
    exact Nat.lt_one_iff.mp h
  rw [hi]
  exact Cert.Reference18Ideal.NormRef.v42_at _ _ _ _ _ (i 1)

/-- Both programs' results are the kernel's own arrays. -/
theorem algebraic : Cert.algebraic_Kernel18Ideal_Reference18Ideal :=
  fun m ρ m' ρ' _ hag => ⟨fun c => G9 m c, fun c => G10 m c, run m ρ,
    (θ_run _ _ _).mono (fun _ h c => ⟨(h c).1.trans (by
        rw [Cert.Reference18Ideal.Read.val_main_v41_eq, (hag c).1, (hag c).2.1, (hag c).2.2.1, (hag c).2.2.2.1, (hag c).2.2.2.2.1, (hag c).2.2.2.2.2.1, (hag c).2.2.2.2.2.2]
        exact eq9 m c), (h c).2.1.trans (by
        rw [(hag c).1, (hag c).2.1, (hag c).2.2.1, (hag c).2.2.2.1, (hag c).2.2.2.2.1]
        exact (Cert.Reference18Ideal.Read.val_main_v42_eq _ _ _ _ _).trans (eq10 m c)), (h c).2.2⟩)
      (Cert.Reference18Ideal.Value.run m' ρ')⟩

/-- The frames: one run serves both copies of the program. -/
theorem frame_ideal : Cert.quiescent_Kernel18Ideal := fun m ρ _ => frame (F := Ideal) m ρ

/-- The two copies run the same kernel and the same tables. -/
theorem kernel_eq {F : FTy → Type} [FloatOps F] :
    @Cert.Kernel18.cc0_attn_dh F _ Cert.Kernel18.Gen.facts = @Cert.Kernel18Ideal.cc0_attn_dh F _ Cert.Kernel18Ideal.Gen.facts := rfl

theorem table_eq {F : FTy → Type} [FloatOps F] : Cert.Kernel18.defs₀ (F := F) = Cert.Kernel18Ideal.defs₀ (F := F) := by
  unfold Cert.Kernel18.defs₀ Cert.Kernel18Ideal.defs₀
  congr 1
  funext l p
  match l, p with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun kernel_eq _) _) _) _) _) _) _) _) _) _) _) _) _) _) _) _) _) _) _) _) _) _) _) _) _

theorem defs_eq {F : FTy → Type} [FloatOps F] : Cert.Kernel18.defs (F := F) = Cert.Kernel18Ideal.defs (F := F) :=
  congrArg (Pipeline.defs (Cert.Kernel18Ideal.pcfgs (F := F))) table_eq

theorem main_eq_main {F : FTy → Type} [FloatOps F] : Cert.Kernel18.main (F := F) = Cert.Kernel18Ideal.main (F := F) := rfl

theorem frame_bits : Cert.quiescent_Kernel18 := fun m ρ _ => by
  rw [defs_eq, main_eq_main]
  exact frame (F := Bits) m ρ

end Cert.Kernel18Ideal.Norm
-- ==== Proof.Norm20Loop.lean ====
/-
  The row loop of the norm's backward kernel of the gated recurrence: one trip's stores, and that none of them depends on what the array of
  `dx` held before (the trip loads it and drops the value).
-/
module

public import proofs.«01_k».proof.Proof.Gen.Kernel20Ideal.Frame.Runs

@[expose] public section

set_option maxRecDepth 16384

noncomputable section

namespace Cert.Kernel20Ideal.Norm

open Cert.Kernel20Ideal Cert.Kernel20Ideal.Gen Idealize.ShloMosaic Idealize.ShloMosaic.TcCoe Idealize.SL.Sem

variable {F : FTy → Type} [FloatOps F]

variable (𝒱 : Variants) (c : Dev nD) (bd : Option 𝒱.V) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole)
  (v15 : Vec F S1x1024 .f32) (X9 : BufTy.Contents (Elt F) a9.view.ty) (X11 : BufTy.Contents (Elt F) a11.view.ty)
  (X14 : BufTy.Contents (Elt F) a14.view.ty)

/-- The rows trip `k` works on. -/
abbrev rows (k : Fin k0_t1_loop.trips) : Rect S512x1024 :=
  Rect.unit (s := S512x1024) (k0_off1 k) S16x1024.size (k0_off1_inb k)

/-- The whole of the one-row array. -/
abbrev row : Rect S1x1024 := Rect.unit (s := S1x1024) ![0, 0] S1x1024.size inb_S1x1024_S1x1024_0_0

/-- What trip `k` stores: the rows of `dx`, and the running sum of `dgain`. -/
theorem trip_eq (k : Fin k0_t1_loop.trips) (f12 : BufTy.Contents (Elt F) a12.view.ty) (f13 : BufTy.Contents (Elt F) a13.view.ty) :
    tripL_k0_t1 (F := F) 𝒱 c bd i a1 w1 a2 w2 a3 w3 a4 w4 a5 w5 a6 w6 a7 w7 a8 w8 a9 w9 a10 w10 a11 w11 a12 w12 a13 w13 a14 w14 v15 X9 X11 X14 k f12 f13
      = ([⟨rows k, k0_pay3 v15 (View.readAt (Elt F) a9.view (rows k).toLoadRect X9)
            (View.readAt (Elt F) a14.view (rows k).toLoadRect X14) (View.readAt (Elt F) a11.view (rows k).toLoadRect X11)⟩],
         [⟨row, k0_pay4 (View.readAt (Elt F) a9.view (rows k).toLoadRect X9)
            (View.readAt (Elt F) a14.view (rows k).toLoadRect X14) (View.readAt (Elt F) a13.view row.toLoadRect f13)⟩]) := by
  unfold tripL_k0_t1 trip_k0_t1
  rfl

/-- The pieces before trip `k` do not depend on what `dx`'s array held at loop entry. -/
theorem pb_indep (G12 G12' : BufTy.Contents (Elt F) a12.view.ty) (G13 : BufTy.Contents (Elt F) a13.view.ty) (k : ℕ) :
    pb_k0_t1 (F := F) 𝒱 c bd i a1 w1 a2 w2 a3 w3 a4 w4 a5 w5 a6 w6 a7 w7 a8 w8 a9 w9 a10 w10 a11 w11 a12 w12 a13 w13 a14 w14 v15 X9 X11 X14 G12 G13 k
      = pb_k0_t1 (F := F) 𝒱 c bd i a1 w1 a2 w2 a3 w3 a4 w4 a5 w5 a6 w6 a7 w7 a8 w8 a9 w9 a10 w10 a11 w11 a12 w12 a13 w13 a14 w14 v15 X9 X11 X14 G12' G13 k := by
  induction k with
  | zero => rfl
  | succ k ih =>
    by_cases h : k < k0_t1_loop.trips
    · have e := pb_k0_t1_succ (F := F) 𝒱 c bd i a1 w1 a2 w2 a3 w3 a4 w4 a5 w5 a6 w6 a7 w7 a8 w8 a9 w9 a10 w10 a11 w11 a12 w12 a13 w13 a14 w14 v15 X9 X11 X14 G12 G13 ⟨k, h⟩
      have e' := pb_k0_t1_succ (F := F) 𝒱 c bd i a1 w1 a2 w2 a3 w3 a4 w4 a5 w5 a6 w6 a7 w7 a8 w8 a9 w9 a10 w10 a11 w11 a12 w12 a13 w13 a14 w14 v15 X9 X11 X14 G12' G13 ⟨k, h⟩
      rw [trip_eq] at e e'
      refine e.trans (Eq.trans ?_ e'.symm)
      dsimp only
      rw [ih]
    · rw [pb_k0_t1.eq_2, pb_k0_t1.eq_2]
      unfold pb_k0_t1Step
      rw [dif_neg h, dif_neg h, ih]

end Cert.Kernel20Ideal.Norm
-- ==== Proof.Norm20RunA.lean ====
/-
  The body of the norm's backward kernel of the gated recurrence, run once in case A: the pieces its stores leave in the two results' buffers.
-/
module

public import proofs.«01_k».proof.Proof.Norm20Loop

@[expose] public section

set_option maxRecDepth 16384

noncomputable section

namespace Cert.Kernel20Ideal.Norm

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at the first point. -/
noncomputable def kernelRun0_A (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole) (hc0 : cond0_0 i)
    (x0 : Vec F S512x1024 .bf16) (x1 : Vec F S1024x1024 .bf16) (x2 : Vec F S512x1024 .bf16) (x3 : Vec F S1024x1024 .bf16) (x4 : Vec F S512x1024 .bf16) (x5 : Vec F S1024x1024 .bf16) (x6 : Vec F S512x1024 .bf16) (x7 : Vec F S1024x1024 .bf16) (x8 : Vec F S512x1024 .f32) (x9 : Vec F S1x1024 .f32) (x10 : Vec F S512x1024 .f32) :
    Σ' (L11 : List (View.Piece (Elt F) S512x1024 .f32)), { L12 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ (∃ d, owns (c : Thread nD τ) a12 fullShare d) ∗ (∃ d, owns (c : Thread nD τ) a13 fullShare d) ∗ (∃ d, owns (c : Thread nD τ) a14 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ d, owns (c : Thread nD τ) a14 fullShare d)) -∗ K ⟨⟩))
          ⊢ wp frame (wpE (defs₀ (F := F)) Variants.none c none) E (cc0_hgrn_dh i a1 w1 a2 w2 a3 w3 a4 w4 a5 w5 a6 w6 a7 w7 a8 w8 a9 w9 a10 w10 a11 w11 a12 w12 a13 w13 a14 w14) K } := by
  refine ⟨?_, ?_, fun E K => ?run⟩
  case run =>
    simp only [cc0_hgrn_dh_eq_skeleton]; unfold cc0_hgrn_dh_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w10.eq_unread hf9; obtain rfl := w11.eq_unread hf10
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]
    · iexists _; isplitr; · ipureintro; exact w10.read_unread _
      iexact H9
    isplitl [H10]
    · iexists _; isplitr; · ipureintro; exact w11.read_unread _
      iexact H10
    rw [pb_indep (G12 := f11) (G12' := a12.view.junk)]
    isplitl [H11]; · iexists _; iexact H11
    isplitl [H12]; · iexists _; iexact H12
    iexists _, _; isplitr; swap; · iexact HS0
    ipureintro; rfl

end Cert.Kernel20Ideal.Norm
-- ==== Proof.Norm20RunB.lean ====
/-
  The body of the norm's backward kernel of the gated recurrence, run once in case B: the pieces its stores leave in the two results' buffers.
-/
module

public import proofs.«01_k».proof.Proof.Norm20RunA

@[expose] public section

set_option maxRecDepth 16384

noncomputable section

namespace Cert.Kernel20Ideal.Norm

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at a point after the first, where the row of the gain is read before it is stored. -/
noncomputable def kernelRun0_B (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole) (hc0 : ¬cond0_0 i)
    (x0 : Vec F S512x1024 .bf16) (x1 : Vec F S1024x1024 .bf16) (x2 : Vec F S512x1024 .bf16) (x3 : Vec F S1024x1024 .bf16) (x4 : Vec F S512x1024 .bf16) (x5 : Vec F S1024x1024 .bf16) (x6 : Vec F S512x1024 .bf16) (x7 : Vec F S1024x1024 .bf16) (x8 : Vec F S512x1024 .f32) (x9 : Vec F S1x1024 .f32) (x10 : Vec F S512x1024 .f32) (xo12 : Vec F S1x1024 .f32) :
    Σ' (L11 : List (View.Piece (Elt F) S512x1024 .f32)), { L12 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ (∃ d, owns (c : Thread nD τ) a12 fullShare d) ∗ owns (c : Thread nD τ) a13 fullShare xo12 ∗ (∃ d, owns (c : Thread nD τ) a14 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ d, owns (c : Thread nD τ) a14 fullShare d)) -∗ K ⟨⟩))
          ⊢ wp frame (wpE (defs₀ (F := F)) Variants.none c none) E (cc0_hgrn_dh i a1 w1 a2 w2 a3 w3 a4 w4 a5 w5 a6 w6 a7 w7 a8 w8 a9 w9 a10 w10 a11 w11 a12 w12 a13 w13 a14 w14) K } := by
  refine ⟨?_, ?_, fun E K => ?run⟩
  case run =>
    simp only [cc0_hgrn_dh_eq_skeleton]; unfold cc0_hgrn_dh_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w10.eq_unread hf9; obtain rfl := w11.eq_unread hf10; obtain rfl := w13.eq_unread hf12
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]
    · iexists _; isplitr; · ipureintro; exact w10.read_unread _
      iexact H9
    isplitl [H10]
    · iexists _; isplitr; · ipureintro; exact w11.read_unread _
      iexact H10
    rw [pb_indep (G12 := f11) (G12' := a12.view.junk)]
    isplitl [H11]; · iexists _; iexact H11
    isplitl [H12]; · iexists _; iexact H12
    iexists _, _; isplitr; swap; · iexact HS0
    ipureintro; rfl

end Cert.Kernel20Ideal.Norm
-- ==== Proof.Norm20Frame.lean ====
/-
  The run of the norm's backward kernel of the gated recurrence over its grid: what each point leaves in the two results' buffers, by recursion
  on the point, and the run of @main that ends with them written back.
-/
module

public import proofs.«01_k».proof.Proof.Norm20RunB
public import Idealize.ShloMosaic.Lib.Claim

@[expose] public section

-- membership in a rectangle of production extents (`View.cover_of_tiled`): the elaborator's structural look
-- recurses once per coordinate of the long axes
set_option maxRecDepth 16384

noncomputable section

namespace Cert.Kernel20Ideal.Norm

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole) (hc0 : cond0_0 i)
  (x0 : Vec F S512x1024 .bf16) (x1 : Vec F S1024x1024 .bf16) (x2 : Vec F S512x1024 .bf16) (x3 : Vec F S1024x1024 .bf16) (x4 : Vec F S512x1024 .bf16) (x5 : Vec F S1024x1024 .bf16) (x6 : Vec F S512x1024 .bf16) (x7 : Vec F S1024x1024 .bf16) (x8 : Vec F S512x1024 .f32) (x9 : Vec F S1x1024 .f32) (x10 : Vec F S512x1024 .f32)

/-- Case A: the stores into either result cover it, and what they leave there. -/
theorem cover0_A_11 (y : S512x1024.Idx) : ∃ pc ∈ (kernelRun0_A c i a1 w1 a2 w2 a3 w3 a4 w4 a5 w5 a6 w6 a7 w7 a8 w8 a9 w9 a10 w10 a11 w11 a12 w12 a13 w13 a14 w14 hc0 x0 x1 x2 x3 x4 x5 x6 x7 x8 x9 x10).1, y ∈ pc.1.set :=
  View.cover_of_tiledL (kernelRun0_A c i a1 w1 a2 w2 a3 w3 a4 w4 a5 w5 a6 w6 a7 w7 a8 w8 a9 w9 a10 w10 a11 w11 a12 w12 a13 w13 a14 w14 hc0 x0 x1 x2 x3 x4 x5 x6 x7 x8 x9 x10).1 S16x1024.size (by sl_kernel_rfl) y

def out0_A_11 : Vec F S512x1024 .f32 :=
  VO0_11.read (Elt F) (VO0_11.writes (Elt F) VO0_11.junk (kernelRun0_A c i a1 w1 a2 w2 a3 w3 a4 w4 a5 w5 a6 w6 a7 w7 a8 w8 a9 w9 a10 w10 a11 w11 a12 w12 a13 w13 a14 w14 hc0 x0 x1 x2 x3 x4 x5 x6 x7 x8 x9 x10).1)

theorem cover0_A_12 (y : S1x1024.Idx) : ∃ pc ∈ (kernelRun0_A c i a1 w1 a2 w2 a3 w3 a4 w4 a5 w5 a6 w6 a7 w7 a8 w8 a9 w9 a10 w10 a11 w11 a12 w12 a13 w13 a14 w14 hc0 x0 x1 x2 x3 x4 x5 x6 x7 x8 x9 x10).2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 hc0 x0 x1 x2 x3 x4 x5 x6 x7 x8 x9 x10).2.1 S1x1024.size (by sl_kernel_rfl) y

def out0_A_12 : Vec F S1x1024 .f32 :=
  VO0_12.read (Elt F) (VO0_12.writes (Elt F) VO0_12.junk (kernelRun0_A c i a1 w1 a2 w2 a3 w3 a4 w4 a5 w5 a6 w6 a7 w7 a8 w8 a9 w9 a10 w10 a11 w11 a12 w12 a13 w13 a14 w14 hc0 x0 x1 x2 x3 x4 x5 x6 x7 x8 x9 x10).2.1)

end

section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole) (hc0 : ¬cond0_0 i)
  (x0 : Vec F S512x1024 .bf16) (x1 : Vec F S1024x1024 .bf16) (x2 : Vec F S512x1024 .bf16) (x3 : Vec F S1024x1024 .bf16) (x4 : Vec F S512x1024 .bf16) (x5 : Vec F S1024x1024 .bf16) (x6 : Vec F S512x1024 .bf16) (x7 : Vec F S1024x1024 .bf16) (x8 : Vec F S512x1024 .f32) (x9 : Vec F S1x1024 .f32) (x10 : Vec F S512x1024 .f32) (xo12 : Vec F S1x1024 .f32)

/-- Case B: the stores into either result cover it, and what they leave there. -/
theorem cover0_B_11 (y : S512x1024.Idx) : ∃ pc ∈ (kernelRun0_B c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12).1, y ∈ pc.1.set :=
  View.cover_of_tiledL (kernelRun0_B c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12).1 S16x1024.size (by sl_kernel_rfl) y

def out0_B_11 : Vec F S512x1024 .f32 :=
  VO0_11.read (Elt F) (VO0_11.writes (Elt F) VO0_11.junk (kernelRun0_B c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12).1)

theorem cover0_B_12 (y : S1x1024.Idx) : ∃ pc ∈ (kernelRun0_B c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12).2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12).2.1 S1x1024.size (by sl_kernel_rfl) y

def out0_B_12 : Vec F S1x1024 .f32 :=
  VO0_12.read (Elt F) (VO0_12.writes (Elt F) VO0_12.junk (kernelRun0_B c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12).2.1)

end

/-! ## What the outputs hold after each point -/

/-- What a point leaves in the two results' buffers: the first point, and a later point over what the one before left. -/
abbrev atA (c : Dev nD) (t : Fin cfg0.N) (h0 : t.val % 32 = 0) : Vec F S512x1024 .f32 × Vec F S1x1024 .f32 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t),
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t))

abbrev atB (c : Dev nD) (t : Fin cfg0.N) (h0 : ¬t.val % 32 = 0) (p : Vec F S1x1024 .f32) : Vec F S512x1024 .f32 × Vec F S1x1024 .f32 :=
  (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p,
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p)

/-- What the two buffers hold after point `n`, by recursion on the point. -/
def outsAt0 (c : Dev nD) : (n : ℕ) → n < cfg0.N → Vec F S512x1024 .f32 × Vec F S1x1024 .f32
  | 0, hn => atA m c ⟨0, hn⟩ (Nat.zero_mod _)
  | n + 1, hn =>
    if h0 : (n + 1) % 32 = 0 then atA m c ⟨n + 1, hn⟩ h0
    else atB m c ⟨n + 1, hn⟩ h0 (outsAt0 c n (Nat.lt_of_succ_lt hn)).2

theorem outsAt0_A (c : Dev nD) (t : Fin cfg0.N) (h0 : t.val % 32 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- At a point of case B output 8's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · rw [outsAt0_A m c t h0]
    dsimp only [atA, out0_A_11, out0_A_12]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    iintro ⟨H0, H1, H2, H3, H4, H5, H6, H7, H8, H9, H10, ⟨%e11, H11⟩, ⟨%e12, H12⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _)
  · rw [outsAt0_B m c t h0]
    simp only [before0_12_B m c t h0]
    dsimp only [atB, out0_B_11, out0_B_12]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [HS0]; · iexact HS0
    iintro ⟨H0, H1, H2, H3, H4, H5, H6, H7, H8, H9, H10, ⟨%e11, H11⟩, ⟨%e12, H12⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the argument arrays end unchanged, and every counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel20Ideal.Norm
-- ==== Proof.Norm20Val.lean ====
/-
  One block of the norm's backward kernel of the gated recurrence: what its body computes at an index, and what the row loop leaves in the two
  results' buffers.
-/
module

public import proofs.«01_k».proof.Proof.Norm20Loop
public import proofs.«01_k».proof.Proof.NormMath
public import proofs.«01_k».proof.Proof.Sums
public import Idealize.ShloMosaic.Lib.Pointwise
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.Kernel20Ideal.Norm

open Cert.Kernel20Ideal Cert.Kernel20Ideal.Gen Idealize.ShloMosaic Idealize.ShloMosaic.TcCoe Idealize.SL.Sem

theorem pay2_apply (A0 : Vec Ideal S512x1024 .bf16) (B0 : Vec Ideal S1024x1024 .bf16) (A1 : Vec Ideal S512x1024 .bf16) (B1 : Vec Ideal S1024x1024 .bf16) (A2 : Vec Ideal S512x1024 .bf16) (B2 : Vec Ideal S1024x1024 .bf16) (A3 : Vec Ideal S512x1024 .bf16) (B3 : Vec Ideal S1024x1024 .bf16) (r : Fin 512) (l : Fin 1024) :
    k0_pay6 A0 B0 A1 B1 A2 B2 A3 B3 (ix2 r l) = (∑ k : Fin 1024, (A0 (ix2 r k) : EReal) * B0 (ix2 l k)) + (∑ k : Fin 1024, (A1 (ix2 r k) : EReal) * B1 (ix2 l k)) + (∑ k : Fin 1024, (A2 (ix2 r k) : EReal) * B2 (ix2 l k)) + (∑ k : Fin 1024, (A3 (ix2 r k) : EReal) * B3 (ix2 l k)) := by
  pointwise [k0_pay6]

theorem pay1_apply (l : Fin 1024) : (k0_pay5 (F := Ideal) (ix2 0 l) : EReal) = 0 := by
  pointwise [k0_pay5]

/-- The row's factor. -/
theorem pay3_apply (x : Vec Ideal S16x1024 .f32) (r : Fin 16) :
    k0_pay1 x (ix2 r 0) = NormMath.rr (fun k : Fin 1024 => (x (ix2 r k) : EReal)) := by
  pointwise [k0_pay1]
  rfl

theorem pay4_apply (x : Vec Ideal S16x1024 .f32) (r : Fin 16) (l : Fin 1024) :
    k0_pay2 x (ix2 r l) = (x (ix2 r l) : EReal) * NormMath.rr (fun k : Fin 1024 => (x (ix2 r k) : EReal)) := by
  refine (show k0_pay2 x (ix2 r l) = (x (ix2 r l) : EReal) * k0_pay1 x (ix2 r 0) by pointwise [k0_pay2]).trans ?_
  rw [pay3_apply]

theorem pay6_apply (x d : Vec Ideal S16x1024 .f32) (a : Vec Ideal S1x1024 .f32) (l : Fin 1024) :
    k0_pay4 x d a (ix2 0 l) = (a (ix2 0 l) : EReal) + ∑ r : Fin 16, (d (ix2 r l) : EReal) * k0_pay2 x (ix2 r l) := by
  pointwise [k0_pay4]

theorem pay7_eq (g : Vec Ideal S1x1024 .f32) : k0_pay7 g = g := by
  funext y
  rw [eq_ix2 y]
  pointwise [k0_pay7]

theorem pay5_pre (g : Vec Ideal S1x1024 .f32) (x d s : Vec Ideal S16x1024 .f32) (r : Fin 16) (l : Fin 1024) :
    k0_pay3 g x d s (ix2 r l) = (s (ix2 r l) : EReal) + k0_pay1 x (ix2 r 0) * ((d (ix2 r l) : EReal) * g (ix2 0 l)
      - k0_pay2 x (ix2 r l) * Ideal.div (∑ k : Fin 1024, (d (ix2 r k) : EReal) * g (ix2 0 k) * k0_pay2 x (ix2 r k)) (Ideal.ofBits FTy.f32 1149239296#32)) := by
  pointwise [k0_pay3]

theorem pay5_apply (g : Vec Ideal S1x1024 .f32) (x d s : Vec Ideal S16x1024 .f32) (r : Fin 16) (l : Fin 1024) :
    k0_pay3 g x d s (ix2 r l) = NormMath.kdx (fun k : Fin 1024 => (x (ix2 r k) : EReal))
      (fun k : Fin 1024 => (d (ix2 r k) : EReal) * g (ix2 0 k)) (s (ix2 r l) : EReal) l := by
  refine (pay5_pre g x d s r l).trans ?_
  simp only [pay3_apply, pay4_apply]
  rfl

variable (𝒱 : Variants) (c : Dev nD) (bd : Option 𝒱.V) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole)
  (v15 : Vec Ideal S1x1024 .f32) (X9 : BufTy.Contents (Elt Ideal) a9.view.ty) (X11 : BufTy.Contents (Elt Ideal) a11.view.ty)
  (X14 : BufTy.Contents (Elt Ideal) a14.view.ty)

/-- Three blocks of 512 rows, read at an index: the rows `x`, the residual's gradient `s`, the product `d`; and the gain. -/
abbrev bx : Vec Ideal S512x1024 .f32 := a9.view.read (Elt Ideal) X9
abbrev bs : Vec Ideal S512x1024 .f32 := a11.view.read (Elt Ideal) X11
abbrev bd' : Vec Ideal S512x1024 .f32 := a14.view.read (Elt Ideal) X14

/-- Rows of a block read by trip `k`. -/
theorem ld_rows (X : Vec Ideal S512x1024 .f32) (k : Fin k0_t1_loop.trips) (r : Fin 16) (l : Fin 1024) (R : Fin 512)
    (hR : R.val = 16 * k.val + r.val) : View.ld X (rows k) (ix2 r l) = X (ix2 R l) :=
  View.ld_unit_apply_of X _ _ _ _ (ix2 R l) fun a => by
    have e := k0_off1_eq k
    match a with
    | ⟨0, _⟩ => show R.val = k0_off1 k 0 + r.val; rw [e]; exact hR
    | ⟨1, _⟩ => show l.val = k0_off1 k 1 + l.val; rw [e]; show l.val = 0 + l.val; omega

/-- What the block of `dx` holds at an index. -/
def dxAt (g : Vec Ideal S1x1024 .f32) (x d s : Vec Ideal S512x1024 .f32) (y : S512x1024.Idx) : EReal :=
  NormMath.kdx (fun k : Fin 1024 => (x (ix2 (y 0) k) : EReal))
      (fun k : Fin 1024 => (d (ix2 (y 0) k) : EReal) * g (ix2 0 k)) (s (ix2 (y 0) (y 1)) : EReal) (y 1)

theorem rows_emb (k : Fin k0_t1_loop.trips) (r : Fin 16) (l : Fin 1024) (R : Fin 512) (hR : R.val = 16 * k.val + r.val) :
    (rows k).emb (ix2 r l) = ix2 R l := by
  funext a
  apply Fin.ext
  match a with
  | ⟨0, _⟩ => show (k0_off1 k) 0 + 1 * r.val = R.val; rw [k0_off1_eq]; show 16 * k.val + 1 * r.val = _; omega
  | ⟨1, _⟩ => show (k0_off1 k) 1 + 1 * l.val = l.val; rw [k0_off1_eq]; show 0 + 1 * l.val = _; omega

theorem pay5_row (g : Vec Ideal S1x1024 .f32) (x d s : Vec Ideal S512x1024 .f32) (k : Fin k0_t1_loop.trips) (r : Fin 16) (l : Fin 1024) :
    (k0_pay3 g (View.ld x (rows k)) (View.ld d (rows k)) (View.ld s (rows k)) (ix2 r l) : EReal) = dxAt g x d s ((rows k).emb (ix2 r l)) := by
  have hk : k.val < 32 := k.isLt
  have hr := r.isLt
  have hl : ∀ (X : Vec Ideal S512x1024 .f32) (l : Fin 1024), View.ld X (rows k) (ix2 r l) = X (ix2 (⟨16 * k.val + r.val, by omega⟩ : Fin 512) l) :=
    fun X l => ld_rows X k r l _ rfl
  refine (pay5_apply g _ _ _ r l).trans ?_
  rw [rows_emb k r l ⟨16 * k.val + r.val, by omega⟩ rfl]
  unfold dxAt
  rw [hl s l, funext (hl x)]
  refine congrArg (fun e => NormMath.kdx _ e _ l) (funext fun q => ?_)
  rw [hl d q]
  rfl

theorem pay5_rows (g : Vec Ideal S1x1024 .f32) (x d s : Vec Ideal S512x1024 .f32) (k : Fin k0_t1_loop.trips) (y : S16x1024.Idx) :
    (k0_pay3 g (View.ld x (rows k)) (View.ld d (rows k)) (View.ld s (rows k)) y : EReal) = dxAt g x d s ((rows k).emb y) := by
  rw [eq_ix2 y]
  exact pay5_row g x d s k (y 0) (y 1)

/-- Each piece the loop stores into `dx`'s block agrees with `dxAt`. -/
theorem pb12_agree (G12 : BufTy.Contents (Elt Ideal) a12.view.ty) (G13 : BufTy.Contents (Elt Ideal) a13.view.ty) (k : ℕ) :
    ∀ p ∈ (pb_k0_t1 (F := Ideal) 𝒱 c bd i a1 w1 a2 w2 a3 w3 a4 w4 a5 w5 a6 w6 a7 w7 a8 w8 a9 w9 a10 w10 a11 w11 a12 w12 a13 w13 a14 w14 v15 X9 X11 X14 G12 G13 k).1, ∀ x : p.1.shape.Idx,
      p.2 x = dxAt v15 (a9.view.read (Elt Ideal) X9) (a14.view.read (Elt Ideal) X14) (a11.view.read (Elt Ideal) X11) (p.1.emb x) := by
  induction k with
  | zero => intro p hp; exact absurd hp List.not_mem_nil
  | succ k ih =>
    by_cases h : k < k0_t1_loop.trips
    · have e := (pb_k0_t1_succ (F := Ideal) 𝒱 c bd i a1 w1 a2 w2 a3 w3 a4 w4 a5 w5 a6 w6 a7 w7 a8 w8 a9 w9 a10 w10 a11 w11 a12 w12 a13 w13 a14 w14 v15 X9 X11 X14 G12 G13 ⟨k, h⟩)
      rw [trip_eq] at e
      intro p hp
      have hp' : p ∈ (pb_k0_t1 (F := Ideal) 𝒱 c bd i a1 w1 a2 w2 a3 w3 a4 w4 a5 w5 a6 w6 a7 w7 a8 w8 a9 w9 a10 w10 a11 w11 a12 w12 a13 w13 a14 w14 v15 X9 X11 X14 G12 G13 ((⟨k, h⟩ : Fin k0_t1_loop.trips).val + 1)).1 := hp
      rw [e] at hp'
      rcases List.mem_append.mp hp' with h1 | h1
      · rw [List.mem_singleton] at h1
        subst h1
        intro x
        exact pay5_rows v15 _ _ _ ⟨k, h⟩ x
      · exact ih p h1
    · rw [pb_k0_t1.eq_2]
      unfold pb_k0_t1Step
      rw [dif_neg h]
      exact ih

/-- The last piece stored into `dgain`'s row by trip `k`. -/
theorem pb13_succ (G12 : BufTy.Contents (Elt Ideal) a12.view.ty) (G13 : BufTy.Contents (Elt Ideal) a13.view.ty) (k : Fin k0_t1_loop.trips) :
    (pb_k0_t1 (F := Ideal) 𝒱 c bd i a1 w1 a2 w2 a3 w3 a4 w4 a5 w5 a6 w6 a7 w7 a8 w8 a9 w9 a10 w10 a11 w11 a12 w12 a13 w13 a14 w14 v15 X9 X11 X14 G12 G13 (k.val + 1)).2
      = (⟨row, k0_pay4 (View.ld (a9.view.read (Elt Ideal) X9) (rows k)) (View.ld (a14.view.read (Elt Ideal) X14) (rows k))
          (View.ld (a13.view.read (Elt Ideal) (a13.view.writes (Elt Ideal) G13 (pb_k0_t1 (F := Ideal) 𝒱 c bd i a1 w1 a2 w2 a3 w3 a4 w4 a5 w5 a6 w6 a7 w7 a8 w8 a9 w9 a10 w10 a11 w11 a12 w12 a13 w13 a14 w14 v15 X9 X11 X14 G12 G13 k.val).2)) row)⟩ :: (pb_k0_t1 (F := Ideal) 𝒱 c bd i a1 w1 a2 w2 a3 w3 a4 w4 a5 w5 a6 w6 a7 w7 a8 w8 a9 w9 a10 w10 a11 w11 a12 w12 a13 w13 a14 w14 v15 X9 X11 X14 G12 G13 k.val).2) := by
  have e := (pb_k0_t1_succ (F := Ideal) 𝒱 c bd i a1 w1 a2 w2 a3 w3 a4 w4 a5 w5 a6 w6 a7 w7 a8 w8 a9 w9 a10 w10 a11 w11 a12 w12 a13 w13 a14 w14 v15 X9 X11 X14 G12 G13 k)
  rw [trip_eq] at e
  rw [e]
  rfl

/-- A row's contribution to `dgain`. -/
def dgAt (x d : Vec Ideal S512x1024 .f32) (l : Fin 1024) (r : Fin 512) : EReal :=
  (d (ix2 r l) : EReal) * ((x (ix2 r l) : EReal) * NormMath.rr (fun k : Fin 1024 => (x (ix2 r k) : EReal)))

/-- What trip `k` leaves at an index of `dgain`'s row. -/
theorem pay6_rows (x d : Vec Ideal S512x1024 .f32) (a : Vec Ideal S1x1024 .f32) (k : Fin k0_t1_loop.trips) (l : Fin 1024) :
    (k0_pay4 (View.ld x (rows k)) (View.ld d (rows k)) a (ix2 0 l) : EReal)
      = (a (ix2 0 l) : EReal) + ∑ r : Fin 16, (fun (s : ℕ) (r : Fin 16) => if h : 16 * s + r.val < 512 then dgAt x d l ⟨16 * s + r.val, h⟩ else 0) k.val r := by
  have hk : k.val < 32 := k.isLt
  refine (pay6_apply _ _ a l).trans (congrArg _ (Finset.sum_congr rfl fun r _ => ?_))
  have hr := r.isLt
  rw [pay4_apply]
  refine Eq.trans ?_ (dif_pos (by omega)).symm
  have hl : ∀ (X : Vec Ideal S512x1024 .f32) (l : Fin 1024), View.ld X (rows k) (ix2 r l) = X (ix2 (⟨16 * k.val + r.val, by omega⟩ : Fin 512) l) :=
    fun X l => ld_rows X k r l _ rfl
  unfold dgAt
  rw [hl d l, hl x l, funext (hl x)]

theorem ld_row (X : Vec Ideal S1x1024 .f32) (l : Fin 1024) : View.ld X row (ix2 0 l) = X (ix2 0 l) :=
  View.ld_unit_apply_of X _ _ _ _ (ix2 0 l) fun a => by
    match a with
    | ⟨0, _⟩ => rfl
    | ⟨1, _⟩ => show l.val = 0 + l.val; omega

/-- The row after `k` trips, read through any view of any buffer that holds the pieces over any contents (`k` at least 1). -/
theorem read_row {sg : RefSig} {κ : Kind} {sp : Space} (v : View sg κ sp S1x1024 .f32) (f : v.ty.Contents (Elt Ideal)) (w : Vec Ideal S1x1024 .f32)
    (L : List (View.Piece (Elt Ideal) S1x1024 .f32)) (l : Fin 1024) :
    v.read (Elt Ideal) (v.writes (Elt Ideal) f (⟨row, w⟩ :: L)) (ix2 0 l) = w (ix2 0 l) :=
  View.read_writes_cons_unit_of_mem v f inb_S1x1024_S1x1024_0_0 w L (ix2 0 l) (ix2 0 l) rfl fun a => by
    match a with
    | ⟨0, _⟩ => rfl
    | ⟨1, _⟩ => show l.val = 0 + l.val; omega

/-- The running sum before trip `k`. -/
theorem pb13_read (G12 : BufTy.Contents (Elt Ideal) a12.view.ty) (G13 : BufTy.Contents (Elt Ideal) a13.view.ty) (l : Fin 1024) (k : ℕ) (hk : k ≤ 32) :
    (a13.view.read (Elt Ideal) (a13.view.writes (Elt Ideal) G13 (pb_k0_t1 (F := Ideal) 𝒱 c bd i a1 w1 a2 w2 a3 w3 a4 w4 a5 w5 a6 w6 a7 w7 a8 w8 a9 w9 a10 w10 a11 w11 a12 w12 a13 w13 a14 w14 v15 X9 X11 X14 G12 G13 k).2) (ix2 0 l) : EReal)
      = (a13.view.read (Elt Ideal) G13 (ix2 0 l) : EReal) + ∑ s ∈ Finset.range k, ∑ r : Fin 16,
          (fun (s : ℕ) (r : Fin 16) => if h : 16 * s + r.val < 512 then dgAt (a9.view.read (Elt Ideal) X9) (a14.view.read (Elt Ideal) X14) l ⟨16 * s + r.val, h⟩ else 0) s r := by
  induction k with
  | zero => rw [Finset.sum_range_zero, add_zero]; rfl
  | succ k ih =>
    have e := pb13_succ 𝒱 c bd i a1 w1 a2 w2 a3 w3 a4 w4 a5 w5 a6 w6 a7 w7 a8 w8 a9 w9 a10 w10 a11 w11 a12 w12 a13 w13 a14 w14 v15 X9 X11 X14 G12 G13 ⟨k, lt_of_lt_of_eq (show k < 32 by omega) rfl⟩
    refine (congrArg (fun L => a13.view.read (Elt Ideal) (a13.view.writes (Elt Ideal) G13 L) (ix2 0 l)) e).trans ?_
    refine (read_row _ _ _ _ l).trans ((pay6_rows _ _ _ ⟨k, lt_of_lt_of_eq (show k < 32 by omega) rfl⟩ l).trans ?_)
    rw [ld_row, ih (by omega), Finset.sum_range_succ, add_assoc]

/-- The row after the loop, through any view. -/
theorem row_final {sg : RefSig} {κ : Kind} {sp : Space} (v : View sg κ sp S1x1024 .f32) (f : v.ty.Contents (Elt Ideal))
    (L : List (View.Piece (Elt Ideal) S1x1024 .f32))
    (G12 : BufTy.Contents (Elt Ideal) a12.view.ty) (G13 : BufTy.Contents (Elt Ideal) a13.view.ty) (l : Fin 1024) :
    (v.read (Elt Ideal) (v.writes (Elt Ideal) f ((pb_k0_t1 (F := Ideal) 𝒱 c bd i a1 w1 a2 w2 a3 w3 a4 w4 a5 w5 a6 w6 a7 w7 a8 w8 a9 w9 a10 w10 a11 w11 a12 w12 a13 w13 a14 w14 v15 X9 X11 X14 G12 G13 32).2 ++ L)) (ix2 0 l) : EReal)
      = (a13.view.read (Elt Ideal) G13 (ix2 0 l) : EReal) + ∑ r : Fin 512, dgAt (a9.view.read (Elt Ideal) X9) (a14.view.read (Elt Ideal) X14) l r := by
  have e := pb13_succ 𝒱 c bd i a1 w1 a2 w2 a3 w3 a4 w4 a5 w5 a6 w6 a7 w7 a8 w8 a9 w9 a10 w10 a11 w11 a12 w12 a13 w13 a14 w14 v15 X9 X11 X14 G12 G13 ⟨31, by decide⟩
  have hr := pb13_read 𝒱 c bd i a1 w1 a2 w2 a3 w3 a4 w4 a5 w5 a6 w6 a7 w7 a8 w8 a9 w9 a10 w10 a11 w11 a12 w12 a13 w13 a14 w14 v15 X9 X11 X14 G12 G13 l 32 le_rfl
  refine Eq.trans ?_ (hr.trans (congrArg _ (Cert.Sums.blocks (by norm_num) _ _ (fun s hs r => by
    have := r.isLt
    exact dif_pos (by omega)))))
  refine (congrArg (fun M => v.read (Elt Ideal) (v.writes (Elt Ideal) f (M ++ L)) (ix2 0 l)) e).trans ?_
  refine Eq.trans ?_ (congrArg (fun M => a13.view.read (Elt Ideal) (a13.view.writes (Elt Ideal) G13 M) (ix2 0 l)) e).symm
  refine Eq.trans (read_row v f _ (_ ++ L) l) (read_row _ _ _ _ l).symm

end Cert.Kernel20Ideal.Norm
-- ==== Proof.Norm20Out.lean ====
/-
  One grid point of the norm's backward kernel of the gated recurrence: what its run leaves in the two results' buffers, at an index.
-/
module

public import proofs.«01_k».proof.Proof.Norm20Frame
public import proofs.«01_k».proof.Proof.Norm20Val

@[expose] public section

set_option maxRecDepth 16384

noncomputable section

namespace Cert.Kernel20Ideal.Norm

open Cert.Kernel20Ideal Cert.Kernel20Ideal.Gen Idealize.ShloMosaic Idealize.ShloMosaic.TcCoe Idealize.SL.Sem

theorem hz2 : (![0, 0] : Fin 2 → ℕ) = fun _ => 0 := by
  funext a; match a with | ⟨0, _⟩ => rfl | ⟨1, _⟩ => rfl

/-- The scratch block after the products are stored. -/
theorem whole_pay2 (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a14 : Memref sig .tc .vmem S512x1024 .f32)
    (x0 : Vec Ideal S512x1024 .bf16) (x1 : Vec Ideal S1024x1024 .bf16) (x2 : Vec Ideal S512x1024 .bf16) (x3 : Vec Ideal S1024x1024 .bf16) (x4 : Vec Ideal S512x1024 .bf16) (x5 : Vec Ideal S1024x1024 .bf16) (x6 : Vec Ideal S512x1024 .bf16) (x7 : Vec Ideal S1024x1024 .bf16) :
    a14.view.read (Elt Ideal) (a14.view.writes (Elt Ideal) a14.view.junk
        [⟨Rect.unit ![0, 0] S512x1024.size inb_S512x1024_S512x1024_0_0,
          k0_pay6 (View.readAt (Elt Ideal) a1.view (Rect.unit ![0, 0] S512x1024.size inb_S512x1024_S512x1024_0_0).toLoadRect (w1.unread x0))
            (View.readAt (Elt Ideal) a2.view (Rect.unit ![0, 0] S1024x1024.size inb_S1024x1024_S1024x1024_0_0).toLoadRect (w2.unread x1))
            (View.readAt (Elt Ideal) a3.view (Rect.unit ![0, 0] S512x1024.size inb_S512x1024_S512x1024_0_0).toLoadRect (w3.unread x2))
            (View.readAt (Elt Ideal) a4.view (Rect.unit ![0, 0] S1024x1024.size inb_S1024x1024_S1024x1024_0_0).toLoadRect (w4.unread x3))
            (View.readAt (Elt Ideal) a5.view (Rect.unit ![0, 0] S512x1024.size inb_S512x1024_S512x1024_0_0).toLoadRect (w5.unread x4))
            (View.readAt (Elt Ideal) a6.view (Rect.unit ![0, 0] S1024x1024.size inb_S1024x1024_S1024x1024_0_0).toLoadRect (w6.unread x5))
            (View.readAt (Elt Ideal) a7.view (Rect.unit ![0, 0] S512x1024.size inb_S512x1024_S512x1024_0_0).toLoadRect (w7.unread x6))
            (View.readAt (Elt Ideal) a8.view (Rect.unit ![0, 0] S1024x1024.size inb_S1024x1024_S1024x1024_0_0).toLoadRect (w8.unread x7))⟩])
      = k0_pay6 x0 x1 x2 x3 x4 x5 x6 x7 := by
  simp only [View.readAt_eq_ld, w1.read_unread, w2.read_unread, w3.read_unread, w4.read_unread, w5.read_unread, w6.read_unread, w7.read_unread, w8.read_unread,
    View.ld_unit_zero (S := S512x1024) hz2, View.ld_unit_zero (S := S1024x1024) hz2]
  funext y
  exact View.read_writes_cons_unit_of_mem _ _ inb_S512x1024_S512x1024_0_0 _ _ y y hz2 fun a => (Nat.zero_add _).symm

/-- The gain as the body loads it. -/
abbrev gainV (a10 : Memref sig .tc .vmem S1x1024 .f32) (w10 : a10.IsWhole) (x9 : Vec Ideal S1x1024 .f32) : Vec Ideal S1x1024 .f32 :=
  k0_pay7 <| View.readAt (Elt Ideal) a10.view row.toLoadRect (w10.unread x9)

theorem gain_read (a10 : Memref sig .tc .vmem S1x1024 .f32) (w10 : a10.IsWhole) (x9 : Vec Ideal S1x1024 .f32) :
    gainV a10 w10 x9 = x9 := by
  unfold gainV
  rw [pay7_eq, View.readAt_eq_ld, w10.read_unread]
  exact View.ld_unit_zero (S := S1x1024) hz2 _ _

/-- The row is zero before the first point's loop. -/
theorem start_row (a13 : Memref sig .tc .vmem S1x1024 .f32) (l : Fin 1024) :
    (a13.view.read (Elt Ideal) (a13.view.writes (Elt Ideal) a13.view.junk kernelRun0_A.sl.H12_1) (ix2 0 l) : EReal) = 0 := by
  unfold kernelRun0_A.sl.H12_1
  exact (read_row _ _ _ _ l).trans (pay1_apply l)

section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole) (hc0 : cond0_0 i)
  (x0 : Vec Ideal S512x1024 .bf16) (x1 : Vec Ideal S1024x1024 .bf16) (x2 : Vec Ideal S512x1024 .bf16) (x3 : Vec Ideal S1024x1024 .bf16) (x4 : Vec Ideal S512x1024 .bf16) (x5 : Vec Ideal S1024x1024 .bf16) (x6 : Vec Ideal S512x1024 .bf16) (x7 : Vec Ideal S1024x1024 .bf16) (x8 : Vec Ideal S512x1024 .f32) (x9 : Vec Ideal S1x1024 .f32) (x10 : Vec Ideal S512x1024 .f32)

theorem hs_A : a14.view.read (Elt Ideal) (a14.view.writes (Elt Ideal) a14.view.junk (kernelRun0_A.sl.HS0_1 c a1 w1 a2 w2 a3 w3 a4 w4 a5 w5 a6 w6 a7 w7 a8 w8 x0 x1 x2 x3 x4 x5 x6 x7)) = k0_pay6 x0 x1 x2 x3 x4 x5 x6 x7 := by
  unfold kernelRun0_A.sl.HS0_1
  exact whole_pay2 a1 w1 a2 w2 a3 w3 a4 w4 a5 w5 a6 w6 a7 w7 a8 w8 a14 x0 x1 x2 x3 x4 x5 x6 x7

/-- What a point of case A leaves in `dx`'s block, and in `dgain`'s row. -/
theorem out_A_11 (y : S512x1024.Idx) :
    (out0_A_11 c i a1 w1 a2 w2 a3 w3 a4 w4 a5 w5 a6 w6 a7 w7 a8 w8 a9 w9 a10 w10 a11 w11 a12 w12 a13 w13 a14 w14 hc0 x0 x1 x2 x3 x4 x5 x6 x7 x8 x9 x10 y : EReal) = dxAt x9 x8 (k0_pay6 x0 x1 x2 x3 x4 x5 x6 x7) x10 y := by
  unfold out0_A_11
  refine View.read_writes_apply_of_pieces VO0_11 _ (dxAt x9 x8 (k0_pay6 x0 x1 x2 x3 x4 x5 x6 x7) x10) _ ?_ y (cover0_A_11 c i a1 w1 a2 w2 a3 w3 a4 w4 a5 w5 a6 w6 a7 w7 a8 w8 a9 w9 a10 w10 a11 w11 a12 w12 a13 w13 a14 w14 hc0 x0 x1 x2 x3 x4 x5 x6 x7 x8 x9 x10 y)
  have h := pb12_agree Variants.none c none i a1 w1 a2 w2 a3 w3 a4 w4 a5 w5 a6 w6 a7 w7 a8 w8 a9 w9 a10 w10 a11 w11 a12 w12 a13 w13 a14 w14 (gainV a10 w10 x9) (w9.unread x8) (w11.unread x10) (a14.view.writes (Elt Ideal) a14.view.junk (kernelRun0_A.sl.HS0_1 c a1 w1 a2 w2 a3 w3 a4 w4 a5 w5 a6 w6 a7 w7 a8 w8 x0 x1 x2 x3 x4 x5 x6 x7)) a12.view.junk (a13.view.writes (Elt Ideal) a13.view.junk kernelRun0_A.sl.H12_1) 32
  rw [hs_A c a1 w1 a2 w2 a3 w3 a4 w4 a5 w5 a6 w6 a7 w7 a8 w8 a14 x0 x1 x2 x3 x4 x5 x6 x7, w9.read_unread, w11.read_unread] at h
  rw [show dxAt x9 x8 (k0_pay6 x0 x1 x2 x3 x4 x5 x6 x7) x10 = dxAt (gainV a10 w10 x9) x8 (k0_pay6 x0 x1 x2 x3 x4 x5 x6 x7) x10 from by rw [gain_read]]
  unfold kernelRun0_A
  exact h

theorem out_A_12 (l : Fin 1024) :
    (out0_A_12 c i a1 w1 a2 w2 a3 w3 a4 w4 a5 w5 a6 w6 a7 w7 a8 w8 a9 w9 a10 w10 a11 w11 a12 w12 a13 w13 a14 w14 hc0 x0 x1 x2 x3 x4 x5 x6 x7 x8 x9 x10 (ix2 0 l) : EReal) = 0 + ∑ r : Fin 512, dgAt x8 (k0_pay6 x0 x1 x2 x3 x4 x5 x6 x7) l r := by
  unfold out0_A_12
  have h := row_final Variants.none c none i a1 w1 a2 w2 a3 w3 a4 w4 a5 w5 a6 w6 a7 w7 a8 w8 a9 w9 a10 w10 a11 w11 a12 w12 a13 w13 a14 w14 (gainV a10 w10 x9) (w9.unread x8) (w11.unread x10) (a14.view.writes (Elt Ideal) a14.view.junk (kernelRun0_A.sl.HS0_1 c a1 w1 a2 w2 a3 w3 a4 w4 a5 w5 a6 w6 a7 w7 a8 w8 x0 x1 x2 x3 x4 x5 x6 x7)) VO0_12 VO0_12.junk kernelRun0_A.sl.H12_1 a12.view.junk (a13.view.writes (Elt Ideal) a13.view.junk kernelRun0_A.sl.H12_1) l
  rw [hs_A c a1 w1 a2 w2 a3 w3 a4 w4 a5 w5 a6 w6 a7 w7 a8 w8 a14 x0 x1 x2 x3 x4 x5 x6 x7, w9.read_unread, start_row] at h
  unfold kernelRun0_A
  exact h

end

section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .bf16) (w5 : a5.IsWhole) (a6 : Memref sig .tc .vmem S1024x1024 .bf16) (w6 : a6.IsWhole) (a7 : Memref sig .tc .vmem S512x1024 .bf16) (w7 : a7.IsWhole) (a8 : Memref sig .tc .vmem S1024x1024 .bf16) (w8 : a8.IsWhole) (a9 : Memref sig .tc .vmem S512x1024 .f32) (w9 : a9.IsWhole) (a10 : Memref sig .tc .vmem S1x1024 .f32) (w10 : a10.IsWhole) (a11 : Memref sig .tc .vmem S512x1024 .f32) (w11 : a11.IsWhole) (a12 : Memref sig .tc .vmem S512x1024 .f32) (w12 : a12.IsWhole) (a13 : Memref sig .tc .vmem S1x1024 .f32) (w13 : a13.IsWhole) (a14 : Memref sig .tc .vmem S512x1024 .f32) (w14 : a14.IsWhole) (hc0 : ¬cond0_0 i)
  (x0 : Vec Ideal S512x1024 .bf16) (x1 : Vec Ideal S1024x1024 .bf16) (x2 : Vec Ideal S512x1024 .bf16) (x3 : Vec Ideal S1024x1024 .bf16) (x4 : Vec Ideal S512x1024 .bf16) (x5 : Vec Ideal S1024x1024 .bf16) (x6 : Vec Ideal S512x1024 .bf16) (x7 : Vec Ideal S1024x1024 .bf16) (x8 : Vec Ideal S512x1024 .f32) (x9 : Vec Ideal S1x1024 .f32) (x10 : Vec Ideal S512x1024 .f32) (xo12 : Vec Ideal S1x1024 .f32)

theorem hs_B : a14.view.read (Elt Ideal) (a14.view.writes (Elt Ideal) a14.view.junk (kernelRun0_B.sl.HS0_1 c a1 w1 a2 w2 a3 w3 a4 w4 a5 w5 a6 w6 a7 w7 a8 w8 x0 x1 x2 x3 x4 x5 x6 x7)) = k0_pay6 x0 x1 x2 x3 x4 x5 x6 x7 := by
  unfold kernelRun0_B.sl.HS0_1
  exact whole_pay2 a1 w1 a2 w2 a3 w3 a4 w4 a5 w5 a6 w6 a7 w7 a8 w8 a14 x0 x1 x2 x3 x4 x5 x6 x7

/-- What a point of case B leaves in `dx`'s block, and in `dgain`'s row. -/
theorem out_B_11 (y : S512x1024.Idx) :
    (out0_B_11 c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12 y : EReal) = dxAt x9 x8 (k0_pay6 x0 x1 x2 x3 x4 x5 x6 x7) x10 y := by
  unfold out0_B_11
  refine View.read_writes_apply_of_pieces VO0_11 _ (dxAt x9 x8 (k0_pay6 x0 x1 x2 x3 x4 x5 x6 x7) x10) _ ?_ y (cover0_B_11 c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12 y)
  have h := pb12_agree Variants.none c none i a1 w1 a2 w2 a3 w3 a4 w4 a5 w5 a6 w6 a7 w7 a8 w8 a9 w9 a10 w10 a11 w11 a12 w12 a13 w13 a14 w14 (gainV a10 w10 x9) (w9.unread x8) (w11.unread x10) (a14.view.writes (Elt Ideal) a14.view.junk (kernelRun0_B.sl.HS0_1 c a1 w1 a2 w2 a3 w3 a4 w4 a5 w5 a6 w6 a7 w7 a8 w8 x0 x1 x2 x3 x4 x5 x6 x7)) a12.view.junk (w13.unread xo12) 32
  rw [hs_B c a1 w1 a2 w2 a3 w3 a4 w4 a5 w5 a6 w6 a7 w7 a8 w8 a14 x0 x1 x2 x3 x4 x5 x6 x7, w9.read_unread, w11.read_unread] at h
  rw [show dxAt x9 x8 (k0_pay6 x0 x1 x2 x3 x4 x5 x6 x7) x10 = dxAt (gainV a10 w10 x9) x8 (k0_pay6 x0 x1 x2 x3 x4 x5 x6 x7) x10 from by rw [gain_read]]
  unfold kernelRun0_B
  exact h

theorem out_B_12 (l : Fin 1024) :
    (out0_B_12 c i a1 w1 a2 w2 a3 w3 a4 w4 a5 w5 a6 w6 a7 w7 a8 w8 a9 w9 a10 w10 a11 w11 a12 w12 a13 w13 a14 w14 hc0 x0 x1 x2 x3 x4 x5 x6 x7 x8 x9 x10 xo12 (ix2 0 l) : EReal) = (xo12 (ix2 0 l) : EReal) + ∑ r : Fin 512, dgAt x8 (k0_pay6 x0 x1 x2 x3 x4 x5 x6 x7) l r := by
  unfold out0_B_12
  have h := row_final Variants.none c none i a1 w1 a2 w2 a3 w3 a4 w4 a5 w5 a6 w6 a7 w7 a8 w8 a9 w9 a10 w10 a11 w11 a12 w12 a13 w13 a14 w14 (gainV a10 w10 x9) (w9.unread x8) (w11.unread x10) (a14.view.writes (Elt Ideal) a14.view.junk (kernelRun0_B.sl.HS0_1 c a1 w1 a2 w2 a3 w3 a4 w4 a5 w5 a6 w6 a7 w7 a8 w8 x0 x1 x2 x3 x4 x5 x6 x7)) VO0_12 VO0_12.junk [] a12.view.junk (w13.unread xo12) l
  rw [hs_B c a1 w1 a2 w2 a3 w3 a4 w4 a5 w5 a6 w6 a7 w7 a8 w8 a14 x0 x1 x2 x3 x4 x5 x6 x7, w9.read_unread, w13.read_unread, List.append_nil] at h
  unfold kernelRun0_B
  exact h

end

end Cert.Kernel20Ideal.Norm
-- ==== Proof.Norm20Arr.lean ====
/-
  The norm's backward kernel of the gated recurrence over its whole grid: what the two result arrays hold after the run, at an index.
-/
module

public import proofs.«01_k».proof.Proof.Norm20Out
public import Idealize.ShloMosaic.Lib.Pipeline.ValueKit
public import Idealize.ShloMosaic.Lib.Pipeline.Value
public import Idealize.ShloMosaic.Lib.StableHlo.Run

@[expose] public section

set_option maxRecDepth 16384

noncomputable section

namespace Cert.Kernel20Ideal.Norm

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices, over the grid. -/
theorem idx_rows : ∀ t : Fin cfg0.N,
    win0_0.index t (0 : Fin 2) = t.val ∧ win0_0.index t (1 : Fin 2) = 0
    ∧ win0_2.index t (0 : Fin 2) = t.val ∧ win0_2.index t (1 : Fin 2) = 0
    ∧ win0_4.index t (0 : Fin 2) = t.val ∧ win0_4.index t (1 : Fin 2) = 0
    ∧ win0_6.index t (0 : Fin 2) = t.val ∧ win0_6.index t (1 : Fin 2) = 0
    ∧ win0_8.index t (0 : Fin 2) = t.val ∧ win0_8.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem idx_whole : ∀ t : Fin cfg0.N,
    win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_12.index t (0 : Fin 2) = 0 ∧ win0_12.index t (1 : Fin 2) = 0 :=
  (by decide +kernel : ∀ t : Fin grid0.N, _)

/-- The arguments at an index: the parts of the gradient, the projection, the rows, the gain, the residual's gradient. -/
def aD0 (c : Dev nD) (R : Fin 16384) (k : Fin 1024) : EReal := m ((c : Thread nD τ).loc main_arg0) (ix2 R k)
def aD1 (c : Dev nD) (R : Fin 16384) (k : Fin 1024) : EReal := m ((c : Thread nD τ).loc main_arg1) (ix2 R k)
def aD2 (c : Dev nD) (R : Fin 16384) (k : Fin 1024) : EReal := m ((c : Thread nD τ).loc main_arg2) (ix2 R k)
def aD3 (c : Dev nD) (R : Fin 16384) (k : Fin 1024) : EReal := m ((c : Thread nD τ).loc main_arg3) (ix2 R k)
def aW (c : Dev nD) (L : Fin 1024) (k : Fin 4096) : EReal := m ((c : Thread nD τ).loc main_arg4) (ix2 L k)
def aX (c : Dev nD) (R : Fin 16384) (k : Fin 1024) : EReal := m ((c : Thread nD τ).loc main_arg5) (ix2 R k)
def aN (c : Dev nD) (k : Fin 1024) : EReal := m ((c : Thread nD τ).loc main_arg6) (ix1 k)
def aS (c : Dev nD) (R : Fin 16384) (k : Fin 1024) : EReal := m ((c : Thread nD τ).loc main_arg7) (ix2 R k)

/-- The host's arrays before the call: the parts of the projection, and the gain as a row. -/
theorem V_v0 (c : Dev nD) (L : Fin 1024) (k : Fin 1024) :
    (V m c main_v0 (ix2 L k) : EReal) = aW m c L ⟨k.val, by omega⟩ := by
  have e : V m c main_v0 = extractStridedSlice S1024x1024 ![0, 0] (m ((c : Thread nD τ).loc main_arg4)) slices_S1024x4096_S1024x1024_0_0 := by
    show StableHlo.after hostOps0 (fun b => m (c, b)) (Proc.devRef .tc main_v0) = _
    after_results
  rw [e]
  unfold aW
  pointwise []

theorem V_v1 (c : Dev nD) (L : Fin 1024) (k : Fin 1024) :
    (V m c main_v1 (ix2 L k) : EReal) = aW m c L ⟨1024 + k.val, by omega⟩ := by
  have e : V m c main_v1 = extractStridedSlice S1024x1024 ![0, 1024] (m ((c : Thread nD τ).loc main_arg4)) slices_S1024x4096_S1024x1024_0_1024 := by
    show StableHlo.after hostOps0 (fun b => m (c, b)) (Proc.devRef .tc main_v1) = _
    after_results
  rw [e]
  unfold aW
  pointwise []

theorem V_v2 (c : Dev nD) (L : Fin 1024) (k : Fin 1024) :
    (V m c main_v2 (ix2 L k) : EReal) = aW m c L ⟨2048 + k.val, by omega⟩ := by
  have e : V m c main_v2 = extractStridedSlice S1024x1024 ![0, 2048] (m ((c : Thread nD τ).loc main_arg4)) slices_S1024x4096_S1024x1024_0_2048 := by
    show StableHlo.after hostOps0 (fun b => m (c, b)) (Proc.devRef .tc main_v2) = _
    after_results
  rw [e]
  unfold aW
  pointwise []

theorem V_v3 (c : Dev nD) (L : Fin 1024) (k : Fin 1024) :
    (V m c main_v3 (ix2 L k) : EReal) = aW m c L ⟨3072 + k.val, by omega⟩ := by
  have e : V m c main_v3 = extractStridedSlice S1024x1024 ![0, 3072] (m ((c : Thread nD τ).loc main_arg4)) slices_S1024x4096_S1024x1024_0_3072 := by
    show StableHlo.after hostOps0 (fun b => m (c, b)) (Proc.devRef .tc main_v3) = _
    after_results
  rw [e]
  unfold aW
  pointwise []

theorem V_v4 (c : Dev nD) (k : Fin 1024) : (V m c main_v4 (ix2 0 k) : EReal) = aN m c k := by
  have e : V m c main_v4 = shapeCast S1x1024 (m ((c : Thread nD τ).loc main_arg6)) shapeCasts_S1024_S1x1024 := by
    show StableHlo.after hostOps0 (fun b => m (c, b)) (Proc.devRef .tc main_v4) = _
    after_results
    rfl
  rw [e]
  unfold aN
  pointwise []

/-- The blocks at a grid point, at an index. -/
theorem b0 (c : Dev nD) (t : Fin cfg0.N) (r : Fin 512) (k : Fin 1024) (R : Fin 16384) (hR : R.val = 512 * t.val + r.val) :
    (iblk m c 0 t (ix2 r k) : EReal) = aD0 m c R k := by
  obtain ⟨e0, e1, -⟩ := idx_rows t
  unfold iblk aD0
  refine congrArg (m (c.tc.loc main_arg0)) (funext fun a => Fin.ext ?_)
  match a with
  | ⟨0, _⟩ => show win0_0.index t 0 * 512 + 1 * r.val = R.val; rw [e0]; omega
  | ⟨1, _⟩ => show win0_0.index t 1 * 1024 + 1 * k.val = k.val; rw [e1]; omega

theorem b2 (c : Dev nD) (t : Fin cfg0.N) (r : Fin 512) (k : Fin 1024) (R : Fin 16384) (hR : R.val = 512 * t.val + r.val) :
    (iblk m c 2 t (ix2 r k) : EReal) = aD1 m c R k := by
  obtain ⟨-, -, e0, e1, -⟩ := idx_rows t
  unfold iblk aD1
  refine congrArg (m (c.tc.loc main_arg1)) (funext fun a => Fin.ext ?_)
  match a with
  | ⟨0, _⟩ => show win0_2.index t 0 * 512 + 1 * r.val = R.val; rw [e0]; omega
  | ⟨1, _⟩ => show win0_2.index t 1 * 1024 + 1 * k.val = k.val; rw [e1]; omega

theorem b4 (c : Dev nD) (t : Fin cfg0.N) (r : Fin 512) (k : Fin 1024) (R : Fin 16384) (hR : R.val = 512 * t.val + r.val) :
    (iblk m c 4 t (ix2 r k) : EReal) = aD2 m c R k := by
  obtain ⟨-, -, -, -, e0, e1, -⟩ := idx_rows t
  unfold iblk aD2
  refine congrArg (m (c.tc.loc main_arg2)) (funext fun a => Fin.ext ?_)
  match a with
  | ⟨0, _⟩ => show win0_4.index t 0 * 512 + 1 * r.val = R.val; rw [e0]; omega
  | ⟨1, _⟩ => show win0_4.index t 1 * 1024 + 1 * k.val = k.val; rw [e1]; omega

theorem b6 (c : Dev nD) (t : Fin cfg0.N) (r : Fin 512) (k : Fin 1024) (R : Fin 16384) (hR : R.val = 512 * t.val + r.val) :
    (iblk m c 6 t (ix2 r k) : EReal) = aD3 m c R k := by
  obtain ⟨-, -, -, -, -, -, e0, e1, -⟩ := idx_rows t
  unfold iblk aD3
  refine congrArg (m (c.tc.loc main_arg3)) (funext fun a => Fin.ext ?_)
  match a with
  | ⟨0, _⟩ => show win0_6.index t 0 * 512 + 1 * r.val = R.val; rw [e0]; omega
  | ⟨1, _⟩ => show win0_6.index t 1 * 1024 + 1 * k.val = k.val; rw [e1]; omega

theorem b8 (c : Dev nD) (t : Fin cfg0.N) (r : Fin 512) (k : Fin 1024) (R : Fin 16384) (hR : R.val = 512 * t.val + r.val) :
    (iblk m c 8 t (ix2 r k) : EReal) = aX m c R k := by
  obtain ⟨-, -, -, -, -, -, -, -, e0, e1, -⟩ := idx_rows t
  unfold iblk aX
  refine congrArg (m (c.tc.loc main_arg5)) (funext fun a => Fin.ext ?_)
  match a with
  | ⟨0, _⟩ => show win0_8.index t 0 * 512 + 1 * r.val = R.val; rw [e0]; omega
  | ⟨1, _⟩ => show win0_8.index t 1 * 1024 + 1 * k.val = k.val; rw [e1]; omega

theorem b10 (c : Dev nD) (t : Fin cfg0.N) (r : Fin 512) (k : Fin 1024) (R : Fin 16384) (hR : R.val = 512 * t.val + r.val) :
    (iblk m c 10 t (ix2 r k) : EReal) = aS m c R k := by
  obtain ⟨-, -, -, -, -, -, -, -, -, -, e0, e1, -⟩ := idx_rows t
  unfold iblk aS
  refine congrArg (m (c.tc.loc main_arg7)) (funext fun a => Fin.ext ?_)
  match a with
  | ⟨0, _⟩ => show win0_10.index t 0 * 512 + 1 * r.val = R.val; rw [e0]; omega
  | ⟨1, _⟩ => show win0_10.index t 1 * 1024 + 1 * k.val = k.val; rw [e1]; omega

theorem b1 (c : Dev nD) (t : Fin cfg0.N) (r : Fin 1024) (k : Fin 1024) :
    (iblk m c 1 t (ix2 r k) : EReal) = aW m c r ⟨k.val, by omega⟩ := by
  obtain ⟨e0, e1, -⟩ := idx_whole t
  refine Eq.trans ?_ (V_v0 m c r k)
  unfold iblk
  refine congrArg (V m c main_v0) (funext fun a => Fin.ext ?_)
  match a with
  | ⟨0, _⟩ => show win0_1.index t 0 * 1024 + 1 * r.val = r.val; rw [e0]; omega
  | ⟨1, _⟩ => show win0_1.index t 1 * 1024 + 1 * k.val = k.val; rw [e1]; omega

theorem b3 (c : Dev nD) (t : Fin cfg0.N) (r : Fin 1024) (k : Fin 1024) :
    (iblk m c 3 t (ix2 r k) : EReal) = aW m c r ⟨1024 + k.val, by omega⟩ := by
  obtain ⟨-, -, e0, e1, -⟩ := idx_whole t
  refine Eq.trans ?_ (V_v1 m c r k)
  unfold iblk
  refine congrArg (V m c main_v1) (funext fun a => Fin.ext ?_)
  match a with
  | ⟨0, _⟩ => show win0_3.index t 0 * 1024 + 1 * r.val = r.val; rw [e0]; omega
  | ⟨1, _⟩ => show win0_3.index t 1 * 1024 + 1 * k.val = k.val; rw [e1]; omega

theorem b5 (c : Dev nD) (t : Fin cfg0.N) (r : Fin 1024) (k : Fin 1024) :
    (iblk m c 5 t (ix2 r k) : EReal) = aW m c r ⟨2048 + k.val, by omega⟩ := by
  obtain ⟨-, -, -, -, e0, e1, -⟩ := idx_whole t
  refine Eq.trans ?_ (V_v2 m c r k)
  unfold iblk
  refine congrArg (V m c main_v2) (funext fun a => Fin.ext ?_)
  match a with
  | ⟨0, _⟩ => show win0_5.index t 0 * 1024 + 1 * r.val = r.val; rw [e0]; omega
  | ⟨1, _⟩ => show win0_5.index t 1 * 1024 + 1 * k.val = k.val; rw [e1]; omega

theorem b7 (c : Dev nD) (t : Fin cfg0.N) (r : Fin 1024) (k : Fin 1024) :
    (iblk m c 7 t (ix2 r k) : EReal) = aW m c r ⟨3072 + k.val, by omega⟩ := by
  obtain ⟨-, -, -, -, -, -, e0, e1, -⟩ := idx_whole t
  refine Eq.trans ?_ (V_v3 m c r k)
  unfold iblk
  refine congrArg (V m c main_v3) (funext fun a => Fin.ext ?_)
  match a with
  | ⟨0, _⟩ => show win0_7.index t 0 * 1024 + 1 * r.val = r.val; rw [e0]; omega
  | ⟨1, _⟩ => show win0_7.index t 1 * 1024 + 1 * k.val = k.val; rw [e1]; omega

theorem b9 (c : Dev nD) (t : Fin cfg0.N) (k : Fin 1024) :
    (iblk m c 9 t (ix2 0 k) : EReal) = aN m c k := by
  obtain ⟨-, -, -, -, -, -, -, -, e0, e1, -⟩ := idx_whole t
  refine Eq.trans ?_ (V_v4 m c k)
  unfold iblk
  refine congrArg (V m c main_v4) (funext fun a => Fin.ext ?_)
  match a with
  | ⟨0, _⟩ => show win0_9.index t 0 * 1 + 1 * 0 = 0; rw [e0]
  | ⟨1, _⟩ => show win0_9.index t 1 * 1024 + 1 * k.val = k.val; rw [e1]; omega

/-- The gradient into the norm's output: the products summed. -/
def dh (c : Dev nD) (R : Fin 16384) (L : Fin 1024) : EReal :=
  (∑ k : Fin 1024, aD0 m c R k * aW m c L ⟨k.val, by omega⟩) + (∑ k : Fin 1024, aD1 m c R k * aW m c L ⟨1024 + k.val, by omega⟩) + (∑ k : Fin 1024, aD2 m c R k * aW m c L ⟨2048 + k.val, by omega⟩) + (∑ k : Fin 1024, aD3 m c R k * aW m c L ⟨3072 + k.val, by omega⟩)

/-- What `dx` holds at row `R`, column `L`. -/
def dxOf (c : Dev nD) (R : Fin 16384) (L : Fin 1024) : EReal :=
  NormMath.kdx (fun k => aX m c R k) (fun k => dh m c R k * aN m c k) (aS m c R L) L

/-- Row `R`'s part of `dgain` at column `L`. -/
def dgOf (c : Dev nD) (L : Fin 1024) (R : Fin 16384) : EReal :=
  dh m c R L * (aX m c R L * NormMath.rr (fun k => aX m c R k))

/-- The scratch block at a grid point. -/
abbrev D (c : Dev nD) (t : Fin cfg0.N) : Vec Ideal S512x1024 .f32 :=
  k0_pay6 (iblk m c 0 t) (iblk m c 1 t) (iblk m c 2 t) (iblk m c 3 t) (iblk m c 4 t) (iblk m c 5 t) (iblk m c 6 t) (iblk m c 7 t)

theorem D_apply (c : Dev nD) (t : Fin cfg0.N) (r : Fin 512) (l : Fin 1024) (R : Fin 16384) (hR : R.val = 512 * t.val + r.val) :
    (D m c t (ix2 r l) : EReal) = dh m c R l := by
  refine (pay2_apply _ _ _ _ _ _ _ _ r l).trans ?_
  unfold dh
  exact congr (congrArg HAdd.hAdd (congr (congrArg HAdd.hAdd (congr (congrArg HAdd.hAdd (Finset.sum_congr rfl fun k _ => congr (congrArg HMul.hMul (b0 m c t r k R hR)) (b1 m c t l k)))
    (Finset.sum_congr rfl fun k _ => congr (congrArg HMul.hMul (b2 m c t r k R hR)) (b3 m c t l k))))
    (Finset.sum_congr rfl fun k _ => congr (congrArg HMul.hMul (b4 m c t r k R hR)) (b5 m c t l k))))
    (Finset.sum_congr rfl fun k _ => congr (congrArg HMul.hMul (b6 m c t r k R hR)) (b7 m c t l k))

theorem dxAt_apply (c : Dev nD) (t : Fin cfg0.N) (r : Fin 512) (l : Fin 1024) (R : Fin 16384) (hR : R.val = 512 * t.val + r.val) :
    dxAt (iblk m c 9 t) (iblk m c 8 t) (D m c t) (iblk m c 10 t) (ix2 r l) = dxOf m c R l := by
  unfold dxAt dxOf
  have e1 : (fun k : Fin 1024 => (iblk m c 8 t (ix2 r k) : EReal)) = fun k => aX m c R k := funext fun k => b8 m c t r k R hR
  have e2 : (fun k : Fin 1024 => (D m c t (ix2 r k) : EReal) * iblk m c 9 t (ix2 0 k)) = fun k => dh m c R k * aN m c k :=
    funext fun k => congr (congrArg HMul.hMul (D_apply m c t r k R hR)) (b9 m c t k)
  exact congr (congr (congr (congrArg NormMath.kdx e1) e2) (b10 m c t r l R hR)) rfl

theorem dgAt_apply (c : Dev nD) (t : Fin cfg0.N) (r : Fin 512) (l : Fin 1024) (R : Fin 16384) (hR : R.val = 512 * t.val + r.val) :
    dgAt (iblk m c 8 t) (D m c t) l r = dgOf m c l R := by
  unfold dgAt dgOf
  have e1 : (fun k : Fin 1024 => (iblk m c 8 t (ix2 r k) : EReal)) = fun k => aX m c R k := funext fun k => b8 m c t r k R hR
  exact congr (congrArg HMul.hMul (D_apply m c t r l R hR)) (congr (congrArg HMul.hMul (b8 m c t r l R hR)) (congrArg NormMath.rr e1))

/-- What the run leaves in `dx`'s block at every point. -/
theorem outs11 (c : Dev nD) (t : Fin cfg0.N) (y : S512x1024.Idx) :
    ((outsAt0 m c t.val t.isLt).1 y : EReal) = dxAt (iblk m c 9 t) (iblk m c 8 t) (D m c t) (iblk m c 10 t) y := by
  by_cases h0 : t.val % 32 = 0
  · rw [outsAt0_A m c t h0]
    exact out_A_11 c _ _ _ _ _ _ _ _ _ _ _ _ _ _ _ _ _ _ _ _ _ _ _ _ _ _ _ _ _ _ _ _ _ _ _ _ _ _ _ _ _ y
  · rw [outsAt0_B m c t h0]
    exact out_B_11 c _ _ _ _ _ _ _ _ _ _ _ _ _ _ _ _ _ _ _ _ _ _ _ _ _ _ _ _ _ _ _ _ _ _ _ _ _ _ _ _ _ _ y

/-- One point's part of `dgain`. -/
def part (c : Dev nD) (l : Fin 1024) (s : ℕ) (r : Fin 512) : EReal :=
  if h : 512 * s + r.val < 16384 then dgOf m c l ⟨512 * s + r.val, h⟩ else 0

theorem part_eq (c : Dev nD) (t : Fin cfg0.N) (l : Fin 1024) :
    ∑ r : Fin 512, dgAt (iblk m c 8 t) (D m c t) l r = ∑ r : Fin 512, part m c l t.val r := by
  have ht : t.val < 32 := lt_of_lt_of_eq t.isLt N_0
  refine Finset.sum_congr rfl fun r _ => ?_
  have hr := r.isLt
  unfold part
  rw [dif_pos (by omega)]
  exact dgAt_apply m c t r l _ rfl

/-- What the run leaves in `dgain`'s row after point `n`: the sum over the rows so far. -/
theorem outs12 (c : Dev nD) (l : Fin 1024) (n : ℕ) (hn : n < cfg0.N) :
    ((outsAt0 m c n hn).2 (ix2 0 l) : EReal) = ∑ s ∈ Finset.range (n + 1), ∑ r : Fin 512, part m c l s r := by
  have hN : n < 32 := lt_of_lt_of_eq hn N_0
  induction n with
  | zero =>
    have e := outsAt0_A m c ⟨0, hn⟩ rfl
    rw [show outsAt0 m c 0 hn = _ from e]
    rw [Finset.sum_range_one, ← part_eq m c ⟨0, hn⟩ l]
    exact (out_A_12 c _ _ _ _ _ _ _ _ _ _ _ _ _ _ _ _ _ _ _ _ _ _ _ _ _ _ _ _ _ _ _ _ _ _ _ _ _ _ _ _ _ l).trans (zero_add _)
  | succ n ih =>
    have h0 : ¬ (⟨n + 1, hn⟩ : Fin cfg0.N).val % 32 = 0 := by show ¬ (n + 1) % 32 = 0; omega
    have e := outsAt0_B m c ⟨n + 1, hn⟩ h0
    rw [show outsAt0 m c (n + 1) hn = _ from e]
    rw [Finset.sum_range_succ, ← ih (by omega) (by omega), ← part_eq m c ⟨n + 1, hn⟩ l]
    exact out_B_12 c _ _ _ _ _ _ _ _ _ _ _ _ _ _ _ _ _ _ _ _ _ _ _ _ _ _ _ _ _ _ _ _ _ _ _ _ _ _ _ _ _ _ l

/-- The result arrays. -/
def G11 (c : Dev nD) : Buf (Elt Ideal) ((c : Thread nD τ).loc main_v5_0) := fun i => dxOf m c (i 0) (i 1)
/-- Column `L` of `dgain`. -/
def dgSum (c : Dev nD) (L : Fin 1024) : EReal := ∑ R : Fin 16384, dgOf m c L R
def G12 (c : Dev nD) : Buf (Elt Ideal) ((c : Thread nD τ).loc main_v5_1) := fun i => dgSum m c (i 1)

/-- The array of `dx` after the run. -/
theorem final11 (c : Dev nD) : (dats m 0 c).arrAt 11 cfg0.N = G11 m c := by
  refine (dats m 0 c).arrAt_eq_of_covers 11 _ (by decide +kernel) fun t _ y => ?_
  obtain ⟨-, -, -, -, -, -, -, -, -, -, -, -, e0, e1⟩ := idx_rows t
  have ht : t.val < 32 := lt_of_lt_of_eq t.isLt N_0
  have hy0 : (y 0).val < 512 := (y 0).isLt
  blk_simp
  rw [after0_11]
  refine (outs11 m c t _).trans ((congrArg _ (eq_ix2 y)).trans ((dxAt_apply m c t (y 0) (y 1) ⟨512 * t.val + (y 0).val, by omega⟩ rfl).trans
    (congr (congrArg (dxOf m c) (Fin.ext ?_)) (Fin.ext ?_))))
  · show 512 * t.val + (y 0).val = win0_11.index t 0 * 512 + 1 * (y 0).val; rw [e0]; omega
  · show (y 1).val = win0_11.index t 1 * 1024 + 1 * (y 1).val; rw [e1]; omega

theorem part_sum (c : Dev nD) (l : Fin 1024) :
    ∑ s ∈ Finset.range (31 + 1), ∑ r : Fin 512, part m c l s r = dgSum m c l := by
  unfold dgSum
  exact Cert.Sums.blocks (a := 32) (b := 512) (n := 16384) (by norm_num) (part m c l) (dgOf m c l) (fun s hs r => by
    have := r.isLt
    unfold part
    exact dif_pos (by omega))

/-- The array of `dgain` after the run. -/
theorem final12 (c : Dev nD) : (dats m 0 c).arrAt 12 cfg0.N = G12 m c := by
  refine (dats m 0 c).arrAt_eq_of_covers 12 _ (by decide +kernel) fun t hf y => ?_
  obtain ⟨-, -, -, -, -, -, -, -, -, -, e0, e1⟩ := idx_whole t
  have ht : t.val < 32 := lt_of_lt_of_eq t.isLt N_0
  have h31 : t.val = 31 := by have := (flush0_12 t).mp hf; omega
  have hy : y = ix2 (0 : Fin 1) (y 1) := by
    refine (eq_ix2 y).trans (congrArg (ix2 · (y 1)) (Fin.ext ?_))
    have : (y 0).val < 1 := (y 0).isLt
    show (y 0).val = 0; omega
  blk_simp
  rw [after0_12]
  refine (congrArg _ hy).trans ((outs12 m c (y 1) t.val t.isLt).trans ?_)
  rw [h31]
  refine (part_sum m c (y 1)).trans (congrArg (dgSum m c) (Fin.ext ?_))
  show (y 1).val = win0_12.index t 1 * 1024 + 1 * (y 1).val; rw [e1]; omega

/-! ## The run -/

/-- The run, with the result arrays named and the arguments unchanged. -/
theorem run : θ_run defs (onTc (τ := τ) (main (F := Ideal))) ⟨m, fun _ => 0, ρ⟩ fun r => ∀ c : Dev nD,
      r.2.mem ((c : Thread nD τ).loc main_v5_0) = G11 m c
      ∧ r.2.mem ((c : Thread nD τ).loc main_v5_1) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 11).trans (final11 m c), ((h c).1 12).trans (final12 m c),
      ((h c).1 0).trans (((dats m 0 c).arrAt_in 0 rfl _).trans ((A_eq m c 0).trans (V_main_arg0 m c))), ((h c).1 2).trans (((dats m 0 c).arrAt_in 2 rfl _).trans ((A_eq m c 2).trans (V_main_arg1 m c))), ((h c).1 4).trans (((dats m 0 c).arrAt_in 4 rfl _).trans ((A_eq m c 4).trans (V_main_arg2 m c))), ((h c).1 6).trans (((dats m 0 c).arrAt_in 6 rfl _).trans ((A_eq m c 6).trans (V_main_arg3 m c))), ((h c).2 main_arg4 (Pipeline.mem_restRefs_of main_arg4 (by decide) (by decide))).trans (V_main_arg4 m c), ((h c).1 8).trans (((dats m 0 c).arrAt_in 8 rfl _).trans ((A_eq m c 8).trans (V_main_arg5 m c))), ((h c).2 main_arg6 (Pipeline.mem_restRefs_of main_arg6 (by decide) (by decide))).trans (V_main_arg6 m c), ((h c).1 10).trans (((dats m 0 c).arrAt_in 10 rfl _).trans ((A_eq m c 10).trans (V_main_arg7 m c)))⟩)
    (run_main m ρ)

end Cert.Kernel20Ideal.Norm
-- ==== Proof.Norm20Ref.lean ====
/-
  The reference's gradient of the norm and its product, read at an index.
-/
module

public import proofs.«01_k».proof.Proof.NormMath
public import proofs.«01_k».proof.Proof.Gen.Reference20Ideal.Read
public import Idealize.ShloMosaic.Lib.Pointwise
public import Idealize.ShloMosaic.Lib.Pipeline.Value

@[expose] public section

set_option maxRecDepth 16384

noncomputable section

namespace Cert.Reference20Ideal.NormRef

open Cert.Reference20Ideal Cert.Reference20Ideal.Gen Cert.Reference20Ideal.Read Idealize.ShloMosaic Idealize.ShloMosaic.TcCoe

variable (x0 x1 x2 x3 : (⟨S16384x1024, .bf16⟩ : BufTy).Contents (Elt Ideal)) (x4 : (⟨S1024x4096, .bf16⟩ : BufTy).Contents (Elt Ideal))
  (x5 : (⟨S16384x1024, .f32⟩ : BufTy).Contents (Elt Ideal)) (x6 : (⟨S1024, .f32⟩ : BufTy).Contents (Elt Ideal))
  (x7 : (⟨S16384x1024, .f32⟩ : BufTy).Contents (Elt Ideal))

/-- The arguments at an index. -/
def aD0 (R : Fin 16384) (k : Fin 1024) : EReal := x0 (ix2 R k)
def aD1 (R : Fin 16384) (k : Fin 1024) : EReal := x1 (ix2 R k)
def aD2 (R : Fin 16384) (k : Fin 1024) : EReal := x2 (ix2 R k)
def aD3 (R : Fin 16384) (k : Fin 1024) : EReal := x3 (ix2 R k)
def aW (L : Fin 1024) (k : Fin 4096) : EReal := x4 (ix2 L k)
def aX (R : Fin 16384) (k : Fin 1024) : EReal := x5 (ix2 R k)
def aN (k : Fin 1024) : EReal := x6 (ix1 k)
def aS (R : Fin 16384) (k : Fin 1024) : EReal := x7 (ix2 R k)

theorem zero_word : (FloatOps.ofBits (F := Ideal) .f32 0x00000000#32 : EReal) = 0 := Ideal.ofBits_zero_f32

/-- The mean square, its root's inverse, and the factor of the derivative. -/
theorem v4_at (R : Fin 16384) : (val_main_v4 (F := Ideal) x5 (ix1 R) : EReal) = ∑ k, aX x5 R k * aX x5 R k := by
  refine (val_main_v4_apply x5 (ix1 R)).trans ?_
  rw [val_main_cst_apply, zero_word, zero_add]
  refine Finset.sum_congr rfl fun k _ => ?_
  have e : idx_main_v4 (ix1 R) k = ix2 R k := by funext a; match a with | ⟨0, _⟩ => rfl | ⟨1, _⟩ => rfl
  rw [e]; rfl

theorem v9_at (R : Fin 16384) : (val_main_v9 (F := Ideal) x5 (ix2 R 0) : EReal) = NormMath.ms (aX x5 R) := by
  have e : idx_main_v5 (ix2 R 0) = ix1 R := by funext a; match a with | ⟨0, _⟩ => rfl
  rw [val_main_v9_apply, val_main_v7_apply, val_main_v5_apply, val_main_v6_apply, val_main_v8_apply, e]
  unfold NormMath.ms
  exact congrArg (fun z : EReal => Ideal.div z NormMath.len + NormMath.eps) (v4_at x5 R)

theorem v10_at (R : Fin 16384) : (val_main_v10 (F := Ideal) x5 (ix2 R 0) : EReal) = NormMath.rr (aX x5 R) := by
  rw [val_main_v10_apply, Ideal.hostUnary_rsqrt_def]
  exact congrArg Ideal.rsqrt (v9_at x5 R)

theorem v13_at (R : Fin 16384) : (val_main_v13 (F := Ideal) x5 (ix2 R 0) : EReal)
    = NormMath.mhalf * Ideal.div (NormMath.rr (aX x5 R)) (NormMath.ms (aX x5 R)) := by
  rw [val_main_v13_apply, val_main_v12_apply, val_main_v11_apply]
  exact congrArg (NormMath.mhalf * ·) (congr (congrArg Ideal.div (v10_at x5 R)) (v9_at x5 R))

/-- The joined operand at a column of each of its parts. -/
theorem v1_0 (R : Fin 16384) (k : Fin 1024) (K : Fin 4096) (hK : K.val = 0 + k.val) :
    (val_main_v1 (F := Ideal) x0 x1 x2 x3 (ix2 R K) : EReal) = aD0 x0 R k := by
  unfold val_main_v1 aD0
  refine concatenate_apply_piece (t := S16384x4096) (1 : Fin 2) [⟨S16384x1024, x0⟩, ⟨S16384x1024, x1⟩, ⟨S16384x1024, x2⟩, ⟨S16384x1024, x3⟩] _ (ix2 R K) 0 (show 0 < 4 by decide) S16384x1024 x0 rfl rfl 0 (by rfl) (ix2 R k)
    (fun a ha => ?_) hK.symm
  match a with
  | ⟨0, _⟩ => rfl
  | ⟨1, _⟩ => exact absurd rfl ha

theorem v1_1 (R : Fin 16384) (k : Fin 1024) (K : Fin 4096) (hK : K.val = 1024 + k.val) :
    (val_main_v1 (F := Ideal) x0 x1 x2 x3 (ix2 R K) : EReal) = aD1 x1 R k := by
  unfold val_main_v1 aD1
  refine concatenate_apply_piece (t := S16384x4096) (1 : Fin 2) [⟨S16384x1024, x0⟩, ⟨S16384x1024, x1⟩, ⟨S16384x1024, x2⟩, ⟨S16384x1024, x3⟩] _ (ix2 R K) 1 (show 1 < 4 by decide) S16384x1024 x1 rfl rfl 1024 (by rfl) (ix2 R k)
    (fun a ha => ?_) hK.symm
  match a with
  | ⟨0, _⟩ => rfl
  | ⟨1, _⟩ => exact absurd rfl ha

theorem v1_2 (R : Fin 16384) (k : Fin 1024) (K : Fin 4096) (hK : K.val = 2048 + k.val) :
    (val_main_v1 (F := Ideal) x0 x1 x2 x3 (ix2 R K) : EReal) = aD2 x2 R k := by
  unfold val_main_v1 aD2
  refine concatenate_apply_piece (t := S16384x4096) (1 : Fin 2) [⟨S16384x1024, x0⟩, ⟨S16384x1024, x1⟩, ⟨S16384x1024, x2⟩, ⟨S16384x1024, x3⟩] _ (ix2 R K) 2 (show 2 < 4 by decide) S16384x1024 x2 rfl rfl 2048 (by rfl) (ix2 R k)
    (fun a ha => ?_) hK.symm
  match a with
  | ⟨0, _⟩ => rfl
  | ⟨1, _⟩ => exact absurd rfl ha

theorem v1_3 (R : Fin 16384) (k : Fin 1024) (K : Fin 4096) (hK : K.val = 3072 + k.val) :
    (val_main_v1 (F := Ideal) x0 x1 x2 x3 (ix2 R K) : EReal) = aD3 x3 R k := by
  unfold val_main_v1 aD3
  refine concatenate_apply_piece (t := S16384x4096) (1 : Fin 2) [⟨S16384x1024, x0⟩, ⟨S16384x1024, x1⟩, ⟨S16384x1024, x2⟩, ⟨S16384x1024, x3⟩] _ (ix2 R K) 3 (show 3 < 4 by decide) S16384x1024 x3 rfl rfl 3072 (by rfl) (ix2 R k)
    (fun a ha => ?_) hK.symm
  match a with
  | ⟨0, _⟩ => rfl
  | ⟨1, _⟩ => exact absurd rfl ha

/-- The gradient into the norm's output: the products summed. -/
def dh (R : Fin 16384) (L : Fin 1024) : EReal :=
  (∑ k : Fin 1024, aD0 x0 R k * aW x4 L ⟨k.val, by omega⟩) + (∑ k : Fin 1024, aD1 x1 R k * aW x4 L ⟨1024 + k.val, by omega⟩) + (∑ k : Fin 1024, aD2 x2 R k * aW x4 L ⟨2048 + k.val, by omega⟩) + (∑ k : Fin 1024, aD3 x3 R k * aW x4 L ⟨3072 + k.val, by omega⟩)

theorem v20_at (R : Fin 16384) (L : Fin 1024) : (val_main_v20 (F := Ideal) x0 x1 x2 x3 x4 (ix2 R L) : EReal) = dh x0 x1 x2 x3 x4 R L := by
  have e : ∀ K, lidx_main_v20 (ix2 R L) K = ix2 R K := fun K => by funext a; match a with | ⟨0, _⟩ => rfl | ⟨1, _⟩ => rfl
  have e' : ∀ K, ridx_main_v20 (ix2 R L) K = ix2 L K := fun K => by funext a; match a with | ⟨0, _⟩ => rfl | ⟨1, _⟩ => rfl
  refine (val_main_v20_apply x0 x1 x2 x3 x4 (ix2 R L)).trans ?_
  unfold dh
  refine (Fin.sum_univ_add (a := 3072) (b := 1024) (M := EReal) _).trans (congr (congrArg HAdd.hAdd ?_) (Finset.sum_congr rfl fun k _ => ?_))
  swap
  · rw [e, e']
    exact congr (congrArg HMul.hMul (v1_3 x0 x1 x2 x3 R k _ rfl)) rfl
  refine (Fin.sum_univ_add (a := 2048) (b := 1024) (M := EReal) _).trans (congr (congrArg HAdd.hAdd ?_) (Finset.sum_congr rfl fun k _ => ?_))
  swap
  · rw [e, e']
    exact congr (congrArg HMul.hMul (v1_2 x0 x1 x2 x3 R k _ rfl)) rfl
  refine (Fin.sum_univ_add (a := 1024) (b := 1024) (M := EReal) _).trans (congr (congrArg HAdd.hAdd ?_) (Finset.sum_congr rfl fun k _ => ?_))
  swap
  · rw [e, e']
    exact congr (congrArg HMul.hMul (v1_1 x0 x1 x2 x3 R k _ rfl)) rfl
  refine Finset.sum_congr rfl fun k _ => ?_
  rw [e, e']
  exact congr (congrArg HMul.hMul (v1_0 x0 x1 x2 x3 R k _ (Nat.zero_add _).symm)) rfl

/-- The incoming gradient times the gain. -/
theorem v25_at (R : Fin 16384) (L : Fin 1024) :
    (val_main_v25 (F := Ideal) x0 x1 x2 x3 x4 x6 (ix2 R L) : EReal) = dh x0 x1 x2 x3 x4 R L * aN x6 L := by
  have e : idx_main_v16 (idx_main_v24 (ix2 R L)) = ix1 L := by funext a; match a with | ⟨0, _⟩ => rfl
  rw [val_main_v25_apply, val_main_v24_apply, val_main_v16_apply, e]
  exact congrArg (fun z : EReal => z * aN x6 L) (v20_at x0 x1 x2 x3 x4 R L)

theorem v28_at (R : Fin 16384) :
    (val_main_v28 (F := Ideal) x0 x1 x2 x3 x4 x5 x6 (ix1 R) : EReal) = ∑ k, aX x5 R k * (dh x0 x1 x2 x3 x4 R k * aN x6 k) := by
  refine (val_main_v28_apply x0 x1 x2 x3 x4 x5 x6 (ix1 R)).trans ?_
  rw [val_main_cst_5_apply, zero_word, zero_add]
  refine Finset.sum_congr rfl fun k _ => ?_
  have e : idx_main_v28 (ix1 R) k = ix2 R k := by funext a; match a with | ⟨0, _⟩ => rfl | ⟨1, _⟩ => rfl
  rw [e, val_main_v27_apply]
  exact congrArg (fun z : EReal => aX x5 R k * z) (v25_at x0 x1 x2 x3 x4 x6 R k)

theorem v37_at (R : Fin 16384) (L : Fin 1024) : (val_main_v37 (F := Ideal) x0 x1 x2 x3 x4 x5 x6 (ix2 R L) : EReal)
    = NormMath.rw' (aX x5 R) (fun k => dh x0 x1 x2 x3 x4 R k * aN x6 k) := by
  have e : idx_main_v37 (ix2 R L) = ix1 R := by funext a; match a with | ⟨0, _⟩ => rfl
  rw [val_main_v37_apply, e]
  refine (val_main_v36_apply x0 x1 x2 x3 x4 x5 x6 (ix1 R)).trans ?_
  rw [val_main_cst_7_apply, zero_word, zero_add, Fin.sum_univ_one]
  have e2 : idx_main_v36 (ix1 R) 0 = ix2 R 0 := by funext a; match a with | ⟨0, _⟩ => rfl | ⟨1, _⟩ => rfl
  have e3 : idx_main_v29 (ix2 R 0) = ix1 R := by
    funext a; match a with | ⟨0, _⟩ => exact Fin.ext (show R.val * 1 + 0 = R.val by omega)
  rw [e2, val_main_v35_apply, val_main_v34_apply, val_main_v33_apply, val_main_v29_apply, e3]
  have ev := v28_at x0 x1 x2 x3 x4 x5 x6 R
  have ew := v13_at x5 R
  unfold NormMath.rw'
  generalize (val_main_v28 (F := Ideal) x0 x1 x2 x3 x4 x5 x6 (ix1 R)) = p at *
  generalize (val_main_v13 (F := Ideal) x5 (ix2 R 0)) = q at *
  rw [← ev, ← ew]
  rfl

/-- The first result at an index. -/
theorem v41_at (R : Fin 16384) (L : Fin 1024) : (val_main_v41 (F := Ideal) x0 x1 x2 x3 x4 x5 x6 x7 (ix2 R L) : EReal)
    = NormMath.rdx (aX x5 R) (fun k => dh x0 x1 x2 x3 x4 R k * aN x6 k) (aS x7 R L) L := by
  have e : idx_main_v30 (ix2 R L) = ix2 R 0 := by funext a; match a with | ⟨0, _⟩ => rfl | ⟨1, _⟩ => rfl
  rw [val_main_v41_apply, val_main_v39_apply, val_main_v40_apply, val_main_v38_apply, val_main_v32_apply, val_main_v31_apply,
    val_main_v30_apply, e]
  unfold NormMath.rdx
  exact congr (congrArg HAdd.hAdd (congr (congrArg HAdd.hAdd (congrArg (fun z : EReal => aS x7 R L + z)
      (congr (congrArg HMul.hMul (v25_at x0 x1 x2 x3 x4 x6 R L)) (v10_at x5 R))))
      (congrArg (fun z : EReal => aX x5 R L * z) (v37_at x0 x1 x2 x3 x4 x5 x6 R L))))
    (congrArg (fun z : EReal => z * aX x5 R L) (v37_at x0 x1 x2 x3 x4 x5 x6 R L))

/-- A row's part of the gain's gradient. -/
theorem v21_at (R : Fin 16384) (L : Fin 1024) : (val_main_v21 (F := Ideal) x0 x1 x2 x3 x4 x5 (ix2 R L) : EReal)
    = dh x0 x1 x2 x3 x4 R L * (aX x5 R L * NormMath.rr (aX x5 R)) := by
  have e : idx_main_v14 (ix2 R L) = ix2 R 0 := by funext a; match a with | ⟨0, _⟩ => rfl | ⟨1, _⟩ => rfl
  rw [val_main_v21_apply, val_main_v15_apply, val_main_v14_apply, e]
  refine Eq.trans ?_ (mul_comm _ _)
  exact congr (congrArg HMul.hMul (congrArg (fun z : EReal => aX x5 R L * z) (v10_at x5 R))) (v20_at x0 x1 x2 x3 x4 R L)

/-- The second result at an index. -/
theorem v42_at (L : Fin 1024) : (val_main_v42 (F := Ideal) x0 x1 x2 x3 x4 x5 (ix2 0 L) : EReal)
    = ∑ R, dh x0 x1 x2 x3 x4 R L * (aX x5 R L * NormMath.rr (aX x5 R)) := by
  have e : idx_main_v42 (ix2 0 L) = ix1 L := by
    funext a; match a with | ⟨0, _⟩ => exact Fin.ext (show 0 * 1024 + L.val = L.val by omega)
  rw [val_main_v42_apply, e]
  refine (val_main_v26_apply x0 x1 x2 x3 x4 x5 (ix1 L)).trans ?_
  rw [val_main_cst_4_apply, zero_word, zero_add, Fin.sum_univ_one]
  have e3 : idx_main_v23 (idx_main_v26 (ix1 L) 0) = ix1 L := by
    funext a; match a with | ⟨0, _⟩ => exact Fin.ext (show 0 * 1024 + L.val = L.val by omega)
  rw [val_main_v23_apply, e3]
  refine (val_main_v22_apply x0 x1 x2 x3 x4 x5 (ix1 L)).trans ?_
  rw [val_main_cst_3_apply, zero_word, zero_add]
  refine Finset.sum_congr rfl fun R _ => ?_
  have e4 : idx_main_v22 (ix1 L) R = ix2 R L := by funext a; match a with | ⟨0, _⟩ => rfl | ⟨1, _⟩ => rfl
  rw [e4]
  exact v21_at x0 x1 x2 x3 x4 x5 R L

end Cert.Reference20Ideal.NormRef
-- ==== Proof.Norm20Eq.lean ====
/-
  The gradient of the norm and its product: the kernel's results are the reference's, and the frames of both copies.
-/
module

public import proofs.«01_k».proof.Proof.Norm20Arr
public import proofs.«01_k».proof.Proof.Norm20Ref
public import proofs.«01_k».proof.Proof.Gen.Kernel20
public import proofs.«01_k».proof.Defs

@[expose] public section

set_option maxRecDepth 16384

noncomputable section

namespace Cert.Kernel20Ideal.Norm

open Cert.Kernel20Ideal Cert.Kernel20Ideal.Gen Idealize.ShloMosaic Idealize.ShloMosaic.TcCoe Idealize.SL.Sem

variable (m : (ℓ : Loc nD τ sig) → Buf (Elt Ideal) ℓ)

theorem eq11 (c : Dev nD) :
    Cert.Reference20Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = G11 m c := by
  funext i
  have hi : i = ix2 (i 0) (i 1) := eq_ix2 i
  rw [hi]
  refine (Cert.Reference20Ideal.NormRef.v41_at _ _ _ _ _ _ _ _ (i 0) (i 1)).trans ?_
  exact (NormMath.kdx_eq_rdx _ _ _ _).symm

theorem eq12 (c : Dev nD) :
    Cert.Reference20Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = G12 m c := by
  funext i
  have hi : i = ix2 0 (i 1) := by
    refine (eq_ix2 i).trans (congrArg (fun z => ix2 z (i 1)) (Fin.ext ?_))
    have h := (i 0).isLt
    exact Nat.lt_one_iff.mp h
  rw [hi]
  exact Cert.Reference20Ideal.NormRef.v42_at _ _ _ _ _ _ (i 1)

/-- Both programs' results are the kernel's own arrays. -/
theorem algebraic : Cert.algebraic_Kernel20Ideal_Reference20Ideal :=
  fun m ρ m' ρ' _ hag => ⟨fun c => G11 m c, fun c => G12 m c, run m ρ,
    (θ_run _ _ _).mono (fun _ h c => ⟨(h c).1.trans (by
        rw [Cert.Reference20Ideal.Read.val_main_v41_eq, (hag c).1, (hag c).2.1, (hag c).2.2.1, (hag c).2.2.2.1, (hag c).2.2.2.2.1, (hag c).2.2.2.2.2.1, (hag c).2.2.2.2.2.2.1, (hag c).2.2.2.2.2.2.2]
        exact eq11 m c), (h c).2.1.trans (by
        rw [(hag c).1, (hag c).2.1, (hag c).2.2.1, (hag c).2.2.2.1, (hag c).2.2.2.2.1, (hag c).2.2.2.2.2.1]
        exact (Cert.Reference20Ideal.Read.val_main_v42_eq _ _ _ _ _ _).trans (eq12 m c)), (h c).2.2⟩)
      (Cert.Reference20Ideal.Value.run m' ρ')⟩

/-- The frames: one run serves both copies of the program. -/
theorem frame_ideal : Cert.quiescent_Kernel20Ideal := fun m ρ _ => frame (F := Ideal) m ρ

/-- The two copies run the same kernel and the same tables. -/
theorem kernel_eq {F : FTy → Type} [FloatOps F] :
    @Cert.Kernel20.cc0_hgrn_dh F _ Cert.Kernel20.Gen.facts = @Cert.Kernel20Ideal.cc0_hgrn_dh F _ Cert.Kernel20Ideal.Gen.facts := rfl

theorem table_eq {F : FTy → Type} [FloatOps F] : Cert.Kernel20.defs₀ (F := F) = Cert.Kernel20Ideal.defs₀ (F := F) := by
  unfold Cert.Kernel20.defs₀ Cert.Kernel20Ideal.defs₀
  congr 1
  funext l p
  match l, p with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun kernel_eq _) _) _) _) _) _) _) _) _) _) _) _) _) _) _) _) _) _) _) _) _) _) _) _) _) _) _) _) _

theorem defs_eq {F : FTy → Type} [FloatOps F] : Cert.Kernel20.defs (F := F) = Cert.Kernel20Ideal.defs (F := F) :=
  congrArg (Pipeline.defs (Cert.Kernel20Ideal.pcfgs (F := F))) table_eq

theorem main_eq_main {F : FTy → Type} [FloatOps F] : Cert.Kernel20.main (F := F) = Cert.Kernel20Ideal.main (F := F) := rfl

theorem frame_bits : Cert.quiescent_Kernel20 := fun m ρ _ => by
  rw [defs_eq, main_eq_main]
  exact frame (F := Bits) m ρ

end Cert.Kernel20Ideal.Norm
-- ==== Proof.Norm19Loop.lean ====
/-
  The row loop of the norm's backward kernel of the convolution module: one trip's stores, and that none of them depends on what the array of
  `dx` held before (the trip loads it and drops the value).
-/
module

public import proofs.«01_k».proof.Proof.Gen.Kernel19Ideal.Frame.Runs

@[expose] public section

set_option maxRecDepth 16384

noncomputable section

namespace Cert.Kernel19Ideal.Norm

open Cert.Kernel19Ideal Cert.Kernel19Ideal.Gen Idealize.ShloMosaic Idealize.ShloMosaic.TcCoe Idealize.SL.Sem

variable {F : FTy → Type} [FloatOps F]

variable (𝒱 : Variants) (c : Dev nD) (bd : Option 𝒱.V) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole)
  (v15 : Vec F S1x1024 .f32) (X5 : BufTy.Contents (Elt F) a5.view.ty) (X7 : BufTy.Contents (Elt F) a7.view.ty)
  (X10 : BufTy.Contents (Elt F) a10.view.ty)

/-- The rows trip `k` works on. -/
abbrev rows (k : Fin k0_t1_loop.trips) : Rect S512x1024 :=
  Rect.unit (s := S512x1024) (k0_off1 k) S16x1024.size (k0_off1_inb k)

/-- The whole of the one-row array. -/
abbrev row : Rect S1x1024 := Rect.unit (s := S1x1024) ![0, 0] S1x1024.size inb_S1x1024_S1x1024_0_0

/-- What trip `k` stores: the rows of `dx`, and the running sum of `dgain`. -/
theorem trip_eq (k : Fin k0_t1_loop.trips) (f8 : BufTy.Contents (Elt F) a8.view.ty) (f9 : BufTy.Contents (Elt F) a9.view.ty) :
    tripL_k0_t1 (F := F) 𝒱 c bd i a1 w1 a2 w2 a3 w3 a4 w4 a5 w5 a6 w6 a7 w7 a8 w8 a9 w9 a10 w10 v15 X5 X7 X10 k f8 f9
      = ([⟨rows k, k0_pay5 v15 (View.readAt (Elt F) a5.view (rows k).toLoadRect X5)
            (View.readAt (Elt F) a10.view (rows k).toLoadRect X10) (View.readAt (Elt F) a7.view (rows k).toLoadRect X7)⟩],
         [⟨row, k0_pay6 (View.readAt (Elt F) a5.view (rows k).toLoadRect X5)
            (View.readAt (Elt F) a10.view (rows k).toLoadRect X10) (View.readAt (Elt F) a9.view row.toLoadRect f9)⟩]) := by
  unfold tripL_k0_t1 trip_k0_t1
  rfl

/-- The pieces before trip `k` do not depend on what `dx`'s array held at loop entry. -/
theorem pb_indep (G8 G8' : BufTy.Contents (Elt F) a8.view.ty) (G9 : BufTy.Contents (Elt F) a9.view.ty) (k : ℕ) :
    pb_k0_t1 (F := F) 𝒱 c bd i a1 w1 a2 w2 a3 w3 a4 w4 a5 w5 a6 w6 a7 w7 a8 w8 a9 w9 a10 w10 v15 X5 X7 X10 G8 G9 k
      = pb_k0_t1 (F := F) 𝒱 c bd i a1 w1 a2 w2 a3 w3 a4 w4 a5 w5 a6 w6 a7 w7 a8 w8 a9 w9 a10 w10 v15 X5 X7 X10 G8' G9 k := by
  induction k with
  | zero => rfl
  | succ k ih =>
    by_cases h : k < k0_t1_loop.trips
    · have e := pb_k0_t1_succ (F := F) 𝒱 c bd i a1 w1 a2 w2 a3 w3 a4 w4 a5 w5 a6 w6 a7 w7 a8 w8 a9 w9 a10 w10 v15 X5 X7 X10 G8 G9 ⟨k, h⟩
      have e' := pb_k0_t1_succ (F := F) 𝒱 c bd i a1 w1 a2 w2 a3 w3 a4 w4 a5 w5 a6 w6 a7 w7 a8 w8 a9 w9 a10 w10 v15 X5 X7 X10 G8' G9 ⟨k, h⟩
      rw [trip_eq] at e e'
      refine e.trans (Eq.trans ?_ e'.symm)
      dsimp only
      rw [ih]
    · rw [pb_k0_t1.eq_2, pb_k0_t1.eq_2]
      unfold pb_k0_t1Step
      rw [dif_neg h, dif_neg h, ih]

end Cert.Kernel19Ideal.Norm
-- ==== Proof.Norm19RunA.lean ====
/-
  The body of the norm's backward kernel of the convolution module, run once in case A: the pieces its stores leave in the two results' buffers.
-/
module

public import proofs.«01_k».proof.Proof.Norm19Loop

@[expose] public section

set_option maxRecDepth 16384

noncomputable section

namespace Cert.Kernel19Ideal.Norm

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at the first point. -/
noncomputable def kernelRun0_A (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : cond0_0 i)
    (x0 : Vec F S512x1024 .bf16) (x1 : Vec F S1024x1024 .bf16) (x2 : Vec F S512x1024 .bf16) (x3 : Vec F S1024x1024 .bf16) (x4 : Vec F S512x1024 .f32) (x5 : Vec F S1x1024 .f32) (x6 : Vec F S512x1024 .f32) :
    Σ' (L7 : List (View.Piece (Elt F) S512x1024 .f32)), { L8 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d) ∗ (∃ d, owns (c : Thread nD τ) a10 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ d, owns (c : Thread nD τ) a10 fullShare d)) -∗ K ⟨⟩))
          ⊢ wp frame (wpE (defs₀ (F := F)) Variants.none c none) E (cc0_conv_dh i a1 w1 a2 w2 a3 w3 a4 w4 a5 w5 a6 w6 a7 w7 a8 w8 a9 w9 a10 w10) K } := by
  refine ⟨?_, ?_, fun E K => ?run⟩
  case run =>
    simp only [cc0_conv_dh_eq_skeleton]; unfold cc0_conv_dh_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    rw [pb_indep (G8 := f7) (G8' := a8.view.junk)]
    isplitl [H7]; · iexists _; iexact H7
    isplitl [H8]; · iexists _; iexact H8
    iexists _, _; isplitr; swap; · iexact HS0
    ipureintro; rfl

end Cert.Kernel19Ideal.Norm
-- ==== Proof.Norm19RunB.lean ====
/-
  The body of the norm's backward kernel of the convolution module, run once in case B: the pieces its stores leave in the two results' buffers.
-/
module

public import proofs.«01_k».proof.Proof.Norm19RunA

@[expose] public section

set_option maxRecDepth 16384

noncomputable section

namespace Cert.Kernel19Ideal.Norm

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two results' buffers, as the list of its stores, at a point after the first, where the row of the gain is read before it is stored. -/
noncomputable def kernelRun0_B (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : ¬cond0_0 i)
    (x0 : Vec F S512x1024 .bf16) (x1 : Vec F S1024x1024 .bf16) (x2 : Vec F S512x1024 .bf16) (x3 : Vec F S1024x1024 .bf16) (x4 : Vec F S512x1024 .f32) (x5 : Vec F S1x1024 .f32) (x6 : Vec F S512x1024 .f32) (xo8 : Vec F S1x1024 .f32) :
    Σ' (L7 : List (View.Piece (Elt F) S512x1024 .f32)), { L8 : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ owns (c : Thread nD τ) a9 fullShare xo8 ∗ (∃ d, owns (c : Thread nD τ) a10 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ d, owns (c : Thread nD τ) a10 fullShare d)) -∗ K ⟨⟩))
          ⊢ wp frame (wpE (defs₀ (F := F)) Variants.none c none) E (cc0_conv_dh i a1 w1 a2 w2 a3 w3 a4 w4 a5 w5 a6 w6 a7 w7 a8 w8 a9 w9 a10 w10) K } := by
  refine ⟨?_, ?_, fun E K => ?run⟩
  case run =>
    simp only [cc0_conv_dh_eq_skeleton]; unfold cc0_conv_dh_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w9.eq_unread hf8
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    rw [pb_indep (G8 := f7) (G8' := a8.view.junk)]
    isplitl [H7]; · iexists _; iexact H7
    isplitl [H8]; · iexists _; iexact H8
    iexists _, _; isplitr; swap; · iexact HS0
    ipureintro; rfl

end Cert.Kernel19Ideal.Norm
-- ==== Proof.Norm19Frame.lean ====
/-
  The run of the norm's backward kernel of the convolution module over its grid: what each point leaves in the two results' buffers, by recursion
  on the point, and the run of @main that ends with them written back.
-/
module

public import proofs.«01_k».proof.Proof.Norm19RunB
public import Idealize.ShloMosaic.Lib.Claim

@[expose] public section

-- membership in a rectangle of production extents (`View.cover_of_tiled`): the elaborator's structural look
-- recurses once per coordinate of the long axes
set_option maxRecDepth 16384

noncomputable section

namespace Cert.Kernel19Ideal.Norm

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : cond0_0 i)
  (x0 : Vec F S512x1024 .bf16) (x1 : Vec F S1024x1024 .bf16) (x2 : Vec F S512x1024 .bf16) (x3 : Vec F S1024x1024 .bf16) (x4 : Vec F S512x1024 .f32) (x5 : Vec F S1x1024 .f32) (x6 : Vec F S512x1024 .f32)

/-- Case A: the stores into either result cover it, and what they leave there. -/
theorem cover0_A_7 (y : S512x1024.Idx) : ∃ pc ∈ (kernelRun0_A c i a1 w1 a2 w2 a3 w3 a4 w4 a5 w5 a6 w6 a7 w7 a8 w8 a9 w9 a10 w10 hc0 x0 x1 x2 x3 x4 x5 x6).1, y ∈ pc.1.set :=
  View.cover_of_tiledL (kernelRun0_A c i a1 w1 a2 w2 a3 w3 a4 w4 a5 w5 a6 w6 a7 w7 a8 w8 a9 w9 a10 w10 hc0 x0 x1 x2 x3 x4 x5 x6).1 S16x1024.size (by sl_kernel_rfl) y

def out0_A_7 : Vec F S512x1024 .f32 :=
  VO0_7.read (Elt F) (VO0_7.writes (Elt F) VO0_7.junk (kernelRun0_A c i a1 w1 a2 w2 a3 w3 a4 w4 a5 w5 a6 w6 a7 w7 a8 w8 a9 w9 a10 w10 hc0 x0 x1 x2 x3 x4 x5 x6).1)

theorem cover0_A_8 (y : S1x1024.Idx) : ∃ pc ∈ (kernelRun0_A c i a1 w1 a2 w2 a3 w3 a4 w4 a5 w5 a6 w6 a7 w7 a8 w8 a9 w9 a10 w10 hc0 x0 x1 x2 x3 x4 x5 x6).2.1, y ∈ pc.1.set :=
  View.cover_of_tiledL (kernelRun0_A c i a1 w1 a2 w2 a3 w3 a4 w4 a5 w5 a6 w6 a7 w7 a8 w8 a9 w9 a10 w10 hc0 x0 x1 x2 x3 x4 x5 x6).2.1 S1x1024.size (by sl_kernel_rfl) y

def out0_A_8 : Vec F S1x1024 .f32 :=
  VO0_8.read (Elt F) (VO0_8.writes (Elt F) VO0_8.junk (kernelRun0_A c i a1 w1 a2 w2 a3 w3 a4 w4 a5 w5 a6 w6 a7 w7 a8 w8 a9 w9 a10 w10 hc0 x0 x1 x2 x3 x4 x5 x6).2.1)

end

section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : ¬cond0_0 i)
  (x0 : Vec F S512x1024 .bf16) (x1 : Vec F S1024x1024 .bf16) (x2 : Vec F S512x1024 .bf16) (x3 : Vec F S1024x1024 .bf16) (x4 : Vec F S512x1024 .f32) (x5 : Vec F S1x1024 .f32) (x6 : Vec F S512x1024 .f32) (xo8 : Vec F S1x1024 .f32)

/-- Case B: the stores into either result cover it, and what they leave there. -/
theorem cover0_B_7 (y : S512x1024.Idx) : ∃ pc ∈ (kernelRun0_B c i a1 w1 a2 w2 a3 w3 a4 w4 a5 w5 a6 w6 a7 w7 a8 w8 a9 w9 a10 w10 hc0 x0 x1 x2 x3 x4 x5 x6 xo8).1, y ∈ pc.1.set :=
  View.cover_of_tiledL (kernelRun0_B c i a1 w1 a2 w2 a3 w3 a4 w4 a5 w5 a6 w6 a7 w7 a8 w8 a9 w9 a10 w10 hc0 x0 x1 x2 x3 x4 x5 x6 xo8).1 S16x1024.size (by sl_kernel_rfl) y

def out0_B_7 : Vec F S512x1024 .f32 :=
  VO0_7.read (Elt F) (VO0_7.writes (Elt F) VO0_7.junk (kernelRun0_B c i a1 w1 a2 w2 a3 w3 a4 w4 a5 w5 a6 w6 a7 w7 a8 w8 a9 w9 a10 w10 hc0 x0 x1 x2 x3 x4 x5 x6 xo8).1)

theorem cover0_B_8 (y : S1x1024.Idx) : ∃ pc ∈ (kernelRun0_B c i a1 w1 a2 w2 a3 w3 a4 w4 a5 w5 a6 w6 a7 w7 a8 w8 a9 w9 a10 w10 hc0 x0 x1 x2 x3 x4 x5 x6 xo8).2.1, y ∈ pc.1.set :=
  View.cover_of_tiledL (kernelRun0_B c i a1 w1 a2 w2 a3 w3 a4 w4 a5 w5 a6 w6 a7 w7 a8 w8 a9 w9 a10 w10 hc0 x0 x1 x2 x3 x4 x5 x6 xo8).2.1 S1x1024.size (by sl_kernel_rfl) y

def out0_B_8 : Vec F S1x1024 .f32 :=
  VO0_8.read (Elt F) (VO0_8.writes (Elt F) VO0_8.junk (kernelRun0_B c i a1 w1 a2 w2 a3 w3 a4 w4 a5 w5 a6 w6 a7 w7 a8 w8 a9 w9 a10 w10 hc0 x0 x1 x2 x3 x4 x5 x6 xo8).2.1)

end

/-! ## What the outputs hold after each point -/

/-- What a point leaves in the two results' buffers: the first point, and a later point over what the one before left. -/
abbrev atA (c : Dev nD) (t : Fin cfg0.N) (h0 : t.val % 32 = 0) : Vec F S512x1024 .f32 × Vec F S1x1024 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t),
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t))

abbrev atB (c : Dev nD) (t : Fin cfg0.N) (h0 : ¬t.val % 32 = 0) (p : Vec F S1x1024 .f32) : Vec F S512x1024 .f32 × Vec F S1x1024 .f32 :=
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) p,
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) p)

/-- What the two buffers hold after point `n`, by recursion on the point. -/
def outsAt0 (c : Dev nD) : (n : ℕ) → n < cfg0.N → Vec F S512x1024 .f32 × Vec F S1x1024 .f32
  | 0, hn => atA m c ⟨0, hn⟩ (Nat.zero_mod _)
  | n + 1, hn =>
    if h0 : (n + 1) % 32 = 0 then atA m c ⟨n + 1, hn⟩ h0
    else atB m c ⟨n + 1, hn⟩ h0 (outsAt0 c n (Nat.lt_of_succ_lt hn)).2

theorem outsAt0_A (c : Dev nD) (t : Fin cfg0.N) (h0 : t.val % 32 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · rw [outsAt0_A m c t h0]
    dsimp only [atA, out0_A_7, out0_A_8]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, ⟨%e7, H7⟩, ⟨%e8, H8⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _ _ _ _)
  · rw [outsAt0_B m c t h0]
    simp only [before0_8_B m c t h0]
    dsimp only [atB, out0_B_7, out0_B_8]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, ⟨%e7, H7⟩, ⟨%e8, H8⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged, and every counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel19Ideal.Norm
-- ==== Proof.Norm19Val.lean ====
/-
  One block of the norm's backward kernel of the convolution module: what its body computes at an index, and what the row loop leaves in the two
  results' buffers.
-/
module

public import proofs.«01_k».proof.Proof.Norm19Loop
public import proofs.«01_k».proof.Proof.NormMath
public import proofs.«01_k».proof.Proof.Sums
public import Idealize.ShloMosaic.Lib.Pointwise
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.Kernel19Ideal.Norm

open Cert.Kernel19Ideal Cert.Kernel19Ideal.Gen Idealize.ShloMosaic Idealize.ShloMosaic.TcCoe Idealize.SL.Sem

theorem pay2_apply (A0 : Vec Ideal S512x1024 .bf16) (B0 : Vec Ideal S1024x1024 .bf16) (A1 : Vec Ideal S512x1024 .bf16) (B1 : Vec Ideal S1024x1024 .bf16) (r : Fin 512) (l : Fin 1024) :
    k0_pay2 A0 B0 A1 B1 (ix2 r l) = (∑ k : Fin 1024, (A0 (ix2 r k) : EReal) * B0 (ix2 l k)) + (∑ k : Fin 1024, (A1 (ix2 r k) : EReal) * B1 (ix2 l k)) := by
  pointwise [k0_pay2]

theorem pay1_apply (l : Fin 1024) : (k0_pay1 (F := Ideal) (ix2 0 l) : EReal) = 0 := by
  pointwise [k0_pay1]

/-- The row's factor. -/
theorem pay3_apply (x : Vec Ideal S16x1024 .f32) (r : Fin 16) :
    k0_pay3 x (ix2 r 0) = NormMath.rr (fun k : Fin 1024 => (x (ix2 r k) : EReal)) := by
  pointwise [k0_pay3]
  rfl

theorem pay4_apply (x : Vec Ideal S16x1024 .f32) (r : Fin 16) (l : Fin 1024) :
    k0_pay4 x (ix2 r l) = (x (ix2 r l) : EReal) * NormMath.rr (fun k : Fin 1024 => (x (ix2 r k) : EReal)) := by
  refine (show k0_pay4 x (ix2 r l) = (x (ix2 r l) : EReal) * k0_pay3 x (ix2 r 0) by pointwise [k0_pay4]).trans ?_
  rw [pay3_apply]

theorem pay6_apply (x d : Vec Ideal S16x1024 .f32) (a : Vec Ideal S1x1024 .f32) (l : Fin 1024) :
    k0_pay6 x d a (ix2 0 l) = (a (ix2 0 l) : EReal) + ∑ r : Fin 16, (d (ix2 r l) : EReal) * k0_pay4 x (ix2 r l) := by
  pointwise [k0_pay6]

theorem pay5_pre (g : Vec Ideal S1x1024 .f32) (x d s : Vec Ideal S16x1024 .f32) (r : Fin 16) (l : Fin 1024) :
    k0_pay5 g x d s (ix2 r l) = (s (ix2 r l) : EReal) + k0_pay3 x (ix2 r 0) * ((d (ix2 r l) : EReal) * g (ix2 0 l)
      - k0_pay4 x (ix2 r l) * Ideal.div (∑ k : Fin 1024, (d (ix2 r k) : EReal) * g (ix2 0 k) * k0_pay4 x (ix2 r k)) (Ideal.ofBits FTy.f32 1149239296#32)) := by
  pointwise [k0_pay5]

theorem pay5_apply (g : Vec Ideal S1x1024 .f32) (x d s : Vec Ideal S16x1024 .f32) (r : Fin 16) (l : Fin 1024) :
    k0_pay5 g x d s (ix2 r l) = NormMath.kdx (fun k : Fin 1024 => (x (ix2 r k) : EReal))
      (fun k : Fin 1024 => (d (ix2 r k) : EReal) * g (ix2 0 k)) (s (ix2 r l) : EReal) l := by
  refine (pay5_pre g x d s r l).trans ?_
  simp only [pay3_apply, pay4_apply]
  rfl

variable (𝒱 : Variants) (c : Dev nD) (bd : Option 𝒱.V) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole)
  (v15 : Vec Ideal S1x1024 .f32) (X5 : BufTy.Contents (Elt Ideal) a5.view.ty) (X7 : BufTy.Contents (Elt Ideal) a7.view.ty)
  (X10 : BufTy.Contents (Elt Ideal) a10.view.ty)

/-- Three blocks of 512 rows, read at an index: the rows `x`, the residual's gradient `s`, the product `d`; and the gain. -/
abbrev bx : Vec Ideal S512x1024 .f32 := a5.view.read (Elt Ideal) X5
abbrev bs : Vec Ideal S512x1024 .f32 := a7.view.read (Elt Ideal) X7
abbrev bd' : Vec Ideal S512x1024 .f32 := a10.view.read (Elt Ideal) X10

/-- Rows of a block read by trip `k`. -/
theorem ld_rows (X : Vec Ideal S512x1024 .f32) (k : Fin k0_t1_loop.trips) (r : Fin 16) (l : Fin 1024) (R : Fin 512)
    (hR : R.val = 16 * k.val + r.val) : View.ld X (rows k) (ix2 r l) = X (ix2 R l) :=
  View.ld_unit_apply_of X _ _ _ _ (ix2 R l) fun a => by
    have e := k0_off1_eq k
    match a with
    | ⟨0, _⟩ => show R.val = k0_off1 k 0 + r.val; rw [e]; exact hR
    | ⟨1, _⟩ => show l.val = k0_off1 k 1 + l.val; rw [e]; show l.val = 0 + l.val; omega

/-- What the block of `dx` holds at an index. -/
def dxAt (g : Vec Ideal S1x1024 .f32) (x d s : Vec Ideal S512x1024 .f32) (y : S512x1024.Idx) : EReal :=
  NormMath.kdx (fun k : Fin 1024 => (x (ix2 (y 0) k) : EReal))
      (fun k : Fin 1024 => (d (ix2 (y 0) k) : EReal) * g (ix2 0 k)) (s (ix2 (y 0) (y 1)) : EReal) (y 1)

theorem rows_emb (k : Fin k0_t1_loop.trips) (r : Fin 16) (l : Fin 1024) (R : Fin 512) (hR : R.val = 16 * k.val + r.val) :
    (rows k).emb (ix2 r l) = ix2 R l := by
  funext a
  apply Fin.ext
  match a with
  | ⟨0, _⟩ => show (k0_off1 k) 0 + 1 * r.val = R.val; rw [k0_off1_eq]; show 16 * k.val + 1 * r.val = _; omega
  | ⟨1, _⟩ => show (k0_off1 k) 1 + 1 * l.val = l.val; rw [k0_off1_eq]; show 0 + 1 * l.val = _; omega

theorem pay5_row (g : Vec Ideal S1x1024 .f32) (x d s : Vec Ideal S512x1024 .f32) (k : Fin k0_t1_loop.trips) (r : Fin 16) (l : Fin 1024) :
    (k0_pay5 g (View.ld x (rows k)) (View.ld d (rows k)) (View.ld s (rows k)) (ix2 r l) : EReal) = dxAt g x d s ((rows k).emb (ix2 r l)) := by
  have hk : k.val < 32 := k.isLt
  have hr := r.isLt
  have hl : ∀ (X : Vec Ideal S512x1024 .f32) (l : Fin 1024), View.ld X (rows k) (ix2 r l) = X (ix2 (⟨16 * k.val + r.val, by omega⟩ : Fin 512) l) :=
    fun X l => ld_rows X k r l _ rfl
  refine (pay5_apply g _ _ _ r l).trans ?_
  rw [rows_emb k r l ⟨16 * k.val + r.val, by omega⟩ rfl]
  unfold dxAt
  rw [hl s l, funext (hl x)]
  refine congrArg (fun e => NormMath.kdx _ e _ l) (funext fun q => ?_)
  rw [hl d q]
  rfl

theorem pay5_rows (g : Vec Ideal S1x1024 .f32) (x d s : Vec Ideal S512x1024 .f32) (k : Fin k0_t1_loop.trips) (y : S16x1024.Idx) :
    (k0_pay5 g (View.ld x (rows k)) (View.ld d (rows k)) (View.ld s (rows k)) y : EReal) = dxAt g x d s ((rows k).emb y) := by
  rw [eq_ix2 y]
  exact pay5_row g x d s k (y 0) (y 1)

/-- Each piece the loop stores into `dx`'s block agrees with `dxAt`. -/
theorem pb8_agree (G8 : BufTy.Contents (Elt Ideal) a8.view.ty) (G9 : BufTy.Contents (Elt Ideal) a9.view.ty) (k : ℕ) :
    ∀ p ∈ (pb_k0_t1 (F := Ideal) 𝒱 c bd i a1 w1 a2 w2 a3 w3 a4 w4 a5 w5 a6 w6 a7 w7 a8 w8 a9 w9 a10 w10 v15 X5 X7 X10 G8 G9 k).1, ∀ x : p.1.shape.Idx,
      p.2 x = dxAt v15 (a5.view.read (Elt Ideal) X5) (a10.view.read (Elt Ideal) X10) (a7.view.read (Elt Ideal) X7) (p.1.emb x) := by
  induction k with
  | zero => intro p hp; exact absurd hp List.not_mem_nil
  | succ k ih =>
    by_cases h : k < k0_t1_loop.trips
    · have e := (pb_k0_t1_succ (F := Ideal) 𝒱 c bd i a1 w1 a2 w2 a3 w3 a4 w4 a5 w5 a6 w6 a7 w7 a8 w8 a9 w9 a10 w10 v15 X5 X7 X10 G8 G9 ⟨k, h⟩)
      rw [trip_eq] at e
      intro p hp
      have hp' : p ∈ (pb_k0_t1 (F := Ideal) 𝒱 c bd i a1 w1 a2 w2 a3 w3 a4 w4 a5 w5 a6 w6 a7 w7 a8 w8 a9 w9 a10 w10 v15 X5 X7 X10 G8 G9 ((⟨k, h⟩ : Fin k0_t1_loop.trips).val + 1)).1 := hp
      rw [e] at hp'
      rcases List.mem_append.mp hp' with h1 | h1
      · rw [List.mem_singleton] at h1
        subst h1
        intro x
        exact pay5_rows v15 _ _ _ ⟨k, h⟩ x
      · exact ih p h1
    · rw [pb_k0_t1.eq_2]
      unfold pb_k0_t1Step
      rw [dif_neg h]
      exact ih

/-- The last piece stored into `dgain`'s row by trip `k`. -/
theorem pb9_succ (G8 : BufTy.Contents (Elt Ideal) a8.view.ty) (G9 : BufTy.Contents (Elt Ideal) a9.view.ty) (k : Fin k0_t1_loop.trips) :
    (pb_k0_t1 (F := Ideal) 𝒱 c bd i a1 w1 a2 w2 a3 w3 a4 w4 a5 w5 a6 w6 a7 w7 a8 w8 a9 w9 a10 w10 v15 X5 X7 X10 G8 G9 (k.val + 1)).2
      = (⟨row, k0_pay6 (View.ld (a5.view.read (Elt Ideal) X5) (rows k)) (View.ld (a10.view.read (Elt Ideal) X10) (rows k))
          (View.ld (a9.view.read (Elt Ideal) (a9.view.writes (Elt Ideal) G9 (pb_k0_t1 (F := Ideal) 𝒱 c bd i a1 w1 a2 w2 a3 w3 a4 w4 a5 w5 a6 w6 a7 w7 a8 w8 a9 w9 a10 w10 v15 X5 X7 X10 G8 G9 k.val).2)) row)⟩ :: (pb_k0_t1 (F := Ideal) 𝒱 c bd i a1 w1 a2 w2 a3 w3 a4 w4 a5 w5 a6 w6 a7 w7 a8 w8 a9 w9 a10 w10 v15 X5 X7 X10 G8 G9 k.val).2) := by
  have e := (pb_k0_t1_succ (F := Ideal) 𝒱 c bd i a1 w1 a2 w2 a3 w3 a4 w4 a5 w5 a6 w6 a7 w7 a8 w8 a9 w9 a10 w10 v15 X5 X7 X10 G8 G9 k)
  rw [trip_eq] at e
  rw [e]
  rfl

/-- A row's contribution to `dgain`. -/
def dgAt (x d : Vec Ideal S512x1024 .f32) (l : Fin 1024) (r : Fin 512) : EReal :=
  (d (ix2 r l) : EReal) * ((x (ix2 r l) : EReal) * NormMath.rr (fun k : Fin 1024 => (x (ix2 r k) : EReal)))

/-- What trip `k` leaves at an index of `dgain`'s row. -/
theorem pay6_rows (x d : Vec Ideal S512x1024 .f32) (a : Vec Ideal S1x1024 .f32) (k : Fin k0_t1_loop.trips) (l : Fin 1024) :
    (k0_pay6 (View.ld x (rows k)) (View.ld d (rows k)) a (ix2 0 l) : EReal)
      = (a (ix2 0 l) : EReal) + ∑ r : Fin 16, (fun (s : ℕ) (r : Fin 16) => if h : 16 * s + r.val < 512 then dgAt x d l ⟨16 * s + r.val, h⟩ else 0) k.val r := by
  have hk : k.val < 32 := k.isLt
  refine (pay6_apply _ _ a l).trans (congrArg _ (Finset.sum_congr rfl fun r _ => ?_))
  have hr := r.isLt
  rw [pay4_apply]
  refine Eq.trans ?_ (dif_pos (by omega)).symm
  have hl : ∀ (X : Vec Ideal S512x1024 .f32) (l : Fin 1024), View.ld X (rows k) (ix2 r l) = X (ix2 (⟨16 * k.val + r.val, by omega⟩ : Fin 512) l) :=
    fun X l => ld_rows X k r l _ rfl
  unfold dgAt
  rw [hl d l, hl x l, funext (hl x)]

theorem ld_row (X : Vec Ideal S1x1024 .f32) (l : Fin 1024) : View.ld X row (ix2 0 l) = X (ix2 0 l) :=
  View.ld_unit_apply_of X _ _ _ _ (ix2 0 l) fun a => by
    match a with
    | ⟨0, _⟩ => rfl
    | ⟨1, _⟩ => show l.val = 0 + l.val; omega

/-- The row after `k` trips, read through any view of any buffer that holds the pieces over any contents (`k` at least 1). -/
theorem read_row {sg : RefSig} {κ : Kind} {sp : Space} (v : View sg κ sp S1x1024 .f32) (f : v.ty.Contents (Elt Ideal)) (w : Vec Ideal S1x1024 .f32)
    (L : List (View.Piece (Elt Ideal) S1x1024 .f32)) (l : Fin 1024) :
    v.read (Elt Ideal) (v.writes (Elt Ideal) f (⟨row, w⟩ :: L)) (ix2 0 l) = w (ix2 0 l) :=
  View.read_writes_cons_unit_of_mem v f inb_S1x1024_S1x1024_0_0 w L (ix2 0 l) (ix2 0 l) rfl fun a => by
    match a with
    | ⟨0, _⟩ => rfl
    | ⟨1, _⟩ => show l.val = 0 + l.val; omega

/-- The running sum before trip `k`. -/
theorem pb9_read (G8 : BufTy.Contents (Elt Ideal) a8.view.ty) (G9 : BufTy.Contents (Elt Ideal) a9.view.ty) (l : Fin 1024) (k : ℕ) (hk : k ≤ 32) :
    (a9.view.read (Elt Ideal) (a9.view.writes (Elt Ideal) G9 (pb_k0_t1 (F := Ideal) 𝒱 c bd i a1 w1 a2 w2 a3 w3 a4 w4 a5 w5 a6 w6 a7 w7 a8 w8 a9 w9 a10 w10 v15 X5 X7 X10 G8 G9 k).2) (ix2 0 l) : EReal)
      = (a9.view.read (Elt Ideal) G9 (ix2 0 l) : EReal) + ∑ s ∈ Finset.range k, ∑ r : Fin 16,
          (fun (s : ℕ) (r : Fin 16) => if h : 16 * s + r.val < 512 then dgAt (a5.view.read (Elt Ideal) X5) (a10.view.read (Elt Ideal) X10) l ⟨16 * s + r.val, h⟩ else 0) s r := by
  induction k with
  | zero => rw [Finset.sum_range_zero, add_zero]; rfl
  | succ k ih =>
    have e := pb9_succ 𝒱 c bd i a1 w1 a2 w2 a3 w3 a4 w4 a5 w5 a6 w6 a7 w7 a8 w8 a9 w9 a10 w10 v15 X5 X7 X10 G8 G9 ⟨k, lt_of_lt_of_eq (show k < 32 by omega) rfl⟩
    refine (congrArg (fun L => a9.view.read (Elt Ideal) (a9.view.writes (Elt Ideal) G9 L) (ix2 0 l)) e).trans ?_
    refine (read_row _ _ _ _ l).trans ((pay6_rows _ _ _ ⟨k, lt_of_lt_of_eq (show k < 32 by omega) rfl⟩ l).trans ?_)
    rw [ld_row, ih (by omega), Finset.sum_range_succ, add_assoc]

/-- The row after the loop, through any view. -/
theorem row_final {sg : RefSig} {κ : Kind} {sp : Space} (v : View sg κ sp S1x1024 .f32) (f : v.ty.Contents (Elt Ideal))
    (L : List (View.Piece (Elt Ideal) S1x1024 .f32))
    (G8 : BufTy.Contents (Elt Ideal) a8.view.ty) (G9 : BufTy.Contents (Elt Ideal) a9.view.ty) (l : Fin 1024) :
    (v.read (Elt Ideal) (v.writes (Elt Ideal) f ((pb_k0_t1 (F := Ideal) 𝒱 c bd i a1 w1 a2 w2 a3 w3 a4 w4 a5 w5 a6 w6 a7 w7 a8 w8 a9 w9 a10 w10 v15 X5 X7 X10 G8 G9 32).2 ++ L)) (ix2 0 l) : EReal)
      = (a9.view.read (Elt Ideal) G9 (ix2 0 l) : EReal) + ∑ r : Fin 512, dgAt (a5.view.read (Elt Ideal) X5) (a10.view.read (Elt Ideal) X10) l r := by
  have e := pb9_succ 𝒱 c bd i a1 w1 a2 w2 a3 w3 a4 w4 a5 w5 a6 w6 a7 w7 a8 w8 a9 w9 a10 w10 v15 X5 X7 X10 G8 G9 ⟨31, by decide⟩
  have hr := pb9_read 𝒱 c bd i a1 w1 a2 w2 a3 w3 a4 w4 a5 w5 a6 w6 a7 w7 a8 w8 a9 w9 a10 w10 v15 X5 X7 X10 G8 G9 l 32 le_rfl
  refine Eq.trans ?_ (hr.trans (congrArg _ (Cert.Sums.blocks (by norm_num) _ _ (fun s hs r => by
    have := r.isLt
    exact dif_pos (by omega)))))
  refine (congrArg (fun M => v.read (Elt Ideal) (v.writes (Elt Ideal) f (M ++ L)) (ix2 0 l)) e).trans ?_
  refine Eq.trans ?_ (congrArg (fun M => a9.view.read (Elt Ideal) (a9.view.writes (Elt Ideal) G9 M) (ix2 0 l)) e).symm
  refine Eq.trans (read_row v f _ (_ ++ L) l) (read_row _ _ _ _ l).symm

end Cert.Kernel19Ideal.Norm
-- ==== Proof.Norm19Out.lean ====
/-
  One grid point of the norm's backward kernel of the convolution module: what its run leaves in the two results' buffers, at an index.
-/
module

public import proofs.«01_k».proof.Proof.Norm19Frame
public import proofs.«01_k».proof.Proof.Norm19Val

@[expose] public section

set_option maxRecDepth 16384

noncomputable section

namespace Cert.Kernel19Ideal.Norm

open Cert.Kernel19Ideal Cert.Kernel19Ideal.Gen Idealize.ShloMosaic Idealize.ShloMosaic.TcCoe Idealize.SL.Sem

theorem hz2 : (![0, 0] : Fin 2 → ℕ) = fun _ => 0 := by
  funext a; match a with | ⟨0, _⟩ => rfl | ⟨1, _⟩ => rfl

/-- The scratch block after the products are stored. -/
theorem whole_pay2 (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a10 : Memref sig .tc .vmem S512x1024 .f32)
    (x0 : Vec Ideal S512x1024 .bf16) (x1 : Vec Ideal S1024x1024 .bf16) (x2 : Vec Ideal S512x1024 .bf16) (x3 : Vec Ideal S1024x1024 .bf16) :
    a10.view.read (Elt Ideal) (a10.view.writes (Elt Ideal) a10.view.junk
        [⟨Rect.unit ![0, 0] S512x1024.size inb_S512x1024_S512x1024_0_0,
          k0_pay2 (View.readAt (Elt Ideal) a1.view (Rect.unit ![0, 0] S512x1024.size inb_S512x1024_S512x1024_0_0).toLoadRect (w1.unread x0))
            (View.readAt (Elt Ideal) a2.view (Rect.unit ![0, 0] S1024x1024.size inb_S1024x1024_S1024x1024_0_0).toLoadRect (w2.unread x1))
            (View.readAt (Elt Ideal) a3.view (Rect.unit ![0, 0] S512x1024.size inb_S512x1024_S512x1024_0_0).toLoadRect (w3.unread x2))
            (View.readAt (Elt Ideal) a4.view (Rect.unit ![0, 0] S1024x1024.size inb_S1024x1024_S1024x1024_0_0).toLoadRect (w4.unread x3))⟩])
      = k0_pay2 x0 x1 x2 x3 := by
  simp only [View.readAt_eq_ld, w1.read_unread, w2.read_unread, w3.read_unread, w4.read_unread,
    View.ld_unit_zero (S := S512x1024) hz2, View.ld_unit_zero (S := S1024x1024) hz2]
  funext y
  exact View.read_writes_cons_unit_of_mem _ _ inb_S512x1024_S512x1024_0_0 _ _ y y hz2 fun a => (Nat.zero_add _).symm

/-- The gain as the body loads it. -/
abbrev gainV (a6 : Memref sig .tc .vmem S1x1024 .f32) (w6 : a6.IsWhole) (x5 : Vec Ideal S1x1024 .f32) : Vec Ideal S1x1024 .f32 :=
  View.readAt (Elt Ideal) a6.view row.toLoadRect (w6.unread x5)

theorem gain_read (a6 : Memref sig .tc .vmem S1x1024 .f32) (w6 : a6.IsWhole) (x5 : Vec Ideal S1x1024 .f32) :
    gainV a6 w6 x5 = x5 := by
  unfold gainV
  rw [View.readAt_eq_ld, w6.read_unread]
  exact View.ld_unit_zero (S := S1x1024) hz2 _ _

/-- The row is zero before the first point's loop. -/
theorem start_row (a9 : Memref sig .tc .vmem S1x1024 .f32) (l : Fin 1024) :
    (a9.view.read (Elt Ideal) (a9.view.writes (Elt Ideal) a9.view.junk kernelRun0_A.sl.H8_1) (ix2 0 l) : EReal) = 0 := by
  unfold kernelRun0_A.sl.H8_1
  exact (read_row _ _ _ _ l).trans (pay1_apply l)

section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : cond0_0 i)
  (x0 : Vec Ideal S512x1024 .bf16) (x1 : Vec Ideal S1024x1024 .bf16) (x2 : Vec Ideal S512x1024 .bf16) (x3 : Vec Ideal S1024x1024 .bf16) (x4 : Vec Ideal S512x1024 .f32) (x5 : Vec Ideal S1x1024 .f32) (x6 : Vec Ideal S512x1024 .f32)

theorem hs_A : a10.view.read (Elt Ideal) (a10.view.writes (Elt Ideal) a10.view.junk (kernelRun0_A.sl.HS0_1 c a1 w1 a2 w2 a3 w3 a4 w4 x0 x1 x2 x3)) = k0_pay2 x0 x1 x2 x3 := by
  unfold kernelRun0_A.sl.HS0_1
  exact whole_pay2 a1 w1 a2 w2 a3 w3 a4 w4 a10 x0 x1 x2 x3

/-- What a point of case A leaves in `dx`'s block, and in `dgain`'s row. -/
theorem out_A_7 (y : S512x1024.Idx) :
    (out0_A_7 c i a1 w1 a2 w2 a3 w3 a4 w4 a5 w5 a6 w6 a7 w7 a8 w8 a9 w9 a10 w10 hc0 x0 x1 x2 x3 x4 x5 x6 y : EReal) = dxAt x5 x4 (k0_pay2 x0 x1 x2 x3) x6 y := by
  unfold out0_A_7
  refine View.read_writes_apply_of_pieces VO0_7 _ (dxAt x5 x4 (k0_pay2 x0 x1 x2 x3) x6) _ ?_ y (cover0_A_7 c i a1 w1 a2 w2 a3 w3 a4 w4 a5 w5 a6 w6 a7 w7 a8 w8 a9 w9 a10 w10 hc0 x0 x1 x2 x3 x4 x5 x6 y)
  have h := pb8_agree Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_A.sl.HS0_1 c a1 w1 a2 w2 a3 w3 a4 w4 x0 x1 x2 x3)) a8.view.junk (a9.view.writes (Elt Ideal) a9.view.junk kernelRun0_A.sl.H8_1) 32
  rw [hs_A c a1 w1 a2 w2 a3 w3 a4 w4 a10 x0 x1 x2 x3, w5.read_unread, w7.read_unread] at h
  rw [show dxAt x5 x4 (k0_pay2 x0 x1 x2 x3) x6 = dxAt (gainV a6 w6 x5) x4 (k0_pay2 x0 x1 x2 x3) x6 from by rw [gain_read]]
  unfold kernelRun0_A
  exact h

theorem out_A_8 (l : Fin 1024) :
    (out0_A_8 c i a1 w1 a2 w2 a3 w3 a4 w4 a5 w5 a6 w6 a7 w7 a8 w8 a9 w9 a10 w10 hc0 x0 x1 x2 x3 x4 x5 x6 (ix2 0 l) : EReal) = 0 + ∑ r : Fin 512, dgAt x4 (k0_pay2 x0 x1 x2 x3) l r := by
  unfold out0_A_8
  have h := row_final Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_A.sl.HS0_1 c a1 w1 a2 w2 a3 w3 a4 w4 x0 x1 x2 x3)) VO0_8 VO0_8.junk kernelRun0_A.sl.H8_1 a8.view.junk (a9.view.writes (Elt Ideal) a9.view.junk kernelRun0_A.sl.H8_1) l
  rw [hs_A c a1 w1 a2 w2 a3 w3 a4 w4 a10 x0 x1 x2 x3, w5.read_unread, start_row] at h
  unfold kernelRun0_A
  exact h

end

section
variable (c : Dev nD) (i : grid0.Coords) (a1 : Memref sig .tc .vmem S512x1024 .bf16) (w1 : a1.IsWhole) (a2 : Memref sig .tc .vmem S1024x1024 .bf16) (w2 : a2.IsWhole) (a3 : Memref sig .tc .vmem S512x1024 .bf16) (w3 : a3.IsWhole) (a4 : Memref sig .tc .vmem S1024x1024 .bf16) (w4 : a4.IsWhole) (a5 : Memref sig .tc .vmem S512x1024 .f32) (w5 : a5.IsWhole) (a6 : Memref sig .tc .vmem S1x1024 .f32) (w6 : a6.IsWhole) (a7 : Memref sig .tc .vmem S512x1024 .f32) (w7 : a7.IsWhole) (a8 : Memref sig .tc .vmem S512x1024 .f32) (w8 : a8.IsWhole) (a9 : Memref sig .tc .vmem S1x1024 .f32) (w9 : a9.IsWhole) (a10 : Memref sig .tc .vmem S512x1024 .f32) (w10 : a10.IsWhole) (hc0 : ¬cond0_0 i)
  (x0 : Vec Ideal S512x1024 .bf16) (x1 : Vec Ideal S1024x1024 .bf16) (x2 : Vec Ideal S512x1024 .bf16) (x3 : Vec Ideal S1024x1024 .bf16) (x4 : Vec Ideal S512x1024 .f32) (x5 : Vec Ideal S1x1024 .f32) (x6 : Vec Ideal S512x1024 .f32) (xo8 : Vec Ideal S1x1024 .f32)

theorem hs_B : a10.view.read (Elt Ideal) (a10.view.writes (Elt Ideal) a10.view.junk (kernelRun0_B.sl.HS0_1 c a1 w1 a2 w2 a3 w3 a4 w4 x0 x1 x2 x3)) = k0_pay2 x0 x1 x2 x3 := by
  unfold kernelRun0_B.sl.HS0_1
  exact whole_pay2 a1 w1 a2 w2 a3 w3 a4 w4 a10 x0 x1 x2 x3

/-- What a point of case B leaves in `dx`'s block, and in `dgain`'s row. -/
theorem out_B_7 (y : S512x1024.Idx) :
    (out0_B_7 c i a1 w1 a2 w2 a3 w3 a4 w4 a5 w5 a6 w6 a7 w7 a8 w8 a9 w9 a10 w10 hc0 x0 x1 x2 x3 x4 x5 x6 xo8 y : EReal) = dxAt x5 x4 (k0_pay2 x0 x1 x2 x3) x6 y := by
  unfold out0_B_7
  refine View.read_writes_apply_of_pieces VO0_7 _ (dxAt x5 x4 (k0_pay2 x0 x1 x2 x3) x6) _ ?_ y (cover0_B_7 c i a1 w1 a2 w2 a3 w3 a4 w4 a5 w5 a6 w6 a7 w7 a8 w8 a9 w9 a10 w10 hc0 x0 x1 x2 x3 x4 x5 x6 xo8 y)
  have h := pb8_agree Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_B.sl.HS0_1 c a1 w1 a2 w2 a3 w3 a4 w4 x0 x1 x2 x3)) a8.view.junk (w9.unread xo8) 32
  rw [hs_B c a1 w1 a2 w2 a3 w3 a4 w4 a10 x0 x1 x2 x3, w5.read_unread, w7.read_unread] at h
  rw [show dxAt x5 x4 (k0_pay2 x0 x1 x2 x3) x6 = dxAt (gainV a6 w6 x5) x4 (k0_pay2 x0 x1 x2 x3) x6 from by rw [gain_read]]
  unfold kernelRun0_B
  exact h

theorem out_B_8 (l : Fin 1024) :
    (out0_B_8 c i a1 w1 a2 w2 a3 w3 a4 w4 a5 w5 a6 w6 a7 w7 a8 w8 a9 w9 a10 w10 hc0 x0 x1 x2 x3 x4 x5 x6 xo8 (ix2 0 l) : EReal) = (xo8 (ix2 0 l) : EReal) + ∑ r : Fin 512, dgAt x4 (k0_pay2 x0 x1 x2 x3) l r := by
  unfold out0_B_8
  have h := row_final Variants.none c none i a1 w1 a2 w2 a3 w3 a4 w4 a5 w5 a6 w6 a7 w7 a8 w8 a9 w9 a10 w10 (gainV a6 w6 x5) (w5.unread x4) (w7.unread x6) (a10.view.writes (Elt Ideal) a10.view.junk (kernelRun0_B.sl.HS0_1 c a1 w1 a2 w2 a3 w3 a4 w4 x0 x1 x2 x3)) VO0_8 VO0_8.junk [] a8.view.junk (w9.unread xo8) l
  rw [hs_B c a1 w1 a2 w2 a3 w3 a4 w4 a10 x0 x1 x2 x3, w5.read_unread, w9.read_unread, List.append_nil] at h
  unfold kernelRun0_B
  exact h

end

end Cert.Kernel19Ideal.Norm
-- ==== Proof.Norm19Arr.lean ====
/-
  The norm's backward kernel of the convolution module over its whole grid: what the two result arrays hold after the run, at an index.
-/
module

public import proofs.«01_k».proof.Proof.Norm19Out
public import Idealize.ShloMosaic.Lib.Pipeline.ValueKit
public import Idealize.ShloMosaic.Lib.Pipeline.Value
public import Idealize.ShloMosaic.Lib.StableHlo.Run

@[expose] public section

set_option maxRecDepth 16384

noncomputable section

namespace Cert.Kernel19Ideal.Norm

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices, over the grid. -/
theorem idx_rows : ∀ t : Fin cfg0.N,
    win0_0.index t (0 : Fin 2) = t.val ∧ win0_0.index t (1 : Fin 2) = 0
    ∧ win0_2.index t (0 : Fin 2) = t.val ∧ win0_2.index t (1 : Fin 2) = 0
    ∧ win0_4.index t (0 : Fin 2) = t.val ∧ win0_4.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem idx_whole : ∀ t : Fin cfg0.N,
    win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_8.index t (0 : Fin 2) = 0 ∧ win0_8.index t (1 : Fin 2) = 0 :=
  (by decide +kernel : ∀ t : Fin grid0.N, _)

/-- The arguments at an index: the parts of the gradient, the projection, the rows, the gain, the residual's gradient. -/
def aD0 (c : Dev nD) (R : Fin 16384) (k : Fin 1024) : EReal := m ((c : Thread nD τ).loc main_arg0) (ix2 R k)
def aD1 (c : Dev nD) (R : Fin 16384) (k : Fin 1024) : EReal := m ((c : Thread nD τ).loc main_arg1) (ix2 R k)
def aW (c : Dev nD) (L : Fin 1024) (k : Fin 2048) : EReal := m ((c : Thread nD τ).loc main_arg2) (ix2 L k)
def aX (c : Dev nD) (R : Fin 16384) (k : Fin 1024) : EReal := m ((c : Thread nD τ).loc main_arg3) (ix2 R k)
def aN (c : Dev nD) (k : Fin 1024) : EReal := m ((c : Thread nD τ).loc main_arg4) (ix1 k)
def aS (c : Dev nD) (R : Fin 16384) (k : Fin 1024) : EReal := m ((c : Thread nD τ).loc main_arg5) (ix2 R k)

/-- The host's arrays before the call: the parts of the projection, and the gain as a row. -/
theorem V_v0 (c : Dev nD) (L : Fin 1024) (k : Fin 1024) :
    (V m c main_v0 (ix2 L k) : EReal) = aW m c L ⟨k.val, by omega⟩ := by
  have e : V m c main_v0 = extractStridedSlice S1024x1024 ![0, 0] (m ((c : Thread nD τ).loc main_arg2)) slices_S1024x2048_S1024x1024_0_0 := by
    show StableHlo.after hostOps0 (fun b => m (c, b)) (Proc.devRef .tc main_v0) = _
    after_results
  rw [e]
  unfold aW
  pointwise []

theorem V_v1 (c : Dev nD) (L : Fin 1024) (k : Fin 1024) :
    (V m c main_v1 (ix2 L k) : EReal) = aW m c L ⟨1024 + k.val, by omega⟩ := by
  have e : V m c main_v1 = extractStridedSlice S1024x1024 ![0, 1024] (m ((c : Thread nD τ).loc main_arg2)) slices_S1024x2048_S1024x1024_0_1024 := by
    show StableHlo.after hostOps0 (fun b => m (c, b)) (Proc.devRef .tc main_v1) = _
    after_results
  rw [e]
  unfold aW
  pointwise []

theorem V_v2 (c : Dev nD) (k : Fin 1024) : (V m c main_v2 (ix2 0 k) : EReal) = aN m c k := by
  have e : V m c main_v2 = shapeCast S1x1024 (m ((c : Thread nD τ).loc main_arg4)) shapeCasts_S1024_S1x1024 := by
    show StableHlo.after hostOps0 (fun b => m (c, b)) (Proc.devRef .tc main_v2) = _
    after_results
    rfl
  rw [e]
  unfold aN
  pointwise []

/-- The blocks at a grid point, at an index. -/
theorem b0 (c : Dev nD) (t : Fin cfg0.N) (r : Fin 512) (k : Fin 1024) (R : Fin 16384) (hR : R.val = 512 * t.val + r.val) :
    (iblk m c 0 t (ix2 r k) : EReal) = aD0 m c R k := by
  obtain ⟨e0, e1, -⟩ := idx_rows t
  unfold iblk aD0
  refine congrArg (m (c.tc.loc main_arg0)) (funext fun a => Fin.ext ?_)
  match a with
  | ⟨0, _⟩ => show win0_0.index t 0 * 512 + 1 * r.val = R.val; rw [e0]; omega
  | ⟨1, _⟩ => show win0_0.index t 1 * 1024 + 1 * k.val = k.val; rw [e1]; omega

theorem b2 (c : Dev nD) (t : Fin cfg0.N) (r : Fin 512) (k : Fin 1024) (R : Fin 16384) (hR : R.val = 512 * t.val + r.val) :
    (iblk m c 2 t (ix2 r k) : EReal) = aD1 m c R k := by
  obtain ⟨-, -, e0, e1, -⟩ := idx_rows t
  unfold iblk aD1
  refine congrArg (m (c.tc.loc main_arg1)) (funext fun a => Fin.ext ?_)
  match a with
  | ⟨0, _⟩ => show win0_2.index t 0 * 512 + 1 * r.val = R.val; rw [e0]; omega
  | ⟨1, _⟩ => show win0_2.index t 1 * 1024 + 1 * k.val = k.val; rw [e1]; omega

theorem b4 (c : Dev nD) (t : Fin cfg0.N) (r : Fin 512) (k : Fin 1024) (R : Fin 16384) (hR : R.val = 512 * t.val + r.val) :
    (iblk m c 4 t (ix2 r k) : EReal) = aX m c R k := by
  obtain ⟨-, -, -, -, e0, e1, -⟩ := idx_rows t
  unfold iblk aX
  refine congrArg (m (c.tc.loc main_arg3)) (funext fun a => Fin.ext ?_)
  match a with
  | ⟨0, _⟩ => show win0_4.index t 0 * 512 + 1 * r.val = R.val; rw [e0]; omega
  | ⟨1, _⟩ => show win0_4.index t 1 * 1024 + 1 * k.val = k.val; rw [e1]; omega

theorem b6 (c : Dev nD) (t : Fin cfg0.N) (r : Fin 512) (k : Fin 1024) (R : Fin 16384) (hR : R.val = 512 * t.val + r.val) :
    (iblk m c 6 t (ix2 r k) : EReal) = aS m c R k := by
  obtain ⟨-, -, -, -, -, -, e0, e1, -⟩ := idx_rows t
  unfold iblk aS
  refine congrArg (m (c.tc.loc main_arg5)) (funext fun a => Fin.ext ?_)
  match a with
  | ⟨0, _⟩ => show win0_6.index t 0 * 512 + 1 * r.val = R.val; rw [e0]; omega
  | ⟨1, _⟩ => show win0_6.index t 1 * 1024 + 1 * k.val = k.val; rw [e1]; omega

theorem b1 (c : Dev nD) (t : Fin cfg0.N) (r : Fin 1024) (k : Fin 1024) :
    (iblk m c 1 t (ix2 r k) : EReal) = aW m c r ⟨k.val, by omega⟩ := by
  obtain ⟨e0, e1, -⟩ := idx_whole t
  refine Eq.trans ?_ (V_v0 m c r k)
  unfold iblk
  refine congrArg (V m c main_v0) (funext fun a => Fin.ext ?_)
  match a with
  | ⟨0, _⟩ => show win0_1.index t 0 * 1024 + 1 * r.val = r.val; rw [e0]; omega
  | ⟨1, _⟩ => show win0_1.index t 1 * 1024 + 1 * k.val = k.val; rw [e1]; omega

theorem b3 (c : Dev nD) (t : Fin cfg0.N) (r : Fin 1024) (k : Fin 1024) :
    (iblk m c 3 t (ix2 r k) : EReal) = aW m c r ⟨1024 + k.val, by omega⟩ := by
  obtain ⟨-, -, e0, e1, -⟩ := idx_whole t
  refine Eq.trans ?_ (V_v1 m c r k)
  unfold iblk
  refine congrArg (V m c main_v1) (funext fun a => Fin.ext ?_)
  match a with
  | ⟨0, _⟩ => show win0_3.index t 0 * 1024 + 1 * r.val = r.val; rw [e0]; omega
  | ⟨1, _⟩ => show win0_3.index t 1 * 1024 + 1 * k.val = k.val; rw [e1]; omega

theorem b5 (c : Dev nD) (t : Fin cfg0.N) (k : Fin 1024) :
    (iblk m c 5 t (ix2 0 k) : EReal) = aN m c k := by
  obtain ⟨-, -, -, -, e0, e1, -⟩ := idx_whole t
  refine Eq.trans ?_ (V_v2 m c k)
  unfold iblk
  refine congrArg (V m c main_v2) (funext fun a => Fin.ext ?_)
  match a with
  | ⟨0, _⟩ => show win0_5.index t 0 * 1 + 1 * 0 = 0; rw [e0]
  | ⟨1, _⟩ => show win0_5.index t 1 * 1024 + 1 * k.val = k.val; rw [e1]; omega

/-- The gradient into the norm's output: the products summed. -/
def dh (c : Dev nD) (R : Fin 16384) (L : Fin 1024) : EReal :=
  (∑ k : Fin 1024, aD0 m c R k * aW m c L ⟨k.val, by omega⟩) + (∑ k : Fin 1024, aD1 m c R k * aW m c L ⟨1024 + k.val, by omega⟩)

/-- What `dx` holds at row `R`, column `L`. -/
def dxOf (c : Dev nD) (R : Fin 16384) (L : Fin 1024) : EReal :=
  NormMath.kdx (fun k => aX m c R k) (fun k => dh m c R k * aN m c k) (aS m c R L) L

/-- Row `R`'s part of `dgain` at column `L`. -/
def dgOf (c : Dev nD) (L : Fin 1024) (R : Fin 16384) : EReal :=
  dh m c R L * (aX m c R L * NormMath.rr (fun k => aX m c R k))

/-- The scratch block at a grid point. -/
abbrev D (c : Dev nD) (t : Fin cfg0.N) : Vec Ideal S512x1024 .f32 :=
  k0_pay2 (iblk m c 0 t) (iblk m c 1 t) (iblk m c 2 t) (iblk m c 3 t)

theorem D_apply (c : Dev nD) (t : Fin cfg0.N) (r : Fin 512) (l : Fin 1024) (R : Fin 16384) (hR : R.val = 512 * t.val + r.val) :
    (D m c t (ix2 r l) : EReal) = dh m c R l := by
  refine (pay2_apply _ _ _ _ r l).trans ?_
  unfold dh
  exact congr (congrArg HAdd.hAdd (Finset.sum_congr rfl fun k _ => congr (congrArg HMul.hMul (b0 m c t r k R hR)) (b1 m c t l k)))
    (Finset.sum_congr rfl fun k _ => congr (congrArg HMul.hMul (b2 m c t r k R hR)) (b3 m c t l k))

theorem dxAt_apply (c : Dev nD) (t : Fin cfg0.N) (r : Fin 512) (l : Fin 1024) (R : Fin 16384) (hR : R.val = 512 * t.val + r.val) :
    dxAt (iblk m c 5 t) (iblk m c 4 t) (D m c t) (iblk m c 6 t) (ix2 r l) = dxOf m c R l := by
  unfold dxAt dxOf
  have e1 : (fun k : Fin 1024 => (iblk m c 4 t (ix2 r k) : EReal)) = fun k => aX m c R k := funext fun k => b4 m c t r k R hR
  have e2 : (fun k : Fin 1024 => (D m c t (ix2 r k) : EReal) * iblk m c 5 t (ix2 0 k)) = fun k => dh m c R k * aN m c k :=
    funext fun k => congr (congrArg HMul.hMul (D_apply m c t r k R hR)) (b5 m c t k)
  exact congr (congr (congr (congrArg NormMath.kdx e1) e2) (b6 m c t r l R hR)) rfl

theorem dgAt_apply (c : Dev nD) (t : Fin cfg0.N) (r : Fin 512) (l : Fin 1024) (R : Fin 16384) (hR : R.val = 512 * t.val + r.val) :
    dgAt (iblk m c 4 t) (D m c t) l r = dgOf m c l R := by
  unfold dgAt dgOf
  have e1 : (fun k : Fin 1024 => (iblk m c 4 t (ix2 r k) : EReal)) = fun k => aX m c R k := funext fun k => b4 m c t r k R hR
  exact congr (congrArg HMul.hMul (D_apply m c t r l R hR)) (congr (congrArg HMul.hMul (b4 m c t r l R hR)) (congrArg NormMath.rr e1))

/-- What the run leaves in `dx`'s block at every point. -/
theorem outs7 (c : Dev nD) (t : Fin cfg0.N) (y : S512x1024.Idx) :
    ((outsAt0 m c t.val t.isLt).1 y : EReal) = dxAt (iblk m c 5 t) (iblk m c 4 t) (D m c t) (iblk m c 6 t) y := by
  by_cases h0 : t.val % 32 = 0
  · rw [outsAt0_A m c t h0]
    exact out_A_7 c _ _ _ _ _ _ _ _ _ _ _ _ _ _ _ _ _ _ _ _ _ _ _ _ _ _ _ _ _ y
  · rw [outsAt0_B m c t h0]
    exact out_B_7 c _ _ _ _ _ _ _ _ _ _ _ _ _ _ _ _ _ _ _ _ _ _ _ _ _ _ _ _ _ _ y

/-- One point's part of `dgain`. -/
def part (c : Dev nD) (l : Fin 1024) (s : ℕ) (r : Fin 512) : EReal :=
  if h : 512 * s + r.val < 16384 then dgOf m c l ⟨512 * s + r.val, h⟩ else 0

theorem part_eq (c : Dev nD) (t : Fin cfg0.N) (l : Fin 1024) :
    ∑ r : Fin 512, dgAt (iblk m c 4 t) (D m c t) l r = ∑ r : Fin 512, part m c l t.val r := by
  have ht : t.val < 32 := lt_of_lt_of_eq t.isLt N_0
  refine Finset.sum_congr rfl fun r _ => ?_
  have hr := r.isLt
  unfold part
  rw [dif_pos (by omega)]
  exact dgAt_apply m c t r l _ rfl

/-- What the run leaves in `dgain`'s row after point `n`: the sum over the rows so far. -/
theorem outs8 (c : Dev nD) (l : Fin 1024) (n : ℕ) (hn : n < cfg0.N) :
    ((outsAt0 m c n hn).2 (ix2 0 l) : EReal) = ∑ s ∈ Finset.range (n + 1), ∑ r : Fin 512, part m c l s r := by
  have hN : n < 32 := lt_of_lt_of_eq hn N_0
  induction n with
  | zero =>
    have e := outsAt0_A m c ⟨0, hn⟩ rfl
    rw [show outsAt0 m c 0 hn = _ from e]
    rw [Finset.sum_range_one, ← part_eq m c ⟨0, hn⟩ l]
    exact (out_A_8 c _ _ _ _ _ _ _ _ _ _ _ _ _ _ _ _ _ _ _ _ _ _ _ _ _ _ _ _ _ l).trans (zero_add _)
  | succ n ih =>
    have h0 : ¬ (⟨n + 1, hn⟩ : Fin cfg0.N).val % 32 = 0 := by show ¬ (n + 1) % 32 = 0; omega
    have e := outsAt0_B m c ⟨n + 1, hn⟩ h0
    rw [show outsAt0 m c (n + 1) hn = _ from e]
    rw [Finset.sum_range_succ, ← ih (by omega) (by omega), ← part_eq m c ⟨n + 1, hn⟩ l]
    exact out_B_8 c _ _ _ _ _ _ _ _ _ _ _ _ _ _ _ _ _ _ _ _ _ _ _ _ _ _ _ _ _ _ l

/-- The result arrays. -/
def G7 (c : Dev nD) : Buf (Elt Ideal) ((c : Thread nD τ).loc main_v3_0) := fun i => dxOf m c (i 0) (i 1)
/-- Column `L` of `dgain`. -/
def dgSum (c : Dev nD) (L : Fin 1024) : EReal := ∑ R : Fin 16384, dgOf m c L R
def G8 (c : Dev nD) : Buf (Elt Ideal) ((c : Thread nD τ).loc main_v3_1) := fun i => dgSum m c (i 1)

/-- The array of `dx` after the run. -/
theorem final7 (c : Dev nD) : (dats m 0 c).arrAt 7 cfg0.N = G7 m c := by
  refine (dats m 0 c).arrAt_eq_of_covers 7 _ (by decide +kernel) fun t _ y => ?_
  obtain ⟨-, -, -, -, -, -, -, -, e0, e1⟩ := idx_rows t
  have ht : t.val < 32 := lt_of_lt_of_eq t.isLt N_0
  have hy0 : (y 0).val < 512 := (y 0).isLt
  blk_simp
  rw [after0_7]
  refine (outs7 m c t _).trans ((congrArg _ (eq_ix2 y)).trans ((dxAt_apply m c t (y 0) (y 1) ⟨512 * t.val + (y 0).val, by omega⟩ rfl).trans
    (congr (congrArg (dxOf m c) (Fin.ext ?_)) (Fin.ext ?_))))
  · show 512 * t.val + (y 0).val = win0_7.index t 0 * 512 + 1 * (y 0).val; rw [e0]; omega
  · show (y 1).val = win0_7.index t 1 * 1024 + 1 * (y 1).val; rw [e1]; omega

theorem part_sum (c : Dev nD) (l : Fin 1024) :
    ∑ s ∈ Finset.range (31 + 1), ∑ r : Fin 512, part m c l s r = dgSum m c l := by
  unfold dgSum
  exact Cert.Sums.blocks (a := 32) (b := 512) (n := 16384) (by norm_num) (part m c l) (dgOf m c l) (fun s hs r => by
    have := r.isLt
    unfold part
    exact dif_pos (by omega))

/-- The array of `dgain` after the run. -/
theorem final8 (c : Dev nD) : (dats m 0 c).arrAt 8 cfg0.N = G8 m c := by
  refine (dats m 0 c).arrAt_eq_of_covers 8 _ (by decide +kernel) fun t hf y => ?_
  obtain ⟨-, -, -, -, -, -, e0, e1⟩ := idx_whole t
  have ht : t.val < 32 := lt_of_lt_of_eq t.isLt N_0
  have h31 : t.val = 31 := by have := (flush0_8 t).mp hf; omega
  have hy : y = ix2 (0 : Fin 1) (y 1) := by
    refine (eq_ix2 y).trans (congrArg (ix2 · (y 1)) (Fin.ext ?_))
    have : (y 0).val < 1 := (y 0).isLt
    show (y 0).val = 0; omega
  blk_simp
  rw [after0_8]
  refine (congrArg _ hy).trans ((outs8 m c (y 1) t.val t.isLt).trans ?_)
  rw [h31]
  refine (part_sum m c (y 1)).trans (congrArg (dgSum m c) (Fin.ext ?_))
  show (y 1).val = win0_8.index t 1 * 1024 + 1 * (y 1).val; rw [e1]; omega

/-! ## The run -/

/-- The run, with the result arrays named and the arguments unchanged. -/
theorem run : θ_run defs (onTc (τ := τ) (main (F := Ideal))) ⟨m, fun _ => 0, ρ⟩ fun r => ∀ c : Dev nD,
      r.2.mem ((c : Thread nD τ).loc main_v3_0) = G7 m c
      ∧ r.2.mem ((c : Thread nD τ).loc main_v3_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 7).trans (final7 m c), ((h c).1 8).trans (final8 m c),
      ((h c).1 0).trans (((dats m 0 c).arrAt_in 0 rfl _).trans ((A_eq m c 0).trans (V_main_arg0 m c))), ((h c).1 2).trans (((dats m 0 c).arrAt_in 2 rfl _).trans ((A_eq m c 2).trans (V_main_arg1 m c))), ((h c).2 main_arg2 (Pipeline.mem_restRefs_of main_arg2 (by decide) (by decide))).trans (V_main_arg2 m c), ((h c).1 4).trans (((dats m 0 c).arrAt_in 4 rfl _).trans ((A_eq m c 4).trans (V_main_arg3 m c))), ((h c).2 main_arg4 (Pipeline.mem_restRefs_of main_arg4 (by decide) (by decide))).trans (V_main_arg4 m c), ((h c).1 6).trans (((dats m 0 c).arrAt_in 6 rfl _).trans ((A_eq m c 6).trans (V_main_arg5 m c)))⟩)
    (run_main m ρ)

end Cert.Kernel19Ideal.Norm
-- ==== Proof.Norm19Ref.lean ====
/-
  The reference's gradient of the norm and its product, read at an index.
-/
module

public import proofs.«01_k».proof.Proof.NormMath
public import proofs.«01_k».proof.Proof.Gen.Reference19Ideal.Read
public import Idealize.ShloMosaic.Lib.Pointwise
public import Idealize.ShloMosaic.Lib.Pipeline.Value

@[expose] public section

set_option maxRecDepth 16384

noncomputable section

namespace Cert.Reference19Ideal.NormRef

open Cert.Reference19Ideal Cert.Reference19Ideal.Gen Cert.Reference19Ideal.Read Idealize.ShloMosaic Idealize.ShloMosaic.TcCoe

variable (x0 x1 : (⟨S16384x1024, .bf16⟩ : BufTy).Contents (Elt Ideal)) (x2 : (⟨S1024x2048, .bf16⟩ : BufTy).Contents (Elt Ideal))
  (x3 : (⟨S16384x1024, .f32⟩ : BufTy).Contents (Elt Ideal)) (x4 : (⟨S1024, .f32⟩ : BufTy).Contents (Elt Ideal))
  (x5 : (⟨S16384x1024, .f32⟩ : BufTy).Contents (Elt Ideal))

/-- The arguments at an index. -/
def aD0 (R : Fin 16384) (k : Fin 1024) : EReal := x0 (ix2 R k)
def aD1 (R : Fin 16384) (k : Fin 1024) : EReal := x1 (ix2 R k)
def aW (L : Fin 1024) (k : Fin 2048) : EReal := x2 (ix2 L k)
def aX (R : Fin 16384) (k : Fin 1024) : EReal := x3 (ix2 R k)
def aN (k : Fin 1024) : EReal := x4 (ix1 k)
def aS (R : Fin 16384) (k : Fin 1024) : EReal := x5 (ix2 R k)

theorem zero_word : (FloatOps.ofBits (F := Ideal) .f32 0x00000000#32 : EReal) = 0 := Ideal.ofBits_zero_f32

/-- The mean square, its root's inverse, and the factor of the derivative. -/
theorem v4_at (R : Fin 16384) : (val_main_v4 (F := Ideal) x3 (ix1 R) : EReal) = ∑ k, aX x3 R k * aX x3 R k := by
  refine (val_main_v4_apply x3 (ix1 R)).trans ?_
  rw [val_main_cst_apply, zero_word, zero_add]
  refine Finset.sum_congr rfl fun k _ => ?_
  have e : idx_main_v4 (ix1 R) k = ix2 R k := by funext a; match a with | ⟨0, _⟩ => rfl | ⟨1, _⟩ => rfl
  rw [e]; rfl

theorem v9_at (R : Fin 16384) : (val_main_v9 (F := Ideal) x3 (ix2 R 0) : EReal) = NormMath.ms (aX x3 R) := by
  have e : idx_main_v5 (ix2 R 0) = ix1 R := by funext a; match a with | ⟨0, _⟩ => rfl
  rw [val_main_v9_apply, val_main_v7_apply, val_main_v5_apply, val_main_v6_apply, val_main_v8_apply, e]
  unfold NormMath.ms
  exact congrArg (fun z : EReal => Ideal.div z NormMath.len + NormMath.eps) (v4_at x3 R)

theorem v10_at (R : Fin 16384) : (val_main_v10 (F := Ideal) x3 (ix2 R 0) : EReal) = NormMath.rr (aX x3 R) := by
  rw [val_main_v10_apply, Ideal.hostUnary_rsqrt_def]
  exact congrArg Ideal.rsqrt (v9_at x3 R)

theorem v13_at (R : Fin 16384) : (val_main_v13 (F := Ideal) x3 (ix2 R 0) : EReal)
    = NormMath.mhalf * Ideal.div (NormMath.rr (aX x3 R)) (NormMath.ms (aX x3 R)) := by
  rw [val_main_v13_apply, val_main_v12_apply, val_main_v11_apply]
  exact congrArg (NormMath.mhalf * ·) (congr (congrArg Ideal.div (v10_at x3 R)) (v9_at x3 R))

/-- The joined operand at a column of each of its parts. -/
theorem v1_0 (R : Fin 16384) (k : Fin 1024) (K : Fin 2048) (hK : K.val = 0 + k.val) :
    (val_main_v1 (F := Ideal) x0 x1 (ix2 R K) : EReal) = aD0 x0 R k := by
  unfold val_main_v1 aD0
  refine concatenate_apply_piece (t := S16384x2048) (1 : Fin 2) [⟨S16384x1024, x0⟩, ⟨S16384x1024, x1⟩] _ (ix2 R K) 0 (show 0 < 2 by decide) S16384x1024 x0 rfl rfl 0 (by rfl) (ix2 R k)
    (fun a ha => ?_) hK.symm
  match a with
  | ⟨0, _⟩ => rfl
  | ⟨1, _⟩ => exact absurd rfl ha

theorem v1_1 (R : Fin 16384) (k : Fin 1024) (K : Fin 2048) (hK : K.val = 1024 + k.val) :
    (val_main_v1 (F := Ideal) x0 x1 (ix2 R K) : EReal) = aD1 x1 R k := by
  unfold val_main_v1 aD1
  refine concatenate_apply_piece (t := S16384x2048) (1 : Fin 2) [⟨S16384x1024, x0⟩, ⟨S16384x1024, x1⟩] _ (ix2 R K) 1 (show 1 < 2 by decide) S16384x1024 x1 rfl rfl 1024 (by rfl) (ix2 R k)
    (fun a ha => ?_) hK.symm
  match a with
  | ⟨0, _⟩ => rfl
  | ⟨1, _⟩ => exact absurd rfl ha

/-- The gradient into the norm's output: the products summed. -/
def dh (R : Fin 16384) (L : Fin 1024) : EReal :=
  (∑ k : Fin 1024, aD0 x0 R k * aW x2 L ⟨k.val, by omega⟩) + (∑ k : Fin 1024, aD1 x1 R k * aW x2 L ⟨1024 + k.val, by omega⟩)

theorem v20_at (R : Fin 16384) (L : Fin 1024) : (val_main_v20 (F := Ideal) x0 x1 x2 (ix2 R L) : EReal) = dh x0 x1 x2 R L := by
  have e : ∀ K, lidx_main_v20 (ix2 R L) K = ix2 R K := fun K => by funext a; match a with | ⟨0, _⟩ => rfl | ⟨1, _⟩ => rfl
  have e' : ∀ K, ridx_main_v20 (ix2 R L) K = ix2 L K := fun K => by funext a; match a with | ⟨0, _⟩ => rfl | ⟨1, _⟩ => rfl
  refine (val_main_v20_apply x0 x1 x2 (ix2 R L)).trans ?_
  unfold dh
  refine (Fin.sum_univ_add (a := 1024) (b := 1024) (M := EReal) _).trans (congr (congrArg HAdd.hAdd ?_) (Finset.sum_congr rfl fun k _ => ?_))
  swap
  · rw [e, e']
    exact congr (congrArg HMul.hMul (v1_1 x0 x1 R k _ rfl)) rfl
  refine Finset.sum_congr rfl fun k _ => ?_
  rw [e, e']
  exact congr (congrArg HMul.hMul (v1_0 x0 x1 R k _ (Nat.zero_add _).symm)) rfl

/-- The incoming gradient times the gain. -/
theorem v25_at (R : Fin 16384) (L : Fin 1024) :
    (val_main_v25 (F := Ideal) x0 x1 x2 x4 (ix2 R L) : EReal) = dh x0 x1 x2 R L * aN x4 L := by
  have e : idx_main_v16 (idx_main_v24 (ix2 R L)) = ix1 L := by funext a; match a with | ⟨0, _⟩ => rfl
  rw [val_main_v25_apply, val_main_v24_apply, val_main_v16_apply, e]
  exact congrArg (fun z : EReal => z * aN x4 L) (v20_at x0 x1 x2 R L)

theorem v28_at (R : Fin 16384) :
    (val_main_v28 (F := Ideal) x0 x1 x2 x3 x4 (ix1 R) : EReal) = ∑ k, aX x3 R k * (dh x0 x1 x2 R k * aN x4 k) := by
  refine (val_main_v28_apply x0 x1 x2 x3 x4 (ix1 R)).trans ?_
  rw [val_main_cst_5_apply, zero_word, zero_add]
  refine Finset.sum_congr rfl fun k _ => ?_
  have e : idx_main_v28 (ix1 R) k = ix2 R k := by funext a; match a with | ⟨0, _⟩ => rfl | ⟨1, _⟩ => rfl
  rw [e, val_main_v27_apply]
  exact congrArg (fun z : EReal => aX x3 R k * z) (v25_at x0 x1 x2 x4 R k)

theorem v37_at (R : Fin 16384) (L : Fin 1024) : (val_main_v37 (F := Ideal) x0 x1 x2 x3 x4 (ix2 R L) : EReal)
    = NormMath.rw' (aX x3 R) (fun k => dh x0 x1 x2 R k * aN x4 k) := by
  have e : idx_main_v37 (ix2 R L) = ix1 R := by funext a; match a with | ⟨0, _⟩ => rfl
  rw [val_main_v37_apply, e]
  refine (val_main_v36_apply x0 x1 x2 x3 x4 (ix1 R)).trans ?_
  rw [val_main_cst_7_apply, zero_word, zero_add, Fin.sum_univ_one]
  have e2 : idx_main_v36 (ix1 R) 0 = ix2 R 0 := by funext a; match a with | ⟨0, _⟩ => rfl | ⟨1, _⟩ => rfl
  have e3 : idx_main_v29 (ix2 R 0) = ix1 R := by
    funext a; match a with | ⟨0, _⟩ => exact Fin.ext (show R.val * 1 + 0 = R.val by omega)
  rw [e2, val_main_v35_apply, val_main_v34_apply, val_main_v33_apply, val_main_v29_apply, e3]
  have ev := v28_at x0 x1 x2 x3 x4 R
  have ew := v13_at x3 R
  unfold NormMath.rw'
  generalize (val_main_v28 (F := Ideal) x0 x1 x2 x3 x4 (ix1 R)) = p at *
  generalize (val_main_v13 (F := Ideal) x3 (ix2 R 0)) = q at *
  rw [← ev, ← ew]
  rfl

/-- The first result at an index. -/
theorem v41_at (R : Fin 16384) (L : Fin 1024) : (val_main_v41 (F := Ideal) x0 x1 x2 x3 x4 x5 (ix2 R L) : EReal)
    = NormMath.rdx (aX x3 R) (fun k => dh x0 x1 x2 R k * aN x4 k) (aS x5 R L) L := by
  have e : idx_main_v30 (ix2 R L) = ix2 R 0 := by funext a; match a with | ⟨0, _⟩ => rfl | ⟨1, _⟩ => rfl
  rw [val_main_v41_apply, val_main_v39_apply, val_main_v40_apply, val_main_v38_apply, val_main_v32_apply, val_main_v31_apply,
    val_main_v30_apply, e]
  unfold NormMath.rdx
  exact congr (congrArg HAdd.hAdd (congr (congrArg HAdd.hAdd (congrArg (fun z : EReal => aS x5 R L + z)
      (congr (congrArg HMul.hMul (v25_at x0 x1 x2 x4 R L)) (v10_at x3 R))))
      (congrArg (fun z : EReal => aX x3 R L * z) (v37_at x0 x1 x2 x3 x4 R L))))
    (congrArg (fun z : EReal => z * aX x3 R L) (v37_at x0 x1 x2 x3 x4 R L))

/-- A row's part of the gain's gradient. -/
theorem v21_at (R : Fin 16384) (L : Fin 1024) : (val_main_v21 (F := Ideal) x0 x1 x2 x3 (ix2 R L) : EReal)
    = dh x0 x1 x2 R L * (aX x3 R L * NormMath.rr (aX x3 R)) := by
  have e : idx_main_v14 (ix2 R L) = ix2 R 0 := by funext a; match a with | ⟨0, _⟩ => rfl | ⟨1, _⟩ => rfl
  rw [val_main_v21_apply, val_main_v15_apply, val_main_v14_apply, e]
  refine Eq.trans ?_ (mul_comm _ _)
  exact congr (congrArg HMul.hMul (congrArg (fun z : EReal => aX x3 R L * z) (v10_at x3 R))) (v20_at x0 x1 x2 R L)

/-- The second result at an index. -/
theorem v42_at (L : Fin 1024) : (val_main_v42 (F := Ideal) x0 x1 x2 x3 (ix2 0 L) : EReal)
    = ∑ R, dh x0 x1 x2 R L * (aX x3 R L * NormMath.rr (aX x3 R)) := by
  have e : idx_main_v42 (ix2 0 L) = ix1 L := by
    funext a; match a with | ⟨0, _⟩ => exact Fin.ext (show 0 * 1024 + L.val = L.val by omega)
  rw [val_main_v42_apply, e]
  refine (val_main_v26_apply x0 x1 x2 x3 (ix1 L)).trans ?_
  rw [val_main_cst_4_apply, zero_word, zero_add, Fin.sum_univ_one]
  have e3 : idx_main_v23 (idx_main_v26 (ix1 L) 0) = ix1 L := by
    funext a; match a with | ⟨0, _⟩ => exact Fin.ext (show 0 * 1024 + L.val = L.val by omega)
  rw [val_main_v23_apply, e3]
  refine (val_main_v22_apply x0 x1 x2 x3 (ix1 L)).trans ?_
  rw [val_main_cst_3_apply, zero_word, zero_add]
  refine Finset.sum_congr rfl fun R _ => ?_
  have e4 : idx_main_v22 (ix1 L) R = ix2 R L := by funext a; match a with | ⟨0, _⟩ => rfl | ⟨1, _⟩ => rfl
  rw [e4]
  exact v21_at x0 x1 x2 x3 R L

end Cert.Reference19Ideal.NormRef
-- ==== Proof.Norm19Eq.lean ====
/-
  The gradient of the norm and its product: the kernel's results are the reference's, and the frames of both copies.
-/
module

public import proofs.«01_k».proof.Proof.Norm19Arr
public import proofs.«01_k».proof.Proof.Norm19Ref
public import proofs.«01_k».proof.Proof.Gen.Kernel19
public import proofs.«01_k».proof.Defs

@[expose] public section

set_option maxRecDepth 16384

noncomputable section

namespace Cert.Kernel19Ideal.Norm

open Cert.Kernel19Ideal Cert.Kernel19Ideal.Gen Idealize.ShloMosaic Idealize.ShloMosaic.TcCoe Idealize.SL.Sem

variable (m : (ℓ : Loc nD τ sig) → Buf (Elt Ideal) ℓ)

theorem eq7 (c : Dev nD) :
    Cert.Reference19Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = G7 m c := by
  funext i
  have hi : i = ix2 (i 0) (i 1) := eq_ix2 i
  rw [hi]
  refine (Cert.Reference19Ideal.NormRef.v41_at _ _ _ _ _ _ (i 0) (i 1)).trans ?_
  exact (NormMath.kdx_eq_rdx _ _ _ _).symm

theorem eq8 (c : Dev nD) :
    Cert.Reference19Ideal.Read.val_main_v42 (F := Ideal) (m ((c : Thread nD τ).loc main_arg0)) (m ((c : Thread nD τ).loc main_arg1)) (m ((c : Thread nD τ).loc main_arg2)) (m ((c : Thread nD τ).loc main_arg3)) = G8 m c := by
  funext i
  have hi : i = ix2 0 (i 1) := by
    refine (eq_ix2 i).trans (congrArg (fun z => ix2 z (i 1)) (Fin.ext ?_))
    have h := (i 0).isLt
    exact Nat.lt_one_iff.mp h
  rw [hi]
  exact Cert.Reference19Ideal.NormRef.v42_at _ _ _ _ (i 1)

/-- Both programs' results are the kernel's own arrays. -/
theorem algebraic : Cert.algebraic_Kernel19Ideal_Reference19Ideal :=
  fun m ρ m' ρ' _ hag => ⟨fun c => G7 m c, fun c => G8 m c, run m ρ,
    (θ_run _ _ _).mono (fun _ h c => ⟨(h c).1.trans (by
        rw [Cert.Reference19Ideal.Read.val_main_v41_eq, (hag c).1, (hag c).2.1, (hag c).2.2.1, (hag c).2.2.2.1, (hag c).2.2.2.2.1, (hag c).2.2.2.2.2]
        exact eq7 m c), (h c).2.1.trans (by
        rw [(hag c).1, (hag c).2.1, (hag c).2.2.1, (hag c).2.2.2.1]
        exact (Cert.Reference19Ideal.Read.val_main_v42_eq _ _ _ _).trans (eq8 m c)), (h c).2.2⟩)
      (Cert.Reference19Ideal.Value.run m' ρ')⟩

/-- The frames: one run serves both copies of the program. -/
theorem frame_ideal : Cert.quiescent_Kernel19Ideal := fun m ρ _ => frame (F := Ideal) m ρ

/-- The two copies run the same kernel and the same tables. -/
theorem kernel_eq {F : FTy → Type} [FloatOps F] :
    @Cert.Kernel19.cc0_conv_dh F _ Cert.Kernel19.Gen.facts = @Cert.Kernel19Ideal.cc0_conv_dh F _ Cert.Kernel19Ideal.Gen.facts := rfl

theorem table_eq {F : FTy → Type} [FloatOps F] : Cert.Kernel19.defs₀ (F := F) = Cert.Kernel19Ideal.defs₀ (F := F) := by
  unfold Cert.Kernel19.defs₀ Cert.Kernel19Ideal.defs₀
  congr 1
  funext l p
  match l, p with
  | 0, (t, s) => exact congrFun (congrFun (congrFun (congrFun (congrFun (congrFun (congrFun (congrFun (congrFun (congrFun (congrFun (congrFun (congrFun (congrFun (congrFun (congrFun (congrFun (congrFun (congrFun (congrFun (congrFun kernel_eq _) _) _) _) _) _) _) _) _) _) _) _) _) _) _) _) _) _) _) _) _

theorem defs_eq {F : FTy → Type} [FloatOps F] : Cert.Kernel19.defs (F := F) = Cert.Kernel19Ideal.defs (F := F) :=
  congrArg (Pipeline.defs (Cert.Kernel19Ideal.pcfgs (F := F))) table_eq

theorem main_eq_main {F : FTy → Type} [FloatOps F] : Cert.Kernel19.main (F := F) = Cert.Kernel19Ideal.main (F := F) := rfl

theorem frame_bits : Cert.quiescent_Kernel19 := fun m ρ _ => by
  rw [defs_eq, main_eq_main]
  exact frame (F := Bits) m ρ

end Cert.Kernel19Ideal.Norm
-- ==== Proof.AdamW.lean ====
/-
  The optimiser's step on arrays of any shape: the two moments' new values and the weight's update.
-/
module

public import proofs.«01_k».proof.Defs
public import Idealize.ShloMosaic.Lib.Pipeline.Value
public import Idealize.ShloMosaic.Lib.Pipeline.ValueKit

@[expose] public section

noncomputable section

namespace Cert.AdamW

open Idealize.ShloMosaic

variable {S : Shape}

/-- The new first moment: 0.9 of the old and 0.1 of the gradient. -/
abbrev first (g m : FVec Ideal S .f32) : FVec Ideal S .f32 :=
  addf (mulf (broadcast S (FloatOps.ofBits (F := Ideal) .f32 0x3F666666#32)) m) (mulf (broadcast S (FloatOps.ofBits (F := Ideal) .f32 0x3DCCCCCD#32)) g)

/-- The new second moment: 0.999 of the old and 0.001 of the gradient's square. -/
abbrev second (g v : FVec Ideal S .f32) : FVec Ideal S .f32 :=
  addf (mulf (broadcast S (FloatOps.ofBits (F := Ideal) .f32 0x3F7FBE77#32)) v) (mulf (broadcast S (FloatOps.ofBits (F := Ideal) .f32 0x3A83126F#32)) (mulf g g))

/-- The weight's update: minus the rate times the corrected moments' quotient and the weight's decay. -/
abbrev update (w g m v : FVec Ideal S .f32) : FVec Ideal S .f32 :=
  mulf (broadcast S (FloatOps.ofBits (F := Ideal) .f32 0xBA83126F#32))
    (addf (divf (divf (first g m) (broadcast S (FloatOps.ofBits (F := Ideal) .f32 0x3F26BD02#32)))
        (addf (sqrt (divf (second g v) (broadcast S (FloatOps.ofBits (F := Ideal) .f32 0x3C231ACC#32)))) (broadcast S (FloatOps.ofBits (F := Ideal) .f32 0x322BCC77#32))))
      (mulf (broadcast S (FloatOps.ofBits (F := Ideal) .f32 0x3C23D70A#32)) w))

theorem hz : (![0, 0] : Fin 2 → ℕ) = fun _ => 0 := funext fun a => by fin_cases a <;> rfl

variable {T : Shape} {w g m v : FVec Ideal S .f32} {w' g' m' v' : FVec Ideal T .f32} {y : S.Idx} {z : T.Idx}

/-- An element of each depends on the operands' elements there only. -/
theorem first_congr (hg : g y = g' z) (hm : m y = m' z) : first g m y = first g' m' z := by
  simp only [first, mulf, addf, broadcast, hg, hm]

theorem second_congr (hg : g y = g' z) (hv : v y = v' z) : second g v y = second g' v' z := by
  simp only [second, mulf, addf, broadcast, hg, hv]

theorem update_congr (hw : w y = w' z) (hg : g y = g' z) (hm : m y = m' z) (hv : v y = v' z) : update w g m v y = update w' g' m' v' z := by
  simp only [update, first, second, mulf, addf, divf, sqrt, broadcast, hw, hg, hm, hv]

/-- Pieces over a block each of which holds `G`'s elements. -/
abbrev Agree (G : FVec Ideal S .f32) (L : List (View.Piece (Elt Ideal) S .f32)) : Prop :=
  ∀ p ∈ L, ∀ x : p.1.shape.Idx, p.2 x = G (p.1.emb x)

/-- What a loop leaves whose trip `k` stores the step of the operands' elements in the rectangle `r k`. -/
theorem loop {n : ℕ} (x0 x1 x2 x3 : FVec Ideal S .f32) (r : Fin n → Rect S)
    (P : ℕ → List (View.Piece (Elt Ideal) S .f32) × List (View.Piece (Elt Ideal) S .f32) × List (View.Piece (Elt Ideal) S .f32))
    (h : P 0 = ([], [], []))
    (hs : ∀ k : Fin n, P (k.val + 1) = (⟨r k, update (x0 ∘ (r k).emb) (x1 ∘ (r k).emb) (x2 ∘ (r k).emb) (x3 ∘ (r k).emb)⟩ :: (P k.val).1,
      ⟨r k, first (x1 ∘ (r k).emb) (x2 ∘ (r k).emb)⟩ :: (P k.val).2.1, ⟨r k, second (x1 ∘ (r k).emb) (x3 ∘ (r k).emb)⟩ :: (P k.val).2.2)) :
    Agree (update x0 x1 x2 x3) (P n).1 ∧ Agree (first x1 x2) (P n).2.1 ∧ Agree (second x1 x3) (P n).2.2 := by
  suffices H : ∀ k ≤ n, Agree (update x0 x1 x2 x3) (P k).1 ∧ Agree (first x1 x2) (P k).2.1 ∧ Agree (second x1 x3) (P k).2.2 from H n le_rfl
  intro k hk
  induction k with
  | zero => rw [h]; exact ⟨fun _ h => absurd h List.not_mem_nil, fun _ h => absurd h List.not_mem_nil, fun _ h => absurd h List.not_mem_nil⟩
  | succ k ih =>
    obtain ⟨i0, i1, i2⟩ := ih (Nat.le_of_succ_le hk)
    rw [hs ⟨k, hk⟩]
    exact ⟨List.forall_mem_cons.2 ⟨fun x => update_congr rfl rfl rfl rfl, i0⟩, List.forall_mem_cons.2 ⟨fun x => first_congr rfl rfl, i1⟩,
      List.forall_mem_cons.2 ⟨fun x => second_congr rfl rfl, i2⟩⟩

end Cert.AdamW
-- ==== Proof.Adam21.lean ====
/-
  The optimiser's step for the feed-forward's down weight: both programs' results are the step of the arguments. The kernel takes a block's rows in groups of sixteen.
-/
module

public import proofs.«01_k».proof.Proof.AdamW
public import proofs.«01_k».proof.Proof.Gen.Kernel21Ideal.Frame
public import proofs.«01_k».proof.Proof.Gen.Reference21Ideal.Run

@[expose] public section

set_option maxRecDepth 16384

noncomputable section

namespace Cert.Kernel21Ideal.Adam

open Cert.Kernel21Ideal Cert.Kernel21Ideal.Gen Cert.AdamW Idealize.ShloMosaic Idealize.ShloMosaic.TcCoe Idealize.SL.Sem

/-- What a grid point leaves in the three results' blocks. -/
theorem outs (c : Dev nD) (i : grid0.Coords) (a0 a1 a2 a3 a4 a5 a6 : Memref sig .tc .vmem S256x1024 .f32) (h0 : a0.IsWhole) (h1 : a1.IsWhole) (h2 : a2.IsWhole) (h3 : a3.IsWhole) (h4 : a4.IsWhole) (h5 : a5.IsWhole) (h6 : a6.IsWhole) (x0 x1 x2 x3 : Vec Ideal S256x1024 .f32) :
    out0_A_4 c i a0 h0 a1 h1 a2 h2 a3 h3 a4 h4 a5 h5 a6 h6 x0 x1 x2 x3 = update x0 x1 x2 x3 ∧ out0_A_5 c i a0 h0 a1 h1 a2 h2 a3 h3 a4 h4 a5 h5 a6 h6 x0 x1 x2 x3 = first x1 x2
      ∧ out0_A_6 c i a0 h0 a1 h1 a2 h2 a3 h3 a4 h4 a5 h5 a6 h6 x0 x1 x2 x3 = second x1 x3 := by
  have h := loop (a0.view.read (Elt Ideal) (h0.unread x0)) (a1.view.read (Elt Ideal) (h1.unread x1)) (a2.view.read (Elt Ideal) (h2.unread x2)) (a3.view.read (Elt Ideal) (h3.unread x3))
    (fun k => Rect.unit (s := S256x1024) (k0_off1 k) S16x1024.size (k0_off1_inb k))
    (pb_k0_t1 Variants.none c none i a0 h0 a1 h1 a2 h2 a3 h3 a4 h4 a5 h5 a6 h6 (h0.unread x0) (h1.unread x1) (h2.unread x2) (h3.unread x3)) rfl fun k => by
      rw [pb_k0_t1_succ]
      unfold tripL_k0_t1 trip_k0_t1 trip_k0_t1.sl.r trip_k0_t1.sl.r_1
      simp only [k0_pay4, k0_pay3, k0_pay2, k0_pay1, shapeCast_self]
      rfl
  rw [h0.read_unread, h1.read_unread, h2.read_unread, h3.read_unread] at h
  exact ⟨funext fun y => View.read_writes_apply_of_pieces VO0_4 _ _ _ h.1 y (cover0_A_4 c i a0 h0 a1 h1 a2 h2 a3 h3 a4 h4 a5 h5 a6 h6 x0 x1 x2 x3 y),
    funext fun y => View.read_writes_apply_of_pieces VO0_5 _ _ _ h.2.1 y (cover0_A_5 c i a0 h0 a1 h1 a2 h2 a3 h3 a4 h4 a5 h5 a6 h6 x0 x1 x2 x3 y),
    funext fun y => View.read_writes_apply_of_pieces VO0_6 _ _ _ h.2.2 y (cover0_A_6 c i a0 h0 a1 h1 a2 h2 a3 h3 a4 h4 a5 h5 a6 h6 x0 x1 x2 x3 y)⟩

variable (m : (ℓ : Loc nD τ sig) → Buf (Elt Ideal) ℓ) (c : Dev nD) (t : Fin cfg0.N)

/-- The rows of an argument, its leading axes taken as one. -/
abbrev rows (x : Vec Ideal S4x704x1024 .f32) : Vec Ideal S2816x1024 .f32 := shapeCast S2816x1024 x shapeCasts_S4x704x1024_S2816x1024

/-- The weight, the gradient and the moments. -/
abbrev w : Vec Ideal S2816x1024 .f32 := rows (m ((c : Thread nD τ).loc main_arg0))
abbrev g : Vec Ideal S2816x1024 .f32 := rows (m ((c : Thread nD τ).loc main_arg1))
abbrev p : Vec Ideal S2816x1024 .f32 := rows (m ((c : Thread nD τ).loc main_arg2))
abbrev q : Vec Ideal S2816x1024 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, outsAt0, (outs ..).1]; exact update_congr e0 e1 e2 e3
  · rw [after0_5, outsAt0, (outs ..).2.1]; exact first_congr e1 e2
  · rw [after0_6, outsAt0, (outs ..).2.2]; exact second_congr e1 e3

/-- Both programs' results are the step of the arguments. -/
theorem algebraic : Cert.algebraic_Kernel21Ideal_Reference21Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference21Ideal.Value.run m' ρ')⟩

end Cert.Kernel21Ideal.Adam
-- ==== Proof.Adam22.lean ====
/-
  The optimiser's step for the norms' gains and the gates' bounds: both programs' results are the step of the arguments.
-/
module

public import proofs.«01_k».proof.Proof.AdamW
public import proofs.«01_k».proof.Proof.Gen.Kernel22Ideal.Frame
public import proofs.«01_k».proof.Proof.Gen.Reference22Ideal.Run

@[expose] public section

noncomputable section

namespace Cert.Kernel22Ideal.Adam

open Cert.Kernel22Ideal Cert.Kernel22Ideal.Gen Cert.AdamW Idealize.ShloMosaic Idealize.ShloMosaic.TcCoe Idealize.SL.Sem

/-- What the one grid point leaves in the three results' blocks. -/
theorem outs (x0 x1 x2 x3 : Vec Ideal S4x1024 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals rfl

variable (m : (ℓ : Loc nD τ sig) → Buf (Elt Ideal) ℓ) (c : Dev nD) (t : Fin cfg0.N)

/-- The weight, the gradient and the moments. -/
abbrev w : Vec Ideal S4x1024 .f32 := m ((c : Thread nD τ).loc main_arg0)
abbrev g : Vec Ideal S4x1024 .f32 := m ((c : Thread nD τ).loc main_arg1)
abbrev p : Vec Ideal S4x1024 .f32 := m ((c : Thread nD τ).loc main_arg2)
abbrev q : Vec Ideal S4x1024 .f32 := m ((c : Thread nD τ).loc main_arg3)

/-- The blocks of the weight, the gradient and the moments lie where the results' blocks do. -/
theorem blocks (y : ((cfg0.win 4).xblock (cfg0.grid.coords t)).Idx) : let z := ((View.whole main_v0_0).slice (win0_4.rect t)).emb y
    iblk m c 0 t y = w m c z ∧ iblk m c 1 t y = g m c z ∧ iblk m c 2 t y = p m c z ∧ iblk m c 3 t y = q m c z := by
  exact ⟨rfl, rfl, rfl, rfl⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel22Ideal_Reference22Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.in_eq c 0 rfl).trans (A_eq m c 0), (h.in_eq c 1 rfl).trans (A_eq m c 1), (h.in_eq c 2 rfl).trans (A_eq m c 2), (h.in_eq c 3 rfl).trans (A_eq m c 3)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference22Ideal.Value.run m' ρ')⟩

end Cert.Kernel22Ideal.Adam
-- ==== Proof.Adam23.lean ====
/-
  The optimiser's step for the attention's input weight: both programs' results are the step of the arguments. The kernel takes a block's rows in groups of sixteen.
-/
module

public import proofs.«01_k».proof.Proof.AdamW
public import proofs.«01_k».proof.Proof.Gen.Kernel23Ideal.Frame
public import proofs.«01_k».proof.Proof.Gen.Reference23Ideal.Run

@[expose] public section

set_option maxRecDepth 16384

noncomputable section

namespace Cert.Kernel23Ideal.Adam

open Cert.Kernel23Ideal Cert.Kernel23Ideal.Gen Cert.AdamW Idealize.ShloMosaic Idealize.ShloMosaic.TcCoe Idealize.SL.Sem

/-- What a grid point leaves in the three results' blocks. -/
theorem outs (c : Dev nD) (i : grid0.Coords) (a0 a1 a2 a3 a4 a5 a6 : Memref sig .tc .vmem S256x1152 .f32) (h0 : a0.IsWhole) (h1 : a1.IsWhole) (h2 : a2.IsWhole) (h3 : a3.IsWhole) (h4 : a4.IsWhole) (h5 : a5.IsWhole) (h6 : a6.IsWhole) (x0 x1 x2 x3 : Vec Ideal S256x1152 .f32) :
    out0_A_4 c i a0 h0 a1 h1 a2 h2 a3 h3 a4 h4 a5 h5 a6 h6 x0 x1 x2 x3 = update x0 x1 x2 x3 ∧ out0_A_5 c i a0 h0 a1 h1 a2 h2 a3 h3 a4 h4 a5 h5 a6 h6 x0 x1 x2 x3 = first x1 x2
      ∧ out0_A_6 c i a0 h0 a1 h1 a2 h2 a3 h3 a4 h4 a5 h5 a6 h6 x0 x1 x2 x3 = second x1 x3 := by
  have h := loop (a0.view.read (Elt Ideal) (h0.unread x0)) (a1.view.read (Elt Ideal) (h1.unread x1)) (a2.view.read (Elt Ideal) (h2.unread x2)) (a3.view.read (Elt Ideal) (h3.unread x3))
    (fun k => Rect.unit (s := S256x1152) (k0_off1 k) S16x1152.size (k0_off1_inb k))
    (pb_k0_t1 Variants.none c none i a0 h0 a1 h1 a2 h2 a3 h3 a4 h4 a5 h5 a6 h6 (h0.unread x0) (h1.unread x1) (h2.unread x2) (h3.unread x3)) rfl fun k => by
      rw [pb_k0_t1_succ]
      unfold tripL_k0_t1 trip_k0_t1 trip_k0_t1.sl.r trip_k0_t1.sl.r_1
      simp only [k0_pay4, k0_pay3, k0_pay2, k0_pay1, shapeCast_self]
      rfl
  rw [h0.read_unread, h1.read_unread, h2.read_unread, h3.read_unread] at h
  exact ⟨funext fun y => View.read_writes_apply_of_pieces VO0_4 _ _ _ h.1 y (cover0_A_4 c i a0 h0 a1 h1 a2 h2 a3 h3 a4 h4 a5 h5 a6 h6 x0 x1 x2 x3 y),
    funext fun y => View.read_writes_apply_of_pieces VO0_5 _ _ _ h.2.1 y (cover0_A_5 c i a0 h0 a1 h1 a2 h2 a3 h3 a4 h4 a5 h5 a6 h6 x0 x1 x2 x3 y),
    funext fun y => View.read_writes_apply_of_pieces VO0_6 _ _ _ h.2.2 y (cover0_A_6 c i a0 h0 a1 h1 a2 h2 a3 h3 a4 h4 a5 h5 a6 h6 x0 x1 x2 x3 y)⟩

variable (m : (ℓ : Loc nD τ sig) → Buf (Elt Ideal) ℓ) (c : Dev nD) (t : Fin cfg0.N)

/-- The rows of an argument, its leading axes taken as one. -/
abbrev rows (x : Vec Ideal S2x1024x1152 .f32) : Vec Ideal S2048x1152 .f32 := shapeCast S2048x1152 x shapeCasts_S2x1024x1152_S2048x1152

/-- The weight, the gradient and the moments. -/
abbrev w : Vec Ideal S2048x1152 .f32 := rows (m ((c : Thread nD τ).loc main_arg0))
abbrev g : Vec Ideal S2048x1152 .f32 := rows (m ((c : Thread nD τ).loc main_arg1))
abbrev p : Vec Ideal S2048x1152 .f32 := rows (m ((c : Thread nD τ).loc main_arg2))
abbrev q : Vec Ideal S2048x1152 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, outsAt0, (outs ..).1]; exact update_congr e0 e1 e2 e3
  · rw [after0_5, outsAt0, (outs ..).2.1]; exact first_congr e1 e2
  · rw [after0_6, outsAt0, (outs ..).2.2]; exact second_congr e1 e3

/-- Both programs' results are the step of the arguments. -/
theorem algebraic : Cert.algebraic_Kernel23Ideal_Reference23Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference23Ideal.Value.run m' ρ')⟩

end Cert.Kernel23Ideal.Adam
-- ==== Proof.Adam24.lean ====
/-
  The optimiser's step for the attention's gains: both programs' results are the step of the arguments.
-/
module

public import proofs.«01_k».proof.Proof.AdamW
public import proofs.«01_k».proof.Proof.Gen.Kernel24Ideal.Frame
public import proofs.«01_k».proof.Proof.Gen.Reference24Ideal.Run

@[expose] public section

noncomputable section

namespace Cert.Kernel24Ideal.Adam

open Cert.Kernel24Ideal Cert.Kernel24Ideal.Gen Cert.AdamW Idealize.ShloMosaic Idealize.ShloMosaic.TcCoe Idealize.SL.Sem

/-- What the one grid point leaves in the three results' blocks. -/
theorem outs (x0 x1 x2 x3 : Vec Ideal S6x64 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals simp only [k0_pay4, k0_pay3, k0_pay2, k0_pay1, shapeCast_self]

variable (m : (ℓ : Loc nD τ sig) → Buf (Elt Ideal) ℓ) (c : Dev nD) (t : Fin cfg0.N)

/-- The rows of an argument, its leading axes taken as one. -/
abbrev rows (x : Vec Ideal S2x3x64 .f32) : Vec Ideal S6x64 .f32 := shapeCast S6x64 x shapeCasts_S2x3x64_S6x64

/-- The weight, the gradient and the moments. -/
abbrev w : Vec Ideal S6x64 .f32 := rows (m ((c : Thread nD τ).loc main_arg0))
abbrev g : Vec Ideal S6x64 .f32 := rows (m ((c : Thread nD τ).loc main_arg1))
abbrev p : Vec Ideal S6x64 .f32 := rows (m ((c : Thread nD τ).loc main_arg2))
abbrev q : Vec Ideal S6x64 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel24Ideal_Reference24Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference24Ideal.Value.run m' ρ')⟩

end Cert.Kernel24Ideal.Adam
-- ==== Proof.Adam25.lean ====
/-
  The optimiser's step for the attention's output weight: both programs' results are the step of the arguments. The kernel takes a block's rows in groups of sixteen.
-/
module

public import proofs.«01_k».proof.Proof.AdamW
public import proofs.«01_k».proof.Proof.Gen.Kernel25Ideal.Frame
public import proofs.«01_k».proof.Proof.Gen.Reference25Ideal.Run

@[expose] public section

set_option maxRecDepth 16384

noncomputable section

namespace Cert.Kernel25Ideal.Adam

open Cert.Kernel25Ideal Cert.Kernel25Ideal.Gen Cert.AdamW Idealize.ShloMosaic Idealize.ShloMosaic.TcCoe Idealize.SL.Sem

/-- What a grid point leaves in the three results' blocks. -/
theorem outs (c : Dev nD) (i : grid0.Coords) (a0 a1 a2 a3 a4 a5 a6 : Memref sig .tc .vmem S256x256 .f32) (h0 : a0.IsWhole) (h1 : a1.IsWhole) (h2 : a2.IsWhole) (h3 : a3.IsWhole) (h4 : a4.IsWhole) (h5 : a5.IsWhole) (h6 : a6.IsWhole) (x0 x1 x2 x3 : Vec Ideal S256x256 .f32) :
    out0_A_4 c i a0 h0 a1 h1 a2 h2 a3 h3 a4 h4 a5 h5 a6 h6 x0 x1 x2 x3 = update x0 x1 x2 x3 ∧ out0_A_5 c i a0 h0 a1 h1 a2 h2 a3 h3 a4 h4 a5 h5 a6 h6 x0 x1 x2 x3 = first x1 x2
      ∧ out0_A_6 c i a0 h0 a1 h1 a2 h2 a3 h3 a4 h4 a5 h5 a6 h6 x0 x1 x2 x3 = second x1 x3 := by
  have h := loop (a0.view.read (Elt Ideal) (h0.unread x0)) (a1.view.read (Elt Ideal) (h1.unread x1)) (a2.view.read (Elt Ideal) (h2.unread x2)) (a3.view.read (Elt Ideal) (h3.unread x3))
    (fun k => Rect.unit (s := S256x256) (k0_off1 k) S16x256.size (k0_off1_inb k))
    (pb_k0_t1 Variants.none c none i a0 h0 a1 h1 a2 h2 a3 h3 a4 h4 a5 h5 a6 h6 (h0.unread x0) (h1.unread x1) (h2.unread x2) (h3.unread x3)) rfl fun k => by
      rw [pb_k0_t1_succ]
      unfold tripL_k0_t1 trip_k0_t1 trip_k0_t1.sl.r trip_k0_t1.sl.r_1
      simp only [k0_pay4, k0_pay3, k0_pay2, k0_pay1, shapeCast_self]
      rfl
  rw [h0.read_unread, h1.read_unread, h2.read_unread, h3.read_unread] at h
  exact ⟨funext fun y => View.read_writes_apply_of_pieces VO0_4 _ _ _ h.1 y (cover0_A_4 c i a0 h0 a1 h1 a2 h2 a3 h3 a4 h4 a5 h5 a6 h6 x0 x1 x2 x3 y),
    funext fun y => View.read_writes_apply_of_pieces VO0_5 _ _ _ h.2.1 y (cover0_A_5 c i a0 h0 a1 h1 a2 h2 a3 h3 a4 h4 a5 h5 a6 h6 x0 x1 x2 x3 y),
    funext fun y => View.read_writes_apply_of_pieces VO0_6 _ _ _ h.2.2 y (cover0_A_6 c i a0 h0 a1 h1 a2 h2 a3 h3 a4 h4 a5 h5 a6 h6 x0 x1 x2 x3 y)⟩

variable (m : (ℓ : Loc nD τ sig) → Buf (Elt Ideal) ℓ) (c : Dev nD) (t : Fin cfg0.N)

/-- The rows of an argument, its leading axes taken as one. -/
abbrev rows (x : Vec Ideal S2x512x256 .f32) : Vec Ideal S1024x256 .f32 := shapeCast S1024x256 x shapeCasts_S2x512x256_S1024x256

/-- The weight, the gradient and the moments. -/
abbrev w : Vec Ideal S1024x256 .f32 := rows (m ((c : Thread nD τ).loc main_arg0))
abbrev g : Vec Ideal S1024x256 .f32 := rows (m ((c : Thread nD τ).loc main_arg1))
abbrev p : Vec Ideal S1024x256 .f32 := rows (m ((c : Thread nD τ).loc main_arg2))
abbrev q : Vec Ideal S1024x256 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, outsAt0, (outs ..).1]; exact update_congr e0 e1 e2 e3
  · rw [after0_5, outsAt0, (outs ..).2.1]; exact first_congr e1 e2
  · rw [after0_6, outsAt0, (outs ..).2.2]; exact second_congr e1 e3

/-- Both programs' results are the step of the arguments. -/
theorem algebraic : Cert.algebraic_Kernel25Ideal_Reference25Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference25Ideal.Value.run m' ρ')⟩

end Cert.Kernel25Ideal.Adam
-- ==== Proof.Adam26.lean ====
/-
  The optimiser's step for the convolution's input weight: both programs' results are the step of the arguments. The kernel takes a block's rows in groups of sixteen.
-/
module

public import proofs.«01_k».proof.Proof.AdamW
public import proofs.«01_k».proof.Proof.Gen.Kernel26Ideal.Frame
public import proofs.«01_k».proof.Proof.Gen.Reference26Ideal.Run

@[expose] public section

set_option maxRecDepth 16384

noncomputable section

namespace Cert.Kernel26Ideal.Adam

open Cert.Kernel26Ideal Cert.Kernel26Ideal.Gen Cert.AdamW Idealize.ShloMosaic Idealize.ShloMosaic.TcCoe Idealize.SL.Sem

/-- What a grid point leaves in the three results' blocks. -/
theorem outs (c : Dev nD) (i : grid0.Coords) (a0 a1 a2 a3 a4 a5 a6 : Memref sig .tc .vmem S256x512 .f32) (h0 : a0.IsWhole) (h1 : a1.IsWhole) (h2 : a2.IsWhole) (h3 : a3.IsWhole) (h4 : a4.IsWhole) (h5 : a5.IsWhole) (h6 : a6.IsWhole) (x0 x1 x2 x3 : Vec Ideal S256x512 .f32) :
    out0_A_4 c i a0 h0 a1 h1 a2 h2 a3 h3 a4 h4 a5 h5 a6 h6 x0 x1 x2 x3 = update x0 x1 x2 x3 ∧ out0_A_5 c i a0 h0 a1 h1 a2 h2 a3 h3 a4 h4 a5 h5 a6 h6 x0 x1 x2 x3 = first x1 x2
      ∧ out0_A_6 c i a0 h0 a1 h1 a2 h2 a3 h3 a4 h4 a5 h5 a6 h6 x0 x1 x2 x3 = second x1 x3 := by
  have h := loop (a0.view.read (Elt Ideal) (h0.unread x0)) (a1.view.read (Elt Ideal) (h1.unread x1)) (a2.view.read (Elt Ideal) (h2.unread x2)) (a3.view.read (Elt Ideal) (h3.unread x3))
    (fun k => Rect.unit (s := S256x512) (k0_off1 k) S16x512.size (k0_off1_inb k))
    (pb_k0_t1 Variants.none c none i a0 h0 a1 h1 a2 h2 a3 h3 a4 h4 a5 h5 a6 h6 (h0.unread x0) (h1.unread x1) (h2.unread x2) (h3.unread x3)) rfl fun k => by
      rw [pb_k0_t1_succ]
      unfold tripL_k0_t1 trip_k0_t1 trip_k0_t1.sl.r trip_k0_t1.sl.r_1
      simp only [k0_pay4, k0_pay3, k0_pay2, k0_pay1, shapeCast_self]
      rfl
  rw [h0.read_unread, h1.read_unread, h2.read_unread, h3.read_unread] at h
  exact ⟨funext fun y => View.read_writes_apply_of_pieces VO0_4 _ _ _ h.1 y (cover0_A_4 c i a0 h0 a1 h1 a2 h2 a3 h3 a4 h4 a5 h5 a6 h6 x0 x1 x2 x3 y),
    funext fun y => View.read_writes_apply_of_pieces VO0_5 _ _ _ h.2.1 y (cover0_A_5 c i a0 h0 a1 h1 a2 h2 a3 h3 a4 h4 a5 h5 a6 h6 x0 x1 x2 x3 y),
    funext fun y => View.read_writes_apply_of_pieces VO0_6 _ _ _ h.2.2 y (cover0_A_6 c i a0 h0 a1 h1 a2 h2 a3 h3 a4 h4 a5 h5 a6 h6 x0 x1 x2 x3 y)⟩

variable (m : (ℓ : Loc nD τ sig) → Buf (Elt Ideal) ℓ) (c : Dev nD) (t : Fin cfg0.N)

/-- The rows of an argument, its leading axes taken as one. -/
abbrev rows (x : Vec Ideal S1x1024x512 .f32) : Vec Ideal S1024x512 .f32 := shapeCast S1024x512 x shapeCasts_S1x1024x512_S1024x512

/-- The weight, the gradient and the moments. -/
abbrev w : Vec Ideal S1024x512 .f32 := rows (m ((c : Thread nD τ).loc main_arg0))
abbrev g : Vec Ideal S1024x512 .f32 := rows (m ((c : Thread nD τ).loc main_arg1))
abbrev p : Vec Ideal S1024x512 .f32 := rows (m ((c : Thread nD τ).loc main_arg2))
abbrev q : Vec Ideal S1024x512 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, outsAt0, (outs ..).1]; exact update_congr e0 e1 e2 e3
  · rw [after0_5, outsAt0, (outs ..).2.1]; exact first_congr e1 e2
  · rw [after0_6, outsAt0, (outs ..).2.2]; exact second_congr e1 e3

/-- Both programs' results are the step of the arguments. -/
theorem algebraic : Cert.algebraic_Kernel26Ideal_Reference26Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference26Ideal.Value.run m' ρ')⟩

end Cert.Kernel26Ideal.Adam
-- ==== Proof.Adam27.lean ====
/-
  The optimiser's step for the convolution's input bias: both programs' results are the step of the arguments.
-/
module

public import proofs.«01_k».proof.Proof.AdamW
public import proofs.«01_k».proof.Proof.Gen.Kernel27Ideal.Frame
public import proofs.«01_k».proof.Proof.Gen.Reference27Ideal.Run

@[expose] public section

noncomputable section

namespace Cert.Kernel27Ideal.Adam

open Cert.Kernel27Ideal Cert.Kernel27Ideal.Gen Cert.AdamW Idealize.ShloMosaic Idealize.ShloMosaic.TcCoe Idealize.SL.Sem

/-- What the one grid point leaves in the three results' blocks. -/
theorem outs (x0 x1 x2 x3 : Vec Ideal S1x2048 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals rfl

variable (m : (ℓ : Loc nD τ sig) → Buf (Elt Ideal) ℓ) (c : Dev nD) (t : Fin cfg0.N)

/-- The weight, the gradient and the moments. -/
abbrev w : Vec Ideal S1x2048 .f32 := m ((c : Thread nD τ).loc main_arg0)
abbrev g : Vec Ideal S1x2048 .f32 := m ((c : Thread nD τ).loc main_arg1)
abbrev p : Vec Ideal S1x2048 .f32 := m ((c : Thread nD τ).loc main_arg2)
abbrev q : Vec Ideal S1x2048 .f32 := m ((c : Thread nD τ).loc main_arg3)

/-- The blocks of the weight, the gradient and the moments lie where the results' blocks do. -/
theorem blocks (y : ((cfg0.win 4).xblock (cfg0.grid.coords t)).Idx) : let z := ((View.whole main_v0_0).slice (win0_4.rect t)).emb y
    iblk m c 0 t y = w m c z ∧ iblk m c 1 t y = g m c z ∧ iblk m c 2 t y = p m c z ∧ iblk m c 3 t y = q m c z := by
  exact ⟨rfl, rfl, rfl, rfl⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel27Ideal_Reference27Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.in_eq c 0 rfl).trans (A_eq m c 0), (h.in_eq c 1 rfl).trans (A_eq m c 1), (h.in_eq c 2 rfl).trans (A_eq m c 2), (h.in_eq c 3 rfl).trans (A_eq m c 3)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference27Ideal.Value.run m' ρ')⟩

end Cert.Kernel27Ideal.Adam
-- ==== Proof.Adam28.lean ====
/-
  The optimiser's step for the convolution's taps: both programs' results are the step of the arguments.
-/
module

public import proofs.«01_k».proof.Proof.AdamW
public import proofs.«01_k».proof.Proof.Gen.Kernel28Ideal.Frame
public import proofs.«01_k».proof.Proof.Gen.Reference28Ideal.Run

@[expose] public section

noncomputable section

namespace Cert.Kernel28Ideal.Adam

open Cert.Kernel28Ideal Cert.Kernel28Ideal.Gen Cert.AdamW Idealize.ShloMosaic Idealize.ShloMosaic.TcCoe Idealize.SL.Sem

/-- What the one grid point leaves in the three results' blocks. -/
theorem outs (x0 x1 x2 x3 : Vec Ideal S31x256 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals simp only [k0_pay4, k0_pay3, k0_pay2, k0_pay1, shapeCast_self]

variable (m : (ℓ : Loc nD τ sig) → Buf (Elt Ideal) ℓ) (c : Dev nD) (t : Fin cfg0.N)

/-- The rows of an argument, its leading axes taken as one. -/
abbrev rows (x : Vec Ideal S1x31x256 .f32) : Vec Ideal S31x256 .f32 := shapeCast S31x256 x shapeCasts_S1x31x256_S31x256

/-- The weight, the gradient and the moments. -/
abbrev w : Vec Ideal S31x256 .f32 := rows (m ((c : Thread nD τ).loc main_arg0))
abbrev g : Vec Ideal S31x256 .f32 := rows (m ((c : Thread nD τ).loc main_arg1))
abbrev p : Vec Ideal S31x256 .f32 := rows (m ((c : Thread nD τ).loc main_arg2))
abbrev q : Vec Ideal S31x256 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel28Ideal_Reference28Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference28Ideal.Value.run m' ρ')⟩

end Cert.Kernel28Ideal.Adam
-- ==== Proof.Adam29.lean ====
/-
  The optimiser's step for the convolution's biases and its norm's gain: both programs' results are the step of the arguments.
-/
module

public import proofs.«01_k».proof.Proof.AdamW
public import proofs.«01_k».proof.Proof.Gen.Kernel29Ideal.Frame
public import proofs.«01_k».proof.Proof.Gen.Reference29Ideal.Run

@[expose] public section

noncomputable section

namespace Cert.Kernel29Ideal.Adam

open Cert.Kernel29Ideal Cert.Kernel29Ideal.Gen Cert.AdamW Idealize.ShloMosaic Idealize.ShloMosaic.TcCoe Idealize.SL.Sem

/-- What the one grid point leaves in the three results' blocks. -/
theorem outs (x0 x1 x2 x3 : Vec Ideal S1x1024 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals rfl

variable (m : (ℓ : Loc nD τ sig) → Buf (Elt Ideal) ℓ) (c : Dev nD) (t : Fin cfg0.N)

/-- The weight, the gradient and the moments. -/
abbrev w : Vec Ideal S1x1024 .f32 := m ((c : Thread nD τ).loc main_arg0)
abbrev g : Vec Ideal S1x1024 .f32 := m ((c : Thread nD τ).loc main_arg1)
abbrev p : Vec Ideal S1x1024 .f32 := m ((c : Thread nD τ).loc main_arg2)
abbrev q : Vec Ideal S1x1024 .f32 := m ((c : Thread nD τ).loc main_arg3)

/-- The blocks of the weight, the gradient and the moments lie where the results' blocks do. -/
theorem blocks (y : ((cfg0.win 4).xblock (cfg0.grid.coords t)).Idx) : let z := ((View.whole main_v0_0).slice (win0_4.rect t)).emb y
    iblk m c 0 t y = w m c z ∧ iblk m c 1 t y = g m c z ∧ iblk m c 2 t y = p m c z ∧ iblk m c 3 t y = q m c z := by
  exact ⟨rfl, rfl, rfl, rfl⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel29Ideal_Reference29Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.in_eq c 0 rfl).trans (A_eq m c 0), (h.in_eq c 1 rfl).trans (A_eq m c 1), (h.in_eq c 2 rfl).trans (A_eq m c 2), (h.in_eq c 3 rfl).trans (A_eq m c 3)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference29Ideal.Value.run m' ρ')⟩

end Cert.Kernel29Ideal.Adam
-- ==== Proof.Adam30.lean ====
/-
  The optimiser's step for the convolution's and the recurrence's output weights: both programs' results are the step of the arguments. The kernel takes a block's rows in groups of sixteen.
-/
module

public import proofs.«01_k».proof.Proof.AdamW
public import proofs.«01_k».proof.Proof.Gen.Kernel30Ideal.Frame
public import proofs.«01_k».proof.Proof.Gen.Reference30Ideal.Run

@[expose] public section

set_option maxRecDepth 16384

noncomputable section

namespace Cert.Kernel30Ideal.Adam

open Cert.Kernel30Ideal Cert.Kernel30Ideal.Gen Cert.AdamW Idealize.ShloMosaic Idealize.ShloMosaic.TcCoe Idealize.SL.Sem

/-- What a grid point leaves in the three results' blocks. -/
theorem outs (c : Dev nD) (i : grid0.Coords) (a0 a1 a2 a3 a4 a5 a6 : Memref sig .tc .vmem S256x1024 .f32) (h0 : a0.IsWhole) (h1 : a1.IsWhole) (h2 : a2.IsWhole) (h3 : a3.IsWhole) (h4 : a4.IsWhole) (h5 : a5.IsWhole) (h6 : a6.IsWhole) (x0 x1 x2 x3 : Vec Ideal S256x1024 .f32) :
    out0_A_4 c i a0 h0 a1 h1 a2 h2 a3 h3 a4 h4 a5 h5 a6 h6 x0 x1 x2 x3 = update x0 x1 x2 x3 ∧ out0_A_5 c i a0 h0 a1 h1 a2 h2 a3 h3 a4 h4 a5 h5 a6 h6 x0 x1 x2 x3 = first x1 x2
      ∧ out0_A_6 c i a0 h0 a1 h1 a2 h2 a3 h3 a4 h4 a5 h5 a6 h6 x0 x1 x2 x3 = second x1 x3 := by
  have h := loop (a0.view.read (Elt Ideal) (h0.unread x0)) (a1.view.read (Elt Ideal) (h1.unread x1)) (a2.view.read (Elt Ideal) (h2.unread x2)) (a3.view.read (Elt Ideal) (h3.unread x3))
    (fun k => Rect.unit (s := S256x1024) (k0_off1 k) S16x1024.size (k0_off1_inb k))
    (pb_k0_t1 Variants.none c none i a0 h0 a1 h1 a2 h2 a3 h3 a4 h4 a5 h5 a6 h6 (h0.unread x0) (h1.unread x1) (h2.unread x2) (h3.unread x3)) rfl fun k => by
      rw [pb_k0_t1_succ]
      unfold tripL_k0_t1 trip_k0_t1 trip_k0_t1.sl.r trip_k0_t1.sl.r_1
      simp only [k0_pay4, k0_pay3, k0_pay2, k0_pay1, shapeCast_self]
      rfl
  rw [h0.read_unread, h1.read_unread, h2.read_unread, h3.read_unread] at h
  exact ⟨funext fun y => View.read_writes_apply_of_pieces VO0_4 _ _ _ h.1 y (cover0_A_4 c i a0 h0 a1 h1 a2 h2 a3 h3 a4 h4 a5 h5 a6 h6 x0 x1 x2 x3 y),
    funext fun y => View.read_writes_apply_of_pieces VO0_5 _ _ _ h.2.1 y (cover0_A_5 c i a0 h0 a1 h1 a2 h2 a3 h3 a4 h4 a5 h5 a6 h6 x0 x1 x2 x3 y),
    funext fun y => View.read_writes_apply_of_pieces VO0_6 _ _ _ h.2.2 y (cover0_A_6 c i a0 h0 a1 h1 a2 h2 a3 h3 a4 h4 a5 h5 a6 h6 x0 x1 x2 x3 y)⟩

variable (m : (ℓ : Loc nD τ sig) → Buf (Elt Ideal) ℓ) (c : Dev nD) (t : Fin cfg0.N)

/-- The rows of an argument, its leading axes taken as one. -/
abbrev rows (x : Vec Ideal S1x256x1024 .f32) : Vec Ideal S256x1024 .f32 := shapeCast S256x1024 x shapeCasts_S1x256x1024_S256x1024

/-- The weight, the gradient and the moments. -/
abbrev w : Vec Ideal S256x1024 .f32 := rows (m ((c : Thread nD τ).loc main_arg0))
abbrev g : Vec Ideal S256x1024 .f32 := rows (m ((c : Thread nD τ).loc main_arg1))
abbrev p : Vec Ideal S256x1024 .f32 := rows (m ((c : Thread nD τ).loc main_arg2))
abbrev q : Vec Ideal S256x1024 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, outsAt0, (outs ..).1]; exact update_congr e0 e1 e2 e3
  · rw [after0_5, outsAt0, (outs ..).2.1]; exact first_congr e1 e2
  · rw [after0_6, outsAt0, (outs ..).2.2]; exact second_congr e1 e3

/-- Both programs' results are the step of the arguments. -/
theorem algebraic : Cert.algebraic_Kernel30Ideal_Reference30Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference30Ideal.Value.run m' ρ')⟩

end Cert.Kernel30Ideal.Adam
-- ==== Proof.Adam31.lean ====
/-
  The optimiser's step for the recurrence's input weight: both programs' results are the step of the arguments. The kernel takes a block's rows in groups of sixteen.
-/
module

public import proofs.«01_k».proof.Proof.AdamW
public import proofs.«01_k».proof.Proof.Gen.Kernel31Ideal.Frame
public import proofs.«01_k».proof.Proof.Gen.Reference31Ideal.Run

@[expose] public section

set_option maxRecDepth 16384

noncomputable section

namespace Cert.Kernel31Ideal.Adam

open Cert.Kernel31Ideal Cert.Kernel31Ideal.Gen Cert.AdamW Idealize.ShloMosaic Idealize.ShloMosaic.TcCoe Idealize.SL.Sem

/-- What a grid point leaves in the three results' blocks. -/
theorem outs (c : Dev nD) (i : grid0.Coords) (a0 a1 a2 a3 a4 a5 a6 : Memref sig .tc .vmem S256x1024 .f32) (h0 : a0.IsWhole) (h1 : a1.IsWhole) (h2 : a2.IsWhole) (h3 : a3.IsWhole) (h4 : a4.IsWhole) (h5 : a5.IsWhole) (h6 : a6.IsWhole) (x0 x1 x2 x3 : Vec Ideal S256x1024 .f32) :
    out0_A_4 c i a0 h0 a1 h1 a2 h2 a3 h3 a4 h4 a5 h5 a6 h6 x0 x1 x2 x3 = update x0 x1 x2 x3 ∧ out0_A_5 c i a0 h0 a1 h1 a2 h2 a3 h3 a4 h4 a5 h5 a6 h6 x0 x1 x2 x3 = first x1 x2
      ∧ out0_A_6 c i a0 h0 a1 h1 a2 h2 a3 h3 a4 h4 a5 h5 a6 h6 x0 x1 x2 x3 = second x1 x3 := by
  have h := loop (a0.view.read (Elt Ideal) (h0.unread x0)) (a1.view.read (Elt Ideal) (h1.unread x1)) (a2.view.read (Elt Ideal) (h2.unread x2)) (a3.view.read (Elt Ideal) (h3.unread x3))
    (fun k => Rect.unit (s := S256x1024) (k0_off1 k) S16x1024.size (k0_off1_inb k))
    (pb_k0_t1 Variants.none c none i a0 h0 a1 h1 a2 h2 a3 h3 a4 h4 a5 h5 a6 h6 (h0.unread x0) (h1.unread x1) (h2.unread x2) (h3.unread x3)) rfl fun k => by
      rw [pb_k0_t1_succ]
      unfold tripL_k0_t1 trip_k0_t1 trip_k0_t1.sl.r trip_k0_t1.sl.r_1
      simp only [k0_pay4, k0_pay3, k0_pay2, k0_pay1, shapeCast_self]
      rfl
  rw [h0.read_unread, h1.read_unread, h2.read_unread, h3.read_unread] at h
  exact ⟨funext fun y => View.read_writes_apply_of_pieces VO0_4 _ _ _ h.1 y (cover0_A_4 c i a0 h0 a1 h1 a2 h2 a3 h3 a4 h4 a5 h5 a6 h6 x0 x1 x2 x3 y),
    funext fun y => View.read_writes_apply_of_pieces VO0_5 _ _ _ h.2.1 y (cover0_A_5 c i a0 h0 a1 h1 a2 h2 a3 h3 a4 h4 a5 h5 a6 h6 x0 x1 x2 x3 y),
    funext fun y => View.read_writes_apply_of_pieces VO0_6 _ _ _ h.2.2 y (cover0_A_6 c i a0 h0 a1 h1 a2 h2 a3 h3 a4 h4 a5 h5 a6 h6 x0 x1 x2 x3 y)⟩

variable (m : (ℓ : Loc nD τ sig) → Buf (Elt Ideal) ℓ) (c : Dev nD) (t : Fin cfg0.N)

/-- The rows of an argument, its leading axes taken as one. -/
abbrev rows (x : Vec Ideal S1x1024x1024 .f32) : Vec Ideal S1024x1024 .f32 := shapeCast S1024x1024 x shapeCasts_S1x1024x1024_S1024x1024

/-- The weight, the gradient and the moments. -/
abbrev w : Vec Ideal S1024x1024 .f32 := rows (m ((c : Thread nD τ).loc main_arg0))
abbrev g : Vec Ideal S1024x1024 .f32 := rows (m ((c : Thread nD τ).loc main_arg1))
abbrev p : Vec Ideal S1024x1024 .f32 := rows (m ((c : Thread nD τ).loc main_arg2))
abbrev q : Vec Ideal S1024x1024 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, outsAt0, (outs ..).1]; exact update_congr e0 e1 e2 e3
  · rw [after0_5, outsAt0, (outs ..).2.1]; exact first_congr e1 e2
  · rw [after0_6, outsAt0, (outs ..).2.2]; exact second_congr e1 e3

/-- Both programs' results are the step of the arguments. -/
theorem algebraic : Cert.algebraic_Kernel31Ideal_Reference31Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference31Ideal.Value.run m' ρ')⟩

end Cert.Kernel31Ideal.Adam
-- ==== Proof.Adam32.lean ====
/-
  The optimiser's step for the recurrence's gain: both programs' results are the step of the arguments.
-/
module

public import proofs.«01_k».proof.Proof.AdamW
public import proofs.«01_k».proof.Proof.Gen.Kernel32Ideal.Frame
public import proofs.«01_k».proof.Proof.Gen.Reference32Ideal.Run

@[expose] public section

noncomputable section

namespace Cert.Kernel32Ideal.Adam

open Cert.Kernel32Ideal Cert.Kernel32Ideal.Gen Cert.AdamW Idealize.ShloMosaic Idealize.ShloMosaic.TcCoe Idealize.SL.Sem

/-- What the one grid point leaves in the three results' blocks. -/
theorem outs (x0 x1 x2 x3 : Vec Ideal S1x256 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals rfl

variable (m : (ℓ : Loc nD τ sig) → Buf (Elt Ideal) ℓ) (c : Dev nD) (t : Fin cfg0.N)

/-- The weight, the gradient and the moments. -/
abbrev w : Vec Ideal S1x256 .f32 := m ((c : Thread nD τ).loc main_arg0)
abbrev g : Vec Ideal S1x256 .f32 := m ((c : Thread nD τ).loc main_arg1)
abbrev p : Vec Ideal S1x256 .f32 := m ((c : Thread nD τ).loc main_arg2)
abbrev q : Vec Ideal S1x256 .f32 := m ((c : Thread nD τ).loc main_arg3)

/-- The blocks of the weight, the gradient and the moments lie where the results' blocks do. -/
theorem blocks (y : ((cfg0.win 4).xblock (cfg0.grid.coords t)).Idx) : let z := ((View.whole main_v0_0).slice (win0_4.rect t)).emb y
    iblk m c 0 t y = w m c z ∧ iblk m c 1 t y = g m c z ∧ iblk m c 2 t y = p m c z ∧ iblk m c 3 t y = q m c z := by
  exact ⟨rfl, rfl, rfl, rfl⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel32Ideal_Reference32Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.in_eq c 0 rfl).trans (A_eq m c 0), (h.in_eq c 1 rfl).trans (A_eq m c 1), (h.in_eq c 2 rfl).trans (A_eq m c 2), (h.in_eq c 3 rfl).trans (A_eq m c 3)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference32Ideal.Value.run m' ρ')⟩

end Cert.Kernel32Ideal.Adam
-- ==== Proof.Adam33.lean ====
/-
  The optimiser's step for the feed-forward's up weight: both programs' results are the step of the arguments. The kernel takes a block's rows in groups of sixteen.
-/
module

public import proofs.«01_k».proof.Proof.AdamW
public import proofs.«01_k».proof.Proof.Gen.Kernel33Ideal.Frame
public import proofs.«01_k».proof.Proof.Gen.Reference33Ideal.Run

@[expose] public section

set_option maxRecDepth 16384

noncomputable section

namespace Cert.Kernel33Ideal.Adam

open Cert.Kernel33Ideal Cert.Kernel33Ideal.Gen Cert.AdamW Idealize.ShloMosaic Idealize.ShloMosaic.TcCoe Idealize.SL.Sem

/-- What a grid point leaves in the three results' blocks. -/
theorem outs (c : Dev nD) (i : grid0.Coords) (a0 a1 a2 a3 a4 a5 a6 : Memref sig .tc .vmem S256x1408 .f32) (h0 : a0.IsWhole) (h1 : a1.IsWhole) (h2 : a2.IsWhole) (h3 : a3.IsWhole) (h4 : a4.IsWhole) (h5 : a5.IsWhole) (h6 : a6.IsWhole) (x0 x1 x2 x3 : Vec Ideal S256x1408 .f32) :
    out0_A_4 c i a0 h0 a1 h1 a2 h2 a3 h3 a4 h4 a5 h5 a6 h6 x0 x1 x2 x3 = update x0 x1 x2 x3 ∧ out0_A_5 c i a0 h0 a1 h1 a2 h2 a3 h3 a4 h4 a5 h5 a6 h6 x0 x1 x2 x3 = first x1 x2
      ∧ out0_A_6 c i a0 h0 a1 h1 a2 h2 a3 h3 a4 h4 a5 h5 a6 h6 x0 x1 x2 x3 = second x1 x3 := by
  have h := loop (a0.view.read (Elt Ideal) (h0.unread x0)) (a1.view.read (Elt Ideal) (h1.unread x1)) (a2.view.read (Elt Ideal) (h2.unread x2)) (a3.view.read (Elt Ideal) (h3.unread x3))
    (fun k => Rect.unit (s := S256x1408) (k0_off1 k) S16x1408.size (k0_off1_inb k))
    (pb_k0_t1 Variants.none c none i a0 h0 a1 h1 a2 h2 a3 h3 a4 h4 a5 h5 a6 h6 (h0.unread x0) (h1.unread x1) (h2.unread x2) (h3.unread x3)) rfl fun k => by
      rw [pb_k0_t1_succ]
      unfold tripL_k0_t1 trip_k0_t1 trip_k0_t1.sl.r trip_k0_t1.sl.r_1
      simp only [k0_pay4, k0_pay3, k0_pay2, k0_pay1, shapeCast_self]
      rfl
  rw [h0.read_unread, h1.read_unread, h2.read_unread, h3.read_unread] at h
  exact ⟨funext fun y => View.read_writes_apply_of_pieces VO0_4 _ _ _ h.1 y (cover0_A_4 c i a0 h0 a1 h1 a2 h2 a3 h3 a4 h4 a5 h5 a6 h6 x0 x1 x2 x3 y),
    funext fun y => View.read_writes_apply_of_pieces VO0_5 _ _ _ h.2.1 y (cover0_A_5 c i a0 h0 a1 h1 a2 h2 a3 h3 a4 h4 a5 h5 a6 h6 x0 x1 x2 x3 y),
    funext fun y => View.read_writes_apply_of_pieces VO0_6 _ _ _ h.2.2 y (cover0_A_6 c i a0 h0 a1 h1 a2 h2 a3 h3 a4 h4 a5 h5 a6 h6 x0 x1 x2 x3 y)⟩

variable (m : (ℓ : Loc nD τ sig) → Buf (Elt Ideal) ℓ) (c : Dev nD) (t : Fin cfg0.N)

/-- The rows of an argument, its leading axes taken as one. -/
abbrev rows (x : Vec Ideal S4x1024x1408 .f32) : Vec Ideal S4096x1408 .f32 := shapeCast S4096x1408 x shapeCasts_S4x1024x1408_S4096x1408

/-- The weight, the gradient and the moments. -/
abbrev w : Vec Ideal S4096x1408 .f32 := rows (m ((c : Thread nD τ).loc main_arg0))
abbrev g : Vec Ideal S4096x1408 .f32 := rows (m ((c : Thread nD τ).loc main_arg1))
abbrev p : Vec Ideal S4096x1408 .f32 := rows (m ((c : Thread nD τ).loc main_arg2))
abbrev q : Vec Ideal S4096x1408 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, outsAt0, (outs ..).1]; exact update_congr e0 e1 e2 e3
  · rw [after0_5, outsAt0, (outs ..).2.1]; exact first_congr e1 e2
  · rw [after0_6, outsAt0, (outs ..).2.2]; exact second_congr e1 e3

/-- Both programs' results are the step of the arguments. -/
theorem algebraic : Cert.algebraic_Kernel33Ideal_Reference33Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference33Ideal.Value.run m' ρ')⟩

end Cert.Kernel33Ideal.Adam
-- ==== Proof.Adam34.lean ====
/-
  The optimiser's step for the feed-forward's taps: both programs' results are the step of the arguments.
-/
module

public import proofs.«01_k».proof.Proof.AdamW
public import proofs.«01_k».proof.Proof.Gen.Kernel34Ideal.Frame
public import proofs.«01_k».proof.Proof.Gen.Reference34Ideal.Run

@[expose] public section

noncomputable section

namespace Cert.Kernel34Ideal.Adam

open Cert.Kernel34Ideal Cert.Kernel34Ideal.Gen Cert.AdamW Idealize.ShloMosaic Idealize.ShloMosaic.TcCoe Idealize.SL.Sem

/-- What the one grid point leaves in the three results' blocks. -/
theorem outs (x0 x1 x2 x3 : Vec Ideal S12x1408 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals simp only [k0_pay4, k0_pay3, k0_pay2, k0_pay1, shapeCast_self]

variable (m : (ℓ : Loc nD τ sig) → Buf (Elt Ideal) ℓ) (c : Dev nD) (t : Fin cfg0.N)

/-- The rows of an argument, its leading axes taken as one. -/
abbrev rows (x : Vec Ideal S4x3x1408 .f32) : Vec Ideal S12x1408 .f32 := shapeCast S12x1408 x shapeCasts_S4x3x1408_S12x1408

/-- The weight, the gradient and the moments. -/
abbrev w : Vec Ideal S12x1408 .f32 := rows (m ((c : Thread nD τ).loc main_arg0))
abbrev g : Vec Ideal S12x1408 .f32 := rows (m ((c : Thread nD τ).loc main_arg1))
abbrev p : Vec Ideal S12x1408 .f32 := rows (m ((c : Thread nD τ).loc main_arg2))
abbrev q : Vec Ideal S12x1408 .f32 := rows (m ((c : Thread nD τ).loc main_arg3))

/-- The blocks of the weight, the gradient and the moments lie where the results' blocks do. -/
theorem blocks (y : ((cfg0.win 4).xblock (cfg0.grid.coords t)).Idx) : let z := ((View.whole main_v4_0).slice (win0_4.rect t)).emb y
    iblk m c 0 t y = w m c z ∧ iblk m c 1 t y = g m c z ∧ iblk m c 2 t y = p m c z ∧ iblk m c 3 t y = q m c z := by
  have host : V m c main_v0 = w m c ∧ V m c main_v1 = g m c ∧ V m c main_v2 = p m c ∧ V m c main_v3 = q m c := by
    refine ⟨?_, ?_, ?_, ?_⟩ <;> (show StableHlo.after hostOps0 (fun b => m (c, b)) (Proc.devRef .tc _) = _; after_results; rfl)
  exact ⟨congrFun host.1 _, congrFun host.2.1 _, congrFun host.2.2.1 _, congrFun host.2.2.2 _⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel34Ideal_Reference34Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.rest_eq c main_arg0 (Pipeline.mem_restRefs_of main_arg0 (by decide) (by decide))).trans (V_main_arg0 m c), (h.rest_eq c main_arg1 (Pipeline.mem_restRefs_of main_arg1 (by decide) (by decide))).trans (V_main_arg1 m c), (h.rest_eq c main_arg2 (Pipeline.mem_restRefs_of main_arg2 (by decide) (by decide))).trans (V_main_arg2 m c), (h.rest_eq c main_arg3 (Pipeline.mem_restRefs_of main_arg3 (by decide) (by decide))).trans (V_main_arg3 m c)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference34Ideal.Value.run m' ρ')⟩

end Cert.Kernel34Ideal.Adam
-- ==== Proof.Adam35.lean ====
/-
  The optimiser's step for the feed-forward's bias: both programs' results are the step of the arguments.
-/
module

public import proofs.«01_k».proof.Proof.AdamW
public import proofs.«01_k».proof.Proof.Gen.Kernel35Ideal.Frame
public import proofs.«01_k».proof.Proof.Gen.Reference35Ideal.Run

@[expose] public section

noncomputable section

namespace Cert.Kernel35Ideal.Adam

open Cert.Kernel35Ideal Cert.Kernel35Ideal.Gen Cert.AdamW Idealize.ShloMosaic Idealize.ShloMosaic.TcCoe Idealize.SL.Sem

/-- What the one grid point leaves in the three results' blocks. -/
theorem outs (x0 x1 x2 x3 : Vec Ideal S4x5632 .f32) :
    out0_4 x0 x1 x2 x3 = update x0 x1 x2 x3 ∧ out0_5 x0 x1 x2 x3 = first x1 x2 ∧ out0_6 x0 x1 x2 x3 = second x1 x3 := by
  refine ⟨?_, ?_, ?_⟩ <;> (first | unfold out0_4 | unfold out0_5 | unfold out0_6) <;> rw [View.canon_unit_zero hz] <;> repeat rw [View.ld_unit_zero hz]
  all_goals rfl

variable (m : (ℓ : Loc nD τ sig) → Buf (Elt Ideal) ℓ) (c : Dev nD) (t : Fin cfg0.N)

/-- The weight, the gradient and the moments. -/
abbrev w : Vec Ideal S4x5632 .f32 := m ((c : Thread nD τ).loc main_arg0)
abbrev g : Vec Ideal S4x5632 .f32 := m ((c : Thread nD τ).loc main_arg1)
abbrev p : Vec Ideal S4x5632 .f32 := m ((c : Thread nD τ).loc main_arg2)
abbrev q : Vec Ideal S4x5632 .f32 := m ((c : Thread nD τ).loc main_arg3)

/-- The blocks of the weight, the gradient and the moments lie where the results' blocks do. -/
theorem blocks (y : ((cfg0.win 4).xblock (cfg0.grid.coords t)).Idx) : let z := ((View.whole main_v0_0).slice (win0_4.rect t)).emb y
    iblk m c 0 t y = w m c z ∧ iblk m c 1 t y = g m c z ∧ iblk m c 2 t y = p m c z ∧ iblk m c 3 t y = q m c z := by
  exact ⟨rfl, rfl, rfl, rfl⟩

/-- The results' arrays after the run. -/
theorem finals : (dats m 0 c).arrAt 4 cfg0.N = update (w m c) (g m c) (p m c) (q m c)
    ∧ (dats m 0 c).arrAt 5 cfg0.N = first (g m c) (p m c) ∧ (dats m 0 c).arrAt 6 cfg0.N = second (g m c) (q m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;>
  obtain ⟨e0, e1, e2, e3⟩ := blocks m c t y <;> blk_simp
  · rw [after0_4, (outs ..).1]; exact update_congr e0 e1 e2 e3
  · rw [after0_5, (outs ..).2.1]; exact first_congr e1 e2
  · rw [after0_6, (outs ..).2.2]; exact second_congr e1 e3

/-- Both programs' results are the step of the arguments. -/
theorem algebraic : Cert.algebraic_Kernel35Ideal_Reference35Ideal :=
  fun m ρ m' ρ' _ hag => ⟨fun c => update (w m c) (g m c) (p m c) (q m c), fun c => first (g m c) (p m c), fun c => second (g m c) (q m c),
    (θ_run _ _ _).mono (fun _ h c => ⟨(h.out_eq c 4).trans (finals m c).1, (h.out_eq c 5).trans (finals m c).2.1, (h.out_eq c 6).trans (finals m c).2.2,
      (h.in_eq c 0 rfl).trans (A_eq m c 0), (h.in_eq c 1 rfl).trans (A_eq m c 1), (h.in_eq c 2 rfl).trans (A_eq m c 2), (h.in_eq c 3 rfl).trans (A_eq m c 3)⟩) (run_main m ρ),
    (θ_run _ _ _).mono (fun _ h c => by
      obtain ⟨a0, a1, a2, a3⟩ := hag c
      exact ⟨(h c).1.trans (by rw [a0, a1, a2, a3]; rfl), (h c).2.1.trans (by rw [a1, a2]; rfl), (h c).2.2.1.trans (by rw [a1, a3]; rfl), (h c).2.2.2⟩)
      (Cert.Reference35Ideal.Value.run m' ρ')⟩

end Cert.Kernel35Ideal.Adam
-- ==== Proof.lean ====
/-
  The proof of the claims: for each program its frames, that idealizing it changed no line, and that its results are
  the reference's.
-/
module

public import proofs.«01_k».proof.Defs
public import proofs.«01_k».proof.Proof.NormEq
public import proofs.«01_k».proof.Proof.WEq3
public import proofs.«01_k».proof.Proof.Gen.Kernel3.Frame
public import proofs.«01_k».proof.Proof.WEq4
public import proofs.«01_k».proof.Proof.Gen.Kernel4.Frame
public import proofs.«01_k».proof.Proof.WEq5
public import proofs.«01_k».proof.Proof.Gen.Kernel5.Frame
public import proofs.«01_k».proof.Proof.WEq6
public import proofs.«01_k».proof.Proof.Gen.Kernel6.Frame
public import proofs.«01_k».proof.Proof.WEq7
public import proofs.«01_k».proof.Proof.Gen.Kernel7.Frame
public import proofs.«01_k».proof.Proof.WEq8
public import proofs.«01_k».proof.Proof.Gen.Kernel8.Frame
public import proofs.«01_k».proof.Proof.MEq9
public import proofs.«01_k».proof.Proof.Gen.Kernel9.Frame
public import proofs.«01_k».proof.Proof.MEq10
public import proofs.«01_k».proof.Proof.Gen.Kernel10.Frame
public import proofs.«01_k».proof.Proof.MEq11
public import proofs.«01_k».proof.Proof.Gen.Kernel11.Frame
public import proofs.«01_k».proof.Proof.MEq12
public import proofs.«01_k».proof.Proof.Gen.Kernel12.Frame
public import proofs.«01_k».proof.Proof.MEq13
public import proofs.«01_k».proof.Proof.Gen.Kernel13.Frame
public import proofs.«01_k».proof.Proof.MEq14
public import proofs.«01_k».proof.Proof.Gen.Kernel14.Frame
public import proofs.«01_k».proof.Proof.MEq15
public import proofs.«01_k».proof.Proof.Gen.Kernel15.Frame
public import proofs.«01_k».proof.Proof.MEq16
public import proofs.«01_k».proof.Proof.Gen.Kernel16.Frame
public import proofs.«01_k».proof.Proof.MEq17
public import proofs.«01_k».proof.Proof.Gen.Kernel17.Frame
public import proofs.«01_k».proof.Proof.Norm18Eq
public import proofs.«01_k».proof.Proof.Norm20Eq
public import proofs.«01_k».proof.Proof.Norm19Eq
public import proofs.«01_k».proof.Proof.Adam21
public import proofs.«01_k».proof.Proof.Gen.Kernel21.Frame
public import proofs.«01_k».proof.Proof.Adam22
public import proofs.«01_k».proof.Proof.Gen.Kernel22.Frame
public import proofs.«01_k».proof.Proof.Adam23
public import proofs.«01_k».proof.Proof.Gen.Kernel23.Frame
public import proofs.«01_k».proof.Proof.Adam24
public import proofs.«01_k».proof.Proof.Gen.Kernel24.Frame
public import proofs.«01_k».proof.Proof.Adam25
public import proofs.«01_k».proof.Proof.Gen.Kernel25.Frame
public import proofs.«01_k».proof.Proof.Adam26
public import proofs.«01_k».proof.Proof.Gen.Kernel26.Frame
public import proofs.«01_k».proof.Proof.Adam27
public import proofs.«01_k».proof.Proof.Gen.Kernel27.Frame
public import proofs.«01_k».proof.Proof.Adam28
public import proofs.«01_k».proof.Proof.Gen.Kernel28.Frame
public import proofs.«01_k».proof.Proof.Adam29
public import proofs.«01_k».proof.Proof.Gen.Kernel29.Frame
public import proofs.«01_k».proof.Proof.Adam30
public import proofs.«01_k».proof.Proof.Gen.Kernel30.Frame
public import proofs.«01_k».proof.Proof.Adam31
public import proofs.«01_k».proof.Proof.Gen.Kernel31.Frame
public import proofs.«01_k».proof.Proof.Adam32
public import proofs.«01_k».proof.Proof.Gen.Kernel32.Frame
public import proofs.«01_k».proof.Proof.Adam33
public import proofs.«01_k».proof.Proof.Gen.Kernel33.Frame
public import proofs.«01_k».proof.Proof.Adam34
public import proofs.«01_k».proof.Proof.Gen.Kernel34.Frame
public import proofs.«01_k».proof.Proof.Adam35
public import proofs.«01_k».proof.Proof.Gen.Kernel35.Frame
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
    Cert.KernelIdeal.Gen.facts,
    Cert.ReferenceIdeal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel20.Gen.facts,
    Cert.Kernel20Ideal.Gen.facts,
    Cert.Reference20Ideal.Gen.facts,
    Cert.Kernel19.Gen.facts,
    Cert.Kernel19Ideal.Gen.facts,
    Cert.Reference19Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.KernelIdeal.Norm.frame_bits,
    Cert.KernelIdeal.Norm.frame_ideal,
    fun m ρ _ => (θ_run _ _ _).mono (fun r h => ⟨fun c => (h c).2.2, sem_eq_zero_of_no_sems (by decide) r.2⟩)
      (Cert.ReferenceIdeal.Value.run m ρ),
    fun m ρ _ => Cert.Kernel3.Gen.frame m ρ,
    fun m ρ _ => Cert.Kernel3Ideal.Gen.frame m ρ,
    fun m ρ _ => (θ_run _ _ _).mono (fun r h => ⟨fun c => (h c).2, sem_eq_zero_of_no_sems (by decide) r.2⟩)
      (Cert.Reference3Ideal.Value.run m ρ),
    fun m ρ _ => Cert.Kernel4.Gen.frame m ρ,
    fun m ρ _ => Cert.Kernel4Ideal.Gen.frame m ρ,
    fun m ρ _ => (θ_run _ _ _).mono (fun r h => ⟨fun c => (h c).2, sem_eq_zero_of_no_sems (by decide) r.2⟩)
      (Cert.Reference4Ideal.Value.run m ρ),
    fun m ρ _ => Cert.Kernel5.Gen.frame m ρ,
    fun m ρ _ => Cert.Kernel5Ideal.Gen.frame m ρ,
    fun m ρ _ => (θ_run _ _ _).mono (fun r h => ⟨fun c => (h c).2, sem_eq_zero_of_no_sems (by decide) r.2⟩)
      (Cert.Reference5Ideal.Value.run m ρ),
    fun m ρ _ => Cert.Kernel6.Gen.frame m ρ,
    fun m ρ _ => Cert.Kernel6Ideal.Gen.frame m ρ,
    fun m ρ _ => (θ_run _ _ _).mono (fun r h => ⟨fun c => (h c).2, sem_eq_zero_of_no_sems (by decide) r.2⟩)
      (Cert.Reference6Ideal.Value.run m ρ),
    fun m ρ _ => Cert.Kernel7.Gen.frame m ρ,
    fun m ρ _ => Cert.Kernel7Ideal.Gen.frame m ρ,
    fun m ρ _ => (θ_run _ _ _).mono (fun r h => ⟨fun c => (h c).2, sem_eq_zero_of_no_sems (by decide) r.2⟩)
      (Cert.Reference7Ideal.Value.run m ρ),
    fun m ρ _ => Cert.Kernel8.Gen.frame m ρ,
    fun m ρ _ => Cert.Kernel8Ideal.Gen.frame m ρ,
    fun m ρ _ => (θ_run _ _ _).mono (fun r h => ⟨fun c => (h c).2, sem_eq_zero_of_no_sems (by decide) r.2⟩)
      (Cert.Reference8Ideal.Value.run m ρ),
    fun m ρ _ => Cert.Kernel9.Gen.frame m ρ,
    fun m ρ _ => Cert.Kernel9Ideal.Gen.frame m ρ,
    fun m ρ _ => (θ_run _ _ _).mono (fun r h => ⟨fun c => (h c).2, sem_eq_zero_of_no_sems (by decide) r.2⟩)
      (Cert.Reference9Ideal.Value.run m ρ),
    fun m ρ _ => Cert.Kernel10.Gen.frame m ρ,
    fun m ρ _ => Cert.Kernel10Ideal.Gen.frame m ρ,
    fun m ρ _ => (θ_run _ _ _).mono (fun r h => ⟨fun c => (h c).2, sem_eq_zero_of_no_sems (by decide) r.2⟩)
      (Cert.Reference10Ideal.Value.run m ρ),
    fun m ρ _ => Cert.Kernel11.Gen.frame m ρ,
    fun m ρ _ => Cert.Kernel11Ideal.Gen.frame m ρ,
    fun m ρ _ => (θ_run _ _ _).mono (fun r h => ⟨fun c => (h c).2, sem_eq_zero_of_no_sems (by decide) r.2⟩)
      (Cert.Reference11Ideal.Value.run m ρ),
    fun m ρ _ => Cert.Kernel12.Gen.frame m ρ,
    fun m ρ _ => Cert.Kernel12Ideal.Gen.frame m ρ,
    fun m ρ _ => (θ_run _ _ _).mono (fun r h => ⟨fun c => (h c).2, sem_eq_zero_of_no_sems (by decide) r.2⟩)
      (Cert.Reference12Ideal.Value.run m ρ),
    fun m ρ _ => Cert.Kernel13.Gen.frame m ρ,
    fun m ρ _ => Cert.Kernel13Ideal.Gen.frame m ρ,
    fun m ρ _ => (θ_run _ _ _).mono (fun r h => ⟨fun c => (h c).2, sem_eq_zero_of_no_sems (by decide) r.2⟩)
      (Cert.Reference13Ideal.Value.run m ρ),
    fun m ρ _ => Cert.Kernel14.Gen.frame m ρ,
    fun m ρ _ => Cert.Kernel14Ideal.Gen.frame m ρ,
    fun m ρ _ => (θ_run _ _ _).mono (fun r h => ⟨fun c => (h c).2, sem_eq_zero_of_no_sems (by decide) r.2⟩)
      (Cert.Reference14Ideal.Value.run m ρ),
    fun m ρ _ => Cert.Kernel15.Gen.frame m ρ,
    fun m ρ _ => Cert.Kernel15Ideal.Gen.frame m ρ,
    fun m ρ _ => (θ_run _ _ _).mono (fun r h => ⟨fun c => (h c).2, sem_eq_zero_of_no_sems (by decide) r.2⟩)
      (Cert.Reference15Ideal.Value.run m ρ),
    fun m ρ _ => Cert.Kernel16.Gen.frame m ρ,
    fun m ρ _ => Cert.Kernel16Ideal.Gen.frame m ρ,
    fun m ρ _ => (θ_run _ _ _).mono (fun r h => ⟨fun c => (h c).2, sem_eq_zero_of_no_sems (by decide) r.2⟩)
      (Cert.Reference16Ideal.Value.run m ρ),
    fun m ρ _ => Cert.Kernel17.Gen.frame m ρ,
    fun m ρ _ => Cert.Kernel17Ideal.Gen.frame m ρ,
    fun m ρ _ => (θ_run _ _ _).mono (fun r h => ⟨fun c => (h c).2, sem_eq_zero_of_no_sems (by decide) r.2⟩)
      (Cert.Reference17Ideal.Value.run m ρ),
    Cert.Kernel18Ideal.Norm.frame_bits,
    Cert.Kernel18Ideal.Norm.frame_ideal,
    fun m ρ _ => (θ_run _ _ _).mono (fun r h => ⟨fun c => (h c).2.2, sem_eq_zero_of_no_sems (by decide) r.2⟩)
      (Cert.Reference18Ideal.Value.run m ρ),
    Cert.Kernel20Ideal.Norm.frame_bits,
    Cert.Kernel20Ideal.Norm.frame_ideal,
    fun m ρ _ => (θ_run _ _ _).mono (fun r h => ⟨fun c => (h c).2.2, sem_eq_zero_of_no_sems (by decide) r.2⟩)
      (Cert.Reference20Ideal.Value.run m ρ),
    Cert.Kernel19Ideal.Norm.frame_bits,
    Cert.Kernel19Ideal.Norm.frame_ideal,
    fun m ρ _ => (θ_run _ _ _).mono (fun r h => ⟨fun c => (h c).2.2, sem_eq_zero_of_no_sems (by decide) r.2⟩)
      (Cert.Reference19Ideal.Value.run m ρ),
    fun m ρ _ => Cert.Kernel21.Gen.frame m ρ,
    fun m ρ _ => Cert.Kernel21Ideal.Gen.frame m ρ,
    fun m ρ _ => (θ_run _ _ _).mono (fun r h => ⟨fun c => (h c).2.2.2, sem_eq_zero_of_no_sems (by decide) r.2⟩)
      (Cert.Reference21Ideal.Value.run m ρ),
    fun m ρ _ => Cert.Kernel22.Gen.frame m ρ,
    fun m ρ _ => Cert.Kernel22Ideal.Gen.frame m ρ,
    fun m ρ _ => (θ_run _ _ _).mono (fun r h => ⟨fun c => (h c).2.2.2, sem_eq_zero_of_no_sems (by decide) r.2⟩)
      (Cert.Reference22Ideal.Value.run m ρ),
    fun m ρ _ => Cert.Kernel23.Gen.frame m ρ,
    fun m ρ _ => Cert.Kernel23Ideal.Gen.frame m ρ,
    fun m ρ _ => (θ_run _ _ _).mono (fun r h => ⟨fun c => (h c).2.2.2, sem_eq_zero_of_no_sems (by decide) r.2⟩)
      (Cert.Reference23Ideal.Value.run m ρ),
    fun m ρ _ => Cert.Kernel24.Gen.frame m ρ,
    fun m ρ _ => Cert.Kernel24Ideal.Gen.frame m ρ,
    fun m ρ _ => (θ_run _ _ _).mono (fun r h => ⟨fun c => (h c).2.2.2, sem_eq_zero_of_no_sems (by decide) r.2⟩)
      (Cert.Reference24Ideal.Value.run m ρ),
    fun m ρ _ => Cert.Kernel25.Gen.frame m ρ,
    fun m ρ _ => Cert.Kernel25Ideal.Gen.frame m ρ,
    fun m ρ _ => (θ_run _ _ _).mono (fun r h => ⟨fun c => (h c).2.2.2, sem_eq_zero_of_no_sems (by decide) r.2⟩)
      (Cert.Reference25Ideal.Value.run m ρ),
    fun m ρ _ => Cert.Kernel26.Gen.frame m ρ,
    fun m ρ _ => Cert.Kernel26Ideal.Gen.frame m ρ,
    fun m ρ _ => (θ_run _ _ _).mono (fun r h => ⟨fun c => (h c).2.2.2, sem_eq_zero_of_no_sems (by decide) r.2⟩)
      (Cert.Reference26Ideal.Value.run m ρ),
    fun m ρ _ => Cert.Kernel27.Gen.frame m ρ,
    fun m ρ _ => Cert.Kernel27Ideal.Gen.frame m ρ,
    fun m ρ _ => (θ_run _ _ _).mono (fun r h => ⟨fun c => (h c).2.2.2, sem_eq_zero_of_no_sems (by decide) r.2⟩)
      (Cert.Reference27Ideal.Value.run m ρ),
    fun m ρ _ => Cert.Kernel28.Gen.frame m ρ,
    fun m ρ _ => Cert.Kernel28Ideal.Gen.frame m ρ,
    fun m ρ _ => (θ_run _ _ _).mono (fun r h => ⟨fun c => (h c).2.2.2, sem_eq_zero_of_no_sems (by decide) r.2⟩)
      (Cert.Reference28Ideal.Value.run m ρ),
    fun m ρ _ => Cert.Kernel29.Gen.frame m ρ,
    fun m ρ _ => Cert.Kernel29Ideal.Gen.frame m ρ,
    fun m ρ _ => (θ_run _ _ _).mono (fun r h => ⟨fun c => (h c).2.2.2, sem_eq_zero_of_no_sems (by decide) r.2⟩)
      (Cert.Reference29Ideal.Value.run m ρ),
    fun m ρ _ => Cert.Kernel30.Gen.frame m ρ,
    fun m ρ _ => Cert.Kernel30Ideal.Gen.frame m ρ,
    fun m ρ _ => (θ_run _ _ _).mono (fun r h => ⟨fun c => (h c).2.2.2, sem_eq_zero_of_no_sems (by decide) r.2⟩)
      (Cert.Reference30Ideal.Value.run m ρ),
    fun m ρ _ => Cert.Kernel31.Gen.frame m ρ,
    fun m ρ _ => Cert.Kernel31Ideal.Gen.frame m ρ,
    fun m ρ _ => (θ_run _ _ _).mono (fun r h => ⟨fun c => (h c).2.2.2, sem_eq_zero_of_no_sems (by decide) r.2⟩)
      (Cert.Reference31Ideal.Value.run m ρ),
    fun m ρ _ => Cert.Kernel32.Gen.frame m ρ,
    fun m ρ _ => Cert.Kernel32Ideal.Gen.frame m ρ,
    fun m ρ _ => (θ_run _ _ _).mono (fun r h => ⟨fun c => (h c).2.2.2, sem_eq_zero_of_no_sems (by decide) r.2⟩)
      (Cert.Reference32Ideal.Value.run m ρ),
    fun m ρ _ => Cert.Kernel33.Gen.frame m ρ,
    fun m ρ _ => Cert.Kernel33Ideal.Gen.frame m ρ,
    fun m ρ _ => (θ_run _ _ _).mono (fun r h => ⟨fun c => (h c).2.2.2, sem_eq_zero_of_no_sems (by decide) r.2⟩)
      (Cert.Reference33Ideal.Value.run m ρ),
    fun m ρ _ => Cert.Kernel34.Gen.frame m ρ,
    fun m ρ _ => Cert.Kernel34Ideal.Gen.frame m ρ,
    fun m ρ _ => (θ_run _ _ _).mono (fun r h => ⟨fun c => (h c).2.2.2, sem_eq_zero_of_no_sems (by decide) r.2⟩)
      (Cert.Reference34Ideal.Value.run m ρ),
    fun m ρ _ => Cert.Kernel35.Gen.frame m ρ,
    fun m ρ _ => Cert.Kernel35Ideal.Gen.frame m ρ,
    fun m ρ _ => (θ_run _ _ _).mono (fun r h => ⟨fun c => (h c).2.2.2, sem_eq_zero_of_no_sems (by decide) r.2⟩)
      (Cert.Reference35Ideal.Value.run m ρ),
    trivial,
    Cert.KernelIdeal.Norm.algebraic,
    trivial,
    Cert.Kernel3Ideal.WGrad.algebraic,
    trivial,
    Cert.Kernel4Ideal.WGrad.algebraic,
    trivial,
    Cert.Kernel5Ideal.WGrad.algebraic,
    trivial,
    Cert.Kernel6Ideal.WGrad.algebraic,
    trivial,
    Cert.Kernel7Ideal.WGrad.algebraic,
    trivial,
    Cert.Kernel8Ideal.WGrad.algebraic,
    trivial,
    Cert.Kernel9Ideal.MMul.algebraic,
    trivial,
    Cert.Kernel10Ideal.MMul.algebraic,
    trivial,
    Cert.Kernel11Ideal.MMul.algebraic,
    trivial,
    Cert.Kernel12Ideal.MMul.algebraic,
    trivial,
    Cert.Kernel13Ideal.MMul.algebraic,
    trivial,
    Cert.Kernel14Ideal.MMul.algebraic,
    trivial,
    Cert.Kernel15Ideal.MMul.algebraic,
    trivial,
    Cert.Kernel16Ideal.MMul.algebraic,
    trivial,
    Cert.Kernel17Ideal.MMul.algebraic,
    trivial,
    Cert.Kernel18Ideal.Norm.algebraic,
    trivial,
    Cert.Kernel20Ideal.Norm.algebraic,
    trivial,
    Cert.Kernel19Ideal.Norm.algebraic,
    trivial,
    Cert.Kernel21Ideal.Adam.algebraic,
    trivial,
    Cert.Kernel22Ideal.Adam.algebraic,
    trivial,
    Cert.Kernel23Ideal.Adam.algebraic,
    trivial,
    Cert.Kernel24Ideal.Adam.algebraic,
    trivial,
    Cert.Kernel25Ideal.Adam.algebraic,
    trivial,
    Cert.Kernel26Ideal.Adam.algebraic,
    trivial,
    Cert.Kernel27Ideal.Adam.algebraic,
    trivial,
    Cert.Kernel28Ideal.Adam.algebraic,
    trivial,
    Cert.Kernel29Ideal.Adam.algebraic,
    trivial,
    Cert.Kernel30Ideal.Adam.algebraic,
    trivial,
    Cert.Kernel31Ideal.Adam.algebraic,
    trivial,
    Cert.Kernel32Ideal.Adam.algebraic,
    trivial,
    Cert.Kernel33Ideal.Adam.algebraic,
    trivial,
    Cert.Kernel34Ideal.Adam.algebraic,
    trivial,
    Cert.Kernel35Ideal.Adam.algebraic⟩

end Cert.Proof

end
